-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v25_0)) (v1 : (c : Dev Cert.Kernel2Ideal.nD) → Buf (Elt Ideal) ((c.tc : Thread Cert.Kernel2Ideal.nD Cert.Kernel2Ideal.τ).loc Cert.Kernel2Ideal.main_v25_1)) (v2 : (c : Dev Cert.Kernel2Ideal.nD) → Buf (Elt Ideal) ((c.tc : Thread Cert.Kernel2Ideal.nD Cert.Kernel2Ideal.τ).loc Cert.Kernel2Ideal.main_v25_2)) (v3 : (c : Dev Cert.Kernel2Ideal.nD) → Buf (Elt Ideal) ((c.tc : Thread Cert.Kernel2Ideal.nD Cert.Kernel2Ideal.τ).loc Cert.Kernel2Ideal.main_v25_3)) (v4 : (c : Dev Cert.Kernel2Ideal.nD) → Buf (Elt Ideal) ((c.tc : Thread Cert.Kernel2Ideal.nD Cert.Kernel2Ideal.τ).loc Cert.Kernel2Ideal.main_v25_4)) (v5 : (c : Dev Cert.Kernel2Ideal.nD) → Buf (Elt Ideal) ((c.tc : Thread Cert.Kernel2Ideal.nD Cert.Kernel2Ideal.τ).loc Cert.Kernel2Ideal.main_v25_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25_0) = v0 c
          ∧ r.2.mem ((c.tc : Thread Cert.Kernel2Ideal.nD Cert.Kernel2Ideal.τ).loc Cert.Kernel2Ideal.main_v25_1) = v1 c
          ∧ r.2.mem ((c.tc : Thread Cert.Kernel2Ideal.nD Cert.Kernel2Ideal.τ).loc Cert.Kernel2Ideal.main_v25_2) = v2 c
          ∧ r.2.mem ((c.tc : Thread Cert.Kernel2Ideal.nD Cert.Kernel2Ideal.τ).loc Cert.Kernel2Ideal.main_v25_3) = v3 c
          ∧ r.2.mem ((c.tc : Thread Cert.Kernel2Ideal.nD Cert.Kernel2Ideal.τ).loc Cert.Kernel2Ideal.main_v25_4) = v4 c
          ∧ r.2.mem ((c.tc : Thread Cert.Kernel2Ideal.nD Cert.Kernel2Ideal.τ).loc Cert.Kernel2Ideal.main_v25_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_v54) = v3 c
          ∧ r.2.mem ((c.tc : Thread Cert.Reference2Ideal.nD Cert.Reference2Ideal.τ).loc Cert.Reference2Ideal.main_v55) = v4 c
          ∧ r.2.mem ((c.tc : Thread Cert.Reference2Ideal.nD Cert.Reference2Ideal.τ).loc Cert.Reference2Ideal.main_v51) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)) (v3 : (c : Dev Cert.Kernel3Ideal.nD) → Buf (Elt Ideal) ((c.tc : Thread Cert.Kernel3Ideal.nD Cert.Kernel3Ideal.τ).loc Cert.Kernel3Ideal.main_v8_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_v8_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_v21) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S8192x512 : Shape := ⟨2, ![8192, 512]⟩
abbrev S8192x128 : Shape := ⟨2, ![8192, 128]⟩
abbrev S128x4x128x128 : Shape := ⟨4, ![128, 4, 128, 128]⟩
abbrev S_ : Shape := ⟨0, ![]⟩

class Facts : Prop where
  bcast_S_S8192x512 : S_.BroadcastsInDim S8192x512 (![] : Fin 0 → Fin S8192x512.rank)
  bcast_S_S8192x128 : S_.BroadcastsInDim S8192x128 (![] : Fin 0 → Fin S8192x128.rank)
  bcast_S_S128x4x128x128 : S_.BroadcastsInDim S128x4x128x128 (![] : Fin 0 → Fin S128x4x128x128.rank)

variable [Facts]

def fn {F : FTy → Type} [FloatOps F] (main_arg0 : FVec F S8192x512 .f32) (main_arg1 : FVec F S8192x512 .f32) (main_arg2 : FVec F S8192x512 .f32) (main_arg3 : FVec F S8192x128 .f32) (main_arg4 : FVec F S128x4x128x128 .f32) (main_arg5 : FVec F S8192x512 .f32) : IVec S8192x512 1 × IVec S8192x512 1 × IVec S8192x512 1 × IVec S8192x128 1 × IVec S128x4x128x128 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x128 .f32 := Host.absf main_arg3
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_v12 : FVec F S128x4x128x128 .f32 := Host.absf main_arg4
  let main_cst_3 : FVec F S_ .f32 := constant S_ .f32 0x7F800000#32
  let main_v13 : FVec F S128x4x128x128 .f32 := broadcastInDim S128x4x128x128 ![] bcast_S_S128x4x128x128 main_cst_3
  let main_v14 : IVec S128x4x128x128 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  (main_v2, main_v5, main_v8, main_v11, main_v14, main_v17)
-- ==== Pre_finite2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S8192x1024 1 × IVec S1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Kernel.lean ====
abbrev S8192x512 : Shape := ⟨2, ![8192, 512]⟩
abbrev S8192x128 : Shape := ⟨2, ![8192, 128]⟩
abbrev S128x4x128x128 : Shape := ⟨4, ![128, 4, 128, 128]⟩
abbrev S512x512 : Shape := ⟨2, ![512, 512]⟩
abbrev S512x128 : Shape := ⟨2, ![512, 128]⟩
abbrev S8x4x128x128 : Shape := ⟨4, ![8, 4, 128, 128]⟩
abbrev S4x128x128 : Shape := ⟨3, ![4, 128, 128]⟩
abbrev S64x64 : Shape := ⟨2, ![64, 64]⟩
abbrev S64x128 : Shape := ⟨2, ![64, 128]⟩
abbrev S64x1 : Shape := ⟨2, ![64, 1]⟩
abbrev S128x64 : Shape := ⟨2, ![128, 64]⟩
abbrev S64x512 : Shape := ⟨2, ![64, 512]⟩
abbrev S1x64 : Shape := ⟨2, ![1, 64]⟩
abbrev S1x1 : Shape := ⟨2, ![1, 1]⟩
abbrev S128x128 : Shape := ⟨2, ![128, 128]⟩
abbrev S64x256 : Shape := ⟨2, ![64, 256]⟩
abbrev S1x1x128x128 : Shape := ⟨4, ![1, 1, 128, 128]⟩
abbrev S1x128x128 : Shape := ⟨3, ![1, 128, 128]⟩
abbrev S64 : Shape := ⟨1, ![64]⟩
abbrev S128 : Shape := ⟨1, ![128]⟩
abbrev S128x1 : Shape := ⟨2, ![128, 1]⟩
abbrev S1 : Shape := ⟨1, ![1]⟩

abbrev nBuf : Space → Nat
  | .hbm => 10
  | .vmem => 21
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x128, .f32⟩
  | .hbm, ⟨4, _⟩ => ⟨S128x4x128x128, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S8x4x128x128, .f32⟩
  | .local _ .vmem, ⟨9, _⟩ => ⟨S8x4x128x128, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | .local _ .vmem, ⟨20, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c4_i32 : BitVec 32 := 4#32
  let v11 : BitVec 32 := Scalar.addi c0_i32_1 c4_i32
  let c1_i32 : BitVec 32 := 1#32
  ⟨c0_i32_1, v11, c1_i32⟩
def k0_mult1 (k0_t1 : Fin k0_t1_loop.trips) : BitVec 32 :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let c64_i32 : BitVec 32 := 64#32
  let v15 : BitVec 32 := Scalar.muli v13 c64_i32
  v15
def k0_mult2 (k0_t1 : Fin k0_t1_loop.trips) : BitVec 32 :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let c1_i32_3 : BitVec 32 := 1#32
  let v14 : BitVec 32 := Scalar.subi v13 c1_i32_3
  let c64_i32_4 : BitVec 32 := 64#32
  let v17 : BitVec 32 := Scalar.muli v14 c64_i32_4
  v17
def k0_off1 (k0_t1 : Fin k0_t1_loop.trips) : Fin 2 → Nat :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let c64_i32 : BitVec 32 := 64#32
  let v15 : BitVec 32 := Scalar.muli v13 c64_i32
  let v16 : BitVec 32 := v15
  let v19 : Index := Scalar.indexCast v16
  let c0 : Index := 0#32
  ![v19.toNat, 0]
def k0_off2 (k0_t1 : Fin k0_t1_loop.trips) : Fin 2 → Nat :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let c64_i32 : BitVec 32 := 64#32
  let v15 : BitVec 32 := Scalar.muli v13 c64_i32
  let v16 : BitVec 32 := v15
  let v22 : Index := Scalar.indexCast v16
  let c0_5 : Index := 0#32
  ![v22.toNat, 0]
def k0_off3 (k0_t1 : Fin k0_t1_loop.trips) : Fin 2 → Nat :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let c1_i32_3 : BitVec 32 := 1#32
  let v14 : BitVec 32 := Scalar.subi v13 c1_i32_3
  let c64_i32_4 : BitVec 32 := 64#32
  let v17 : BitVec 32 := Scalar.muli v14 c64_i32_4
  let v18 : BitVec 32 := v17
  let v52 : Index := Scalar.indexCast v18
  let c0_8 : Index := 0#32
  ![v52.toNat, 0]
def k0_off4 (k0_t1 : Fin k0_t1_loop.trips) : Fin 2 → Nat :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let c1_i32_3 : BitVec 32 := 1#32
  let v14 : BitVec 32 := Scalar.subi v13 c1_i32_3
  let c64_i32_4 : BitVec 32 := 64#32
  let v17 : BitVec 32 := Scalar.muli v14 c64_i32_4
  let v18 : BitVec 32 := v17
  let v55 : Index := Scalar.indexCast v18
  let c0_9 : Index := 0#32
  ![v55.toNat, 0]
def k0_mult3 (k0_t1 : Fin k0_t1_loop.trips) : BitVec 32 :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let c64_i32_107 : BitVec 32 := 64#32
  let v757 : BitVec 32 := Scalar.muli v13 c64_i32_107
  v757
def k0_off5 (k0_t1 : Fin k0_t1_loop.trips) : Fin 4 → Nat :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let v765 : Index := Scalar.indexCast v13
  let c0_109 : Index := 0#32
  let c0_110 : Index := 0#32
  let c0_111 : Index := 0#32
  ![v765.toNat, 0, 0, 0]
def k0_off6 (k0_t1 : Fin k0_t1_loop.trips) : Fin 4 → Nat :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let v768 : Index := Scalar.indexCast v13
  let c1 : Index := 1#32
  let c0_112 : Index := 0#32
  let c0_113 : Index := 0#32
  ![v768.toNat, 1, 0, 0]
def k0_off7 (k0_t1 : Fin k0_t1_loop.trips) : Fin 4 → Nat :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let v771 : Index := Scalar.indexCast v13
  let c2 : Index := 2#32
  let c0_114 : Index := 0#32
  let c0_115 : Index := 0#32
  ![v771.toNat, 2, 0, 0]
def k0_off8 (k0_t1 : Fin k0_t1_loop.trips) : Fin 4 → Nat :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let v774 : Index := Scalar.indexCast v13
  let c3 : Index := 3#32
  let c0_116 : Index := 0#32
  let c0_117 : Index := 0#32
  ![v774.toNat, 3, 0, 0]
def k0_mult4 (k0_t1 : Fin k0_t1_loop.trips) : BitVec 32 :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let c1_i32_3 : BitVec 32 := 1#32
  let v14 : BitVec 32 := Scalar.subi v13 c1_i32_3
  let c64_i32_118 : BitVec 32 := 64#32
  let v777 : BitVec 32 := Scalar.muli v14 c64_i32_118
  v777
def k0_off9 (k0_t1 : Fin k0_t1_loop.trips) : Fin 4 → Nat :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let c1_i32_3 : BitVec 32 := 1#32
  let v14 : BitVec 32 := Scalar.subi v13 c1_i32_3
  let v785 : Index := Scalar.indexCast v14
  let c0_120 : Index := 0#32
  let c0_121 : Index := 0#32
  let c0_122 : Index := 0#32
  ![v785.toNat, 0, 0, 0]
def k0_off10 (k0_t1 : Fin k0_t1_loop.trips) : Fin 4 → Nat :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let c1_i32_3 : BitVec 32 := 1#32
  let v14 : BitVec 32 := Scalar.subi v13 c1_i32_3
  let v788 : Index := Scalar.indexCast v14
  let c1_123 : Index := 1#32
  let c0_124 : Index := 0#32
  let c0_125 : Index := 0#32
  ![v788.toNat, 1, 0, 0]
def k0_off11 (k0_t1 : Fin k0_t1_loop.trips) : Fin 4 → Nat :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let c1_i32_3 : BitVec 32 := 1#32
  let v14 : BitVec 32 := Scalar.subi v13 c1_i32_3
  let v791 : Index := Scalar.indexCast v14
  let c2_126 : Index := 2#32
  let c0_127 : Index := 0#32
  let c0_128 : Index := 0#32
  ![v791.toNat, 2, 0, 0]
def k0_off12 (k0_t1 : Fin k0_t1_loop.trips) : Fin 4 → Nat :=
  let c7_i32 : BitVec 32 := 7#32
  let c2_i32 : BitVec 32 := 2#32
  let c0_i32_1 : BitVec 32 := 0#32
  let c1_i32 : BitVec 32 := 1#32
  let arg12 : BitVec 32 := Scf.iv c0_i32_1 c1_i32 k0_t1
  let v12 : BitVec 32 := Scalar.muli c2_i32 arg12
  let v13 : BitVec 32 := Scalar.subi c7_i32 v12
  let c1_i32_3 : BitVec 32 := 1#32
  let v14 : BitVec 32 := Scalar.subi v13 c1_i32_3
  let v794 : Index := Scalar.indexCast v14
  let c3_129 : Index := 3#32
  let c0_130 : Index := 0#32
  let c0_131 : Index := 0#32
  ![v794.toNat, 3, 0, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8192x512 : Shape := ⟨2, ![8192, 512]⟩
abbrev S8192x128 : Shape := ⟨2, ![8192, 128]⟩
abbrev S128x4x128x128 : Shape := ⟨4, ![128, 4, 128, 128]⟩
abbrev S_ : Shape := ⟨0, ![]⟩
abbrev S4x128x128 : Shape := ⟨3, ![4, 128, 128]⟩
abbrev S128x64x512 : Shape := ⟨3, ![128, 64, 512]⟩
abbrev S128x64x128 : Shape := ⟨3, ![128, 64, 128]⟩
abbrev S1x64x512 : Shape := ⟨3, ![1, 64, 512]⟩
abbrev S64x512 : Shape := ⟨2, ![64, 512]⟩
abbrev S1x64x128 : Shape := ⟨3, ![1, 64, 128]⟩
abbrev S64x128 : Shape := ⟨2, ![64, 128]⟩
abbrev S1x4x128x128 : Shape := ⟨4, ![1, 4, 128, 128]⟩
abbrev S64x4x128 : Shape := ⟨3, ![64, 4, 128]⟩
abbrev S4x64x128 : Shape := ⟨3, ![4, 64, 128]⟩
abbrev S64x4 : Shape := ⟨2, ![64, 4]⟩
abbrev S4x64 : Shape := ⟨2, ![4, 64]⟩
abbrev S64x64 : Shape := ⟨2, ![64, 64]⟩
abbrev S4x64x1 : Shape := ⟨3, ![4, 64, 1]⟩
abbrev S4x1x64 : Shape := ⟨3, ![4, 1, 64]⟩
abbrev S4x64x64 : Shape := ⟨3, ![4, 64, 64]⟩
abbrev S4x64x256 : Shape := ⟨3, ![4, 64, 256]⟩
abbrev S4x1 : Shape := ⟨2, ![4, 1]⟩
abbrev S4 : Shape := ⟨1, ![4]⟩
abbrev S4x1x1 : Shape := ⟨3, ![4, 1, 1]⟩
abbrev S4x128x64 : Shape := ⟨3, ![4, 128, 64]⟩

abbrev nBuf : Space → Nat
  | .hbm => 519
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x128, .f32⟩
  | 4 => ⟨S128x4x128x128, .f32⟩
  | 5 => ⟨S8192x512, .f32⟩
  | 6 => ⟨S_, .f32⟩
  | 7 => ⟨S4x128x128, .f32⟩
  | 8 => ⟨S128x64x512, .f32⟩
  | 9 => ⟨S128x64x512, .f32⟩
  | 10 => ⟨S128x64x512, .f32⟩
  | 11 => ⟨S128x64x128, .f32⟩
  | 12 => ⟨S128x64x512, .f32⟩
  | 13 => ⟨S_, .f32⟩
  | 14 => ⟨S128x64x512, .f32⟩
  | 15 => ⟨S_, .f32⟩
  | 16 => ⟨S128x64x512, .f32⟩
  | 17 => ⟨S_, .f32⟩
  | 18 => ⟨S128x64x512, .f32⟩
  | 19 => ⟨S_, .f32⟩
  | 20 => ⟨S128x64x128, .f32⟩
  | 21 => ⟨S_, .i32⟩
  | 22 => ⟨S128x64x512, .f32⟩
  | 23 => ⟨S128x64x512, .f32⟩
  | 24 => ⟨S128x64x512, .f32⟩
  | 25 => ⟨S128x64x128, .f32⟩
  | 26 => ⟨S128x4x128x128, .f32⟩
  | 27 => ⟨S128x64x512, .f32⟩
  | 28 => ⟨S_, .i32⟩
  | 29 => ⟨S4x128x128, .f32⟩
  | 30 => ⟨S128x64x512, .f32⟩
  | 31 => ⟨S128x64x512, .f32⟩
  | 32 => ⟨S128x64x512, .f32⟩
  | 33 => ⟨S128x64x128, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S1x64x512, .f32⟩
  | 43 => ⟨S64x512, .f32⟩
  | 44 => ⟨S_, .i32⟩
  | 45 => ⟨S_, .i32⟩
  | 46 => ⟨S1x64x512, .f32⟩
  | 47 => ⟨S64x512, .f32⟩
  | 48 => ⟨S_, .i32⟩
  | 49 => ⟨S_, .i32⟩
  | 50 => ⟨S1x64x512, .f32⟩
  | 51 => ⟨S64x512, .f32⟩
  | 52 => ⟨S_, .i32⟩
  | 53 => ⟨S_, .i32⟩
  | 54 => ⟨S1x64x128, .f32⟩
  | 55 => ⟨S64x128, .f32⟩
  | 56 => ⟨S_, .i32⟩
  | 57 => ⟨S_, .i32⟩
  | 58 => ⟨S_, .i32⟩
  | 59 => ⟨S1x4x128x128, .f32⟩
  | 60 => ⟨S4x128x128, .f32⟩
  | 61 => ⟨S_, .i32⟩
  | 62 => ⟨S_, .i32⟩
  | 63 => ⟨S1x64x512, .f32⟩
  | 64 => ⟨S64x512, .f32⟩
  | 65 => ⟨S64x4x128, .f32⟩
  | 66 => ⟨S4x64x128, .f32⟩
  | 67 => ⟨S64x4x128, .f32⟩
  | 68 => ⟨S4x64x128, .f32⟩
  | 69 => ⟨S64x4x128, .f32⟩
  | 70 => ⟨S4x64x128, .f32⟩
  | 71 => ⟨S64x4, .f32⟩
  | 72 => ⟨S4x64, .f32⟩
  | 73 => ⟨S64x4, .f32⟩
  | 74 => ⟨S4x64, .f32⟩
  | 75 => ⟨S_, .i1⟩
  | 76 => ⟨S64x64, .i1⟩
  | 77 => ⟨S64x64, .i32⟩
  | 78 => ⟨S_, .i32⟩
  | 79 => ⟨S64x64, .i32⟩
  | 80 => ⟨S64x64, .i32⟩
  | 81 => ⟨S64x64, .i32⟩
  | 82 => ⟨S64x64, .i1⟩
  | 83 => ⟨S_, .i1⟩
  | 84 => ⟨S64x64, .i1⟩
  | 85 => ⟨S64x64, .i1⟩
  | 86 => ⟨S_, .i1⟩
  | 87 => ⟨S64x64, .i1⟩
  | 88 => ⟨S64x64, .i32⟩
  | 89 => ⟨S_, .i32⟩
  | 90 => ⟨S64x64, .i32⟩
  | 91 => ⟨S64x64, .i32⟩
  | 92 => ⟨S64x64, .i32⟩
  | 93 => ⟨S64x64, .i1⟩
  | 94 => ⟨S_, .i1⟩
  | 95 => ⟨S64x64, .i1⟩
  | 96 => ⟨S64x64, .i1⟩
  | 97 => ⟨S4x64x1, .f32⟩
  | 98 => ⟨S4x1x64, .f32⟩
  | 99 => ⟨S4x64x64, .f32⟩
  | 100 => ⟨S4x64x64, .f32⟩
  | 101 => ⟨S4x64x64, .f32⟩
  | 102 => ⟨S_, .f32⟩
  | 103 => ⟨S_, .f32⟩
  | 104 => ⟨S4x64x64, .i1⟩
  | 105 => ⟨S4x64x64, .f32⟩
  | 106 => ⟨S4x64x64, .f32⟩
  | 107 => ⟨S_, .f32⟩
  | 108 => ⟨S4x64x64, .f32⟩
  | 109 => ⟨S4x64x64, .f32⟩
  | 110 => ⟨S4x64x1, .f32⟩
  | 111 => ⟨S4x64x128, .f32⟩
  | 112 => ⟨S4x64x128, .f32⟩
  | 113 => ⟨S4x64x1, .f32⟩
  | 114 => ⟨S4x64x128, .f32⟩
  | 115 => ⟨S4x64x128, .f32⟩
  | 116 => ⟨S4x64x64, .f32⟩
  | 117 => ⟨S4x64x64, .f32⟩
  | 118 => ⟨S_, .f32⟩
  | 119 => ⟨S_, .f32⟩
  | 120 => ⟨S4x64x64, .i1⟩
  | 121 => ⟨S4x64x64, .f32⟩
  | 122 => ⟨S4x64x64, .f32⟩
  | 123 => ⟨S_, .f32⟩
  | 124 => ⟨S4x64x64, .f32⟩
  | 125 => ⟨S4x64, .f32⟩
  | 126 => ⟨S4x64x1, .f32⟩
  | 127 => ⟨S4x64x128, .f32⟩
  | _ => ⟨S8192x512, .f32⟩

abbrev hbmTy0_1 (i : Nat) : BufTy := match i % 128 with
  | 0 => ⟨S4x64x128, .f32⟩
  | 1 => ⟨S4x64x256, .f32⟩
  | 2 => ⟨S_, .f32⟩
  | 3 => ⟨S4x64x64, .f32⟩
  | 4 => ⟨S4x64x64, .f32⟩
  | 5 => ⟨S4x64x64, .f32⟩
  | 6 => ⟨S4x64x64, .f32⟩
  | 7 => ⟨S4x64x64, .f32⟩
  | 8 => ⟨S4x64x64, .f32⟩
  | 9 => ⟨S4x64x64, .f32⟩
  | 10 => ⟨S4x64x64, .f32⟩
  | 11 => ⟨S4x64x64, .f32⟩
  | 12 => ⟨S4x64x64, .f32⟩
  | 13 => ⟨S4x64x64, .f32⟩
  | 14 => ⟨S4x64x64, .f32⟩
  | 15 => ⟨S4x64x64, .f32⟩
  | 16 => ⟨S4x64x64, .f32⟩
  | 17 => ⟨S4x64x64, .f32⟩
  | 18 => ⟨S4x64x64, .f32⟩
  | 19 => ⟨S4x64x64, .f32⟩
  | 20 => ⟨S4x64x64, .f32⟩
  | 21 => ⟨S4x64x64, .f32⟩
  | 22 => ⟨S4x64x64, .f32⟩
  | 23 => ⟨S4x64x64, .f32⟩
  | 24 => ⟨S4x64x64, .f32⟩
  | 25 => ⟨S4x64x64, .f32⟩
  | 26 => ⟨S4x64x64, .f32⟩
  | 27 => ⟨S4x64x64, .f32⟩
  | 28 => ⟨S4x64x64, .f32⟩
  | 29 => ⟨S4x64x64, .f32⟩
  | 30 => ⟨S4x64x64, .f32⟩
  | 31 => ⟨S4x64x64, .f32⟩
  | 32 => ⟨S4x64x64, .f32⟩
  | 33 => ⟨S4x64x64, .f32⟩
  | 34 => ⟨S4x64x64, .f32⟩
  | 35 => ⟨S4x64x64, .f32⟩
  | 36 => ⟨S4x64x64, .f32⟩
  | 37 => ⟨S4x64x64, .f32⟩
  | 38 => ⟨S4x64x64, .f32⟩
  | 39 => ⟨S4x64x64, .f32⟩
  | 40 => ⟨S4x64x64, .f32⟩
  | 41 => ⟨S4x64x64, .f32⟩
  | 42 => ⟨S4x64x64, .f32⟩
  | 43 => ⟨S4x64x64, .f32⟩
  | 44 => ⟨S4x64x64, .f32⟩
  | 45 => ⟨S4x64x64, .f32⟩
  | 46 => ⟨S4x64x64, .f32⟩
  | 47 => ⟨S4x64x64, .f32⟩
  | 48 => ⟨S4x64x64, .f32⟩
  | 49 => ⟨S4x64x64, .f32⟩
  | 50 => ⟨S4x64x64, .f32⟩
  | 51 => ⟨S4x64x64, .f32⟩
  | 52 => ⟨S4x64x64, .f32⟩
  | 53 => ⟨S4x64x64, .f32⟩
  | 54 => ⟨S4x64x64, .f32⟩
  | 55 => ⟨S4x64x64, .f32⟩
  | 56 => ⟨S4x64x64, .f32⟩
  | 57 => ⟨S4x64x64, .f32⟩
  | 58 => ⟨S4x64x64, .f32⟩
  | 59 => ⟨S4x64x64, .f32⟩
  | 60 => ⟨S4x64x64, .f32⟩
  | 61 => ⟨S4x64x64, .f32⟩
  | 62 => ⟨S4x64x64, .f32⟩
  | 63 => ⟨S4x64x64, .f32⟩
  | 64 => ⟨S4x64x64, .f32⟩
  | 65 => ⟨S4x64x64, .f32⟩
  | 66 => ⟨S4x64x64, .f32⟩
  | 67 => ⟨S4x64x64, .f32⟩
  | 68 => ⟨S4x64x64, .f32⟩
  | 69 => ⟨S4x64x64, .f32⟩
  | 70 => ⟨S4x64x64, .f32⟩
  | 71 => ⟨S4x64x64, .f32⟩
  | 72 => ⟨S4x64x64, .f32⟩
  | 73 => ⟨S4x64x64, .f32⟩
  | 74 => ⟨S4x64x64, .f32⟩
  | 75 => ⟨S4x64x64, .f32⟩
  | 76 => ⟨S4x64x64, .f32⟩
  | 77 => ⟨S4x64x64, .f32⟩
  | 78 => ⟨S4x64x64, .f32⟩
  | 79 => ⟨S4x64x64, .f32⟩
  | 80 => ⟨S4x64x64, .f32⟩
  | 81 => ⟨S4x64x64, .f32⟩
  | 82 => ⟨S4x64x64, .f32⟩
  | 83 => ⟨S4x64x64, .f32⟩
  | 84 => ⟨S4x64x64, .f32⟩
  | 85 => ⟨S4x64x64, .f32⟩
  | 86 => ⟨S4x64x64, .f32⟩
  | 87 => ⟨S4x64x64, .f32⟩
  | 88 => ⟨S4x64x64, .f32⟩
  | 89 => ⟨S4x64x64, .f32⟩
  | 90 => ⟨S4x64x64, .f32⟩
  | 91 => ⟨S4x64x64, .f32⟩
  | 92 => ⟨S4x64x64, .f32⟩
  | 93 => ⟨S4x64x64, .f32⟩
  | 94 => ⟨S4x64x64, .f32⟩
  | 95 => ⟨S4x64x64, .f32⟩
  | 96 => ⟨S4x64x64, .f32⟩
  | 97 => ⟨S4x64x64, .f32⟩
  | 98 => ⟨S4x64x64, .f32⟩
  | 99 => ⟨S4x64x64, .f32⟩
  | 100 => ⟨S4x64x64, .f32⟩
  | 101 => ⟨S4x64x64, .f32⟩
  | 102 => ⟨S4x64x64, .f32⟩
  | 103 => ⟨S4x64x64, .f32⟩
  | 104 => ⟨S4x64x64, .f32⟩
  | 105 => ⟨S4x64x64, .f32⟩
  | 106 => ⟨S4x64x64, .f32⟩
  | 107 => ⟨S4x64x64, .f32⟩
  | 108 => ⟨S4x64x64, .f32⟩
  | 109 => ⟨S4x64x64, .f32⟩
  | 110 => ⟨S4x64x64, .f32⟩
  | 111 => ⟨S4x64x64, .f32⟩
  | 112 => ⟨S4x64x64, .f32⟩
  | 113 => ⟨S4x64x64, .f32⟩
  | 114 => ⟨S4x64x64, .f32⟩
  | 115 => ⟨S4x64x64, .f32⟩
  | 116 => ⟨S4x64x64, .f32⟩
  | 117 => ⟨S4x64x64, .f32⟩
  | 118 => ⟨S4x64x64, .f32⟩
  | 119 => ⟨S4x64x64, .f32⟩
  | 120 => ⟨S4x64x64, .f32⟩
  | 121 => ⟨S4x64x64, .f32⟩
  | 122 => ⟨S4x64x64, .f32⟩
  | 123 => ⟨S4x64x64, .f32⟩
  | 124 => ⟨S4x64x64, .f32⟩
  | 125 => ⟨S4x64x64, .f32⟩
  | 126 => ⟨S4x64x64, .f32⟩
  | 127 => ⟨S4x64x64, .f32⟩
  | _ => ⟨S8192x512, .f32⟩

abbrev hbmTy0_2 (i : Nat) : BufTy := match i % 128 with
  | 0 => ⟨S4x64x64, .f32⟩
  | 1 => ⟨S4x64x64, .f32⟩
  | 2 => ⟨S4x64x64, .f32⟩
  | 3 => ⟨S4x64x64, .f32⟩
  | 4 => ⟨S4x64x64, .f32⟩
  | 5 => ⟨S4x64x64, .f32⟩
  | 6 => ⟨S4x64x64, .f32⟩
  | 7 => ⟨S4x64x64, .f32⟩
  | 8 => ⟨S4x64x64, .f32⟩
  | 9 => ⟨S4x64x64, .f32⟩
  | 10 => ⟨S4x64x64, .f32⟩
  | 11 => ⟨S4x64x64, .f32⟩
  | 12 => ⟨S4x64x64, .f32⟩
  | 13 => ⟨S4x64x64, .f32⟩
  | 14 => ⟨S4x64x64, .f32⟩
  | 15 => ⟨S4x64x64, .f32⟩
  | 16 => ⟨S4x64x64, .f32⟩
  | 17 => ⟨S4x64x64, .f32⟩
  | 18 => ⟨S4x64x64, .f32⟩
  | 19 => ⟨S4x64x64, .f32⟩
  | 20 => ⟨S4x64x64, .f32⟩
  | 21 => ⟨S4x64x64, .f32⟩
  | 22 => ⟨S4x64x64, .f32⟩
  | 23 => ⟨S4x64x64, .f32⟩
  | 24 => ⟨S4x64x64, .f32⟩
  | 25 => ⟨S4x64x64, .f32⟩
  | 26 => ⟨S4x64x64, .f32⟩
  | 27 => ⟨S4x64x64, .f32⟩
  | 28 => ⟨S4x64x64, .f32⟩
  | 29 => ⟨S4x64x64, .f32⟩
  | 30 => ⟨S4x64x64, .f32⟩
  | 31 => ⟨S4x64x64, .f32⟩
  | 32 => ⟨S4x64x64, .f32⟩
  | 33 => ⟨S4x64x64, .f32⟩
  | 34 => ⟨S4x64x64, .f32⟩
  | 35 => ⟨S4x64x64, .f32⟩
  | 36 => ⟨S4x64x64, .f32⟩
  | 37 => ⟨S4x64x64, .f32⟩
  | 38 => ⟨S4x64x64, .f32⟩
  | 39 => ⟨S4x64x64, .f32⟩
  | 40 => ⟨S4x64x64, .f32⟩
  | 41 => ⟨S4x64x64, .f32⟩
  | 42 => ⟨S4x64x64, .f32⟩
  | 43 => ⟨S4x64x64, .f32⟩
  | 44 => ⟨S4x64x64, .f32⟩
  | 45 => ⟨S4x64x64, .f32⟩
  | 46 => ⟨S4x64x64, .f32⟩
  | 47 => ⟨S4x64x64, .f32⟩
  | 48 => ⟨S4x64x64, .f32⟩
  | 49 => ⟨S4x64x64, .f32⟩
  | 50 => ⟨S4x64x64, .f32⟩
  | 51 => ⟨S4x64x64, .f32⟩
  | 52 => ⟨S4x64x64, .f32⟩
  | 53 => ⟨S4x64x64, .f32⟩
  | 54 => ⟨S4x64x64, .f32⟩
  | 55 => ⟨S4x64x64, .f32⟩
  | 56 => ⟨S4x64x64, .f32⟩
  | 57 => ⟨S4x64x64, .f32⟩
  | 58 => ⟨S4x64x64, .f32⟩
  | 59 => ⟨S4x64x64, .f32⟩
  | 60 => ⟨S4x64x64, .f32⟩
  | 61 => ⟨S4x64x64, .f32⟩
  | 62 => ⟨S4x64x64, .f32⟩
  | 63 => ⟨S4x64x64, .f32⟩
  | 64 => ⟨S4x64x64, .f32⟩
  | 65 => ⟨S4x64x256, .f32⟩
  | 66 => ⟨S4x64x256, .f32⟩
  | 67 => ⟨S4x64x128, .f32⟩
  | 68 => ⟨S4x64x128, .f32⟩
  | 69 => ⟨S4x64x64, .f32⟩
  | 70 => ⟨S4x64x64, .f32⟩
  | 71 => ⟨S4x64, .f32⟩
  | 72 => ⟨S4x64x1, .f32⟩
  | 73 => ⟨S4x64x128, .f32⟩
  | 74 => ⟨S4x64x128, .f32⟩
  | 75 => ⟨S4x1, .f32⟩
  | 76 => ⟨S4x64, .f32⟩
  | 77 => ⟨S4x64, .f32⟩
  | 78 => ⟨S4x64, .f32⟩
  | 79 => ⟨S4x64x1, .f32⟩
  | 80 => ⟨S4x64x128, .f32⟩
  | 81 => ⟨S4x64x128, .f32⟩
  | 82 => ⟨S4x1, .f32⟩
  | 83 => ⟨S4, .f32⟩
  | 84 => ⟨S4, .f32⟩
  | 85 => ⟨S4x64x128, .f32⟩
  | 86 => ⟨S4x64x128, .f32⟩
  | 87 => ⟨S4x64x128, .f32⟩
  | 88 => ⟨S4x64x128, .f32⟩
  | 89 => ⟨S4x64x128, .f32⟩
  | 90 => ⟨S4x1x1, .f32⟩
  | 91 => ⟨S4x128x128, .f32⟩
  | 92 => ⟨S4x128x128, .f32⟩
  | 93 => ⟨S4x128x128, .f32⟩
  | 94 => ⟨S4x128x128, .f32⟩
  | 95 => ⟨S64x4x128, .f32⟩
  | 96 => ⟨S64x512, .f32⟩
  | 97 => ⟨S64x4x128, .f32⟩
  | 98 => ⟨S4x64x128, .f32⟩
  | 99 => ⟨S4x128x64, .f32⟩
  | 100 => ⟨S4x64x128, .f32⟩
  | 101 => ⟨S4x128x64, .f32⟩
  | 102 => ⟨S4x64x128, .f32⟩
  | 103 => ⟨S4x128x128, .f32⟩
  | 104 => ⟨S_, .f32⟩
  | 105 => ⟨S4, .f32⟩
  | 106 => ⟨S4x1x1, .f32⟩
  | 107 => ⟨S4x128x128, .f32⟩
  | 108 => ⟨S4x128x128, .f32⟩
  | 109 => ⟨S_, .f32⟩
  | 110 => ⟨S4, .f32⟩
  | 111 => ⟨S4x128x64, .f32⟩
  | 112 => ⟨S4x64x128, .f32⟩
  | 113 => ⟨S4x64x128, .f32⟩
  | 114 => ⟨S4x64x64, .f32⟩
  | 115 => ⟨S4x128x128, .f32⟩
  | 116 => ⟨S4x128x128, .f32⟩
  | 117 => ⟨S4x128x128, .f32⟩
  | 118 => ⟨S4x64x128, .f32⟩
  | 119 => ⟨S4x64x128, .f32⟩
  | 120 => ⟨S4x128x128, .f32⟩
  | 121 => ⟨S4x128x128, .f32⟩
  | 122 => ⟨S4x128x128, .f32⟩
  | 123 => ⟨S4x64x128, .f32⟩
  | 124 => ⟨S4, .f32⟩
  | 125 => ⟨S4x1, .f32⟩
  | 126 => ⟨S_, .f32⟩
  | 127 => ⟨S4x64, .f32⟩
  | _ => ⟨S8192x512, .f32⟩

abbrev hbmTy0_3 (i : Nat) : BufTy := match i % 128 with
  | 0 => ⟨S4x64x128, .f32⟩
  | 1 => ⟨S_, .f32⟩
  | 2 => ⟨S4x64, .f32⟩
  | 3 => ⟨S4x64x1, .f32⟩
  | 4 => ⟨S4x64x128, .f32⟩
  | 5 => ⟨S4x64x128, .f32⟩
  | 6 => ⟨S_, .f32⟩
  | 7 => ⟨S4x64, .f32⟩
  | 8 => ⟨S4x64, .f32⟩
  | 9 => ⟨S_, .f32⟩
  | 10 => ⟨S4, .f32⟩
  | 11 => ⟨S4x1, .f32⟩
  | 12 => ⟨S4x64, .f32⟩
  | 13 => ⟨S4x64, .f32⟩
  | 14 => ⟨S_, .f32⟩
  | 15 => ⟨S4x64, .f32⟩
  | 16 => ⟨S4x64, .f32⟩
  | 17 => ⟨S4x64x128, .f32⟩
  | 18 => ⟨S_, .f32⟩
  | 19 => ⟨S4x64, .f32⟩
  | 20 => ⟨S4x64x1, .f32⟩
  | 21 => ⟨S4x64x128, .f32⟩
  | 22 => ⟨S4x64x128, .f32⟩
  | 23 => ⟨S_, .f32⟩
  | 24 => ⟨S4x64, .f32⟩
  | 25 => ⟨S4x64, .f32⟩
  | 26 => ⟨S4x64, .f32⟩
  | 27 => ⟨S4x64x64, .f32⟩
  | 28 => ⟨S4x64x64, .f32⟩
  | 29 => ⟨S4x64x128, .f32⟩
  | 30 => ⟨S4x64x128, .f32⟩
  | 31 => ⟨S4x64x128, .f32⟩
  | 32 => ⟨S4x64x128, .f32⟩
  | 33 => ⟨S_, .f32⟩
  | 34 => ⟨S4x64x256, .f32⟩
  | 35 => ⟨S_, .f32⟩
  | 36 => ⟨S4x64x256, .f32⟩
  | 37 => ⟨S4x64x256, .f32⟩
  | 38 => ⟨S4x64x64, .f32⟩
  | 39 => ⟨S4x64x256, .f32⟩
  | 40 => ⟨S4x64x256, .f32⟩
  | 41 => ⟨S4x64x64, .f32⟩
  | 42 => ⟨S4x64x64, .f32⟩
  | 43 => ⟨S4x64x128, .f32⟩
  | 44 => ⟨S4x64x128, .f32⟩
  | 45 => ⟨S4x64x128, .f32⟩
  | 46 => ⟨S_, .f32⟩
  | 47 => ⟨S4x64, .f32⟩
  | 48 => ⟨S4x64x1, .f32⟩
  | 49 => ⟨S4x64x128, .f32⟩
  | 50 => ⟨S4x64x128, .f32⟩
  | 51 => ⟨S_, .f32⟩
  | 52 => ⟨S4x64, .f32⟩
  | 53 => ⟨S4x64, .f32⟩
  | 54 => ⟨S4x64, .f32⟩
  | 55 => ⟨S_, .f32⟩
  | 56 => ⟨S4x64x64, .f32⟩
  | 57 => ⟨S4x64x64, .f32⟩
  | 58 => ⟨S4x64x64, .f32⟩
  | 59 => ⟨S4x64x64, .f32⟩
  | 60 => ⟨S4x64x64, .f32⟩
  | 61 => ⟨S4x64x128, .f32⟩
  | 62 => ⟨S4x64x128, .f32⟩
  | 63 => ⟨S4x64x128, .f32⟩
  | 64 => ⟨S4x64x128, .f32⟩
  | 65 => ⟨S4x64x128, .f32⟩
  | 66 => ⟨S_, .f32⟩
  | 67 => ⟨S4x64, .f32⟩
  | 68 => ⟨S4x64x1, .f32⟩
  | 69 => ⟨S4x64x128, .f32⟩
  | 70 => ⟨S4x64x128, .f32⟩
  | 71 => ⟨S_, .f32⟩
  | 72 => ⟨S4x64, .f32⟩
  | 73 => ⟨S4x64x128, .f32⟩
  | 74 => ⟨S_, .f32⟩
  | 75 => ⟨S4x64, .f32⟩
  | 76 => ⟨S4x64x1, .f32⟩
  | 77 => ⟨S4x64x128, .f32⟩
  | 78 => ⟨S4x64x128, .f32⟩
  | 79 => ⟨S4x64x128, .f32⟩
  | 80 => ⟨S_, .f32⟩
  | 81 => ⟨S4x64, .f32⟩
  | 82 => ⟨S4x64, .f32⟩
  | 83 => ⟨S4x64x64, .f32⟩
  | 84 => ⟨S_, .f32⟩
  | 85 => ⟨S4x64x64, .f32⟩
  | 86 => ⟨S4x64x64, .f32⟩
  | 87 => ⟨S_, .f32⟩
  | 88 => ⟨S4x64, .f32⟩
  | 89 => ⟨S4x64x1, .f32⟩
  | 90 => ⟨S4x64x64, .f32⟩
  | 91 => ⟨S_, .f32⟩
  | 92 => ⟨S4x64, .f32⟩
  | 93 => ⟨S4x1x64, .f32⟩
  | 94 => ⟨S_, .f32⟩
  | 95 => ⟨S4x64, .f32⟩
  | 96 => ⟨S4x64, .f32⟩
  | 97 => ⟨S_, .f32⟩
  | 98 => ⟨S4x64, .f32⟩
  | 99 => ⟨S4x64, .f32⟩
  | 100 => ⟨S64x4, .f32⟩
  | 101 => ⟨S_, .f32⟩
  | 102 => ⟨S64x128, .f32⟩
  | 103 => ⟨S64x4, .f32⟩
  | 104 => ⟨S_, .f32⟩
  | 105 => ⟨S64x128, .f32⟩
  | 106 => ⟨S64x128, .f32⟩
  | 107 => ⟨S64x4x128, .f32⟩
  | 108 => ⟨S64x512, .f32⟩
  | 109 => ⟨S64x4x128, .f32⟩
  | 110 => ⟨S64x512, .f32⟩
  | 111 => ⟨S64x4x128, .f32⟩
  | 112 => ⟨S64x512, .f32⟩
  | 113 => ⟨S1x64x512, .f32⟩
  | 114 => ⟨S_, .i32⟩
  | 115 => ⟨S_, .i32⟩
  | 116 => ⟨S128x64x512, .f32⟩
  | 117 => ⟨S1x64x512, .f32⟩
  | 118 => ⟨S_, .i32⟩
  | 119 => ⟨S_, .i32⟩
  | 120 => ⟨S128x64x512, .f32⟩
  | 121 => ⟨S1x64x512, .f32⟩
  | 122 => ⟨S_, .i32⟩
  | 123 => ⟨S_, .i32⟩
  | 124 => ⟨S128x64x512, .f32⟩
  | 125 => ⟨S1x64x128, .f32⟩
  | 126 => ⟨S_, .i32⟩
  | 127 => ⟨S_, .i32⟩
  | _ => ⟨S8192x512, .f32⟩

abbrev hbmTy0_4 (i : Nat) : BufTy := match i % 128 with
  | 0 => ⟨S128x64x128, .f32⟩
  | 1 => ⟨S_, .i32⟩
  | 2 => ⟨S_, .i32⟩
  | 3 => ⟨S8192x512, .f32⟩
  | 4 => ⟨S8192x512, .f32⟩
  | 5 => ⟨S8192x512, .f32⟩
  | 6 => ⟨S8192x128, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_c : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev main_v10_5 : Ref sig .tc := ⟨.hbm, 27, rfl⟩
abbrev main_v10_6 : Ref sig .tc := ⟨.hbm, 28, rfl⟩
abbrev main_v10_7 : Ref sig .tc := ⟨.hbm, 29, rfl⟩
abbrev main_v10_8 : Ref sig .tc := ⟨.hbm, 30, rfl⟩
abbrev main_v10_9 : Ref sig .tc := ⟨.hbm, 31, rfl⟩
abbrev main_v10_10 : Ref sig .tc := ⟨.hbm, 32, rfl⟩
abbrev main_v10_11 : Ref sig .tc := ⟨.hbm, 33, rfl⟩
abbrev main_while0c_c_15 : Ref sig .tc := ⟨.hbm, 34, rfl⟩
abbrev main_while0c_v15 : Ref sig .tc := ⟨.hbm, 35, rfl⟩
abbrev main_while0b_c_15 : Ref sig .tc := ⟨.hbm, 36, rfl⟩
abbrev main_while0b_v15 : Ref sig .tc := ⟨.hbm, 37, rfl⟩
abbrev main_while0b_c_16 : Ref sig .tc := ⟨.hbm, 38, rfl⟩
abbrev main_while0b_v16 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_v0 : Ref sig .tc := ⟨.hbm, 42, rfl⟩
abbrev main_while0b_v17 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_v0 : Ref sig .tc := ⟨.hbm, 46, rfl⟩
abbrev main_while0b_v18 : Ref sig .tc := ⟨.hbm, 47, rfl⟩
abbrev main_while0b_call2_c : Ref sig .tc := ⟨.hbm, 48, rfl⟩
abbrev main_while0b_call2_c_0 : Ref sig .tc := ⟨.hbm, 49, rfl⟩
abbrev main_while0b_call2_v0 : Ref sig .tc := ⟨.hbm, 50, rfl⟩
abbrev main_while0b_v19 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_call3_v0 : Ref sig .tc := ⟨.hbm, 54, rfl⟩
abbrev main_while0b_v20 : Ref sig .tc := ⟨.hbm, 55, rfl⟩
abbrev main_while0b_call4_c : Ref sig .tc := ⟨.hbm, 56, rfl⟩
abbrev main_while0b_call4_c_0 : Ref sig .tc := ⟨.hbm, 57, rfl⟩
abbrev main_while0b_call4_c_1 : Ref sig .tc := ⟨.hbm, 58, rfl⟩
abbrev main_while0b_call4_v0 : Ref sig .tc := ⟨.hbm, 59, rfl⟩
abbrev main_while0b_v21 : Ref sig .tc := ⟨.hbm, 60, rfl⟩
abbrev main_while0b_call5_c : Ref sig .tc := ⟨.hbm, 61, rfl⟩
abbrev main_while0b_call5_c_0 : Ref sig .tc := ⟨.hbm, 62, rfl⟩
abbrev main_while0b_call5_v0 : Ref sig .tc := ⟨.hbm, 63, rfl⟩
abbrev main_while0b_v22 : Ref sig .tc := ⟨.hbm, 64, rfl⟩
abbrev main_while0b_v23 : Ref sig .tc := ⟨.hbm, 65, rfl⟩
abbrev main_while0b_v24 : Ref sig .tc := ⟨.hbm, 66, rfl⟩
abbrev main_while0b_v25 : Ref sig .tc := ⟨.hbm, 67, rfl⟩
abbrev main_while0b_v26 : Ref sig .tc := ⟨.hbm, 68, rfl⟩
abbrev main_while0b_v27 : Ref sig .tc := ⟨.hbm, 69, rfl⟩
abbrev main_while0b_v28 : Ref sig .tc := ⟨.hbm, 70, rfl⟩
abbrev main_while0b_v29 : Ref sig .tc := ⟨.hbm, 71, rfl⟩
abbrev main_while0b_v30 : Ref sig .tc := ⟨.hbm, 72, rfl⟩
abbrev main_while0b_v31 : Ref sig .tc := ⟨.hbm, 73, rfl⟩
abbrev main_while0b_v32 : Ref sig .tc := ⟨.hbm, 74, rfl⟩
abbrev main_while0b_c_17 : Ref sig .tc := ⟨.hbm, 75, rfl⟩
abbrev main_while0b_v33 : Ref sig .tc := ⟨.hbm, 76, rfl⟩
abbrev main_while0b_call6_v0 : Ref sig .tc := ⟨.hbm, 77, rfl⟩
abbrev main_while0b_call6_c : Ref sig .tc := ⟨.hbm, 78, rfl⟩
abbrev main_while0b_call6_v1 : Ref sig .tc := ⟨.hbm, 79, rfl⟩
abbrev main_while0b_call6_v2 : Ref sig .tc := ⟨.hbm, 80, rfl⟩
abbrev main_while0b_call6_v3 : Ref sig .tc := ⟨.hbm, 81, rfl⟩
abbrev main_while0b_call6_v4 : Ref sig .tc := ⟨.hbm, 82, rfl⟩
abbrev main_while0b_call6_c_0 : Ref sig .tc := ⟨.hbm, 83, rfl⟩
abbrev main_while0b_call6_v5 : Ref sig .tc := ⟨.hbm, 84, rfl⟩
abbrev main_while0b_v34 : Ref sig .tc := ⟨.hbm, 85, rfl⟩
abbrev main_while0b_c_18 : Ref sig .tc := ⟨.hbm, 86, rfl⟩
abbrev main_while0b_v35 : Ref sig .tc := ⟨.hbm, 87, rfl⟩
abbrev main_while0b_call7_v0 : Ref sig .tc := ⟨.hbm, 88, rfl⟩
abbrev main_while0b_call7_c : Ref sig .tc := ⟨.hbm, 89, rfl⟩
abbrev main_while0b_call7_v1 : Ref sig .tc := ⟨.hbm, 90, rfl⟩
abbrev main_while0b_call7_v2 : Ref sig .tc := ⟨.hbm, 91, rfl⟩
abbrev main_while0b_call7_v3 : Ref sig .tc := ⟨.hbm, 92, rfl⟩
abbrev main_while0b_call7_v4 : Ref sig .tc := ⟨.hbm, 93, rfl⟩
abbrev main_while0b_call7_c_0 : Ref sig .tc := ⟨.hbm, 94, rfl⟩
abbrev main_while0b_call7_v5 : Ref sig .tc := ⟨.hbm, 95, rfl⟩
abbrev main_while0b_v36 : Ref sig .tc := ⟨.hbm, 96, rfl⟩
abbrev main_while0b_v37 : Ref sig .tc := ⟨.hbm, 97, rfl⟩
abbrev main_while0b_v38 : Ref sig .tc := ⟨.hbm, 98, rfl⟩
abbrev main_while0b_v39 : Ref sig .tc := ⟨.hbm, 99, rfl⟩
abbrev main_while0b_v40 : Ref sig .tc := ⟨.hbm, 100, rfl⟩
abbrev main_while0b_v41 : Ref sig .tc := ⟨.hbm, 101, rfl⟩
abbrev main_while0b_cst_19 : Ref sig .tc := ⟨.hbm, 102, rfl⟩
abbrev main_while0b_call8_v0 : Ref sig .tc := ⟨.hbm, 103, rfl⟩
abbrev main_while0b_v42_1 : Ref sig .tc := ⟨.hbm, 104, rfl⟩
abbrev main_while0b_call8_v2 : Ref sig .tc := ⟨.hbm, 105, rfl⟩
abbrev main_while0b_v42_0 : Ref sig .tc := ⟨.hbm, 106, rfl⟩
abbrev main_while0b_call8_cst : Ref sig .tc := ⟨.hbm, 107, rfl⟩
abbrev main_while0b_v42_2 : Ref sig .tc := ⟨.hbm, 108, rfl⟩
abbrev main_while0b_v43 : Ref sig .tc := ⟨.hbm, 109, rfl⟩
abbrev main_while0b_v44 : Ref sig .tc := ⟨.hbm, 110, rfl⟩
abbrev main_while0b_v45 : Ref sig .tc := ⟨.hbm, 111, rfl⟩
abbrev main_while0b_v46 : Ref sig .tc := ⟨.hbm, 112, rfl⟩
abbrev main_while0b_v47 : Ref sig .tc := ⟨.hbm, 113, rfl⟩
abbrev main_while0b_v48 : Ref sig .tc := ⟨.hbm, 114, rfl⟩
abbrev main_while0b_v49 : Ref sig .tc := ⟨.hbm, 115, rfl⟩
abbrev main_while0b_v50 : Ref sig .tc := ⟨.hbm, 116, rfl⟩
abbrev main_while0b_v51 : Ref sig .tc := ⟨.hbm, 117, rfl⟩
abbrev main_while0b_cst_20 : Ref sig .tc := ⟨.hbm, 118, rfl⟩
abbrev main_while0b_call9_v0 : Ref sig .tc := ⟨.hbm, 119, rfl⟩
abbrev main_while0b_v52_1 : Ref sig .tc := ⟨.hbm, 120, rfl⟩
abbrev main_while0b_call9_v2 : Ref sig .tc := ⟨.hbm, 121, rfl⟩
abbrev main_while0b_v52_0 : Ref sig .tc := ⟨.hbm, 122, rfl⟩
abbrev main_while0b_call9_cst : Ref sig .tc := ⟨.hbm, 123, rfl⟩
abbrev main_while0b_v52_2 : Ref sig .tc := ⟨.hbm, 124, rfl⟩
abbrev main_while0b_v53 : Ref sig .tc := ⟨.hbm, 125, rfl⟩
abbrev main_while0b_v54 : Ref sig .tc := ⟨.hbm, 126, rfl⟩
abbrev main_while0b_v55 : Ref sig .tc := ⟨.hbm, 127, rfl⟩
abbrev main_while0b_v56 : Ref sig .tc := ⟨.hbm, 128, rfl⟩
abbrev main_while0b_v57 : Ref sig .tc := ⟨.hbm, 129, rfl⟩
abbrev main_while0b_cst_21 : Ref sig .tc := ⟨.hbm, 130, rfl⟩
abbrev main_while0b_v58 : Ref sig .tc := ⟨.hbm, 131, rfl⟩
abbrev main_while0b_v59 : Ref sig .tc := ⟨.hbm, 132, rfl⟩
abbrev main_while0b_v60 : Ref sig .tc := ⟨.hbm, 133, rfl⟩
abbrev main_while0b_v61 : Ref sig .tc := ⟨.hbm, 134, rfl⟩
abbrev main_while0b_v62 : Ref sig .tc := ⟨.hbm, 135, rfl⟩
abbrev main_while0b_v63 : Ref sig .tc := ⟨.hbm, 136, rfl⟩
abbrev main_while0b_v64 : Ref sig .tc := ⟨.hbm, 137, rfl⟩
abbrev main_while0b_v65 : Ref sig .tc := ⟨.hbm, 138, rfl⟩
abbrev main_while0b_v66 : Ref sig .tc := ⟨.hbm, 139, rfl⟩
abbrev main_while0b_v67 : Ref sig .tc := ⟨.hbm, 140, rfl⟩
abbrev main_while0b_v68 : Ref sig .tc := ⟨.hbm, 141, rfl⟩
abbrev main_while0b_v69 : Ref sig .tc := ⟨.hbm, 142, rfl⟩
abbrev main_while0b_v70 : Ref sig .tc := ⟨.hbm, 143, rfl⟩
abbrev main_while0b_v71 : Ref sig .tc := ⟨.hbm, 144, rfl⟩
abbrev main_while0b_v72 : Ref sig .tc := ⟨.hbm, 145, rfl⟩
abbrev main_while0b_v73 : Ref sig .tc := ⟨.hbm, 146, rfl⟩
abbrev main_while0b_v74 : Ref sig .tc := ⟨.hbm, 147, rfl⟩
abbrev main_while0b_v75 : Ref sig .tc := ⟨.hbm, 148, rfl⟩
abbrev main_while0b_v76 : Ref sig .tc := ⟨.hbm, 149, rfl⟩
abbrev main_while0b_v77 : Ref sig .tc := ⟨.hbm, 150, rfl⟩
abbrev main_while0b_v78 : Ref sig .tc := ⟨.hbm, 151, rfl⟩
abbrev main_while0b_v79 : Ref sig .tc := ⟨.hbm, 152, rfl⟩
abbrev main_while0b_v80 : Ref sig .tc := ⟨.hbm, 153, rfl⟩
abbrev main_while0b_v81 : Ref sig .tc := ⟨.hbm, 154, rfl⟩
abbrev main_while0b_v82 : Ref sig .tc := ⟨.hbm, 155, rfl⟩
abbrev main_while0b_v83 : Ref sig .tc := ⟨.hbm, 156, rfl⟩
abbrev main_while0b_v84 : Ref sig .tc := ⟨.hbm, 157, rfl⟩
abbrev main_while0b_v85 : Ref sig .tc := ⟨.hbm, 158, rfl⟩
abbrev main_while0b_v86 : Ref sig .tc := ⟨.hbm, 159, rfl⟩
abbrev main_while0b_v87 : Ref sig .tc := ⟨.hbm, 160, rfl⟩
abbrev main_while0b_v88 : Ref sig .tc := ⟨.hbm, 161, rfl⟩
abbrev main_while0b_v89 : Ref sig .tc := ⟨.hbm, 162, rfl⟩
abbrev main_while0b_v90 : Ref sig .tc := ⟨.hbm, 163, rfl⟩
abbrev main_while0b_v91 : Ref sig .tc := ⟨.hbm, 164, rfl⟩
abbrev main_while0b_v92 : Ref sig .tc := ⟨.hbm, 165, rfl⟩
abbrev main_while0b_v93 : Ref sig .tc := ⟨.hbm, 166, rfl⟩
abbrev main_while0b_v94 : Ref sig .tc := ⟨.hbm, 167, rfl⟩
abbrev main_while0b_v95 : Ref sig .tc := ⟨.hbm, 168, rfl⟩
abbrev main_while0b_v96 : Ref sig .tc := ⟨.hbm, 169, rfl⟩
abbrev main_while0b_v97 : Ref sig .tc := ⟨.hbm, 170, rfl⟩
abbrev main_while0b_v98 : Ref sig .tc := ⟨.hbm, 171, rfl⟩
abbrev main_while0b_v99 : Ref sig .tc := ⟨.hbm, 172, rfl⟩
abbrev main_while0b_v100 : Ref sig .tc := ⟨.hbm, 173, rfl⟩
abbrev main_while0b_v101 : Ref sig .tc := ⟨.hbm, 174, rfl⟩
abbrev main_while0b_v102 : Ref sig .tc := ⟨.hbm, 175, rfl⟩
abbrev main_while0b_v103 : Ref sig .tc := ⟨.hbm, 176, rfl⟩
abbrev main_while0b_v104 : Ref sig .tc := ⟨.hbm, 177, rfl⟩
abbrev main_while0b_v105 : Ref sig .tc := ⟨.hbm, 178, rfl⟩
abbrev main_while0b_v106 : Ref sig .tc := ⟨.hbm, 179, rfl⟩
abbrev main_while0b_v107 : Ref sig .tc := ⟨.hbm, 180, rfl⟩
abbrev main_while0b_v108 : Ref sig .tc := ⟨.hbm, 181, rfl⟩
abbrev main_while0b_v109 : Ref sig .tc := ⟨.hbm, 182, rfl⟩
abbrev main_while0b_v110 : Ref sig .tc := ⟨.hbm, 183, rfl⟩
abbrev main_while0b_v111 : Ref sig .tc := ⟨.hbm, 184, rfl⟩
abbrev main_while0b_v112 : Ref sig .tc := ⟨.hbm, 185, rfl⟩
abbrev main_while0b_v113 : Ref sig .tc := ⟨.hbm, 186, rfl⟩
abbrev main_while0b_v114 : Ref sig .tc := ⟨.hbm, 187, rfl⟩
abbrev main_while0b_v115 : Ref sig .tc := ⟨.hbm, 188, rfl⟩
abbrev main_while0b_v116 : Ref sig .tc := ⟨.hbm, 189, rfl⟩
abbrev main_while0b_v117 : Ref sig .tc := ⟨.hbm, 190, rfl⟩
abbrev main_while0b_v118 : Ref sig .tc := ⟨.hbm, 191, rfl⟩
abbrev main_while0b_v119 : Ref sig .tc := ⟨.hbm, 192, rfl⟩
abbrev main_while0b_v120 : Ref sig .tc := ⟨.hbm, 193, rfl⟩
abbrev main_while0b_v121 : Ref sig .tc := ⟨.hbm, 194, rfl⟩
abbrev main_while0b_v122 : Ref sig .tc := ⟨.hbm, 195, rfl⟩
abbrev main_while0b_v123 : Ref sig .tc := ⟨.hbm, 196, rfl⟩
abbrev main_while0b_v124 : Ref sig .tc := ⟨.hbm, 197, rfl⟩
abbrev main_while0b_v125 : Ref sig .tc := ⟨.hbm, 198, rfl⟩
abbrev main_while0b_v126 : Ref sig .tc := ⟨.hbm, 199, rfl⟩
abbrev main_while0b_v127 : Ref sig .tc := ⟨.hbm, 200, rfl⟩
abbrev main_while0b_v128 : Ref sig .tc := ⟨.hbm, 201, rfl⟩
abbrev main_while0b_v129 : Ref sig .tc := ⟨.hbm, 202, rfl⟩
abbrev main_while0b_v130 : Ref sig .tc := ⟨.hbm, 203, rfl⟩
abbrev main_while0b_v131 : Ref sig .tc := ⟨.hbm, 204, rfl⟩
abbrev main_while0b_v132 : Ref sig .tc := ⟨.hbm, 205, rfl⟩
abbrev main_while0b_v133 : Ref sig .tc := ⟨.hbm, 206, rfl⟩
abbrev main_while0b_v134 : Ref sig .tc := ⟨.hbm, 207, rfl⟩
abbrev main_while0b_v135 : Ref sig .tc := ⟨.hbm, 208, rfl⟩
abbrev main_while0b_v136 : Ref sig .tc := ⟨.hbm, 209, rfl⟩
abbrev main_while0b_v137 : Ref sig .tc := ⟨.hbm, 210, rfl⟩
abbrev main_while0b_v138 : Ref sig .tc := ⟨.hbm, 211, rfl⟩
abbrev main_while0b_v139 : Ref sig .tc := ⟨.hbm, 212, rfl⟩
abbrev main_while0b_v140 : Ref sig .tc := ⟨.hbm, 213, rfl⟩
abbrev main_while0b_v141 : Ref sig .tc := ⟨.hbm, 214, rfl⟩
abbrev main_while0b_v142 : Ref sig .tc := ⟨.hbm, 215, rfl⟩
abbrev main_while0b_v143 : Ref sig .tc := ⟨.hbm, 216, rfl⟩
abbrev main_while0b_v144 : Ref sig .tc := ⟨.hbm, 217, rfl⟩
abbrev main_while0b_v145 : Ref sig .tc := ⟨.hbm, 218, rfl⟩
abbrev main_while0b_v146 : Ref sig .tc := ⟨.hbm, 219, rfl⟩
abbrev main_while0b_v147 : Ref sig .tc := ⟨.hbm, 220, rfl⟩
abbrev main_while0b_v148 : Ref sig .tc := ⟨.hbm, 221, rfl⟩
abbrev main_while0b_v149 : Ref sig .tc := ⟨.hbm, 222, rfl⟩
abbrev main_while0b_v150 : Ref sig .tc := ⟨.hbm, 223, rfl⟩
abbrev main_while0b_v151 : Ref sig .tc := ⟨.hbm, 224, rfl⟩
abbrev main_while0b_v152 : Ref sig .tc := ⟨.hbm, 225, rfl⟩
abbrev main_while0b_v153 : Ref sig .tc := ⟨.hbm, 226, rfl⟩
abbrev main_while0b_v154 : Ref sig .tc := ⟨.hbm, 227, rfl⟩
abbrev main_while0b_v155 : Ref sig .tc := ⟨.hbm, 228, rfl⟩
abbrev main_while0b_v156 : Ref sig .tc := ⟨.hbm, 229, rfl⟩
abbrev main_while0b_v157 : Ref sig .tc := ⟨.hbm, 230, rfl⟩
abbrev main_while0b_v158 : Ref sig .tc := ⟨.hbm, 231, rfl⟩
abbrev main_while0b_v159 : Ref sig .tc := ⟨.hbm, 232, rfl⟩
abbrev main_while0b_v160 : Ref sig .tc := ⟨.hbm, 233, rfl⟩
abbrev main_while0b_v161 : Ref sig .tc := ⟨.hbm, 234, rfl⟩
abbrev main_while0b_v162 : Ref sig .tc := ⟨.hbm, 235, rfl⟩
abbrev main_while0b_v163 : Ref sig .tc := ⟨.hbm, 236, rfl⟩
abbrev main_while0b_v164 : Ref sig .tc := ⟨.hbm, 237, rfl⟩
abbrev main_while0b_v165 : Ref sig .tc := ⟨.hbm, 238, rfl⟩
abbrev main_while0b_v166 : Ref sig .tc := ⟨.hbm, 239, rfl⟩
abbrev main_while0b_v167 : Ref sig .tc := ⟨.hbm, 240, rfl⟩
abbrev main_while0b_v168 : Ref sig .tc := ⟨.hbm, 241, rfl⟩
abbrev main_while0b_v169 : Ref sig .tc := ⟨.hbm, 242, rfl⟩
abbrev main_while0b_v170 : Ref sig .tc := ⟨.hbm, 243, rfl⟩
abbrev main_while0b_v171 : Ref sig .tc := ⟨.hbm, 244, rfl⟩
abbrev main_while0b_v172 : Ref sig .tc := ⟨.hbm, 245, rfl⟩
abbrev main_while0b_v173 : Ref sig .tc := ⟨.hbm, 246, rfl⟩
abbrev main_while0b_v174 : Ref sig .tc := ⟨.hbm, 247, rfl⟩
abbrev main_while0b_v175 : Ref sig .tc := ⟨.hbm, 248, rfl⟩
abbrev main_while0b_v176 : Ref sig .tc := ⟨.hbm, 249, rfl⟩
abbrev main_while0b_v177 : Ref sig .tc := ⟨.hbm, 250, rfl⟩
abbrev main_while0b_v178 : Ref sig .tc := ⟨.hbm, 251, rfl⟩
abbrev main_while0b_v179 : Ref sig .tc := ⟨.hbm, 252, rfl⟩
abbrev main_while0b_v180 : Ref sig .tc := ⟨.hbm, 253, rfl⟩
abbrev main_while0b_v181 : Ref sig .tc := ⟨.hbm, 254, rfl⟩
abbrev main_while0b_v182 : Ref sig .tc := ⟨.hbm, 255, rfl⟩
abbrev main_while0b_v183 : Ref sig .tc := ⟨.hbm, 256, rfl⟩
abbrev main_while0b_v184 : Ref sig .tc := ⟨.hbm, 257, rfl⟩
abbrev main_while0b_v185 : Ref sig .tc := ⟨.hbm, 258, rfl⟩
abbrev main_while0b_v186 : Ref sig .tc := ⟨.hbm, 259, rfl⟩
abbrev main_while0b_v187 : Ref sig .tc := ⟨.hbm, 260, rfl⟩
abbrev main_while0b_v188 : Ref sig .tc := ⟨.hbm, 261, rfl⟩
abbrev main_while0b_v189 : Ref sig .tc := ⟨.hbm, 262, rfl⟩
abbrev main_while0b_v190 : Ref sig .tc := ⟨.hbm, 263, rfl⟩
abbrev main_while0b_v191 : Ref sig .tc := ⟨.hbm, 264, rfl⟩
abbrev main_while0b_v192 : Ref sig .tc := ⟨.hbm, 265, rfl⟩
abbrev main_while0b_v193 : Ref sig .tc := ⟨.hbm, 266, rfl⟩
abbrev main_while0b_v194 : Ref sig .tc := ⟨.hbm, 267, rfl⟩
abbrev main_while0b_v195 : Ref sig .tc := ⟨.hbm, 268, rfl⟩
abbrev main_while0b_v196 : Ref sig .tc := ⟨.hbm, 269, rfl⟩
abbrev main_while0b_v197 : Ref sig .tc := ⟨.hbm, 270, rfl⟩
abbrev main_while0b_v198 : Ref sig .tc := ⟨.hbm, 271, rfl⟩
abbrev main_while0b_v199 : Ref sig .tc := ⟨.hbm, 272, rfl⟩
abbrev main_while0b_v200 : Ref sig .tc := ⟨.hbm, 273, rfl⟩
abbrev main_while0b_v201 : Ref sig .tc := ⟨.hbm, 274, rfl⟩
abbrev main_while0b_v202 : Ref sig .tc := ⟨.hbm, 275, rfl⟩
abbrev main_while0b_v203 : Ref sig .tc := ⟨.hbm, 276, rfl⟩
abbrev main_while0b_v204 : Ref sig .tc := ⟨.hbm, 277, rfl⟩
abbrev main_while0b_v205 : Ref sig .tc := ⟨.hbm, 278, rfl⟩
abbrev main_while0b_v206 : Ref sig .tc := ⟨.hbm, 279, rfl⟩
abbrev main_while0b_v207 : Ref sig .tc := ⟨.hbm, 280, rfl⟩
abbrev main_while0b_v208 : Ref sig .tc := ⟨.hbm, 281, rfl⟩
abbrev main_while0b_v209 : Ref sig .tc := ⟨.hbm, 282, rfl⟩
abbrev main_while0b_v210 : Ref sig .tc := ⟨.hbm, 283, rfl⟩
abbrev main_while0b_v211 : Ref sig .tc := ⟨.hbm, 284, rfl⟩
abbrev main_while0b_v212 : Ref sig .tc := ⟨.hbm, 285, rfl⟩
abbrev main_while0b_v213 : Ref sig .tc := ⟨.hbm, 286, rfl⟩
abbrev main_while0b_v214 : Ref sig .tc := ⟨.hbm, 287, rfl⟩
abbrev main_while0b_v215 : Ref sig .tc := ⟨.hbm, 288, rfl⟩
abbrev main_while0b_v216 : Ref sig .tc := ⟨.hbm, 289, rfl⟩
abbrev main_while0b_v217 : Ref sig .tc := ⟨.hbm, 290, rfl⟩
abbrev main_while0b_v218 : Ref sig .tc := ⟨.hbm, 291, rfl⟩
abbrev main_while0b_v219 : Ref sig .tc := ⟨.hbm, 292, rfl⟩
abbrev main_while0b_v220 : Ref sig .tc := ⟨.hbm, 293, rfl⟩
abbrev main_while0b_v221 : Ref sig .tc := ⟨.hbm, 294, rfl⟩
abbrev main_while0b_v222 : Ref sig .tc := ⟨.hbm, 295, rfl⟩
abbrev main_while0b_v223 : Ref sig .tc := ⟨.hbm, 296, rfl⟩
abbrev main_while0b_v224 : Ref sig .tc := ⟨.hbm, 297, rfl⟩
abbrev main_while0b_v225 : Ref sig .tc := ⟨.hbm, 298, rfl⟩
abbrev main_while0b_v226 : Ref sig .tc := ⟨.hbm, 299, rfl⟩
abbrev main_while0b_v227 : Ref sig .tc := ⟨.hbm, 300, rfl⟩
abbrev main_while0b_v228 : Ref sig .tc := ⟨.hbm, 301, rfl⟩
abbrev main_while0b_v229 : Ref sig .tc := ⟨.hbm, 302, rfl⟩
abbrev main_while0b_v230 : Ref sig .tc := ⟨.hbm, 303, rfl⟩
abbrev main_while0b_v231 : Ref sig .tc := ⟨.hbm, 304, rfl⟩
abbrev main_while0b_v232 : Ref sig .tc := ⟨.hbm, 305, rfl⟩
abbrev main_while0b_v233 : Ref sig .tc := ⟨.hbm, 306, rfl⟩
abbrev main_while0b_v234 : Ref sig .tc := ⟨.hbm, 307, rfl⟩
abbrev main_while0b_v235 : Ref sig .tc := ⟨.hbm, 308, rfl⟩
abbrev main_while0b_v236 : Ref sig .tc := ⟨.hbm, 309, rfl⟩
abbrev main_while0b_v237 : Ref sig .tc := ⟨.hbm, 310, rfl⟩
abbrev main_while0b_v238 : Ref sig .tc := ⟨.hbm, 311, rfl⟩
abbrev main_while0b_v239 : Ref sig .tc := ⟨.hbm, 312, rfl⟩
abbrev main_while0b_v240 : Ref sig .tc := ⟨.hbm, 313, rfl⟩
abbrev main_while0b_v241 : Ref sig .tc := ⟨.hbm, 314, rfl⟩
abbrev main_while0b_v242 : Ref sig .tc := ⟨.hbm, 315, rfl⟩
abbrev main_while0b_v243 : Ref sig .tc := ⟨.hbm, 316, rfl⟩
abbrev main_while0b_v244 : Ref sig .tc := ⟨.hbm, 317, rfl⟩
abbrev main_while0b_v245 : Ref sig .tc := ⟨.hbm, 318, rfl⟩
abbrev main_while0b_v246 : Ref sig .tc := ⟨.hbm, 319, rfl⟩
abbrev main_while0b_v247 : Ref sig .tc := ⟨.hbm, 320, rfl⟩
abbrev main_while0b_v248 : Ref sig .tc := ⟨.hbm, 321, rfl⟩
abbrev main_while0b_v249 : Ref sig .tc := ⟨.hbm, 322, rfl⟩
abbrev main_while0b_v250 : Ref sig .tc := ⟨.hbm, 323, rfl⟩
abbrev main_while0b_v251 : Ref sig .tc := ⟨.hbm, 324, rfl⟩
abbrev main_while0b_v252 : Ref sig .tc := ⟨.hbm, 325, rfl⟩
abbrev main_while0b_v253 : Ref sig .tc := ⟨.hbm, 326, rfl⟩
abbrev main_while0b_v254 : Ref sig .tc := ⟨.hbm, 327, rfl⟩
abbrev main_while0b_v255 : Ref sig .tc := ⟨.hbm, 328, rfl⟩
abbrev main_while0b_v256 : Ref sig .tc := ⟨.hbm, 329, rfl⟩
abbrev main_while0b_v257 : Ref sig .tc := ⟨.hbm, 330, rfl⟩
abbrev main_while0b_v258 : Ref sig .tc := ⟨.hbm, 331, rfl⟩
abbrev main_while0b_v259 : Ref sig .tc := ⟨.hbm, 332, rfl⟩
abbrev main_while0b_v260 : Ref sig .tc := ⟨.hbm, 333, rfl⟩
abbrev main_while0b_v261 : Ref sig .tc := ⟨.hbm, 334, rfl⟩
abbrev main_while0b_v262 : Ref sig .tc := ⟨.hbm, 335, rfl⟩
abbrev main_while0b_v263 : Ref sig .tc := ⟨.hbm, 336, rfl⟩
abbrev main_while0b_v264 : Ref sig .tc := ⟨.hbm, 337, rfl⟩
abbrev main_while0b_v265 : Ref sig .tc := ⟨.hbm, 338, rfl⟩
abbrev main_while0b_v266 : Ref sig .tc := ⟨.hbm, 339, rfl⟩
abbrev main_while0b_v267 : Ref sig .tc := ⟨.hbm, 340, rfl⟩
abbrev main_while0b_v268 : Ref sig .tc := ⟨.hbm, 341, rfl⟩
abbrev main_while0b_v269 : Ref sig .tc := ⟨.hbm, 342, rfl⟩
abbrev main_while0b_v270 : Ref sig .tc := ⟨.hbm, 343, rfl⟩
abbrev main_while0b_v271 : Ref sig .tc := ⟨.hbm, 344, rfl⟩
abbrev main_while0b_v272 : Ref sig .tc := ⟨.hbm, 345, rfl⟩
abbrev main_while0b_v273 : Ref sig .tc := ⟨.hbm, 346, rfl⟩
abbrev main_while0b_v274 : Ref sig .tc := ⟨.hbm, 347, rfl⟩
abbrev main_while0b_v275 : Ref sig .tc := ⟨.hbm, 348, rfl⟩
abbrev main_while0b_v276 : Ref sig .tc := ⟨.hbm, 349, rfl⟩
abbrev main_while0b_v277 : Ref sig .tc := ⟨.hbm, 350, rfl⟩
abbrev main_while0b_v278 : Ref sig .tc := ⟨.hbm, 351, rfl⟩
abbrev main_while0b_v279 : Ref sig .tc := ⟨.hbm, 352, rfl⟩
abbrev main_while0b_v280 : Ref sig .tc := ⟨.hbm, 353, rfl⟩
abbrev main_while0b_v281 : Ref sig .tc := ⟨.hbm, 354, rfl⟩
abbrev main_while0b_v282 : Ref sig .tc := ⟨.hbm, 355, rfl⟩
abbrev main_while0b_v283 : Ref sig .tc := ⟨.hbm, 356, rfl⟩
abbrev main_while0b_v284 : Ref sig .tc := ⟨.hbm, 357, rfl⟩
abbrev main_while0b_v285 : Ref sig .tc := ⟨.hbm, 358, rfl⟩
abbrev main_while0b_v286 : Ref sig .tc := ⟨.hbm, 359, rfl⟩
abbrev main_while0b_cst_22 : Ref sig .tc := ⟨.hbm, 360, rfl⟩
abbrev main_while0b_v287 : Ref sig .tc := ⟨.hbm, 361, rfl⟩
abbrev main_while0b_v288 : Ref sig .tc := ⟨.hbm, 362, rfl⟩
abbrev main_while0b_v289 : Ref sig .tc := ⟨.hbm, 363, rfl⟩
abbrev main_while0b_v290 : Ref sig .tc := ⟨.hbm, 364, rfl⟩
abbrev main_while0b_cst_23 : Ref sig .tc := ⟨.hbm, 365, rfl⟩
abbrev main_while0b_v291 : Ref sig .tc := ⟨.hbm, 366, rfl⟩
abbrev main_while0b_v292 : Ref sig .tc := ⟨.hbm, 367, rfl⟩
abbrev main_while0b_v293 : Ref sig .tc := ⟨.hbm, 368, rfl⟩
abbrev main_while0b_v294 : Ref sig .tc := ⟨.hbm, 369, rfl⟩
abbrev main_while0b_v295 : Ref sig .tc := ⟨.hbm, 370, rfl⟩
abbrev main_while0b_v296 : Ref sig .tc := ⟨.hbm, 371, rfl⟩
abbrev main_while0b_v297 : Ref sig .tc := ⟨.hbm, 372, rfl⟩
abbrev main_while0b_v298 : Ref sig .tc := ⟨.hbm, 373, rfl⟩
abbrev main_while0b_v299 : Ref sig .tc := ⟨.hbm, 374, rfl⟩
abbrev main_while0b_v300 : Ref sig .tc := ⟨.hbm, 375, rfl⟩
abbrev main_while0b_v301 : Ref sig .tc := ⟨.hbm, 376, rfl⟩
abbrev main_while0b_v302 : Ref sig .tc := ⟨.hbm, 377, rfl⟩
abbrev main_while0b_v303 : Ref sig .tc := ⟨.hbm, 378, rfl⟩
abbrev main_while0b_v304 : Ref sig .tc := ⟨.hbm, 379, rfl⟩
abbrev main_while0b_v305 : Ref sig .tc := ⟨.hbm, 380, rfl⟩
abbrev main_while0b_v306 : Ref sig .tc := ⟨.hbm, 381, rfl⟩
abbrev main_while0b_cst_24 : Ref sig .tc := ⟨.hbm, 382, rfl⟩
abbrev main_while0b_v307 : Ref sig .tc := ⟨.hbm, 383, rfl⟩
abbrev main_while0b_v308 : Ref sig .tc := ⟨.hbm, 384, rfl⟩
abbrev main_while0b_cst_25 : Ref sig .tc := ⟨.hbm, 385, rfl⟩
abbrev main_while0b_v309 : Ref sig .tc := ⟨.hbm, 386, rfl⟩
abbrev main_while0b_v310 : Ref sig .tc := ⟨.hbm, 387, rfl⟩
abbrev main_while0b_v311 : Ref sig .tc := ⟨.hbm, 388, rfl⟩
abbrev main_while0b_v312 : Ref sig .tc := ⟨.hbm, 389, rfl⟩
abbrev main_while0b_cst_26 : Ref sig .tc := ⟨.hbm, 390, rfl⟩
abbrev main_while0b_v313 : Ref sig .tc := ⟨.hbm, 391, rfl⟩
abbrev main_while0b_v314 : Ref sig .tc := ⟨.hbm, 392, rfl⟩
abbrev main_while0b_cst_27 : Ref sig .tc := ⟨.hbm, 393, rfl⟩
abbrev main_while0b_v315 : Ref sig .tc := ⟨.hbm, 394, rfl⟩
abbrev main_while0b_v316 : Ref sig .tc := ⟨.hbm, 395, rfl⟩
abbrev main_while0b_v317 : Ref sig .tc := ⟨.hbm, 396, rfl⟩
abbrev main_while0b_v318 : Ref sig .tc := ⟨.hbm, 397, rfl⟩
abbrev main_while0b_cst_28 : Ref sig .tc := ⟨.hbm, 398, rfl⟩
abbrev main_while0b_v319 : Ref sig .tc := ⟨.hbm, 399, rfl⟩
abbrev main_while0b_v320 : Ref sig .tc := ⟨.hbm, 400, rfl⟩
abbrev main_while0b_v321 : Ref sig .tc := ⟨.hbm, 401, rfl⟩
abbrev main_while0b_cst_29 : Ref sig .tc := ⟨.hbm, 402, rfl⟩
abbrev main_while0b_v322 : Ref sig .tc := ⟨.hbm, 403, rfl⟩
abbrev main_while0b_v323 : Ref sig .tc := ⟨.hbm, 404, rfl⟩
abbrev main_while0b_v324 : Ref sig .tc := ⟨.hbm, 405, rfl⟩
abbrev main_while0b_v325 : Ref sig .tc := ⟨.hbm, 406, rfl⟩
abbrev main_while0b_cst_30 : Ref sig .tc := ⟨.hbm, 407, rfl⟩
abbrev main_while0b_v326 : Ref sig .tc := ⟨.hbm, 408, rfl⟩
abbrev main_while0b_v327 : Ref sig .tc := ⟨.hbm, 409, rfl⟩
abbrev main_while0b_v328 : Ref sig .tc := ⟨.hbm, 410, rfl⟩
abbrev main_while0b_v329 : Ref sig .tc := ⟨.hbm, 411, rfl⟩
abbrev main_while0b_v330 : Ref sig .tc := ⟨.hbm, 412, rfl⟩
abbrev main_while0b_v331 : Ref sig .tc := ⟨.hbm, 413, rfl⟩
abbrev main_while0b_v332 : Ref sig .tc := ⟨.hbm, 414, rfl⟩
abbrev main_while0b_v333 : Ref sig .tc := ⟨.hbm, 415, rfl⟩
abbrev main_while0b_v334 : Ref sig .tc := ⟨.hbm, 416, rfl⟩
abbrev main_while0b_cst_31 : Ref sig .tc := ⟨.hbm, 417, rfl⟩
abbrev main_while0b_v335 : Ref sig .tc := ⟨.hbm, 418, rfl⟩
abbrev main_while0b_cst_32 : Ref sig .tc := ⟨.hbm, 419, rfl⟩
abbrev main_while0b_v336 : Ref sig .tc := ⟨.hbm, 420, rfl⟩
abbrev main_while0b_v337 : Ref sig .tc := ⟨.hbm, 421, rfl⟩
abbrev main_while0b_v338 : Ref sig .tc := ⟨.hbm, 422, rfl⟩
abbrev main_while0b_v339 : Ref sig .tc := ⟨.hbm, 423, rfl⟩
abbrev main_while0b_v340 : Ref sig .tc := ⟨.hbm, 424, rfl⟩
abbrev main_while0b_v341 : Ref sig .tc := ⟨.hbm, 425, rfl⟩
abbrev main_while0b_v342 : Ref sig .tc := ⟨.hbm, 426, rfl⟩
abbrev main_while0b_v343 : Ref sig .tc := ⟨.hbm, 427, rfl⟩
abbrev main_while0b_v344 : Ref sig .tc := ⟨.hbm, 428, rfl⟩
abbrev main_while0b_v345 : Ref sig .tc := ⟨.hbm, 429, rfl⟩
abbrev main_while0b_cst_33 : Ref sig .tc := ⟨.hbm, 430, rfl⟩
abbrev main_while0b_v346 : Ref sig .tc := ⟨.hbm, 431, rfl⟩
abbrev main_while0b_v347 : Ref sig .tc := ⟨.hbm, 432, rfl⟩
abbrev main_while0b_v348 : Ref sig .tc := ⟨.hbm, 433, rfl⟩
abbrev main_while0b_v349 : Ref sig .tc := ⟨.hbm, 434, rfl⟩
abbrev main_while0b_cst_34 : Ref sig .tc := ⟨.hbm, 435, rfl⟩
abbrev main_while0b_v350 : Ref sig .tc := ⟨.hbm, 436, rfl⟩
abbrev main_while0b_v351 : Ref sig .tc := ⟨.hbm, 437, rfl⟩
abbrev main_while0b_v352 : Ref sig .tc := ⟨.hbm, 438, rfl⟩
abbrev main_while0b_call10_cst : Ref sig .tc := ⟨.hbm, 439, rfl⟩
abbrev main_while0b_call10_v0 : Ref sig .tc := ⟨.hbm, 440, rfl⟩
abbrev main_while0b_v353 : Ref sig .tc := ⟨.hbm, 441, rfl⟩
abbrev main_while0b_v354 : Ref sig .tc := ⟨.hbm, 442, rfl⟩
abbrev main_while0b_v355 : Ref sig .tc := ⟨.hbm, 443, rfl⟩
abbrev main_while0b_v356 : Ref sig .tc := ⟨.hbm, 444, rfl⟩
abbrev main_while0b_v357 : Ref sig .tc := ⟨.hbm, 445, rfl⟩
abbrev main_while0b_v358 : Ref sig .tc := ⟨.hbm, 446, rfl⟩
abbrev main_while0b_v359 : Ref sig .tc := ⟨.hbm, 447, rfl⟩
abbrev main_while0b_v360 : Ref sig .tc := ⟨.hbm, 448, rfl⟩
abbrev main_while0b_v361 : Ref sig .tc := ⟨.hbm, 449, rfl⟩
abbrev main_while0b_cst_35 : Ref sig .tc := ⟨.hbm, 450, rfl⟩
abbrev main_while0b_v362 : Ref sig .tc := ⟨.hbm, 451, rfl⟩
abbrev main_while0b_v363 : Ref sig .tc := ⟨.hbm, 452, rfl⟩
abbrev main_while0b_v364 : Ref sig .tc := ⟨.hbm, 453, rfl⟩
abbrev main_while0b_v365 : Ref sig .tc := ⟨.hbm, 454, rfl⟩
abbrev main_while0b_cst_36 : Ref sig .tc := ⟨.hbm, 455, rfl⟩
abbrev main_while0b_v366 : Ref sig .tc := ⟨.hbm, 456, rfl⟩
abbrev main_while0b_v367 : Ref sig .tc := ⟨.hbm, 457, rfl⟩
abbrev main_while0b_cst_37 : Ref sig .tc := ⟨.hbm, 458, rfl⟩
abbrev main_while0b_v368 : Ref sig .tc := ⟨.hbm, 459, rfl⟩
abbrev main_while0b_v369 : Ref sig .tc := ⟨.hbm, 460, rfl⟩
abbrev main_while0b_v370 : Ref sig .tc := ⟨.hbm, 461, rfl⟩
abbrev main_while0b_v371 : Ref sig .tc := ⟨.hbm, 462, rfl⟩
abbrev main_while0b_v372 : Ref sig .tc := ⟨.hbm, 463, rfl⟩
abbrev main_while0b_cst_38 : Ref sig .tc := ⟨.hbm, 464, rfl⟩
abbrev main_while0b_v373 : Ref sig .tc := ⟨.hbm, 465, rfl⟩
abbrev main_while0b_v374 : Ref sig .tc := ⟨.hbm, 466, rfl⟩
abbrev main_while0b_v375 : Ref sig .tc := ⟨.hbm, 467, rfl⟩
abbrev main_while0b_call11_cst : Ref sig .tc := ⟨.hbm, 468, rfl⟩
abbrev main_while0b_call11_v0 : Ref sig .tc := ⟨.hbm, 469, rfl⟩
abbrev main_while0b_v376 : Ref sig .tc := ⟨.hbm, 470, rfl⟩
abbrev main_while0b_cst_39 : Ref sig .tc := ⟨.hbm, 471, rfl⟩
abbrev main_while0b_v377 : Ref sig .tc := ⟨.hbm, 472, rfl⟩
abbrev main_while0b_v378 : Ref sig .tc := ⟨.hbm, 473, rfl⟩
abbrev main_while0b_v379 : Ref sig .tc := ⟨.hbm, 474, rfl⟩
abbrev main_while0b_cst_40 : Ref sig .tc := ⟨.hbm, 475, rfl⟩
abbrev main_while0b_v380 : Ref sig .tc := ⟨.hbm, 476, rfl⟩
abbrev main_while0b_v381 : Ref sig .tc := ⟨.hbm, 477, rfl⟩
abbrev main_while0b_cst_41 : Ref sig .tc := ⟨.hbm, 478, rfl⟩
abbrev main_while0b_v382 : Ref sig .tc := ⟨.hbm, 479, rfl⟩
abbrev main_while0b_v383 : Ref sig .tc := ⟨.hbm, 480, rfl⟩
abbrev main_while0b_cst_42 : Ref sig .tc := ⟨.hbm, 481, rfl⟩
abbrev main_while0b_v384 : Ref sig .tc := ⟨.hbm, 482, rfl⟩
abbrev main_while0b_v385 : Ref sig .tc := ⟨.hbm, 483, rfl⟩
abbrev main_while0b_v386 : Ref sig .tc := ⟨.hbm, 484, rfl⟩
abbrev main_while0b_cst_43 : Ref sig .tc := ⟨.hbm, 485, rfl⟩
abbrev main_while0b_v387 : Ref sig .tc := ⟨.hbm, 486, rfl⟩
abbrev main_while0b_v388 : Ref sig .tc := ⟨.hbm, 487, rfl⟩
abbrev main_while0b_cst_44 : Ref sig .tc := ⟨.hbm, 488, rfl⟩
abbrev main_while0b_v389 : Ref sig .tc := ⟨.hbm, 489, rfl⟩
abbrev main_while0b_v390 : Ref sig .tc := ⟨.hbm, 490, rfl⟩
abbrev main_while0b_v391 : Ref sig .tc := ⟨.hbm, 491, rfl⟩
abbrev main_while0b_v392 : Ref sig .tc := ⟨.hbm, 492, rfl⟩
abbrev main_while0b_v393 : Ref sig .tc := ⟨.hbm, 493, rfl⟩
abbrev main_while0b_v394 : Ref sig .tc := ⟨.hbm, 494, rfl⟩
abbrev main_while0b_v395 : Ref sig .tc := ⟨.hbm, 495, rfl⟩
abbrev main_while0b_v396 : Ref sig .tc := ⟨.hbm, 496, rfl⟩
abbrev main_while0b_call12_v0 : Ref sig .tc := ⟨.hbm, 497, rfl⟩
abbrev main_while0b_call12_c : Ref sig .tc := ⟨.hbm, 498, rfl⟩
abbrev main_while0b_call12_c_0 : Ref sig .tc := ⟨.hbm, 499, rfl⟩
abbrev main_while0b_v397 : Ref sig .tc := ⟨.hbm, 500, rfl⟩
abbrev main_while0b_call13_v0 : Ref sig .tc := ⟨.hbm, 501, rfl⟩
abbrev main_while0b_call13_c : Ref sig .tc := ⟨.hbm, 502, rfl⟩
abbrev main_while0b_call13_c_0 : Ref sig .tc := ⟨.hbm, 503, rfl⟩
abbrev main_while0b_v398 : Ref sig .tc := ⟨.hbm, 504, rfl⟩
abbrev main_while0b_call14_v0 : Ref sig .tc := ⟨.hbm, 505, rfl⟩
abbrev main_while0b_call14_c : Ref sig .tc := ⟨.hbm, 506, rfl⟩
abbrev main_while0b_call14_c_0 : Ref sig .tc := ⟨.hbm, 507, rfl⟩
abbrev main_while0b_v399 : Ref sig .tc := ⟨.hbm, 508, rfl⟩
abbrev main_while0b_call15_v0 : Ref sig .tc := ⟨.hbm, 509, rfl⟩
abbrev main_while0b_call15_c : Ref sig .tc := ⟨.hbm, 510, rfl⟩
abbrev main_while0b_call15_c_0 : Ref sig .tc := ⟨.hbm, 511, rfl⟩
abbrev main_while0b_v400 : Ref sig .tc := ⟨.hbm, 512, rfl⟩
abbrev main_while0b_c_45 : Ref sig .tc := ⟨.hbm, 513, rfl⟩
abbrev main_while0b_v401 : Ref sig .tc := ⟨.hbm, 514, rfl⟩
abbrev main_v11 : Ref sig .tc := ⟨.hbm, 515, rfl⟩
abbrev main_v12 : Ref sig .tc := ⟨.hbm, 516, rfl⟩
abbrev main_v13 : Ref sig .tc := ⟨.hbm, 517, rfl⟩
abbrev main_v14 : Ref sig .tc := ⟨.hbm, 518, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S4x704x1024 : Shape := ⟨3, ![4, 704, 1024]⟩
abbrev S4x2112x1024 : Shape := ⟨3, ![4, 2112, 1024]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 40
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .bf16⟩
  | .hbm, ⟨24, _⟩ => ⟨S8192x2816, .f32⟩
  | .hbm, ⟨25, _⟩ => ⟨S8192x2816, .bf16⟩
  | .hbm, ⟨26, _⟩ => ⟨S1x1024, .f32⟩
  | .hbm, ⟨27, _⟩ => ⟨S2816x1024, .f32⟩
  | .hbm, ⟨28, _⟩ => ⟨S4x704x1024, .f32⟩
  | .hbm, ⟨29, _⟩ => ⟨S2816x1024, .f32⟩
  | .hbm, ⟨30, _⟩ => ⟨S4x704x1024, .f32⟩
  | .hbm, ⟨31, _⟩ => ⟨S4x704x1024, .f32⟩
  | .hbm, ⟨32, _⟩ => ⟨S4x2112x1024, .f32⟩
  | .hbm, ⟨33, _⟩ => ⟨S4x2112x1024, .bf16⟩
  | .hbm, ⟨34, _⟩ => ⟨S8192x1024, .f32⟩
  | .hbm, ⟨35, _⟩ => ⟨S8192x1024, .bf16⟩
  | .hbm, ⟨36, _⟩ => ⟨S8192x2816, .bf16⟩
  | .hbm, ⟨37, _⟩ => ⟨S8192x2816, .bf16⟩
  | .hbm, ⟨38, _⟩ => ⟨S8192x2816, .bf16⟩
  | .hbm, ⟨39, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S4x704x1024, .bf16⟩
  | .local _ .vmem, ⟨10, _⟩ => ⟨S4x704x1024, .bf16⟩
  | .local _ .vmem, ⟨11, _⟩ => ⟨S4x704x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_7 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S7x1024 : Shape := ⟨2, ![7, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1x1024, .f32⟩
  | .hbm, ⟨80, _⟩ => ⟨S_, .f32⟩
  | .hbm, ⟨81, _⟩ => ⟨S7x1024, .f32⟩
  | .hbm, ⟨82, _⟩ => ⟨S8x1024, .f32⟩
  | .hbm, ⟨83, _⟩ => ⟨S8192x1024, .bf16⟩
  | .hbm, ⟨84, _⟩ => ⟨S8192x2816, .bf16⟩
  | .hbm, ⟨85, _⟩ => ⟨S8192x2816, .bf16⟩
  | .hbm, ⟨86, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x2112x1024 : Shape := ⟨3, ![4, 2112, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S4x704x1024, .f32⟩
  | .hbm, ⟨8, _⟩ => ⟨S2816x1024, .f32⟩
  | .hbm, ⟨9, _⟩ => ⟨S4x704x1024, .f32⟩
  | .hbm, ⟨10, _⟩ => ⟨S4x704x1024, .f32⟩
  | .hbm, ⟨11, _⟩ => ⟨S4x2112x1024, .f32⟩
  | .hbm, ⟨12, _⟩ => ⟨S4x2112x1024, .bf16⟩
  | .hbm, ⟨13, _⟩ => ⟨S8192x1024, .f32⟩
  | .hbm, ⟨14, _⟩ => ⟨S8192x2816, .bf16⟩
  | .hbm, ⟨15, _⟩ => ⟨S8192x2816, .bf16⟩
  | .hbm, ⟨16, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x1024, .bf16⟩
  | .local _ .vmem, ⟨13, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S8192x1024, .f32⟩
  | .hbm, ⟨35, _⟩ => ⟨S8192x2816, .bf16⟩
  | .hbm, ⟨36, _⟩ => ⟨S8192x2816, .bf16⟩
  | .hbm, ⟨37, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S4x2112x1024 : Shape := ⟨3, ![4, 2112, 1024]⟩
abbrev S1024x1408 : Shape := ⟨2, ![1024, 1408]⟩
abbrev S1024x1024 : Shape := ⟨2, ![1024, 1024]⟩
abbrev S2x704x1024 : Shape := ⟨3, ![2, 704, 1024]⟩
abbrev S1408x1024 : Shape := ⟨2, ![1408, 1024]⟩
abbrev S704x1024 : Shape := ⟨2, ![704, 1024]⟩
abbrev S1x704x1024 : Shape := ⟨3, ![1, 704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S4x2112x1024, .bf16⟩
  | .hbm, ⟨3, _⟩ => ⟨S4x2112x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S4x2112x1024 : Shape := ⟨3, ![4, 2112, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S4x2112x1024, .bf16⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S1024x2816, .f32⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x2112x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S4x2112x1024 : Shape := ⟨3, ![4, 2112, 1024]⟩
abbrev S1024x1408 : Shape := ⟨2, ![1024, 1408]⟩
abbrev S1024x1024 : Shape := ⟨2, ![1024, 1024]⟩
abbrev S2x704x1024 : Shape := ⟨3, ![2, 704, 1024]⟩
abbrev S1408x1024 : Shape := ⟨2, ![1408, 1024]⟩
abbrev S704x1024 : Shape := ⟨2, ![704, 1024]⟩
abbrev S1x704x1024 : Shape := ⟨3, ![1, 704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S4x2112x1024, .bf16⟩
  | .hbm, ⟨3, _⟩ => ⟨S4x2112x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x2816 : Shape := ⟨2, ![8192, 2816]⟩
abbrev S8192x1024 : Shape := ⟨2, ![8192, 1024]⟩
abbrev S4x2112x1024 : Shape := ⟨3, ![4, 2112, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S4x2112x1024, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x2112x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S4x2112x1024 : Shape := ⟨3, ![4, 2112, 1024]⟩
abbrev S1024x1408 : Shape := ⟨2, ![1024, 1408]⟩
abbrev S1024x1024 : Shape := ⟨2, ![1024, 1024]⟩
abbrev S2x704x1024 : Shape := ⟨3, ![2, 704, 1024]⟩
abbrev S1408x1024 : Shape := ⟨2, ![1408, 1024]⟩
abbrev S704x1024 : Shape := ⟨2, ![704, 1024]⟩
abbrev S1x704x1024 : Shape := ⟨3, ![1, 704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S4x2112x1024, .bf16⟩
  | .hbm, ⟨3, _⟩ => ⟨S4x2112x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x2816 : Shape := ⟨2, ![8192, 2816]⟩
abbrev S8192x1024 : Shape := ⟨2, ![8192, 1024]⟩
abbrev S4x2112x1024 : Shape := ⟨3, ![4, 2112, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S4x2112x1024, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x2112x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel7.lean ====
abbrev S8192x1024 : Shape := ⟨2, ![8192, 1024]⟩
abbrev S4x1280x1024 : Shape := ⟨3, ![4, 1280, 1024]⟩
abbrev S1024x512 : Shape := ⟨2, ![1024, 512]⟩
abbrev S1024x1024 : Shape := ⟨2, ![1024, 1024]⟩
abbrev S2x256x1024 : Shape := ⟨3, ![2, 256, 1024]⟩
abbrev S512x1024 : Shape := ⟨2, ![512, 1024]⟩
abbrev S256x1024 : Shape := ⟨2, ![256, 1024]⟩
abbrev S1x256x1024 : Shape := ⟨3, ![1, 256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x1280x1024, .bf16⟩
  | .hbm, ⟨3, _⟩ => ⟨S4x1280x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S2x256x1024, .bf16⟩
  | .local _ .vmem, ⟨5, _⟩ => ⟨S2x256x1024, .bf16⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg0.toNat, c4_i32.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S4x1280x1024 : Shape := ⟨3, ![4, 1280, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x1280x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S4x256x1024, .f32⟩
  | .hbm, ⟨11, _⟩ => ⟨S4x256x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x1280x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel8.lean ====
abbrev S8192x1024 : Shape := ⟨2, ![8192, 1024]⟩
abbrev S8192x3592 : Shape := ⟨2, ![8192, 3592]⟩
abbrev S4x1280x1024 : Shape := ⟨3, ![4, 1280, 1024]⟩
abbrev S8192x4x898 : Shape := ⟨3, ![8192, 4, 898]⟩
abbrev S_ : Shape := ⟨0, ![]⟩
abbrev S8192x4x1024 : Shape := ⟨3, ![8192, 4, 1024]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3592, .bf16⟩
  | .hbm, ⟨2, _⟩ => ⟨S4x1280x1024, .bf16⟩
  | .hbm, ⟨3, _⟩ => ⟨S8192x4x898, .bf16⟩
  | .hbm, ⟨4, _⟩ => ⟨S_, .i32⟩
  | .hbm, ⟨5, _⟩ => ⟨S_, .bf16⟩
  | .hbm, ⟨6, _⟩ => ⟨S8192x4x1024, .bf16⟩
  | .hbm, ⟨7, _⟩ => ⟨S8192x4096, .bf16⟩
  | .hbm, ⟨8, _⟩ => ⟨S4x1280x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S8192x1024 : Shape := ⟨2, ![8192, 1024]⟩
abbrev S8192x3592 : Shape := ⟨2, ![8192, 3592]⟩
abbrev S4x1280x1024 : Shape := ⟨3, ![4, 1280, 1024]⟩
abbrev S_ : Shape := ⟨0, ![]⟩
abbrev S1024x3592 : Shape := ⟨2, ![1024, 3592]⟩
abbrev S3592x1024 : Shape := ⟨2, ![3592, 1024]⟩
abbrev S1024x4x898 : Shape := ⟨3, ![1024, 4, 898]⟩
abbrev S4x1024x898 : Shape := ⟨3, ![4, 1024, 898]⟩
abbrev S4x1024x1024 : Shape := ⟨3, ![4, 1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3592, .bf16⟩
  | .hbm, ⟨2, _⟩ => ⟨S4x1280x1024, .bf16⟩
  | .hbm, ⟨3, _⟩ => ⟨S_, .f32⟩
  | .hbm, ⟨4, _⟩ => ⟨S1024x3592, .f32⟩
  | .hbm, ⟨5, _⟩ => ⟨S8192x1024, .f32⟩
  | .hbm, ⟨6, _⟩ => ⟨S8192x3592, .f32⟩
  | .hbm, ⟨7, _⟩ => ⟨S8192x3592, .f32⟩
  | .hbm, ⟨8, _⟩ => ⟨S3592x1024, .f32⟩
  | .hbm, ⟨9, _⟩ => ⟨S1024x3592, .f32⟩
  | .hbm, ⟨10, _⟩ => ⟨S1024x4x898, .f32⟩
  | .hbm, ⟨11, _⟩ => ⟨S4x1024x898, .f32⟩
  | .hbm, ⟨12, _⟩ => ⟨S_, .i32⟩
  | .hbm, ⟨13, _⟩ => ⟨S_, .f32⟩
  | .hbm, ⟨14, _⟩ => ⟨S4x1024x1024, .f32⟩
  | .hbm, ⟨15, _⟩ => ⟨S4x1024x1024, .bf16⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S4x1280x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_c_1 : Ref sig .tc := ⟨.hbm, 17, rfl⟩
abbrev main_c_2 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== Proof.Tile.lean ====
/-
  The kernel's work on one chunk of 64 tokens, named value by value.

  `Tile` is what one head of one chunk is computed from, and the definitions after it are the kernel's operations on it, in
  the kernel's order. `Rows` is what the kernel loads for one chunk, `Rows.tile` cuts one head out of it, and `Rows.outQ`,
  `Rows.outK`, `Rows.outV`, `Rows.outBG` and `Rows.next` are what it stores for that chunk, given the gradient `D` of the
  state that the chunk leaves behind, one matrix per head.
-/
module

public import Idealize.ShloMosaic.PureOps.Ideal.Laws

@[expose] public section

set_option maxRecDepth 16384

noncomputable section

namespace Delta

open Idealize.ShloMosaic

/-- A matrix of f32 values. -/
abbrev V (F : FTy → Type) (a b : ℕ) := FVec F (⟨2, ![a, b]⟩ : Shape) .f32

/-- One head of one chunk: the four row blocks, the two gates (`grow` is `g` laid out as a row), the state `S` before the
    chunk, and the gradient `D` of the state after it. -/
structure Tile (F : FTy → Type) where
  q : V F 64 128
  k : V F 64 128
  v : V F 64 128
  dO : V F 64 128
  beta : V F 64 1
  g : V F 64 1
  grow : V F 1 64
  S : V F 128 128
  D : V F 128 128

section Ops
variable {F : FTy → Type} [FloatOps F]

/-- Row numbers of a chunk's square. -/
def rowNo : IVec (⟨2, ![64, 64]⟩ : Shape) 32 := iota .tc ⟨2, ![64, 64]⟩ 32 [0] (by decide)
/-- Column numbers of a chunk's square. -/
def colNo : IVec (⟨2, ![64, 64]⟩ : Shape) 32 := iota .tc ⟨2, ![64, 64]⟩ 32 [1] (by decide)
/-- On and below the diagonal. -/
def causal : IVec (⟨2, ![64, 64]⟩ : Shape) 1 := cmpi .sge rowNo colNo
/-- Below the diagonal. -/
def strict : IVec (⟨2, ![64, 64]⟩ : Shape) 1 := cmpi .sgt rowNo colNo
/-- The last row of a chunk. -/
def lastRow : IVec (⟨2, ![64, 1]⟩ : Shape) 1 :=
  cmpi .eq (iota .tc ⟨2, ![64, 1]⟩ 32 [0] (by decide)) (broadcast ⟨2, ![64, 1]⟩ 63#32)
/-- Lane `n` of a row of gates. -/
def lane (n : BitVec 32) : IVec (⟨2, ![64, 128]⟩ : Shape) 1 :=
  cmpi .eq (iota .tc ⟨2, ![64, 128]⟩ 32 [1] (by decide)) (broadcast ⟨2, ![64, 128]⟩ n)

/-- A matrix of zeros. -/
def nil (a b : ℕ) : V F a b := broadcast ⟨2, ![a, b]⟩ (Scalar.ofBits .f32 0x00000000#32)
/-- A column repeated over 128 lanes. -/
def lanes (x : V F 64 1) : V F 64 128 := broadcastTo ⟨2, ![64, 128]⟩ x (by decide)
/-- Narrowed to bf16, as every product's operands are. -/
def bf {a b : ℕ} (x : V F a b) : FVec F (⟨2, ![a, b]⟩ : Shape) .bf16 := truncf .bf16 x (by decide)

/-- Row sums of a 64 × 128 matrix. -/
def sumLanes (x : V F 64 128) : V F 64 1 :=
  shapeCast ⟨2, ![64, 1]⟩ (multiReduction .add [1] ⟨1, ![64]⟩ x 0x00000000#32 (by decide) (.inl rfl) rfl) (by decide)
/-- Row sums of a 64 × 64 matrix. -/
def sumRow (x : V F 64 64) : V F 64 1 :=
  shapeCast ⟨2, ![64, 1]⟩ (multiReduction .add [1] ⟨1, ![64]⟩ x 0x00000000#32 (by decide) (.inl rfl) rfl) (by decide)

/-- 64 × 128 times a state. -/
def byState (x : V F 64 128) (y : V F 128 128) : V F 64 128 :=
  matmul ⟨[1], [0], [0], [1], [], [], by decide⟩ none (bf x) (bf y) (constant ⟨2, ![64, 128]⟩ .f32 0x00000000#32)
/-- 64 × 128 times a transposed state. -/
def byStateT (x : V F 64 128) (y : V F 128 128) : V F 64 128 :=
  matmul ⟨[1], [1], [0], [0], [], [], by decide⟩ none (bf x) (bf y) (constant ⟨2, ![64, 128]⟩ .f32 0x00000000#32)
/-- A transposed 64 × 128 times a 64 × 128. -/
def outer (x y : V F 64 128) : V F 128 128 :=
  matmul ⟨[0], [0], [1], [1], [], [], by decide⟩ none (bf x) (bf y) (constant ⟨2, ![128, 128]⟩ .f32 0x00000000#32)
theorem cat_beside : Shape.Concatenates [(⟨2, ![64, 128]⟩ : Shape), ⟨2, ![64, 128]⟩] ⟨2, ![64, 256]⟩ 1 := by decide
theorem cat_above : Shape.Concatenates [(⟨2, ![64, 128]⟩ : Shape), ⟨2, ![64, 128]⟩] ⟨2, ![128, 128]⟩ 0 := by decide
theorem cat_above64 : Shape.Concatenates [(⟨2, ![64, 64]⟩ : Shape), ⟨2, ![64, 64]⟩] ⟨2, ![128, 64]⟩ 0 := by decide
theorem cat_heads4 : Shape.Concatenates [(⟨2, ![64, 128]⟩ : Shape), ⟨2, ![64, 128]⟩, ⟨2, ![64, 128]⟩, ⟨2, ![64, 128]⟩]
    ⟨2, ![64, 512]⟩ 1 := by decide

/-- Two 64 × 128 matrices side by side. -/
def beside (x y : V F 64 128) : V F 64 256 :=
  concatenate ⟨2, ![64, 256]⟩ 1 [⟨⟨2, ![64, 128]⟩, x⟩, ⟨⟨2, ![64, 128]⟩, y⟩] cat_beside
/-- Two 64 × 128 matrices one above the other. -/
def above (x y : V F 64 128) : V F 128 128 :=
  concatenate ⟨2, ![128, 128]⟩ 0 [⟨⟨2, ![64, 128]⟩, x⟩, ⟨⟨2, ![64, 128]⟩, y⟩] cat_above
/-- Two 64 × 64 matrices one above the other. -/
def above64 (x y : V F 64 64) : V F 128 64 :=
  concatenate ⟨2, ![128, 64]⟩ 0 [⟨⟨2, ![64, 64]⟩, x⟩, ⟨⟨2, ![64, 64]⟩, y⟩] cat_above64
/-- A product of two squares. -/
def square (x y : V F 64 64) : V F 64 64 :=
  matmul ⟨[1], [0], [0], [1], [], [], by decide⟩ none (bf x) (bf y) (constant ⟨2, ![64, 64]⟩ .f32 0x00000000#32)
/-- `p` squared, and `x` times `p`, in one product. -/
def double (p x : V F 64 64) : V F 128 64 :=
  matmul ⟨[1], [0], [0], [1], [], [], by decide⟩ none (bf (above64 p x)) (bf p) (constant ⟨2, ![128, 64]⟩ .f32 0x00000000#32)
/-- The next power. -/
def nextPower (p x : V F 64 64) : V F 64 64 := extractStridedSlice ⟨2, ![64, 64]⟩ ![0, 0] (double p x) (by decide)
/-- `x + p + x p`: twice as many terms of the inverse's series. -/
def nextSum (p x : V F 64 64) : V F 64 64 :=
  addf (addf x p) (extractStridedSlice ⟨2, ![64, 64]⟩ ![64, 0] (double p x) (by decide))
/-- The first 128 columns of 256. -/
def left (x : V F 64 256) : V F 64 128 := extractStridedSlice ⟨2, ![64, 128]⟩ ![0, 0] x (by decide)
/-- The last 128 columns of 256. -/
def right (x : V F 64 256) : V F 64 128 := extractStridedSlice ⟨2, ![64, 128]⟩ ![0, 128] x (by decide)

end Ops

namespace Tile
variable {F : FTy → Type} [FloatOps F] (c : Tile F)

def kb : V F 64 128 := mulf c.k (lanes c.beta)
def eg : V F 64 1 := exp c.g
def gEnd : V F 1 1 := extractStridedSlice ⟨2, ![1, 1]⟩ ![63, 0] c.g (by decide)
def eTail : V F 64 1 := exp (subf (broadcastTo ⟨2, ![64, 1]⟩ c.gEnd (by decide)) c.g)
def dec : V F 64 64 :=
  exp (select causal
    (subf (broadcastTo ⟨2, ![64, 64]⟩ c.g (by decide)) (broadcastTo ⟨2, ![64, 64]⟩ c.grow (by decide)))
    (broadcast ⟨2, ![64, 64]⟩ (Scalar.ofBits .f32 0xF149F2CA#32)))
def vb : V F 64 128 := mulf c.v (lanes c.beta)
def kbg : V F 64 128 := mulf c.kb (lanes c.eg)
def eEnd : V F 1 1 := exp c.gEnd
def qDec : V F 64 128 := mulf c.q (lanes c.eg)
def kDec : V F 64 128 := mulf c.k (lanes c.eTail)
def gram : V F 128 64 :=
  matmul ⟨[1], [1], [0], [0], [], [], by decide⟩ none (bf (above c.kb c.q)) (bf c.k) (constant ⟨2, ![128, 64]⟩ .f32 0x00000000#32)
def low : V F 64 64 :=
  select strict (mulf (extractStridedSlice ⟨2, ![64, 64]⟩ ![0, 0] c.gram (by decide)) c.dec) (nil 64 64)
def qk : V F 64 64 :=
  select causal (mulf (extractStridedSlice ⟨2, ![64, 64]⟩ ![64, 0] c.gram (by decide)) c.dec) (nil 64 64)
def x1 : V F 64 64 := subf (nil 64 64) c.low
def p2 : V F 64 64 := square c.low c.low
def x3 : V F 64 64 := nextSum c.p2 c.x1
def p4 : V F 64 64 := nextPower c.p2 c.x1
def x7 : V F 64 64 := nextSum c.p4 c.x3
def p8 : V F 64 64 := nextPower c.p4 c.x3
def x15 : V F 64 64 := nextSum c.p8 c.x7
def p16 : V F 64 64 := nextPower c.p8 c.x7
def x31 : V F 64 64 := nextSum c.p16 c.x15
def p32 : V F 64 64 := nextPower c.p16 c.x15
/-- The inverse of one plus `low`, less one. -/
def X : V F 64 64 := addf (addf c.x31 c.p32) (square c.x31 c.p32)
def sol : V F 64 256 :=
  matmul ⟨[1], [0], [0], [1], [], [], by decide⟩ none (bf c.X) (bf (beside c.vb c.kbg)) (constant ⟨2, ![64, 256]⟩ .f32 0x00000000#32)
def u : V F 64 128 := addf c.vb (left c.sol)
def w : V F 64 128 := addf c.kbg (right c.sol)
def dqDec : V F 64 128 := byStateT c.dO c.S
def vNew : V F 64 128 := subf c.u (byState c.w c.S)
def dqk : V F 64 64 :=
  select causal
    (matmul ⟨[1], [1], [0], [0], [], [], by decide⟩ none (bf c.dO) (bf c.vNew) (constant ⟨2, ![64, 64]⟩ .f32 0x00000000#32))
    (nil 64 64)
def dkDec : V F 64 128 := byStateT c.vNew c.D
def dvNew : V F 64 128 :=
  addf (matmul ⟨[0], [0], [1], [1], [], [], by decide⟩ none (bf c.qk) (bf c.dO) (constant ⟨2, ![64, 128]⟩ .f32 0x00000000#32))
    (byState c.kDec c.D)
def dw : V F 64 128 := subf (nil 64 128) (byStateT c.dvNew c.S)
def next : V F 128 128 :=
  subf (addf (mulf (broadcastTo ⟨2, ![128, 128]⟩ c.eEnd (by decide)) c.D) (outer c.qDec c.dO)) (outer c.w c.dvNew)
def dt : V F 64 64 :=
  matmul ⟨[1], [1], [0], [0], [], [], by decide⟩ none (bf (beside c.dvNew c.dw)) (bf (beside c.vb c.kbg))
    (constant ⟨2, ![64, 64]⟩ .f32 0x00000000#32)
def dsol : V F 64 256 :=
  matmul ⟨[0], [0], [1], [1], [], [], by decide⟩ none (bf c.X) (bf (beside c.dvNew c.dw)) (constant ⟨2, ![64, 256]⟩ .f32 0x00000000#32)
def dvb : V F 64 128 := addf c.dvNew (left c.dsol)
def dkbg : V F 64 128 := addf c.dw (right c.dsol)
def y : V F 64 64 :=
  addf c.dt (matmul ⟨[0], [0], [1], [1], [], [], by decide⟩ none (bf c.X) (bf c.dt) (constant ⟨2, ![64, 64]⟩ .f32 0x00000000#32))
def dlow : V F 64 64 :=
  select strict
    (subf (nil 64 64)
      (addf c.y (matmul ⟨[1], [1], [0], [0], [], [], by decide⟩ none (bf c.y) (bf c.X) (constant ⟨2, ![64, 64]⟩ .f32 0x00000000#32))))
    (nil 64 64)
def dgram : V F 128 64 := above64 (mulf c.dlow c.dec) (mulf c.dqk c.dec)
def dkq : V F 128 128 :=
  matmul ⟨[1], [0], [0], [1], [], [], by decide⟩ none (bf c.dgram) (bf c.k) (constant ⟨2, ![128, 128]⟩ .f32 0x00000000#32)
def dkT : V F 64 128 :=
  matmul ⟨[0], [0], [1], [1], [], [], by decide⟩ none (bf c.dgram) (bf (above c.kb c.q)) (constant ⟨2, ![64, 128]⟩ .f32 0x00000000#32)
def dkb : V F 64 128 :=
  addf (extractStridedSlice ⟨2, ![64, 128]⟩ ![0, 0] c.dkq (by decide)) (mulf c.dkbg (lanes c.eg))
def dq : V F 64 128 :=
  addf (extractStridedSlice ⟨2, ![64, 128]⟩ ![64, 0] c.dkq (by decide)) (mulf c.dqDec (lanes c.eg))
def dk : V F 64 128 := addf (addf c.dkT (mulf c.dkDec (lanes c.eTail))) (mulf c.dkb (lanes c.beta))
def dv : V F 64 128 := mulf c.dvb (lanes c.beta)
def dbeta : V F 64 1 := sumLanes (addf (mulf c.dkb c.k) (mulf c.dvb c.v))
def e : V F 64 64 := addf (mulf c.dlow c.low) (mulf c.dqk c.qk)
def kd : V F 64 1 := sumLanes (mulf c.dkDec c.kDec)
def total : V F 1 1 :=
  shapeCast ⟨2, ![1, 1]⟩ (multiReduction .add [0] ⟨1, ![1]⟩
    (shapeCast ⟨2, ![128, 1]⟩ (multiReduction .add [1] ⟨1, ![128]⟩ (mulf c.D c.S) 0x00000000#32 (by decide) (.inl rfl) rfl) (by decide) :
      V F 128 1) 0x00000000#32 (by decide) (.inl rfl) rfl) (by decide)
def dgEnd : V F 1 1 :=
  addf (shapeCast ⟨2, ![1, 1]⟩ (multiReduction .add [0] ⟨1, ![1]⟩ c.kd 0x00000000#32 (by decide) (.inl rfl) rfl) (by decide))
    (mulf c.total c.eEnd)
def dg : V F 64 1 :=
  addf
    (addf
      (subf
        (addf (subf (sumRow c.e) (sumRow (transpose ⟨2, ![64, 64]⟩ [1, 0] c.e (by decide)))) (sumLanes (mulf c.dqDec c.qDec)))
        c.kd)
      (sumLanes (mulf c.dkbg c.kbg)))
    (select lastRow
      (broadcastTo ⟨2, ![64, 1]⟩ (shapeCast ⟨2, ![1, 1]⟩ c.dgEnd (by decide)) (by decide)) (nil 64 1))

end Tile

/-- What the kernel loads for one chunk: four row blocks of 512 lanes, the gates, and per head the state. -/
structure Rows (F : FTy → Type) where
  q : V F 64 512
  k : V F 64 512
  v : V F 64 512
  dO : V F 64 512
  bg : V F 64 128
  S : Fin 4 → FVec F (⟨4, ![1, 1, 128, 128]⟩ : Shape) .f32

namespace Rows
variable {F : FTy → Type} [FloatOps F] (r : Rows F)

/-- A chunk's 64 × 128 block for one head. -/
def headOf (x : V F 64 512) (h : Fin 4) : V F 64 128 :=
  extractStridedSlice ⟨2, ![64, 128]⟩ ![0, 128 * h.val] x (by revert h; decide)

/-- One head of the chunk. -/
def tile (D : Fin 4 → V F 128 128) (h : Fin 4) : Tile F where
  q := headOf r.q h
  k := headOf r.k h
  v := headOf r.v h
  dO := headOf r.dO h
  beta := extractStridedSlice ⟨2, ![64, 1]⟩ ![0, h.val] r.bg (by revert h; decide)
  g := extractStridedSlice ⟨2, ![64, 1]⟩ ![0, 4 + h.val] r.bg (by revert h; decide)
  grow := extractStridedSlice ⟨2, ![1, 64]⟩ ![4 + h.val, 0]
    (transpose ⟨2, ![128, 64]⟩ [1, 0] r.bg (by decide)) (by revert h; decide)
  S := shapeCast ⟨2, ![128, 128]⟩ (r.S h) (by decide)
  D := D h

/-- Four heads side by side. -/
def heads4 (x : Fin 4 → V F 64 128) : V F 64 512 :=
  concatenate ⟨2, ![64, 512]⟩ 1
    [⟨⟨2, ![64, 128]⟩, x 0⟩, ⟨⟨2, ![64, 128]⟩, x 1⟩, ⟨⟨2, ![64, 128]⟩, x 2⟩, ⟨⟨2, ![64, 128]⟩, x 3⟩] cat_heads4

/-- A column put in lane `n`, the other lanes kept. -/
def put (n : BitVec 32) (x : V F 64 1) (rest : V F 64 128) : V F 64 128 :=
  select (lane n) (lanes (shapeCast ⟨2, ![64, 1]⟩ x (by decide))) rest

variable (D : Fin 4 → V F 128 128)

def outQ : V F 64 512 := heads4 fun h => (r.tile D h).dq
def outK : V F 64 512 := heads4 fun h => (r.tile D h).dk
def outV : V F 64 512 := heads4 fun h => (r.tile D h).dv
def outBG : V F 64 128 :=
  addf
    (put 3#32 (r.tile D 3).dbeta (put 2#32 (r.tile D 2).dbeta (put 1#32 (r.tile D 1).dbeta (put 0#32 (r.tile D 0).dbeta (nil 64 128)))))
    (put 7#32 (r.tile D 3).dg (put 6#32 (r.tile D 2).dg (put 5#32 (r.tile D 1).dg (put 4#32 (r.tile D 0).dg (nil 64 128)))))
/-- The gradient of the state before the chunk. -/
def next (h : Fin 4) : V F 128 128 := (r.tile D h).next

end Rows

end Delta

end
-- ==== Proof.Trip.lean ====
/-
  One trip of the kernel's loop: what it loads for its two chunks, and what it stores — the four results of each chunk, and the
  four heads' gradient of the state — as `Rows` says it.
-/
module

public import proofs.«01_k».proof.Proof.Gen.KernelIdeal.Loops
public import proofs.«01_k».proof.Proof.Tile

@[expose] public section

set_option maxRecDepth 16384

noncomputable section

namespace Delta

open Idealize.ShloMosaic Idealize.ShloMosaic.TcCoe Idealize.ShloMosaic.Tactic
open Cert.KernelIdeal Cert.KernelIdeal.Gen

variable {F : FTy → Type} [FloatOps F]

/-- The lanes' numbers, as the kernel makes them before its loop. -/
def laneNo : IVec S64x128 32 := iota .tc S64x128 32 [1] (by decide)

section
variable (a1 : Memref sig .tc .vmem S512x512 .f32) (a2 : Memref sig .tc .vmem S512x512 .f32)
  (a3 : Memref sig .tc .vmem S512x512 .f32) (a4 : Memref sig .tc .vmem S512x128 .f32)
  (a5 : Memref sig .tc .vmem S8x4x128x128 .f32) (a6 : Memref sig .tc .vmem S512x512 .f32)
  (a11 : Memref sig .tc .vmem S4x128x128 .f32)
  (x1 : BufTy.Contents (Elt F) a1.view.ty) (x2 : BufTy.Contents (Elt F) a2.view.ty)
  (x3 : BufTy.Contents (Elt F) a3.view.ty) (x4 : BufTy.Contents (Elt F) a4.view.ty)
  (x5 : BufTy.Contents (Elt F) a5.view.ty) (x6 : BufTy.Contents (Elt F) a6.view.ty)
  (f11 : BufTy.Contents (Elt F) a11.view.ty) (k : Fin k0_t1_loop.trips)

/-- The later of a trip's two chunks, as loaded. -/
def hiRows : Rows F where
  q := a1.view.readAt (Elt F) (Rect.unit (s := S512x512) (k0_off2 k) S64x512.size (k0_off2_inb k)).toLoadRect x1
  k := a2.view.readAt (Elt F) (Rect.unit (s := S512x512) (k0_off2 k) S64x512.size (k0_off2_inb k)).toLoadRect x2
  v := a3.view.readAt (Elt F) (Rect.unit (s := S512x512) (k0_off2 k) S64x512.size (k0_off2_inb k)).toLoadRect x3
  dO := a6.view.readAt (Elt F) (Rect.unit (s := S512x512) (k0_off2 k) S64x512.size (k0_off2_inb k)).toLoadRect x6
  bg := a4.view.readAt (Elt F) (Rect.unit (s := S512x128) (k0_off1 k) S64x128.size (k0_off1_inb k)).toLoadRect x4
  S
    | 0 => a5.view.readAt (Elt F) (Rect.unit (s := S8x4x128x128) (k0_off5 k) S1x1x128x128.size (k0_off5_inb k)).toLoadRect x5
    | 1 => a5.view.readAt (Elt F) (Rect.unit (s := S8x4x128x128) (k0_off6 k) S1x1x128x128.size (k0_off6_inb k)).toLoadRect x5
    | 2 => a5.view.readAt (Elt F) (Rect.unit (s := S8x4x128x128) (k0_off7 k) S1x1x128x128.size (k0_off7_inb k)).toLoadRect x5
    | 3 => a5.view.readAt (Elt F) (Rect.unit (s := S8x4x128x128) (k0_off8 k) S1x1x128x128.size (k0_off8_inb k)).toLoadRect x5

/-- The earlier of a trip's two chunks, as loaded. -/
def loRows : Rows F where
  q := a1.view.readAt (Elt F) (Rect.unit (s := S512x512) (k0_off4 k) S64x512.size (k0_off4_inb k)).toLoadRect x1
  k := a2.view.readAt (Elt F) (Rect.unit (s := S512x512) (k0_off4 k) S64x512.size (k0_off4_inb k)).toLoadRect x2
  v := a3.view.readAt (Elt F) (Rect.unit (s := S512x512) (k0_off4 k) S64x512.size (k0_off4_inb k)).toLoadRect x3
  dO := a6.view.readAt (Elt F) (Rect.unit (s := S512x512) (k0_off4 k) S64x512.size (k0_off4_inb k)).toLoadRect x6
  bg := a4.view.readAt (Elt F) (Rect.unit (s := S512x128) (k0_off3 k) S64x128.size (k0_off3_inb k)).toLoadRect x4
  S
    | 0 => a5.view.readAt (Elt F) (Rect.unit (s := S8x4x128x128) (k0_off9 k) S1x1x128x128.size (k0_off9_inb k)).toLoadRect x5
    | 1 => a5.view.readAt (Elt F) (Rect.unit (s := S8x4x128x128) (k0_off10 k) S1x1x128x128.size (k0_off10_inb k)).toLoadRect x5
    | 2 => a5.view.readAt (Elt F) (Rect.unit (s := S8x4x128x128) (k0_off11 k) S1x1x128x128.size (k0_off11_inb k)).toLoadRect x5
    | 3 => a5.view.readAt (Elt F) (Rect.unit (s := S8x4x128x128) (k0_off12 k) S1x1x128x128.size (k0_off12_inb k)).toLoadRect x5

/-- The gradient of the state that a trip finds, by head. -/
def found : Fin 4 → V F 128 128
  | 0 => shapeCast S128x128 (a11.view.readAt (Elt F) (Rect.unit (s := S4x128x128) ![0, 0, 0] S1x128x128.size inb_S4x128x128_S1x128x128_0_0_0).toLoadRect f11) (by decide)
  | 1 => shapeCast S128x128 (a11.view.readAt (Elt F) (Rect.unit (s := S4x128x128) ![1, 0, 0] S1x128x128.size inb_S4x128x128_S1x128x128_1_0_0).toLoadRect f11) (by decide)
  | 2 => shapeCast S128x128 (a11.view.readAt (Elt F) (Rect.unit (s := S4x128x128) ![2, 0, 0] S1x128x128.size inb_S4x128x128_S1x128x128_2_0_0).toLoadRect f11) (by decide)
  | 3 => shapeCast S128x128 (a11.view.readAt (Elt F) (Rect.unit (s := S4x128x128) ![3, 0, 0] S1x128x128.size inb_S4x128x128_S1x128x128_3_0_0).toLoadRect f11) (by decide)

/-- What a trip's later chunk leaves as the gradient of the state. -/
def midState : Fin 4 → V F 128 128 := (hiRows a1 a2 a3 a4 a5 a6 x1 x2 x3 x4 x5 x6 k).next (found a11 f11)

/-- What a trip leaves as the gradient of the state. -/
def endState : Fin 4 → V F 128 128 :=
  (loRows a1 a2 a3 a4 a5 a6 x1 x2 x3 x4 x5 x6 k).next (midState a1 a2 a3 a4 a5 a6 a11 x1 x2 x3 x4 x5 x6 f11 k)

end

variable (𝒱 : Variants) (c : Dev nD) (bd : Option 𝒱.V) (i : grid0.Coords)
  (a1 : Memref sig .tc .vmem S512x512 .f32) (h1 : a1.IsWhole) (a2 : Memref sig .tc .vmem S512x512 .f32) (h2 : a2.IsWhole)
  (a3 : Memref sig .tc .vmem S512x512 .f32) (h3 : a3.IsWhole) (a4 : Memref sig .tc .vmem S512x128 .f32) (h4 : a4.IsWhole)
  (a5 : Memref sig .tc .vmem S8x4x128x128 .f32) (h5 : a5.IsWhole) (a6 : Memref sig .tc .vmem S512x512 .f32) (h6 : a6.IsWhole)
  (a7 : Memref sig .tc .vmem S512x512 .f32) (h7 : a7.IsWhole) (a8 : Memref sig .tc .vmem S512x512 .f32) (h8 : a8.IsWhole)
  (a9 : Memref sig .tc .vmem S512x512 .f32) (h9 : a9.IsWhole) (a10 : Memref sig .tc .vmem S512x128 .f32) (h10 : a10.IsWhole)
  (a11 : Memref sig .tc .vmem S4x128x128 .f32) (h11 : a11.IsWhole)
  (x1 : BufTy.Contents (Elt F) a1.view.ty) (x2 : BufTy.Contents (Elt F) a2.view.ty)
  (x3 : BufTy.Contents (Elt F) a3.view.ty) (x4 : BufTy.Contents (Elt F) a4.view.ty)
  (x5 : BufTy.Contents (Elt F) a5.view.ty) (x6 : BufTy.Contents (Elt F) a6.view.ty)
  (f7 : BufTy.Contents (Elt F) a7.view.ty) (f8 : BufTy.Contents (Elt F) a8.view.ty) (f9 : BufTy.Contents (Elt F) a9.view.ty)
  (f10 : BufTy.Contents (Elt F) a10.view.ty) (f11 : BufTy.Contents (Elt F) a11.view.ty) (k : Fin k0_t1_loop.trips)

/-- The four heads' slices that a trip stores, the last first. -/
theorem trip_scratch :
    (trip_k0_t1 (F := F) 𝒱 c bd i a1 h1 a2 h2 a3 h3 a4 h4 a5 h5 a6 h6 a7 h7 a8 h8 a9 h9 a10 h10 a11 h11 laneNo x1 x2 x3 x4 x5 x6 k).2.2.2.2.1 f7 f8 f9 f10 f11 =
      [⟨Rect.unit (s := S4x128x128) ![3, 0, 0] S1x128x128.size inb_S4x128x128_S1x128x128_3_0_0,
        shapeCast S1x128x128 (endState a1 a2 a3 a4 a5 a6 a11 x1 x2 x3 x4 x5 x6 f11 k 3) (by decide)⟩,
       ⟨Rect.unit (s := S4x128x128) ![2, 0, 0] S1x128x128.size inb_S4x128x128_S1x128x128_2_0_0,
        shapeCast S1x128x128 (endState a1 a2 a3 a4 a5 a6 a11 x1 x2 x3 x4 x5 x6 f11 k 2) (by decide)⟩,
       ⟨Rect.unit (s := S4x128x128) ![1, 0, 0] S1x128x128.size inb_S4x128x128_S1x128x128_1_0_0,
        shapeCast S1x128x128 (endState a1 a2 a3 a4 a5 a6 a11 x1 x2 x3 x4 x5 x6 f11 k 1) (by decide)⟩,
       ⟨Rect.unit (s := S4x128x128) ![0, 0, 0] S1x128x128.size inb_S4x128x128_S1x128x128_0_0_0,
        shapeCast S1x128x128 (endState a1 a2 a3 a4 a5 a6 a11 x1 x2 x3 x4 x5 x6 f11 k 0) (by decide)⟩] := by
  unfold trip_k0_t1; dsimp only; sl_kernel_rfl

theorem trip_q :
    (trip_k0_t1 (F := F) 𝒱 c bd i a1 h1 a2 h2 a3 h3 a4 h4 a5 h5 a6 h6 a7 h7 a8 h8 a9 h9 a10 h10 a11 h11 laneNo x1 x2 x3 x4 x5 x6 k).1 f7 f8 f9 f10 f11 =
      [⟨Rect.unit (s := S512x512) (k0_off4 k) S64x512.size (k0_off4_inb k),
        (loRows a1 a2 a3 a4 a5 a6 x1 x2 x3 x4 x5 x6 k).outQ (midState a1 a2 a3 a4 a5 a6 a11 x1 x2 x3 x4 x5 x6 f11 k)⟩,
       ⟨Rect.unit (s := S512x512) (k0_off2 k) S64x512.size (k0_off2_inb k),
        (hiRows a1 a2 a3 a4 a5 a6 x1 x2 x3 x4 x5 x6 k).outQ (found a11 f11)⟩] := by
  unfold trip_k0_t1; dsimp only; sl_kernel_rfl

theorem trip_k :
    (trip_k0_t1 (F := F) 𝒱 c bd i a1 h1 a2 h2 a3 h3 a4 h4 a5 h5 a6 h6 a7 h7 a8 h8 a9 h9 a10 h10 a11 h11 laneNo x1 x2 x3 x4 x5 x6 k).2.1 f7 f8 f9 f10 f11 =
      [⟨Rect.unit (s := S512x512) (k0_off4 k) S64x512.size (k0_off4_inb k),
        (loRows a1 a2 a3 a4 a5 a6 x1 x2 x3 x4 x5 x6 k).outK (midState a1 a2 a3 a4 a5 a6 a11 x1 x2 x3 x4 x5 x6 f11 k)⟩,
       ⟨Rect.unit (s := S512x512) (k0_off2 k) S64x512.size (k0_off2_inb k),
        (hiRows a1 a2 a3 a4 a5 a6 x1 x2 x3 x4 x5 x6 k).outK (found a11 f11)⟩] := by
  unfold trip_k0_t1; dsimp only; sl_kernel_rfl

theorem trip_v :
    (trip_k0_t1 (F := F) 𝒱 c bd i a1 h1 a2 h2 a3 h3 a4 h4 a5 h5 a6 h6 a7 h7 a8 h8 a9 h9 a10 h10 a11 h11 laneNo x1 x2 x3 x4 x5 x6 k).2.2.1 f7 f8 f9 f10 f11 =
      [⟨Rect.unit (s := S512x512) (k0_off4 k) S64x512.size (k0_off4_inb k),
        (loRows a1 a2 a3 a4 a5 a6 x1 x2 x3 x4 x5 x6 k).outV (midState a1 a2 a3 a4 a5 a6 a11 x1 x2 x3 x4 x5 x6 f11 k)⟩,
       ⟨Rect.unit (s := S512x512) (k0_off2 k) S64x512.size (k0_off2_inb k),
        (hiRows a1 a2 a3 a4 a5 a6 x1 x2 x3 x4 x5 x6 k).outV (found a11 f11)⟩] := by
  unfold trip_k0_t1; dsimp only; sl_kernel_rfl

theorem trip_bg :
    (trip_k0_t1 (F := F) 𝒱 c bd i a1 h1 a2 h2 a3 h3 a4 h4 a5 h5 a6 h6 a7 h7 a8 h8 a9 h9 a10 h10 a11 h11 laneNo x1 x2 x3 x4 x5 x6 k).2.2.2.1 f7 f8 f9 f10 f11 =
      [⟨Rect.unit (s := S512x128) (k0_off3 k) S64x128.size (k0_off3_inb k),
        (loRows a1 a2 a3 a4 a5 a6 x1 x2 x3 x4 x5 x6 k).outBG (midState a1 a2 a3 a4 a5 a6 a11 x1 x2 x3 x4 x5 x6 f11 k)⟩,
       ⟨Rect.unit (s := S512x128) (k0_off1 k) S64x128.size (k0_off1_inb k),
        (hiRows a1 a2 a3 a4 a5 a6 x1 x2 x3 x4 x5 x6 k).outBG (found a11 f11)⟩] := by
  unfold trip_k0_t1; dsimp only; sl_kernel_rfl

end Delta

end
-- ==== Proof.Block.lean ====
/-
  One grid point of the kernel: eight chunks of 64 rows, the last first. `Blk` is what the point loads, `Blk.state` the
  gradient of the state as it goes back through the chunks, `Blk.outQ` … `Blk.outBG` the point's four results.
-/
module

public import proofs.«01_k».proof.Proof.Trip
public import Idealize.ShloMosaic.Lib.ValueIdx
public import Idealize.ShloMosaic.Lib.ValueIdxCoords
public import Idealize.ShloMosaic.Lib.WritesUnit
public import Idealize.ShloMosaic.Lib.Pipeline.Value

@[expose] public section

set_option maxRecDepth 16384

noncomputable section

namespace Delta

open Idealize.ShloMosaic Idealize.ShloMosaic.TcCoe Idealize.ShloMosaic.Tactic Idealize.ShloMosaic.ValueIdx
open Cert.KernelIdeal Cert.KernelIdeal.Gen

variable {F : FTy → Type} [FloatOps F]

/-- Row `r` of chunk `n` of a block. -/
def rowIx (n : Fin 8) (r : Fin 64) : Fin 512 := ⟨64 * n.val + r.val, by have := n.isLt; have := r.isLt; omega⟩
/-- The chunk that holds a block's row. -/
def chunkOf (r : Fin 512) : Fin 8 := ⟨r.val / 64, by have := r.isLt; omega⟩
/-- The row's number in its chunk. -/
def within (r : Fin 512) : Fin 64 := ⟨r.val % 64, by omega⟩
/-- The chunk `j` places before the last. -/
def rev (j : ℕ) : Fin 8 := ⟨7 - j, by omega⟩

theorem chunkOf_rowIx (n : Fin 8) (r : Fin 64) : chunkOf (rowIx n r) = n := by
  apply Fin.ext; show (64 * n.val + r.val) / 64 = n.val; have := r.isLt; omega
theorem within_rowIx (n : Fin 8) (r : Fin 64) : within (rowIx n r) = r := by
  apply Fin.ext; show (64 * n.val + r.val) % 64 = r.val; have := r.isLt; omega
theorem rowIx_chunkOf (r : Fin 512) : rowIx (chunkOf r) (within r) = r := by
  apply Fin.ext; show 64 * (r.val / 64) + r.val % 64 = r.val; omega

/-- What a grid point loads. -/
structure Blk (F : FTy → Type) where
  q : FVec F S512x512 .f32
  k : FVec F S512x512 .f32
  v : FVec F S512x512 .f32
  dO : FVec F S512x512 .f32
  bg : FVec F S512x128 .f32
  S : FVec F S8x4x128x128 .f32

namespace Blk
variable (b : Blk F) (D : Fin 4 → V F 128 128)

/-- Chunk `n` of the block. -/
def rows (n : Fin 8) : Rows F where
  q := fun x => b.q (ix2 (rowIx n (x 0)) (x 1))
  k := fun x => b.k (ix2 (rowIx n (x 0)) (x 1))
  v := fun x => b.v (ix2 (rowIx n (x 0)) (x 1))
  dO := fun x => b.dO (ix2 (rowIx n (x 0)) (x 1))
  bg := fun x => b.bg (ix2 (rowIx n (x 0)) (x 1))
  S h := fun x => b.S (ix4 n h (x 2) (x 3))

/-- The gradient of the state once the last `j` chunks are done, `D` before them. -/
def state : ℕ → Fin 4 → V F 128 128
  | 0 => D
  | j + 1 => (b.rows (rev j)).next (state j)

/-- A result of the block, chunk by chunk. -/
def out {w : ℕ} (f : Rows F → (Fin 4 → V F 128 128) → V F 64 w) : FVec F (⟨2, ![512, w]⟩ : Shape) .f32 := fun y =>
  f (b.rows (chunkOf (y 0))) (b.state D (7 - (chunkOf (y 0)).val)) (ix2 (within (y 0)) (y 1))

theorem out_rowIx {w : ℕ} (f : Rows F → (Fin 4 → V F 128 128) → V F 64 w) (n : Fin 8) (r : Fin 64) (l : Fin w) :
    b.out D f (ix2 (rowIx n r) l) = f (b.rows n) (b.state D (7 - n.val)) (ix2 r l) := by
  show f (b.rows (chunkOf (rowIx n r))) (b.state D (7 - (chunkOf (rowIx n r)).val)) (ix2 (within (rowIx n r)) l) = _
  rw [chunkOf_rowIx, within_rowIx]

end Blk

/-- Four heads' states, one over the other. -/
def stack (D : Fin 4 → V F 128 128) : FVec F S4x128x128 .f32 := fun y => D (y 0) (ix2 (y 1) (y 2))

/-! ## The offsets of a trip's rectangles -/

theorem trips_eq : k0_t1_loop.trips = 4 := by decide +kernel

/-- The later chunk of trip `k`, and the earlier. -/
def hiOf (k : Fin k0_t1_loop.trips) : Fin 8 := rev (2 * k.val)
def loOf (k : Fin k0_t1_loop.trips) : Fin 8 := rev (2 * k.val + 1)

theorem off1_eq : ∀ k, k0_off1 k = ![64 * (hiOf k).val, 0] := by decide +kernel
theorem off2_eq : ∀ k, k0_off2 k = ![64 * (hiOf k).val, 0] := by decide +kernel
theorem off3_eq : ∀ k, k0_off3 k = ![64 * (loOf k).val, 0] := by decide +kernel
theorem off4_eq : ∀ k, k0_off4 k = ![64 * (loOf k).val, 0] := by decide +kernel
theorem off5_eq : ∀ k, k0_off5 k = ![(hiOf k).val, 0, 0, 0] := by decide +kernel
theorem off6_eq : ∀ k, k0_off6 k = ![(hiOf k).val, 1, 0, 0] := by decide +kernel
theorem off7_eq : ∀ k, k0_off7 k = ![(hiOf k).val, 2, 0, 0] := by decide +kernel
theorem off8_eq : ∀ k, k0_off8 k = ![(hiOf k).val, 3, 0, 0] := by decide +kernel
theorem off9_eq : ∀ k, k0_off9 k = ![(loOf k).val, 0, 0, 0] := by decide +kernel
theorem off10_eq : ∀ k, k0_off10 k = ![(loOf k).val, 1, 0, 0] := by decide +kernel
theorem off11_eq : ∀ k, k0_off11 k = ![(loOf k).val, 2, 0, 0] := by decide +kernel
theorem off12_eq : ∀ k, k0_off12 k = ![(loOf k).val, 3, 0, 0] := by decide +kernel

section Reads
variable {sp : Space} {w : ℕ}

/-- A load of chunk `n`'s rows. -/
theorem readAt_rows (v : View sig .tc sp (⟨2, ![512, w]⟩ : Shape) .f32) (f : v.ty.Contents (Elt F)) (off : Fin 2 → ℕ) (inb)
    (n : Fin 8) (h : off = ![64 * n.val, 0]) :
    v.readAt (Elt F) (Rect.unit (s := ⟨2, ![512, w]⟩) off (![64, w]) inb).toLoadRect f
      = fun x : (⟨2, ![64, w]⟩ : Shape).Idx => v.read (Elt F) f (ix2 (rowIx n (x 0)) (x 1)) := by
  subst h
  funext x
  refine congrArg (v.read (Elt F) f) (funext fun a => Fin.ext ?_)
  match a with
  | 0 => show 64 * n.val + 1 * (x 0).val = 64 * n.val + (x 0).val; omega
  | 1 => show 0 + 1 * (x 1).val = (x 1).val; omega

/-- A load of one head's saved state of chunk `n`. -/
theorem readAt_saved (v : View sig .tc sp S8x4x128x128 .f32) (f : v.ty.Contents (Elt F)) (off : Fin 4 → ℕ) (inb)
    (n : Fin 8) (g : Fin 4) (h : off = ![n.val, g.val, 0, 0]) :
    v.readAt (Elt F) (Rect.unit (s := S8x4x128x128) off S1x1x128x128.size inb).toLoadRect f
      = fun x : S1x1x128x128.Idx => v.read (Elt F) f (ix4 n g (x 2) (x 3)) := by
  subst h
  funext x
  refine congrArg (v.read (Elt F) f) (funext fun a => Fin.ext ?_)
  have h0 : (x 0).val < 1 := (x 0).isLt
  have h1 : (x 1).val < 1 := (x 1).isLt
  match a with
  | 0 => show n.val + 1 * (x 0).val = n.val; omega
  | 1 => show g.val + 1 * (x 1).val = g.val; omega
  | 2 => show 0 + 1 * (x 2).val = (x 2).val; omega
  | 3 => show 0 + 1 * (x 3).val = (x 3).val; omega

end Reads

section
variable (a1 : Memref sig .tc .vmem S512x512 .f32) (a2 : Memref sig .tc .vmem S512x512 .f32)
  (a3 : Memref sig .tc .vmem S512x512 .f32) (a4 : Memref sig .tc .vmem S512x128 .f32)
  (a5 : Memref sig .tc .vmem S8x4x128x128 .f32) (a6 : Memref sig .tc .vmem S512x512 .f32)
  (a11 : Memref sig .tc .vmem S4x128x128 .f32)
  (x1 : BufTy.Contents (Elt F) a1.view.ty) (x2 : BufTy.Contents (Elt F) a2.view.ty)
  (x3 : BufTy.Contents (Elt F) a3.view.ty) (x4 : BufTy.Contents (Elt F) a4.view.ty)
  (x5 : BufTy.Contents (Elt F) a5.view.ty) (x6 : BufTy.Contents (Elt F) a6.view.ty)
  (f11 : BufTy.Contents (Elt F) a11.view.ty) (k : Fin k0_t1_loop.trips)

/-- What the six loaded buffers read. -/
def blkOf : Blk F where
  q := a1.view.read (Elt F) x1
  k := a2.view.read (Elt F) x2
  v := a3.view.read (Elt F) x3
  dO := a6.view.read (Elt F) x6
  bg := a4.view.read (Elt F) x4
  S := a5.view.read (Elt F) x5

theorem hiRows_eq : hiRows a1 a2 a3 a4 a5 a6 x1 x2 x3 x4 x5 x6 k = (blkOf a1 a2 a3 a4 a5 a6 x1 x2 x3 x4 x5 x6).rows (hiOf k) := by
  unfold hiRows Blk.rows blkOf
  congr 1
  · exact readAt_rows a1.view x1 _ _ _ (off2_eq k)
  · exact readAt_rows a2.view x2 _ _ _ (off2_eq k)
  · exact readAt_rows a3.view x3 _ _ _ (off2_eq k)
  · exact readAt_rows a6.view x6 _ _ _ (off2_eq k)
  · exact readAt_rows a4.view x4 _ _ _ (off1_eq k)
  · funext h
    match h with
    | 0 => exact readAt_saved a5.view x5 _ _ _ 0 (off5_eq k)
    | 1 => exact readAt_saved a5.view x5 _ _ _ 1 (off6_eq k)
    | 2 => exact readAt_saved a5.view x5 _ _ _ 2 (off7_eq k)
    | 3 => exact readAt_saved a5.view x5 _ _ _ 3 (off8_eq k)

theorem loRows_eq : loRows a1 a2 a3 a4 a5 a6 x1 x2 x3 x4 x5 x6 k = (blkOf a1 a2 a3 a4 a5 a6 x1 x2 x3 x4 x5 x6).rows (loOf k) := by
  unfold loRows Blk.rows blkOf
  congr 1
  · exact readAt_rows a1.view x1 _ _ _ (off4_eq k)
  · exact readAt_rows a2.view x2 _ _ _ (off4_eq k)
  · exact readAt_rows a3.view x3 _ _ _ (off4_eq k)
  · exact readAt_rows a6.view x6 _ _ _ (off4_eq k)
  · exact readAt_rows a4.view x4 _ _ _ (off3_eq k)
  · funext h
    match h with
    | 0 => exact readAt_saved a5.view x5 _ _ _ 0 (off9_eq k)
    | 1 => exact readAt_saved a5.view x5 _ _ _ 1 (off10_eq k)
    | 2 => exact readAt_saved a5.view x5 _ _ _ 2 (off11_eq k)
    | 3 => exact readAt_saved a5.view x5 _ _ _ 3 (off12_eq k)

/-- A scratch that reads as four stacked states is found as those states. -/
theorem found_eq (D : Fin 4 → V F 128 128) (h : a11.view.read (Elt F) f11 = stack D) : found a11 f11 = D := by
  have key : ∀ (g : Fin 4) (inb : ∀ a : Fin 3, (![g.val, 0, 0] : Fin 3 → ℕ) a + S1x128x128.size a ≤ S4x128x128.size a) (hc),
      shapeCast S128x128 (a11.view.readAt (Elt F) (Rect.unit (s := S4x128x128) ![g.val, 0, 0] S1x128x128.size inb).toLoadRect f11) hc
        = D g := by
    intro g inb hc
    funext y
    obtain ⟨i, j, rfl⟩ : ∃ (i j : Fin 128), y = ix2 i j := ⟨y 0, y 1, (eq_ix2 y).trans rfl⟩
    refine (shapeCast_apply _ _ (ix2 i j) (ix3 (0 : Fin 1) i j) (by
      rw [Shape.rowMajor_val_two, Shape.rowMajor_val_three]
      show (0 * 128 + i.val) * 128 + j.val = i.val * 128 + j.val
      omega)).trans ?_
    show a11.view.read (Elt F) f11 _ = _
    rw [h]
    show D _ _ = D g (ix2 i j)
    refine congr (congrArg D (Fin.ext ?_)) (funext fun a => Fin.ext ?_)
    · show g.val + 1 * 0 = g.val; omega
    · match a with
      | 0 => show 0 + 1 * i.val = i.val; omega
      | 1 => show 0 + 1 * j.val = j.val; omega
  funext g
  match g with
  | 0 => exact key 0 _ _
  | 1 => exact key 1 _ _
  | 2 => exact key 2 _ _
  | 3 => exact key 3 _ _

end

end Delta

end
-- ==== Proof.Loop.lean ====
/-
  The kernel's loop: after `n` trips the scratch holds the state after `2 n` chunks, and the rows done so far of the four results
  read as the block's results.
-/
module

public import proofs.«01_k».proof.Proof.Block

@[expose] public section

set_option maxRecDepth 16384

noncomputable section

namespace Delta

open Idealize.ShloMosaic Idealize.ShloMosaic.TcCoe Idealize.ShloMosaic.Tactic Idealize.ShloMosaic.ValueIdx
open Cert.KernelIdeal Cert.KernelIdeal.Gen

variable {F : FTy → Type} [FloatOps F]

/-- The four heads' slices stored, a scratch reads as their stack. -/
theorem read_slices (v : View sig .tc .vmem S4x128x128 .f32) (f : v.ty.Contents (Elt F)) (D : Fin 4 → V F 128 128)
    (L : List (View.Piece (Elt F) S4x128x128 .f32)) :
    v.read (Elt F) (v.writes (Elt F) f
      (⟨Rect.unit (s := S4x128x128) ![3, 0, 0] S1x128x128.size inb_S4x128x128_S1x128x128_3_0_0, shapeCast S1x128x128 (D 3) (by decide)⟩ ::
       ⟨Rect.unit (s := S4x128x128) ![2, 0, 0] S1x128x128.size inb_S4x128x128_S1x128x128_2_0_0, shapeCast S1x128x128 (D 2) (by decide)⟩ ::
       ⟨Rect.unit (s := S4x128x128) ![1, 0, 0] S1x128x128.size inb_S4x128x128_S1x128x128_1_0_0, shapeCast S1x128x128 (D 1) (by decide)⟩ ::
       ⟨Rect.unit (s := S4x128x128) ![0, 0, 0] S1x128x128.size inb_S4x128x128_S1x128x128_0_0_0, shapeCast S1x128x128 (D 0) (by decide)⟩ :: L))
      = stack D := by
  have hit : ∀ (g : Fin 4) (inb) (L) (i j : Fin 128),
      v.read (Elt F) (v.writes (Elt F) f (⟨Rect.unit (s := S4x128x128) ![g.val, 0, 0] S1x128x128.size inb,
        shapeCast S1x128x128 (D g) (by decide)⟩ :: L)) (ix3 g i j) = D g (ix2 i j) := by
    intro g inb L i j
    refine (View.read_writes_cons_unit_of_mem v f inb _ L (ix3 g i j) (ix3 (0 : Fin 1) i j) rfl ?_).trans ?_
    · intro a
      match a with
      | 0 => rfl
      | 1 => exact (Nat.zero_add _).symm
      | 2 => exact (Nat.zero_add _).symm
    · exact shapeCast_apply _ _ (ix3 (0 : Fin 1) i j) (ix2 i j) (by
        rw [Shape.rowMajor_val_two, Shape.rowMajor_val_three]
        show i.val * 128 + j.val = (0 * 128 + i.val) * 128 + j.val
        omega)
  have miss : ∀ (n : ℕ) (inb) (w) (L) (g : Fin 4) (i j : Fin 128), g.val < n →
      v.read (Elt F) (v.writes (Elt F) f (⟨Rect.unit (s := S4x128x128) ![n, 0, 0] S1x128x128.size inb, w⟩ :: L)) (ix3 g i j)
        = v.read (Elt F) (v.writes (Elt F) f L) (ix3 g i j) := by
    intro n inb w L g i j h
    exact View.read_writes_cons_unit_of_not_mem v f inb w L (ix3 g i j) rfl 0 (Or.inl h)
  funext y
  obtain ⟨g, i, j, rfl⟩ : ∃ (g : Fin 4) (i j : Fin 128), y = ix3 g i j := ⟨y 0, y 1, y 2, eq_ix3 y⟩
  show _ = D g (ix2 i j)
  match g with
  | 3 => exact hit 3 _ _ i j
  | 2 => rw [miss _ _ _ _ _ _ _ (by decide)]; exact hit 2 _ _ i j
  | 1 => rw [miss _ _ _ _ _ _ _ (by decide), miss _ _ _ _ _ _ _ (by decide)]; exact hit 1 _ _ i j
  | 0 =>
    rw [miss _ _ _ _ _ _ _ (by decide), miss _ _ _ _ _ _ _ (by decide), miss _ _ _ _ _ _ _ (by decide)]
    exact hit 0 _ _ i j

/-- Two chunks' rows stored, more rows of a buffer read as `G`. -/
theorem read_strips {w : ℕ} (v : View sig .tc .vmem (⟨2, ![512, w]⟩ : Shape) .f32) (f : v.ty.Contents (Elt F))
    (G : FVec F (⟨2, ![512, w]⟩ : Shape) .f32) (k : Fin k0_t1_loop.trips) (offL offH : Fin 2 → ℕ) (inbL inbH)
    (hL : offL = ![64 * (loOf k).val, 0]) (hH : offH = ![64 * (hiOf k).val, 0]) (wL wH : V F 64 w)
    (eL : ∀ r l, wL (ix2 r l) = G (ix2 (rowIx (loOf k) r) l)) (eH : ∀ r l, wH (ix2 r l) = G (ix2 (rowIx (hiOf k) r) l))
    (L : List (View.Piece (Elt F) (⟨2, ![512, w]⟩ : Shape) .f32))
    (ih : ∀ r l, 512 ≤ r.val + 128 * k.val → v.read (Elt F) (v.writes (Elt F) f L) (ix2 r l) = G (ix2 r l)) :
    ∀ r l, 512 ≤ r.val + 128 * (k.val + 1) →
      v.read (Elt F) (v.writes (Elt F) f
        (⟨Rect.unit (s := ⟨2, ![512, w]⟩) offL ![64, w] inbL, wL⟩ :: ⟨Rect.unit (s := ⟨2, ![512, w]⟩) offH ![64, w] inbH, wH⟩ :: L))
        (ix2 r l) = G (ix2 r l) := by
  intro r l hr
  have hk : k.val < 4 := Nat.lt_of_lt_of_eq k.isLt trips_eq
  have vL : (loOf k).val = 7 - (2 * k.val + 1) := rfl
  have vH : (hiOf k).val = 7 - 2 * k.val := rfl
  have hr' := r.isLt
  have hcr := rowIx_chunkOf r
  have vc : (chunkOf r).val = r.val / 64 := rfl
  have vw : (within r).val = r.val % 64 := rfl
  by_cases c1 : r.val / 64 = 7 - (2 * k.val + 1)
  · have e : chunkOf r = loOf k := Fin.ext (by rw [vc, vL, c1])
    rw [View.read_writes_cons_rows_of_mem v f inbL wL _ (ix2 r l) (ix2 (within r) l) hL (by
      show r.val = 64 * (loOf k).val + r.val % 64
      rw [vL]; omega) rfl, eL, ← e, hcr]
  · rw [View.read_writes_cons_rows_of_not_mem v f inbL wL _ (ix2 r l) (W := 64) hL rfl (by
      show r.val < 64 * (loOf k).val ∨ 64 * (loOf k).val + 64 ≤ r.val
      rw [vL]; omega)]
    by_cases c2 : r.val / 64 = 7 - 2 * k.val
    · have e : chunkOf r = hiOf k := Fin.ext (by rw [vc, vH, c2])
      rw [View.read_writes_cons_rows_of_mem v f inbH wH _ (ix2 r l) (ix2 (within r) l) hH (by
        show r.val = 64 * (hiOf k).val + r.val % 64
        rw [vH]; omega) rfl, eH, ← e, hcr]
    · rw [View.read_writes_cons_rows_of_not_mem v f inbH wH _ (ix2 r l) (W := 64) hH rfl (by
        show r.val < 64 * (hiOf k).val ∨ 64 * (hiOf k).val + 64 ≤ r.val
        rw [vH]; omega)]
      exact ih r l (by omega)

variable (𝒱 : Variants) (c : Dev nD) (bd : Option 𝒱.V) (i : grid0.Coords)
  (a1 : Memref sig .tc .vmem S512x512 .f32) (h1 : a1.IsWhole) (a2 : Memref sig .tc .vmem S512x512 .f32) (h2 : a2.IsWhole)
  (a3 : Memref sig .tc .vmem S512x512 .f32) (h3 : a3.IsWhole) (a4 : Memref sig .tc .vmem S512x128 .f32) (h4 : a4.IsWhole)
  (a5 : Memref sig .tc .vmem S8x4x128x128 .f32) (h5 : a5.IsWhole) (a6 : Memref sig .tc .vmem S512x512 .f32) (h6 : a6.IsWhole)
  (a7 : Memref sig .tc .vmem S512x512 .f32) (h7 : a7.IsWhole) (a8 : Memref sig .tc .vmem S512x512 .f32) (h8 : a8.IsWhole)
  (a9 : Memref sig .tc .vmem S512x512 .f32) (h9 : a9.IsWhole) (a10 : Memref sig .tc .vmem S512x128 .f32) (h10 : a10.IsWhole)
  (a11 : Memref sig .tc .vmem S4x128x128 .f32) (h11 : a11.IsWhole)
  (x1 : BufTy.Contents (Elt F) a1.view.ty) (x2 : BufTy.Contents (Elt F) a2.view.ty)
  (x3 : BufTy.Contents (Elt F) a3.view.ty) (x4 : BufTy.Contents (Elt F) a4.view.ty)
  (x5 : BufTy.Contents (Elt F) a5.view.ty) (x6 : BufTy.Contents (Elt F) a6.view.ty)
  (f7 : BufTy.Contents (Elt F) a7.view.ty) (f8 : BufTy.Contents (Elt F) a8.view.ty) (f9 : BufTy.Contents (Elt F) a9.view.ty)
  (f10 : BufTy.Contents (Elt F) a10.view.ty) (f11 : BufTy.Contents (Elt F) a11.view.ty)
  (D : Fin 4 → V F 128 128) (hD : a11.view.read (Elt F) f11 = stack D)

include hD

/-- The scratch after `n` trips. -/
theorem loop_scratch (n : ℕ) (hn : n ≤ 4) :
    a11.view.read (Elt F) (a11.view.writes (Elt F) f11 (pb_k0_t1 (F := F) 𝒱 c bd i a1 h1 a2 h2 a3 h3 a4 h4 a5 h5 a6 h6 a7 h7 a8 h8 a9 h9 a10 h10 a11 h11 laneNo x1 x2 x3 x4 x5 x6 f7 f8 f9 f10 f11 n).2.2.2.2)
      = stack ((blkOf a1 a2 a3 a4 a5 a6 x1 x2 x3 x4 x5 x6).state D (2 * n)) := by
  induction n with
  | zero => exact hD
  | succ n ih =>
    have hk : n < k0_t1_loop.trips := by rw [trips_eq]; omega
    have ih' := found_eq a11 _ _ (ih (by omega))
    rw [show n + 1 = (⟨n, hk⟩ : Fin k0_t1_loop.trips).val + 1 from rfl, pb_k0_t1_succ]
    dsimp only [tripL_k0_t1]
    rw [trip_scratch]
    simp only [List.cons_append, List.nil_append]
    rw [read_slices]
    unfold endState midState
    rw [hiRows_eq, loRows_eq, ih']
    rfl

/-- The rows done after `n` trips, of result `q`. -/
theorem loop_q (n : ℕ) (hn : n ≤ 4) : ∀ r l, 512 ≤ r.val + 128 * n →
    a7.view.read (Elt F) (a7.view.writes (Elt F) f7 (pb_k0_t1 (F := F) 𝒱 c bd i a1 h1 a2 h2 a3 h3 a4 h4 a5 h5 a6 h6 a7 h7 a8 h8 a9 h9 a10 h10 a11 h11 laneNo x1 x2 x3 x4 x5 x6 f7 f8 f9 f10 f11 n).1) (ix2 r l)
      = (blkOf a1 a2 a3 a4 a5 a6 x1 x2 x3 x4 x5 x6).out D Rows.outQ (ix2 r l) := by
  induction n with
  | zero => intro r l h; have := r.isLt; omega
  | succ n ih =>
    have hk : n < k0_t1_loop.trips := by rw [trips_eq]; omega
    have hf := found_eq a11 _ _ (loop_scratch 𝒱 c bd i a1 h1 a2 h2 a3 h3 a4 h4 a5 h5 a6 h6 a7 h7 a8 h8 a9 h9 a10 h10 a11 h11 x1 x2 x3 x4 x5 x6 f7 f8 f9 f10 f11 D hD n (by omega))
    rw [show n + 1 = (⟨n, hk⟩ : Fin k0_t1_loop.trips).val + 1 from rfl, pb_k0_t1_succ]
    dsimp only [tripL_k0_t1]
    rw [trip_q]
    simp only [List.cons_append, List.nil_append]
    refine read_strips a7.view f7 _ ⟨n, hk⟩ _ _ _ _ (off4_eq _) (off2_eq _) _ _ ?_ ?_ _ (ih (by omega))
    · intro r l
      unfold midState
      rw [hiRows_eq, loRows_eq, hf, Blk.out_rowIx]
      rw [show 7 - (loOf ⟨n, hk⟩).val = 2 * n + 1 from by show 7 - (7 - (2 * n + 1)) = 2 * n + 1; omega]
      rfl
    · intro r l
      rw [hiRows_eq, hf, Blk.out_rowIx]
      rw [show 7 - (hiOf ⟨n, hk⟩).val = 2 * n from by show 7 - (7 - 2 * n) = 2 * n; omega]

/-- The rows done after `n` trips, of result `k`. -/
theorem loop_k (n : ℕ) (hn : n ≤ 4) : ∀ r l, 512 ≤ r.val + 128 * n →
    a8.view.read (Elt F) (a8.view.writes (Elt F) f8 (pb_k0_t1 (F := F) 𝒱 c bd i a1 h1 a2 h2 a3 h3 a4 h4 a5 h5 a6 h6 a7 h7 a8 h8 a9 h9 a10 h10 a11 h11 laneNo x1 x2 x3 x4 x5 x6 f7 f8 f9 f10 f11 n).2.1) (ix2 r l)
      = (blkOf a1 a2 a3 a4 a5 a6 x1 x2 x3 x4 x5 x6).out D Rows.outK (ix2 r l) := by
  induction n with
  | zero => intro r l h; have := r.isLt; omega
  | succ n ih =>
    have hk : n < k0_t1_loop.trips := by rw [trips_eq]; omega
    have hf := found_eq a11 _ _ (loop_scratch 𝒱 c bd i a1 h1 a2 h2 a3 h3 a4 h4 a5 h5 a6 h6 a7 h7 a8 h8 a9 h9 a10 h10 a11 h11 x1 x2 x3 x4 x5 x6 f7 f8 f9 f10 f11 D hD n (by omega))
    rw [show n + 1 = (⟨n, hk⟩ : Fin k0_t1_loop.trips).val + 1 from rfl, pb_k0_t1_succ]
    dsimp only [tripL_k0_t1]
    rw [trip_k]
    simp only [List.cons_append, List.nil_append]
    refine read_strips a8.view f8 _ ⟨n, hk⟩ _ _ _ _ (off4_eq _) (off2_eq _) _ _ ?_ ?_ _ (ih (by omega))
    · intro r l
      unfold midState
      rw [hiRows_eq, loRows_eq, hf, Blk.out_rowIx]
      rw [show 7 - (loOf ⟨n, hk⟩).val = 2 * n + 1 from by show 7 - (7 - (2 * n + 1)) = 2 * n + 1; omega]
      rfl
    · intro r l
      rw [hiRows_eq, hf, Blk.out_rowIx]
      rw [show 7 - (hiOf ⟨n, hk⟩).val = 2 * n from by show 7 - (7 - 2 * n) = 2 * n; omega]

/-- The rows done after `n` trips, of result `v`. -/
theorem loop_v (n : ℕ) (hn : n ≤ 4) : ∀ r l, 512 ≤ r.val + 128 * n →
    a9.view.read (Elt F) (a9.view.writes (Elt F) f9 (pb_k0_t1 (F := F) 𝒱 c bd i a1 h1 a2 h2 a3 h3 a4 h4 a5 h5 a6 h6 a7 h7 a8 h8 a9 h9 a10 h10 a11 h11 laneNo x1 x2 x3 x4 x5 x6 f7 f8 f9 f10 f11 n).2.2.1) (ix2 r l)
      = (blkOf a1 a2 a3 a4 a5 a6 x1 x2 x3 x4 x5 x6).out D Rows.outV (ix2 r l) := by
  induction n with
  | zero => intro r l h; have := r.isLt; omega
  | succ n ih =>
    have hk : n < k0_t1_loop.trips := by rw [trips_eq]; omega
    have hf := found_eq a11 _ _ (loop_scratch 𝒱 c bd i a1 h1 a2 h2 a3 h3 a4 h4 a5 h5 a6 h6 a7 h7 a8 h8 a9 h9 a10 h10 a11 h11 x1 x2 x3 x4 x5 x6 f7 f8 f9 f10 f11 D hD n (by omega))
    rw [show n + 1 = (⟨n, hk⟩ : Fin k0_t1_loop.trips).val + 1 from rfl, pb_k0_t1_succ]
    dsimp only [tripL_k0_t1]
    rw [trip_v]
    simp only [List.cons_append, List.nil_append]
    refine read_strips a9.view f9 _ ⟨n, hk⟩ _ _ _ _ (off4_eq _) (off2_eq _) _ _ ?_ ?_ _ (ih (by omega))
    · intro r l
      unfold midState
      rw [hiRows_eq, loRows_eq, hf, Blk.out_rowIx]
      rw [show 7 - (loOf ⟨n, hk⟩).val = 2 * n + 1 from by show 7 - (7 - (2 * n + 1)) = 2 * n + 1; omega]
      rfl
    · intro r l
      rw [hiRows_eq, hf, Blk.out_rowIx]
      rw [show 7 - (hiOf ⟨n, hk⟩).val = 2 * n from by show 7 - (7 - 2 * n) = 2 * n; omega]

/-- The rows done after `n` trips, of result `bg`. -/
theorem loop_bg (n : ℕ) (hn : n ≤ 4) : ∀ r l, 512 ≤ r.val + 128 * n →
    a10.view.read (Elt F) (a10.view.writes (Elt F) f10 (pb_k0_t1 (F := F) 𝒱 c bd i a1 h1 a2 h2 a3 h3 a4 h4 a5 h5 a6 h6 a7 h7 a8 h8 a9 h9 a10 h10 a11 h11 laneNo x1 x2 x3 x4 x5 x6 f7 f8 f9 f10 f11 n).2.2.2.1) (ix2 r l)
      = (blkOf a1 a2 a3 a4 a5 a6 x1 x2 x3 x4 x5 x6).out D Rows.outBG (ix2 r l) := by
  induction n with
  | zero => intro r l h; have := r.isLt; omega
  | succ n ih =>
    have hk : n < k0_t1_loop.trips := by rw [trips_eq]; omega
    have hf := found_eq a11 _ _ (loop_scratch 𝒱 c bd i a1 h1 a2 h2 a3 h3 a4 h4 a5 h5 a6 h6 a7 h7 a8 h8 a9 h9 a10 h10 a11 h11 x1 x2 x3 x4 x5 x6 f7 f8 f9 f10 f11 D hD n (by omega))
    rw [show n + 1 = (⟨n, hk⟩ : Fin k0_t1_loop.trips).val + 1 from rfl, pb_k0_t1_succ]
    dsimp only [tripL_k0_t1]
    rw [trip_bg]
    simp only [List.cons_append, List.nil_append]
    refine read_strips a10.view f10 _ ⟨n, hk⟩ _ _ _ _ (off3_eq _) (off1_eq _) _ _ ?_ ?_ _ (ih (by omega))
    · intro r l
      unfold midState
      rw [hiRows_eq, loRows_eq, hf, Blk.out_rowIx]
      rw [show 7 - (loOf ⟨n, hk⟩).val = 2 * n + 1 from by show 7 - (7 - (2 * n + 1)) = 2 * n + 1; omega]
      rfl
    · intro r l
      rw [hiRows_eq, hf, Blk.out_rowIx]
      rw [show 7 - (hiOf ⟨n, hk⟩).val = 2 * n from by show 7 - (7 - 2 * n) = 2 * n; omega]

end Delta

end
-- ==== Proof.Body.lean ====
/-
  The kernel's body at one grid point: from a block loaded and a state in the scratch (nothing in it yet at the first point, where
  the body zeroes it), the four results of the block and the state before it.
-/
module

public import proofs.«01_k».proof.Proof.Loop
public import proofs.«01_k».proof.Proof.Gen.KernelIdeal.Frame

@[expose] public section

set_option maxRecDepth 16384

noncomputable section

namespace Delta

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- Its resources. -/
abbrev Res (F : FTy → Type) := MT nD τ sig Unit (Elt F) ℕ (UR sig nD τ) ℕ

/-- No gradient. -/
def zeroD : Fin 4 → V F 128 128 := fun _ _ => Scalar.ofBits .f32 0x00000000#32

/-- The condition under which the body zeroes its scratch. -/
abbrev isFirst (i : grid0.Coords) : Prop :=
  (Scalar.cmpi .ne (Scalar.extui (Scalar.cmpi .eq (BitVec.ofNat 32 (i 0).val) 0#32)) 0#32) = 1#1

theorem isFirst_iff : ∀ t : Fin grid0.N, isFirst (grid0.coords t) ↔ t.val = 0 := by decide +kernel

variable (c : Dev nD) (i : grid0.Coords)
  (a1 : Memref sig .tc .vmem S512x512 .f32) (h1 : a1.IsWhole) (a2 : Memref sig .tc .vmem S512x512 .f32) (h2 : a2.IsWhole)
  (a3 : Memref sig .tc .vmem S512x512 .f32) (h3 : a3.IsWhole) (a4 : Memref sig .tc .vmem S512x128 .f32) (h4 : a4.IsWhole)
  (a5 : Memref sig .tc .vmem S8x4x128x128 .f32) (h5 : a5.IsWhole) (a6 : Memref sig .tc .vmem S512x512 .f32) (h6 : a6.IsWhole)
  (a7 : Memref sig .tc .vmem S512x512 .f32) (h7 : a7.IsWhole) (a8 : Memref sig .tc .vmem S512x512 .f32) (h8 : a8.IsWhole)
  (a9 : Memref sig .tc .vmem S512x512 .f32) (h9 : a9.IsWhole) (a10 : Memref sig .tc .vmem S512x128 .f32) (h10 : a10.IsWhole)
  (a11 : Memref sig .tc .vmem S4x128x128 .f32) (h11 : a11.IsWhole)
  (b : Blk F) (D : Fin 4 → V F 128 128)

/-- What the body is given: the block in its six buffers, four buffers for the results, and the scratch. -/
def given (scratch : sProp (Res F)) : sProp (Res F) :=
  iprop(owns (c : Thread nD τ) a1 fullShare b.q ∗ owns (c : Thread nD τ) a2 fullShare b.k ∗ owns (c : Thread nD τ) a3 fullShare b.v ∗ owns (c : Thread nD τ) a4 fullShare b.bg ∗ owns (c : Thread nD τ) a5 fullShare b.S ∗ owns (c : Thread nD τ) a6 fullShare b.dO
    ∗ (∃ d, owns (c : Thread nD τ) a7 fullShare d) ∗ (∃ d, owns (c : Thread nD τ) a8 fullShare d)
    ∗ (∃ d, owns (c : Thread nD τ) a9 fullShare d) ∗ (∃ d, owns (c : Thread nD τ) a10 fullShare d) ∗ scratch)

/-- What it leaves: the block as it was, its results, and the state before it in the scratch. -/
def leaves : sProp (Res F) :=
  iprop(owns (c : Thread nD τ) a1 fullShare b.q ∗ owns (c : Thread nD τ) a2 fullShare b.k ∗ owns (c : Thread nD τ) a3 fullShare b.v ∗ owns (c : Thread nD τ) a4 fullShare b.bg ∗ owns (c : Thread nD τ) a5 fullShare b.S ∗ owns (c : Thread nD τ) a6 fullShare b.dO
    ∗ owns (c : Thread nD τ) a7 fullShare (b.out D Rows.outQ) ∗ owns (c : Thread nD τ) a8 fullShare (b.out D Rows.outK)
    ∗ owns (c : Thread nD τ) a9 fullShare (b.out D Rows.outV) ∗ owns (c : Thread nD τ) a10 fullShare (b.out D Rows.outBG)
    ∗ owns (c : Thread nD τ) a11 fullShare (stack (b.state D 8)))

theorem blkOf_unread : blkOf a1 a2 a3 a4 a5 a6 (h1.unread b.q) (h2.unread b.k) (h3.unread b.v) (h4.unread b.bg) (h5.unread b.S)
    (h6.unread b.dO) = b := by
  unfold blkOf
  rw [h1.read_unread, h2.read_unread, h3.read_unread, h4.read_unread, h5.read_unread, h6.read_unread]

/-- A scratch stored whole with zeros reads as no gradient. -/
theorem read_zero (f : BufTy.Contents (Elt F) a11.view.ty) (inb) :
    a11.view.read (Elt F) (a11.view.writes (Elt F) f
      [⟨Rect.unit (s := S4x128x128) ![0, 0, 0] S4x128x128.size inb, k0_pay1 (F := F)⟩]) = stack zeroD := by
  funext y
  exact View.read_writes_cons_unit_of_mem a11.view f inb _ [] y y rfl fun a =>
    match a with
    | 0 => (Nat.zero_add _).symm
    | 1 => (Nat.zero_add _).symm
    | 2 => (Nat.zero_add _).symm

set_option maxHeartbeats 2000000 in
theorem body_first (hc : isFirst i) (E : Set ℕ) (K : PUnit → sProp (Res F)) :
    iprop(given c a1 a2 a3 a4 a5 a6 a7 a8 a9 a10 b (iprop(∃ d, owns (c : Thread nD τ) a11 fullShare d))
        ∗ (leaves c a1 a2 a3 a4 a5 a6 a7 a8 a9 a10 a11 b zeroD -∗ K ⟨⟩))
      ⊢ wp frame (wpE (defs₀ (F := F)) Variants.none c none) E (cc0_delta_bwd i a1 h1 a2 h2 a3 h3 a4 h4 a5 h5 a6 h6 a7 h7 a8 h8 a9 h9 a10 h10 a11 h11) K := by
  have hb := blkOf_unread a1 h1 a2 h2 a3 h3 a4 h4 a5 h5 a6 h6 b
  simp only [cc0_delta_bwd_eq_skeleton]; unfold cc0_delta_bwd_skel
  unfold given leaves owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := first | sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr
    swap; · iexact H6
    ipureintro; funext y
    rw [eq_ix2 y]
    refine (loop_q Variants.none c none i a1 h1 a2 h2 a3 h3 a4 h4 a5 h5 a6 h6 a7 h7 a8 h8 a9 h9 a10 h10 a11 h11 _ _ _ _ _ _ _ _ _ _ _ zeroD (read_zero (F := F) a11 _ _) 4 (le_refl 4) (y 0) (y 1) (by omega)).trans ?_
    rw [hb]; rfl
  isplitl [H7]
  · iexists _; isplitr
    swap; · iexact H7
    ipureintro; funext y
    rw [eq_ix2 y]
    refine (loop_k Variants.none c none i a1 h1 a2 h2 a3 h3 a4 h4 a5 h5 a6 h6 a7 h7 a8 h8 a9 h9 a10 h10 a11 h11 _ _ _ _ _ _ _ _ _ _ _ zeroD (read_zero (F := F) a11 _ _) 4 (le_refl 4) (y 0) (y 1) (by omega)).trans ?_
    rw [hb]; rfl
  isplitl [H8]
  · iexists _; isplitr
    swap; · iexact H8
    ipureintro; funext y
    rw [eq_ix2 y]
    refine (loop_v Variants.none c none i a1 h1 a2 h2 a3 h3 a4 h4 a5 h5 a6 h6 a7 h7 a8 h8 a9 h9 a10 h10 a11 h11 _ _ _ _ _ _ _ _ _ _ _ zeroD (read_zero (F := F) a11 _ _) 4 (le_refl 4) (y 0) (y 1) (by omega)).trans ?_
    rw [hb]; rfl
  isplitl [H9]
  · iexists _; isplitr
    swap; · iexact H9
    ipureintro; funext y
    rw [eq_ix2 y]
    refine (loop_bg Variants.none c none i a1 h1 a2 h2 a3 h3 a4 h4 a5 h5 a6 h6 a7 h7 a8 h8 a9 h9 a10 h10 a11 h11 _ _ _ _ _ _ _ _ _ _ _ zeroD (read_zero (F := F) a11 _ _) 4 (le_refl 4) (y 0) (y 1) (by omega)).trans ?_
    rw [hb]; rfl
  iexists _; isplitr
  swap; · iexact HS0
  ipureintro
  rw [View.writes_append]
  refine (loop_scratch Variants.none c none i a1 h1 a2 h2 a3 h3 a4 h4 a5 h5 a6 h6 a7 h7 a8 h8 a9 h9 a10 h10 a11 h11 _ _ _ _ _ _ _ _ _ _ _ zeroD (read_zero (F := F) a11 _ _) 4 (le_refl 4)).trans ?_
  rw [hb]

set_option maxHeartbeats 2000000 in
theorem body_next (hc : ¬ isFirst i) (E : Set ℕ) (K : PUnit → sProp (Res F)) :
    iprop(given c a1 a2 a3 a4 a5 a6 a7 a8 a9 a10 b (owns (c : Thread nD τ) a11 fullShare (stack D))
        ∗ (leaves c a1 a2 a3 a4 a5 a6 a7 a8 a9 a10 a11 b D -∗ K ⟨⟩))
      ⊢ wp frame (wpE (defs₀ (F := F)) Variants.none c none) E (cc0_delta_bwd i a1 h1 a2 h2 a3 h3 a4 h4 a5 h5 a6 h6 a7 h7 a8 h8 a9 h9 a10 h10 a11 h11) K := by
  have hb := blkOf_unread a1 h1 a2 h2 a3 h3 a4 h4 a5 h5 a6 h6 b
  simp only [cc0_delta_bwd_eq_skeleton]; unfold cc0_delta_bwd_skel
  unfold given leaves owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hs0, HS0⟩⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  sl_exec (disch := first | sl_exact hc)
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr; · ipureintro; exact h6.read_unread _
    iexact H5
  isplitl [H6]
  · iexists _; isplitr
    swap; · iexact H6
    ipureintro; funext y
    rw [eq_ix2 y]
    refine (loop_q Variants.none c none i a1 h1 a2 h2 a3 h3 a4 h4 a5 h5 a6 h6 a7 h7 a8 h8 a9 h9 a10 h10 a11 h11 _ _ _ _ _ _ _ _ _ _ _ D hs0 4 (le_refl 4) (y 0) (y 1) (by omega)).trans ?_
    rw [hb]; rfl
  isplitl [H7]
  · iexists _; isplitr
    swap; · iexact H7
    ipureintro; funext y
    rw [eq_ix2 y]
    refine (loop_k Variants.none c none i a1 h1 a2 h2 a3 h3 a4 h4 a5 h5 a6 h6 a7 h7 a8 h8 a9 h9 a10 h10 a11 h11 _ _ _ _ _ _ _ _ _ _ _ D hs0 4 (le_refl 4) (y 0) (y 1) (by omega)).trans ?_
    rw [hb]; rfl
  isplitl [H8]
  · iexists _; isplitr
    swap; · iexact H8
    ipureintro; funext y
    rw [eq_ix2 y]
    refine (loop_v Variants.none c none i a1 h1 a2 h2 a3 h3 a4 h4 a5 h5 a6 h6 a7 h7 a8 h8 a9 h9 a10 h10 a11 h11 _ _ _ _ _ _ _ _ _ _ _ D hs0 4 (le_refl 4) (y 0) (y 1) (by omega)).trans ?_
    rw [hb]; rfl
  isplitl [H9]
  · iexists _; isplitr
    swap; · iexact H9
    ipureintro; funext y
    rw [eq_ix2 y]
    refine (loop_bg Variants.none c none i a1 h1 a2 h2 a3 h3 a4 h4 a5 h5 a6 h6 a7 h7 a8 h8 a9 h9 a10 h10 a11 h11 _ _ _ _ _ _ _ _ _ _ _ D hs0 4 (le_refl 4) (y 0) (y 1) (by omega)).trans ?_
    rw [hb]; rfl
  iexists _; isplitr
  swap; · iexact HS0
  ipureintro
  refine (loop_scratch Variants.none c none i a1 h1 a2 h2 a3 h3 a4 h4 a5 h5 a6 h6 a7 h7 a8 h8 a9 h9 a10 h10 a11 h11 _ _ _ _ _ _ _ _ _ _ _ D hs0 4 (le_refl 4)).trans ?_
  rw [hb]

end Delta

end
-- ==== Proof.Grid.lean ====
/-
  The kernel over its grid: at point `t` the body takes block `t`'s windows and the state that the points before left in the scratch.
  From any memory the program ends with its results at what the blocks give, its arguments as they were, every counter zero.
-/
module

public import proofs.«01_k».proof.Proof.Body
public import Idealize.ShloMosaic.Lib.Claim

@[expose] public section

set_option maxRecDepth 16384

noncomputable section

namespace Delta.Grid

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg) (c : Dev nD)

/-- The scratch. -/
abbrev scratch : Memref sig .tc .vmem S4x128x128 .f32 := Memref.whole cc0_scratch0

/-- What point `t` loads. -/
def blkAt (t : Fin cfg0.N) : Blk F where
  q := iblk m c 0 t
  k := iblk m c 1 t
  v := iblk m c 2 t
  dO := iblk m c 5 t
  bg := iblk m c 3 t
  S := iblk m c 4 t

/-- The state before point `n`. -/
def stateAt : ℕ → Fin 4 → V F 128 128
  | 0 => zeroD
  | n + 1 => if h : n < cfg0.N then (blkAt m c ⟨n, h⟩).state (stateAt n) 8 else stateAt n

theorem stateAt_succ (t : Fin cfg0.N) : stateAt m c (t.val + 1) = (blkAt m c t).state (stateAt m c t.val) 8 := by
  rw [stateAt, dif_pos t.isLt]

/-- What is held between points: before the first the scratch at anything, afterwards the state. -/
def held : (n : ℕ) → sProp (Res F)
  | 0 => Pipeline.ΦA spec0 c
  | n + 1 => iprop(owns (c : Thread nD τ) scratch fullShare (stack (stateAt m c (n + 1))) ∗ (∃ r, prngReg c r))

theorem held_zero (n : ℕ) (h : n = 0) : held m c n = Pipeline.ΦA spec0 c := by subst h; rfl

theorem held_pos (n : ℕ) (h : n ≠ 0) : held m c n
    = iprop(owns (c : Thread nD τ) scratch fullShare (stack (stateAt m c n)) ∗ (∃ r, prngReg c r)) := by
  cases n with
  | zero => exact absurd rfl h
  | succ n => rfl

theorem atStart_eq : (Pipeline.ΦA spec0 c : sProp (Res F))
    = iprop((∃ d, owns (c : Thread nD τ) scratch fullShare d) ∗ (∃ r, prngReg c r)) := by
  unfold Pipeline.ΦA; rw [scopedRest0_eq]; simp only [scratch, owns_whole]; try rfl

/-- The pipeline's proof data: after the body at `t` the inputs' buffers hold their blocks, the outputs' what the block gives. -/
def dats (_ : Fin 1) (c : Dev nD) : Dat τ (Elt F) Unit ℕ (UR sig nD τ) ℕ cfg0 c where
  A w := Cert.KernelIdeal.Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (blkAt m c t).out (stateAt m c t.val) Rows.outQ
    | ⟨7, _⟩ => (blkAt m c t).out (stateAt m c t.val) Rows.outK
    | ⟨8, _⟩ => (blkAt m c t).out (stateAt m c t.val) Rows.outV
    | ⟨9, _⟩ => (blkAt m c t).out (stateAt m c t.val) Rows.outBG
  Φ t := held m c t.val
  q _ := fullShare
  owed _ := 0

theorem arrays_eq (w : Fin cfg0.W) : (dats m 0 c).A w = Cert.KernelIdeal.Gen.V m c (Pipeline.arrRef spec0 w) := by dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = (blkAt m c t).out (stateAt m c t.val) Rows.outQ := by
  dsimp only [dats]
theorem after_7 (t : Fin cfg0.N) : (dats m 0 c).after 7 t = (blkAt m c t).out (stateAt m c t.val) Rows.outK := by
  dsimp only [dats]
theorem after_8 (t : Fin cfg0.N) : (dats m 0 c).after 8 t = (blkAt m c t).out (stateAt m c t.val) Rows.outV := by
  dsimp only [dats]
theorem after_9 (t : Fin cfg0.N) : (dats m 0 c).after 9 t = (blkAt m c t).out (stateAt m c t.val) Rows.outBG := by
  dsimp only [dats]

theorem before_0 (t : Fin cfg0.N) (d) : (dats m 0 c).before 0 t d = iblk m c 0 t :=
  before0_0_of m (dats m 0 c) (arrays_eq m c 0) (after_0 m c) t d
theorem before_1 (t : Fin cfg0.N) (d) : (dats m 0 c).before 1 t d = iblk m c 1 t :=
  before0_1_of m (dats m 0 c) (arrays_eq m c 1) (after_1 m c) t d
theorem before_2 (t : Fin cfg0.N) (d) : (dats m 0 c).before 2 t d = iblk m c 2 t :=
  before0_2_of m (dats m 0 c) (arrays_eq m c 2) (after_2 m c) t d
theorem before_3 (t : Fin cfg0.N) (d) : (dats m 0 c).before 3 t d = iblk m c 3 t :=
  before0_3_of m (dats m 0 c) (arrays_eq m c 3) (after_3 m c) t d
theorem before_4 (t : Fin cfg0.N) (d) : (dats m 0 c).before 4 t d = iblk m c 4 t :=
  before0_4_of m (dats m 0 c) (arrays_eq m c 4) (after_4 m c) t d
theorem before_5 (t : Fin cfg0.N) (d) : (dats m 0 c).before 5 t d = iblk m c 5 t :=
  before0_5_of m (dats m 0 c) (arrays_eq m c 5) (after_5 m c) t d

/-- What the body is called with at point `t`. -/
def pre (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def post (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 3200000 in
theorem body_sound (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).owesAt () t.succ = (dats m 0 c).owesAt () t.castSucc from rfl,
    after_0, after_1, after_2, after_3, after_4, after_5, after_6, after_7, after_8, after_9]
  rw [show (dats m 0 c).Φ t.succ = held m c (t.val + 1) from rfl, held_pos m c _ (Nat.succ_ne_zero _), stateAt_succ]
  rw [show (dats m 0 c).Φ t.castSucc = held m c t.val from rfl]
  by_cases hz : t.val = 0
  · rw [held_zero m c _ hz, atStart_eq]
    rw [show stateAt m c t.val = zeroD by rw [hz]; rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c (grid0.coords t) _ _ _ _ _ _ _ _ _ _ _ _ _ _ _ _ _ _ _ _ _ _ (blkAt m c t) ((isFirst_iff t).mpr hz) Set.univ _)
    unfold given leaves
    isplitl [H0 H1 H2 H3 H4 H5 H6 H7 H8 H9 HS]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [held_pos m c _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_next c (grid0.coords t) _ _ _ _ _ _ _ _ _ _ _ _ _ _ _ _ _ _ _ _ _ _ (blkAt m c t) (stateAt m c t.val) (fun h => hz ((isFirst_iff t).mp h)) Set.univ _)
    unfold given leaves
    isplitl [H0 H1 H2 H3 H4 H5 H6 H7 H8 H9 HS]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem body_call (t : Fin cfg0.N) : defs₀ (F := F) .tc cfg0.body (cfg0.bodyArgs t (cfg0.slots t)) = bodyAt0 t := by
  unfold defs₀; rw [Defs.onTc_tc]

theorem obligation : BodyObligation (dats (F := F) m 0 c) (defs₀ (F := F)) Variants.none () Set.univ := fun t => by
  rw [bigSep_W0, bigSep_W0, body_call]
  exact triple_restated (body_sound m c t) rfl .rfl fun _ => .rfl

theorem held_first : Pipeline.ΦA spec0 c ⊢ (dats m 0 c).Φ 0 := by
  rw [show (dats m 0 c).Φ 0 = held m c 0 from rfl, held_zero m c 0 rfl]

theorem held_last : (dats m 0 c).Φ (Fin.last cfg0.N) ⊢ Pipeline.ΦA spec0 c := by
  rw [show (dats m 0 c).Φ (Fin.last cfg0.N) = held m c cfg0.N from rfl,
    held_pos m c _ (by rw [show cfg0.N = 16 from N_0]; decide), atStart_eq]
  iintro ⟨HS, Hg⟩
  isplitl [HS]
  · iexists _; iexact HS
  · iexact Hg

set_option backward.isDefEq.respectTransparency.types false in
/-- Every run ends with every array at what the proof data says, and every counter zero. -/
theorem run : θ_run defs (onTc (τ := τ) (main (F := F))) (s₀ m ρ)
    (fun r => (Pipeline.FramePost cfgs (dats m) 0 (Cert.KernelIdeal.Gen.V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := Cert.KernelIdeal.Gen.V m) (hmain := hmain m Variants.none) (hA := arrays_eq m) (hin := held_first m)
    (hout := held_last m)

/-- The arguments end unchanged, every counter zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (arrays_eq m) ((θ_run defs _ _).mono (fun _ h => h.1) (run m ρ)))
    ((θ_run defs _ _).mono (fun _ h => h.2) (run m ρ))

end Delta.Grid

end
-- ==== Proof.Same.lean ====
/-
  The kernel's program and its ideal one are the same text: the frame of the one is the frame of the other, read at words.
-/
module

public import proofs.«01_k».proof.Proof.Grid
public import proofs.«01_k».proof.Proof.Gen.Kernel

@[expose] public section

set_option maxRecDepth 16384

noncomputable section

namespace Delta.Same

open Idealize.ShloMosaic Idealize.ShloMosaic.TcCoe Idealize.ShloMosaic.Tactic
open Idealize.SL.Sem

variable {F : FTy → Type} [FloatOps F]

theorem main_eq : (Cert.Kernel.main (F := F)) = (Cert.KernelIdeal.main (F := F)) := by rfl

theorem body_eq : Cert.Kernel.cc0_delta_bwd (F := F) = Cert.KernelIdeal.cc0_delta_bwd (F := F) := by sl_kernel_rfl

theorem calls_eq : (Cert.Kernel.defs₀ (F := F)) = (Cert.KernelIdeal.defs₀ (F := F)) := by
  unfold Cert.Kernel.defs₀ Cert.KernelIdeal.defs₀
  congr 1
  funext l x
  match l, x with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _

theorem defs_eq : (Cert.Kernel.defs (F := F)) = (Cert.KernelIdeal.defs (F := F)) :=
  congrArg (Pipeline.defs (Cert.Kernel.pcfgs (F := F))) calls_eq

theorem quiet (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [defs_eq, main_eq]
  exact Delta.Grid.quiet m ρ

end Delta.Same

end
-- ==== Proof.Rep.lean ====
/-
  Arrays of extended reals whose entries are real numbers, as real matrices.

  `Mat x M` says that the rank-two array `x` holds the real matrix `M`; `HMat h x M`, `HVec h x v` and `HNum h x c` say the
  same of the part of an array that belongs to one head `h`, the leading coordinate. Each operation of the two programs has a
  lemma here that carries such a reading from its operands to its result.
-/
module

public import Idealize.ShloMosaic.PureOps.Ideal.Laws
public import Idealize.ShloMosaic.Lib.ValueIdx
public import Idealize.ShloMosaic.Lib.ValueIdxCoords
public import Idealize.ShloMosaic.Lib.IdealHost
public import Idealize.ShloMosaic.Lib.KernelVsHost
public import Idealize.ShloMosaic.Lib.Pipeline.Value
public import Mathlib.Data.Matrix.Mul

@[expose] public section

set_option maxRecDepth 16384

noncomputable section

namespace Delta

open Idealize.ShloMosaic Idealize.ShloMosaic.ValueIdx
open scoped BigOperators Matrix

/-- The rank-two array `x` holds the real matrix `M`. -/
def Mat {a b : ℕ} (x : (⟨2, ![a, b]⟩ : Shape).Idx → EReal) (M : Matrix (Fin a) (Fin b) ℝ) : Prop :=
  ∀ i j, x (ix2 i j) = ((M i j : ℝ) : EReal)

/-- Head `h` of the rank-three array `x` holds the real matrix `M`. -/
def HMat {n a b : ℕ} (h : Fin n) (x : (⟨3, ![n, a, b]⟩ : Shape).Idx → EReal) (M : Matrix (Fin a) (Fin b) ℝ) : Prop :=
  ∀ i j, x (ix3 h i j) = ((M i j : ℝ) : EReal)

/-- Row `h` of the rank-two array `x` holds the real vector `v`. -/
def HVec {n a : ℕ} (h : Fin n) (x : (⟨2, ![n, a]⟩ : Shape).Idx → EReal) (v : Fin a → ℝ) : Prop :=
  ∀ i, x (ix2 h i) = ((v i : ℝ) : EReal)

/-- Entry `h` of the rank-one array `x` is the real number `c`. -/
def HNum {n : ℕ} (h : Fin n) (x : (⟨1, ![n]⟩ : Shape).Idx → EReal) (c : ℝ) : Prop :=
  x (ix1 h) = ((c : ℝ) : EReal)

/-! ## Scalars -/

theorem coe_exp (r : ℝ) : Ideal.exp ((r : ℝ) : EReal) = ((Real.exp r : ℝ) : EReal) := rfl

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## One operation at a time, on arrays of rank two -/

section Rank2
variable {a b : ℕ} {x y : (⟨2, ![a, b]⟩ : Shape).Idx → EReal} {M N : Matrix (Fin a) (Fin b) ℝ}

theorem Mat.congr (hx : Mat x M) (e : ∀ i j, M i j = N i j) : Mat x N := fun i j => by rw [hx i j, e i j]

theorem Mat.ext (hx : Mat x M) (hy : Mat y M) : x = y := funext fun k =>
  (congrArg x (eq_ix2 k)).trans ((hx _ _).trans ((hy _ _).symm.trans (congrArg y (eq_ix2 k)).symm))

theorem Mat.mul (hx : Mat x M) (hy : Mat y N) :
    Mat (mulf (F := Ideal) (φ := .f32) x y) (fun i j => M i j * N i j) := fun i j => by
  rw [mulf_apply, hx i j, hy i j, ← EReal.coe_mul]

theorem Mat.add (hx : Mat x M) (hy : Mat y N) :
    Mat (addf (F := Ideal) (φ := .f32) x y) (fun i j => M i j + N i j) := fun i j => by
  rw [addf_apply, hx i j, hy i j, ← EReal.coe_add]

theorem Mat.sub (hx : Mat x M) (hy : Mat y N) :
    Mat (subf (F := Ideal) (φ := .f32) x y) (fun i j => M i j - N i j) := fun i j => by
  rw [subf_apply, hx i j, hy i j, ← EReal.coe_sub]

theorem Mat.exp (hx : Mat x M) :
    Mat (Idealize.ShloMosaic.exp (F := Ideal) (φ := .f32) x) (fun i j => Real.exp (M i j)) := fun i j => by
  show Ideal.exp (x (ix2 i j)) = _
  rw [hx i j, coe_exp]

theorem Mat.trunc (hx : Mat x M) (h : FTy.bf16.bits < FTy.f32.bits) : Mat (truncf (F := Ideal) (φ := .f32) .bf16 x h) M := hx

/-- The zero splat holds the zero matrix. -/
theorem Mat.zero : Mat (broadcast (⟨2, ![a, b]⟩ : Shape) (Scalar.ofBits (F := Ideal) .f32 0x00000000#32)) (fun _ _ => 0) := fun i j => by
  show Ideal.ofBits .f32 0x00000000#32 = _
  rw [Ideal.ofBits_zero_f32, EReal.coe_zero]

theorem Mat.splat (bits : BitVec 32) (r : ℝ) (h : Ideal.ofBits .f32 bits = ((r : ℝ) : EReal)) :
    Mat (broadcast (⟨2, ![a, b]⟩ : Shape) (Scalar.ofBits (F := Ideal) .f32 bits)) (fun _ _ => r) := fun i j => h

/-- Zero less an array is its negative. -/
theorem Mat.zsub (hx : Mat x M) :
    Mat (subf (F := Ideal) (φ := .f32) (broadcast (⟨2, ![a, b]⟩ : Shape) (Scalar.ofBits (F := Ideal) .f32 0x00000000#32)) x)
      (fun i j => - M i j) :=
  (Mat.zero.sub hx).congr fun i j => zero_sub _

/-- A masked choice of two matrices. -/
theorem Mat.sel (c : IVec (⟨2, ![a, b]⟩ : Shape) 1) (p : Fin a → Fin b → Prop) [∀ i j, Decidable (p i j)]
    (hc : ∀ i j, c (ix2 i j) = 1#1 ↔ p i j) (hx : Mat x M) (hy : Mat y N) :
    Mat (select c x y) (fun i j => if p i j then M i j else N i j) := fun i j => by
  show select c x y (ix2 i j) = ((if p i j then M i j else N i j : ℝ) : EReal)
  rw [select_apply]
  by_cases h : p i j
  · rw [(hc i j).2 h, select_one, hx i j, if_pos h]
  · rw [eq_zero_of_ne_one fun e => h ((hc i j).1 e), select_zero, hy i j, if_neg h]

/-- A rectangle cut out of a matrix. -/
theorem Mat.slice {c d : ℕ} (p q : ℕ) (h : Shape.Slices (⟨2, ![a, b]⟩ : Shape) ![p, q] ⟨2, ![c, d]⟩)
    (hp : p + c ≤ a) (hq : q + d ≤ b) (hx : Mat x M) :
    Mat (extractStridedSlice ⟨2, ![c, d]⟩ ![p, q] x h)
      (fun i j => M ⟨p + i.val, by omega⟩ ⟨q + j.val, by omega⟩) := fun i j =>
  (extractStridedSlice_apply ![p, q] x h (ix2 i j) (ix2 ⟨p + i.val, by omega⟩ ⟨q + j.val, by omega⟩) fun a => by
    match a with
    | ⟨0, _⟩ => rfl
    | ⟨1, _⟩ => rfl).trans (hx _ _)

theorem Mat.transp (h : Shape.Transposes (⟨2, ![a, b]⟩ : Shape) [1, 0] ⟨2, ![b, a]⟩) (hx : Mat x M) :
    Mat (transpose ⟨2, ![b, a]⟩ [1, 0] x h) (fun i j => M j i) := fun i j =>
  (transpose_apply [1, 0] x h (ix2 i j) (ix2 j i) fun a => by
    match a with
    | ⟨0, _⟩ => rfl
    | ⟨1, _⟩ => rfl).trans (hx _ _)

/-- Two matrices side by side: the first `b` columns are the first one's. -/
def hcat {b' : ℕ} (M : Matrix (Fin a) (Fin b) ℝ) (N : Matrix (Fin a) (Fin b') ℝ) : Matrix (Fin a) (Fin (b + b')) ℝ :=
  fun i => Fin.addCases (M i) (N i)

/-- Two matrices one above the other: the first `a` rows are the first one's. -/
def vcat {a' : ℕ} (M : Matrix (Fin a) (Fin b) ℝ) (N : Matrix (Fin a') (Fin b) ℝ) : Matrix (Fin (a + a')) (Fin b) ℝ :=
  fun i j => Fin.addCases (fun i => M i j) (fun i => N i j) i

theorem Mat.hcat {b' : ℕ} {z : (⟨2, ![a, b']⟩ : Shape).Idx → EReal} {Q : Matrix (Fin a) (Fin b') ℝ}
    (h : Shape.Concatenates [(⟨2, ![a, b]⟩ : Shape), ⟨2, ![a, b']⟩] ⟨2, ![a, b + b']⟩ 1) (hx : Mat x M) (hz : Mat z Q) :
    Mat (concatenate ⟨2, ![a, b + b']⟩ 1 [⟨⟨2, ![a, b]⟩, x⟩, ⟨⟨2, ![a, b']⟩, z⟩] h) (Delta.hcat M Q) := fun i j => by
  refine Fin.addCases (fun j => ?_) (fun j => ?_) j
  · refine (concatenate_pair_apply_left (1 : Fin 2) x z h (ix2 i (Fin.castAdd b' j)) rfl (ix2 i j) fun a => ?_).trans ?_
    · match a with
      | ⟨0, _⟩ => rfl
      | ⟨1, _⟩ => rfl
    · rw [hx i j, Delta.hcat, Fin.addCases_left]
  · refine (concatenate_pair_apply_right (1 : Fin 2) x z h (ix2 i (Fin.natAdd b j)) rfl rfl (ix2 i j) (fun a ha => ?_) ?_).trans ?_
    · match a, ha with
      | ⟨0, _⟩, _ => rfl
      | ⟨1, _⟩, ha => exact absurd rfl ha
    · exact Nat.add_comm _ _
    · rw [hz i j, Delta.hcat, Fin.addCases_right]

theorem Mat.vcat {a' : ℕ} {z : (⟨2, ![a', b]⟩ : Shape).Idx → EReal} {Q : Matrix (Fin a') (Fin b) ℝ}
    (h : Shape.Concatenates [(⟨2, ![a, b]⟩ : Shape), ⟨2, ![a', b]⟩] ⟨2, ![a + a', b]⟩ 0) (hx : Mat x M) (hz : Mat z Q) :
    Mat (concatenate ⟨2, ![a + a', b]⟩ 0 [⟨⟨2, ![a, b]⟩, x⟩, ⟨⟨2, ![a', b]⟩, z⟩] h) (Delta.vcat M Q) := fun i j => by
  refine Fin.addCases (fun i => ?_) (fun i => ?_) i
  · refine (concatenate_pair_apply_left (0 : Fin 2) x z h (ix2 (Fin.castAdd a' i) j) rfl (ix2 i j) fun a => ?_).trans ?_
    · match a with
      | ⟨0, _⟩ => rfl
      | ⟨1, _⟩ => rfl
    · rw [hx i j, Delta.vcat, Fin.addCases_left]
  · refine (concatenate_pair_apply_right (0 : Fin 2) x z h (ix2 (Fin.natAdd a i) j) rfl rfl (ix2 i j) (fun a ha => ?_) ?_).trans ?_
    · match a, ha with
      | ⟨0, _⟩, ha => exact absurd rfl ha
      | ⟨1, _⟩, _ => rfl
    · exact Nat.add_comm _ _
    · rw [hz i j, Delta.vcat, Fin.addCases_right]

/-- Row sums, kept as a column. -/
theorem Mat.rowSum (h : Shape.Reduces (⟨2, ![a, b]⟩ : Shape) [1] ⟨1, ![a]⟩) (hφ : FKind.Formats .f32)
    (hacc : (0x00000000#32 : BitVec 32) = FKind.add.neutral .f32 hφ) (hc : Shape.ShapeCasts (⟨1, ![a]⟩ : Shape) ⟨2, ![a, 1]⟩)
    (hx : Mat x M) :
    Mat (shapeCast ⟨2, ![a, 1]⟩ (multiReduction (F := Ideal) .add [1] ⟨1, ![a]⟩ x 0x00000000#32 h hφ hacc) hc)
      (fun i _ => ∑ k, M i k) := fun i j => by
  refine (shapeCast_apply _ hc (ix2 i j) (ix1 i) ?_).trans ?_
  · rw [Shape.rowMajor_val_one, Shape.rowMajor_val_two]
    simp only [ix2_0, ix2_1]
    have := j.isLt
    show i.val = i.val * 1 + j.val
    omega
  · rw [Ideal.multiReduction_add_single]
    refine (Finset.sum_congr rfl fun k _ => ?_).trans (sum_coe _ _)
    refine (congrArg x ?_).trans (hx i k)
    funext a
    match a with
    | ⟨0, _⟩ => rfl
    | ⟨1, _⟩ => rfl

end Rank2

section Column
variable {a : ℕ}

/-- The sum of a column, kept as a one-entry matrix. -/
theorem Mat.colSum {x : (⟨2, ![a, 1]⟩ : Shape).Idx → EReal} {M : Matrix (Fin a) (Fin 1) ℝ}
    (h : Shape.Reduces (⟨2, ![a, 1]⟩ : Shape) [0] ⟨1, ![1]⟩) (hφ : FKind.Formats .f32)
    (hacc : (0x00000000#32 : BitVec 32) = FKind.add.neutral .f32 hφ) (hc : Shape.ShapeCasts (⟨1, ![1]⟩ : Shape) ⟨2, ![1, 1]⟩)
    (hx : Mat x M) :
    Mat (shapeCast ⟨2, ![1, 1]⟩ (multiReduction (F := Ideal) .add [0] ⟨1, ![1]⟩ x 0x00000000#32 h hφ hacc) hc)
      (fun _ _ => ∑ k, M k 0) := fun i j => by
  refine (shapeCast_apply _ hc (ix2 i j) (ix1 0) ?_).trans ?_
  · rw [Shape.rowMajor_val_one, Shape.rowMajor_val_two]
    simp only [ix2_0, ix2_1]
    have := j.isLt
    have := i.isLt
    show 0 = i.val * 1 + j.val
    omega
  · rw [Ideal.multiReduction_add_single]
    refine (Finset.sum_congr rfl fun k _ => ?_).trans (sum_coe _ _)
    refine (congrArg x ?_).trans (hx k 0)
    funext a
    match a with
    | ⟨0, _⟩ => rfl
    | ⟨1, _⟩ => rfl

/-- A column repeated along the rows. -/
theorem Mat.spreadCol {b : ℕ} {x : (⟨2, ![a, 1]⟩ : Shape).Idx → EReal} {M : Matrix (Fin a) (Fin 1) ℝ} (ha : a ≠ 1)
    (h : Shape.Broadcasts (⟨2, ![a, 1]⟩ : Shape) ⟨2, ![a, b]⟩) (hx : Mat x M) :
    Mat (broadcastTo ⟨2, ![a, b]⟩ x h) (fun i _ => M i 0) := fun i j =>
  (broadcastTo_apply x h (ix2 i j) (ix2 i 0) fun k => by
    match k with
    | ⟨0, _⟩ => exact (if_neg ha).symm
    | ⟨1, _⟩ => rfl).trans (hx _ _)

/-- A row repeated down the columns. -/
theorem Mat.spreadRow {b : ℕ} {x : (⟨2, ![1, b]⟩ : Shape).Idx → EReal} {M : Matrix (Fin 1) (Fin b) ℝ} (hb : b ≠ 1)
    (h : Shape.Broadcasts (⟨2, ![1, b]⟩ : Shape) ⟨2, ![a, b]⟩) (hx : Mat x M) :
    Mat (broadcastTo ⟨2, ![a, b]⟩ x h) (fun _ j => M 0 j) := fun i j =>
  (broadcastTo_apply x h (ix2 i j) (ix2 0 j) fun k => by
    match k with
    | ⟨0, _⟩ => rfl
    | ⟨1, _⟩ => exact (if_neg hb).symm).trans (hx _ _)

/-- One number repeated over a matrix. -/
theorem Mat.spreadOne {b : ℕ} {x : (⟨2, ![1, 1]⟩ : Shape).Idx → EReal} {M : Matrix (Fin 1) (Fin 1) ℝ}
    (h : Shape.Broadcasts (⟨2, ![1, 1]⟩ : Shape) ⟨2, ![a, b]⟩) (hx : Mat x M) :
    Mat (broadcastTo ⟨2, ![a, b]⟩ x h) (fun _ _ => M 0 0) := fun i j =>
  (broadcastTo_apply x h (ix2 i j) (ix2 0 0) fun k => by
    match k with
    | ⟨0, _⟩ => rfl
    | ⟨1, _⟩ => rfl).trans (hx _ _)

/-- A cast to the same shape. -/
theorem Mat.castSame {b : ℕ} {x : (⟨2, ![a, b]⟩ : Shape).Idx → EReal} {M : Matrix (Fin a) (Fin b) ℝ}
    (h : Shape.ShapeCasts (⟨2, ![a, b]⟩ : Shape) ⟨2, ![a, b]⟩) (hx : Mat x M) : Mat (shapeCast ⟨2, ![a, b]⟩ x h) M := fun i j =>
  (shapeCast_apply x h (ix2 i j) (ix2 i j) rfl).trans (hx i j)

end Column

/-! ## Products of matrices -/

/-- A product over one shared axis, whatever the record that lays the axes out. -/
theorem dot_read {sl sr so : Shape} (D : DotDims sl sr so) (n : ℕ) (hr : D.contr.rank = 1)
    (hs : D.contr.size ⟨0, by omega⟩ = n) (x : sl.Idx → EReal) (y : sr.Idx → EReal) (o : so.Idx)
    (f g : Fin n → ℝ)
    (hx : ∀ k, x (D.lhsIdx o ((contrEquiv1 D n hr hs).symm k)) = ((f k : ℝ) : EReal))
    (hy : ∀ k, y (D.rhsIdx o ((contrEquiv1 D n hr hs).symm k)) = ((g k : ℝ) : EReal)) :
    ∑ k : D.contr.Idx, x (D.lhsIdx o k) * y (D.rhsIdx o k) = ((∑ k, f k * g k : ℝ) : EReal) := by
  rw [← Equiv.sum_comp (contrEquiv1 D n hr hs).symm, ← sum_coe]
  refine Finset.sum_congr rfl fun k _ => ?_
  rw [hx k, hy k, EReal.coe_mul]

theorem zero_acc {s : Shape} (o : s.Idx) : constant (F := Ideal) s .f32 0x00000000#32 o = 0 := Ideal.ofBits_zero_f32

section Products
variable {a b c : ℕ}

/-- Rows of the left operand times columns of the right one. -/
theorem Mat.dotNN {φ₁ φ₂ : FTy} {D : DotDims (⟨2, ![a, c]⟩ : Shape) ⟨2, ![c, b]⟩ ⟨2, ![a, b]⟩} {wf}
    (hD : D = ⟨[1], [0], [0], [1], [], [], wf⟩)
    {x : FVec Ideal ⟨2, ![a, c]⟩ φ₁} {y : FVec Ideal ⟨2, ![c, b]⟩ φ₂} {M N} (hx : Mat x M) (hy : Mat y N) :
    Mat (matmul (F := Ideal) D none x y (constant (F := Ideal) ⟨2, ![a, b]⟩ .f32 0x00000000#32)) (M * N) := fun i j => by
  subst hD
  refine (Ideal.matmul_apply _ none x y _ (ix2 i j)).trans ?_
  rw [zero_acc, zero_add]
  refine dot_read _ c rfl rfl x y (ix2 i j) (fun k => M i k) (fun k => N k j) (fun k => ?_) (fun k => ?_)
  · refine (congrArg x ?_).trans (hx i k)
    funext e; apply Fin.ext
    match e with
    | ⟨0, _⟩ => rfl
    | ⟨1, _⟩ => exact contrEquiv1_symm_val (DotDims.mk [1] [0] [0] [1] [] [] wf) c rfl rfl k
  · refine (congrArg y ?_).trans (hy k j)
    funext e; apply Fin.ext
    match e with
    | ⟨0, _⟩ => exact contrEquiv1_symm_val (DotDims.mk [1] [0] [0] [1] [] [] wf) c rfl rfl k
    | ⟨1, _⟩ => rfl

/-- Rows of the left operand times rows of the right one. -/
theorem Mat.dotNT {φ₁ φ₂ : FTy} {D : DotDims (⟨2, ![a, c]⟩ : Shape) ⟨2, ![b, c]⟩ ⟨2, ![a, b]⟩} {wf}
    (hD : D = ⟨[1], [1], [0], [0], [], [], wf⟩)
    {x : FVec Ideal ⟨2, ![a, c]⟩ φ₁} {y : FVec Ideal ⟨2, ![b, c]⟩ φ₂} {M N} (hx : Mat x M) (hy : Mat y N) :
    Mat (matmul (F := Ideal) D none x y (constant (F := Ideal) ⟨2, ![a, b]⟩ .f32 0x00000000#32)) (M * Nᵀ) := fun i j => by
  subst hD
  refine (Ideal.matmul_apply _ none x y _ (ix2 i j)).trans ?_
  rw [zero_acc, zero_add]
  refine dot_read _ c rfl rfl x y (ix2 i j) (fun k => M i k) (fun k => N j k) (fun k => ?_) (fun k => ?_)
  · refine (congrArg x ?_).trans (hx i k)
    funext e; apply Fin.ext
    match e with
    | ⟨0, _⟩ => rfl
    | ⟨1, _⟩ => exact contrEquiv1_symm_val (DotDims.mk [1] [1] [0] [0] [] [] wf) c rfl rfl k
  · refine (congrArg y ?_).trans (hy j k)
    funext e; apply Fin.ext
    match e with
    | ⟨0, _⟩ => rfl
    | ⟨1, _⟩ => exact contrEquiv1_symm_val (DotDims.mk [1] [1] [0] [0] [] [] wf) c rfl rfl k

/-- Columns of the left operand times columns of the right one. -/
theorem Mat.dotTN {φ₁ φ₂ : FTy} {D : DotDims (⟨2, ![c, a]⟩ : Shape) ⟨2, ![c, b]⟩ ⟨2, ![a, b]⟩} {wf}
    (hD : D = ⟨[0], [0], [1], [1], [], [], wf⟩)
    {x : FVec Ideal ⟨2, ![c, a]⟩ φ₁} {y : FVec Ideal ⟨2, ![c, b]⟩ φ₂} {M N} (hx : Mat x M) (hy : Mat y N) :
    Mat (matmul (F := Ideal) D none x y (constant (F := Ideal) ⟨2, ![a, b]⟩ .f32 0x00000000#32)) (Mᵀ * N) := fun i j => by
  subst hD
  refine (Ideal.matmul_apply _ none x y _ (ix2 i j)).trans ?_
  rw [zero_acc, zero_add]
  refine dot_read _ c rfl rfl x y (ix2 i j) (fun k => M k i) (fun k => N k j) (fun k => ?_) (fun k => ?_)
  · refine (congrArg x ?_).trans (hx k i)
    funext e; apply Fin.ext
    match e with
    | ⟨0, _⟩ => exact contrEquiv1_symm_val (DotDims.mk [0] [0] [1] [1] [] [] wf) c rfl rfl k
    | ⟨1, _⟩ => rfl
  · refine (congrArg y ?_).trans (hy k j)
    funext e; apply Fin.ext
    match e with
    | ⟨0, _⟩ => exact contrEquiv1_symm_val (DotDims.mk [0] [0] [1] [1] [] [] wf) c rfl rfl k
    | ⟨1, _⟩ => rfl

end Products

end Delta

end
-- ==== Proof.RepHost.lean ====
/-
  The reading of arrays as real matrices (`Rep`), for the operations of the plain program on arrays with one leading axis of heads.
-/
module

public import Idealize.ShloMosaic.Lib.Pointwise.Reduce
public import proofs.«01_k».proof.Proof.Rep

@[expose] public section

set_option maxRecDepth 16384

noncomputable section

namespace Delta

open Idealize.ShloMosaic hiding ix0 ix1 ix2 ix3 ix4 ix5
open Idealize.ShloMosaic.ValueIdx
open scoped BigOperators Matrix

section
variable {n a b : ℕ} {h : Fin n}

/-! ## Entry by entry -/

section Rank3
variable {x y : (⟨3, ![n, a, b]⟩ : Shape).Idx → EReal} {M N : Matrix (Fin a) (Fin b) ℝ}

theorem HMat.congr (hx : HMat h x M) (e : ∀ i j, M i j = N i j) : HMat h x N := fun i j => by rw [hx i j, e i j]

theorem HMat.mul (hx : HMat h x M) (hy : HMat h y N) :
    HMat h (mulf (F := Ideal) (φ := .f32) x y) (fun i j => M i j * N i j) := fun i j => by
  rw [mulf_apply, hx i j, hy i j, ← EReal.coe_mul]

theorem HMat.add (hx : HMat h x M) (hy : HMat h y N) :
    HMat h (addf (F := Ideal) (φ := .f32) x y) (fun i j => M i j + N i j) := fun i j => by
  rw [addf_apply, hx i j, hy i j, ← EReal.coe_add]

theorem HMat.sub (hx : HMat h x M) (hy : HMat h y N) :
    HMat h (subf (F := Ideal) (φ := .f32) x y) (fun i j => M i j - N i j) := fun i j => by
  rw [subf_apply, hx i j, hy i j, ← EReal.coe_sub]

theorem HMat.neg (hx : HMat h x M) : HMat h (Host.negf (F := Ideal) (φ := .f32) x) (fun i j => - M i j) := fun i j => by
  show -(x (ix3 h i j)) = _
  rw [hx i j, ← EReal.coe_neg]

/-- A masked choice, the mask the same for every head. -/
theorem HMat.sel (c : IVec (⟨3, ![n, a, b]⟩ : Shape) 1) (p : Fin a → Fin b → Prop) [∀ i j, Decidable (p i j)]
    (hc : ∀ i j, c (ix3 h i j) = 1#1 ↔ p i j) (hx : HMat h x M) (hy : HMat h y N) :
    HMat h (select c x y) (fun i j => if p i j then M i j else N i j) := fun i j => by
  show select c x y (ix3 h i j) = ((if p i j then M i j else N i j : ℝ) : EReal)
  rw [select_apply]
  by_cases e : p i j
  · rw [(hc i j).2 e, select_one, hx i j, if_pos e]
  · rw [eq_zero_of_ne_one fun w => e ((hc i j).1 w), select_zero, hy i j, if_neg e]

/-- The exponential of a masked choice whose other side is minus infinity. -/
theorem HMat.expSel (c : IVec (⟨3, ![n, a, b]⟩ : Shape) 1) (p : Fin a → Fin b → Prop) [∀ i j, Decidable (p i j)]
    (hc : ∀ i j, c (ix3 h i j) = 1#1 ↔ p i j) (hx : HMat h x M) (hy : ∀ k, y k = ⊥) :
    HMat h (Host.exp (F := Ideal) (φ := .f32) (select c x y)) (fun i j => if p i j then Real.exp (M i j) else 0) := fun i j => by
  show Ideal.exp (select c x y (ix3 h i j)) = ((if p i j then Real.exp (M i j) else 0 : ℝ) : EReal)
  rw [select_apply]
  by_cases e : p i j
  · rw [(hc i j).2 e, select_one, hx i j, if_pos e, coe_exp]
  · rw [eq_zero_of_ne_one fun w => e ((hc i j).1 w), select_zero, hy, if_neg e]
    rfl

/-- One number repeated everywhere. -/
theorem HMat.const (bits : BitVec 32) (r : ℝ) (hr : Ideal.ofBits .f32 bits = ((r : ℝ) : EReal))
    (hb : (⟨0, ![]⟩ : Shape).BroadcastsInDim ⟨3, ![n, a, b]⟩ ![]) :
    HMat h (broadcastInDim ⟨3, ![n, a, b]⟩ ![] hb (constant (F := Ideal) ⟨0, ![]⟩ .f32 bits)) (fun _ _ => r) := fun i j =>
  (broadcastInDim_scalar_apply hb _ (ix3 h i j)).trans hr

theorem HMat.transp (ht : Shape.Transposes (⟨3, ![n, a, b]⟩ : Shape) [0, 2, 1] ⟨3, ![n, b, a]⟩) (hx : HMat h x M) :
    HMat h (transpose ⟨3, ![n, b, a]⟩ [0, 2, 1] x ht) Mᵀ := fun i j =>
  (transpose_apply [0, 2, 1] x ht (ix3 h i j) (ix3 h j i) fun k => by
    match k with
    | ⟨0, _⟩ => rfl
    | ⟨1, _⟩ => rfl
    | ⟨2, _⟩ => rfl).trans (hx _ _)

/-- Some columns of every head. -/
theorem HMat.cols {d : ℕ} (q : ℕ) (hs : Shape.Slices (⟨3, ![n, a, b]⟩ : Shape) ![0, 0, q] ⟨3, ![n, a, d]⟩)
    (hq : q + d ≤ b) (hx : HMat h x M) :
    HMat h (extractStridedSlice ⟨3, ![n, a, d]⟩ ![0, 0, q] x hs) (fun i j => M i ⟨q + j.val, by omega⟩) := fun i j =>
  (extractStridedSlice_apply ![0, 0, q] x hs (ix3 h i j) (ix3 h i ⟨q + j.val, by omega⟩) fun k => by
    match k with
    | ⟨0, _⟩ => exact (Nat.zero_add _).symm
    | ⟨1, _⟩ => exact (Nat.zero_add _).symm
    | ⟨2, _⟩ => rfl).trans (hx _ _)

theorem HMat.hcat {b' : ℕ} {z : (⟨3, ![n, a, b']⟩ : Shape).Idx → EReal} {Q : Matrix (Fin a) (Fin b') ℝ}
    (hc : Shape.Concatenates [(⟨3, ![n, a, b]⟩ : Shape), ⟨3, ![n, a, b']⟩] ⟨3, ![n, a, b + b']⟩ 2) (hx : HMat h x M) (hz : HMat h z Q) :
    HMat h (concatenate ⟨3, ![n, a, b + b']⟩ 2 [⟨⟨3, ![n, a, b]⟩, x⟩, ⟨⟨3, ![n, a, b']⟩, z⟩] hc) (Delta.hcat M Q) := fun i j => by
  refine Fin.addCases (fun j => ?_) (fun j => ?_) j
  · refine (concatenate_pair_apply_left (2 : Fin 3) x z hc (ix3 h i (Fin.castAdd b' j)) rfl (ix3 h i j) fun a => ?_).trans ?_
    · match a with
      | ⟨0, _⟩ => rfl
      | ⟨1, _⟩ => rfl
      | ⟨2, _⟩ => rfl
    · rw [hx i j, Delta.hcat, Fin.addCases_left]
  · refine (concatenate_pair_apply_right (2 : Fin 3) x z hc (ix3 h i (Fin.natAdd b j)) rfl rfl (ix3 h i j) (fun a ha => ?_) ?_).trans ?_
    · match a, ha with
      | ⟨0, _⟩, _ => rfl
      | ⟨1, _⟩, _ => rfl
      | ⟨2, _⟩, ha => exact absurd rfl ha
    · exact Nat.add_comm _ _
    · rw [hz i j, Delta.hcat, Fin.addCases_right]

/-- A matrix with zero columns added before it. -/
theorem HMat.padLeft {d : ℕ} {u : Shape} {v : u.Idx → EReal} (hv : ∀ k, v k = 0)
    (hp : (⟨3, ![n, a, b]⟩ : Shape).Pads ![0, 0, d] ![0, 0, 0] ![0, 0, 0] ⟨3, ![n, a, d + b]⟩) (hu : 0 < u.numel) (hx : HMat h x M) :
    HMat h (pad ⟨3, ![n, a, d + b]⟩ ![0, 0, d] ![0, 0, 0] ![0, 0, 0] x v hp hu) (Delta.hcat (0 : Matrix (Fin a) (Fin d) ℝ) M) := fun i j => by
  refine Fin.addCases (fun j => ?_) (fun j => ?_) j
  · refine (pad_apply_of_not_inside ![0, 0, d] ![0, 0, 0] ![0, 0, 0] x v hp hu (ix3 h i (Fin.castAdd b j)) (2 : Fin 3) ?_).trans ?_
    · intro hh
      have h1 : d ≤ j.val := hh.1
      have := j.isLt
      omega
    · rw [hv, Delta.hcat, Fin.addCases_left]; rfl
  · refine (pad_apply_of_inside ![0, 0, d] ![0, 0, 0] ![0, 0, 0] x v hp hu (ix3 h i (Fin.natAdd d j)) (ix3 h i j) fun k => ?_).trans ?_
    · match k with
      | ⟨0, _⟩ => show h.val = 0 + h.val * (0 + 1); omega
      | ⟨1, _⟩ => show i.val = 0 + i.val * (0 + 1); omega
      | ⟨2, _⟩ => show d + j.val = d + j.val * (0 + 1); omega
    · rw [hx i j, Delta.hcat, Fin.addCases_right]

/-- A matrix with zero columns added after it. -/
theorem HMat.padRight {d : ℕ} {u : Shape} {v : u.Idx → EReal} (hv : ∀ k, v k = 0)
    (hp : (⟨3, ![n, a, b]⟩ : Shape).Pads ![0, 0, 0] ![0, 0, d] ![0, 0, 0] ⟨3, ![n, a, b + d]⟩) (hu : 0 < u.numel) (hx : HMat h x M) :
    HMat h (pad ⟨3, ![n, a, b + d]⟩ ![0, 0, 0] ![0, 0, d] ![0, 0, 0] x v hp hu) (Delta.hcat M (0 : Matrix (Fin a) (Fin d) ℝ)) := fun i j => by
  refine Fin.addCases (fun j => ?_) (fun j => ?_) j
  · refine (pad_apply_of_inside ![0, 0, 0] ![0, 0, d] ![0, 0, 0] x v hp hu (ix3 h i (Fin.castAdd d j)) (ix3 h i j) fun k => ?_).trans ?_
    · match k with
      | ⟨0, _⟩ => show h.val = 0 + h.val * (0 + 1); omega
      | ⟨1, _⟩ => show i.val = 0 + i.val * (0 + 1); omega
      | ⟨2, _⟩ => show j.val = 0 + j.val * (0 + 1); omega
    · rw [hx i j, Delta.hcat, Fin.addCases_left]
  · refine (pad_apply_of_not_inside ![0, 0, 0] ![0, 0, d] ![0, 0, 0] x v hp hu (ix3 h i (Fin.natAdd b j)) (2 : Fin 3) ?_).trans ?_
    · intro hh
      have h1 : (b + j.val - 0) / (0 + 1) < b := hh.2.2
      simp only [Nat.sub_zero, Nat.zero_add, Nat.div_one] at h1
      omega
    · rw [hv, Delta.hcat, Fin.addCases_right]; rfl

/-! ## Sums -/

theorem HMat.sumRows {u : Shape} {v : u.Idx → EReal} (hv : ∀ k, v k = 0)
    (hr : (⟨3, ![n, a, b]⟩ : Shape).ReducesTo [2] ⟨2, ![n, a]⟩) (hu : 0 < u.numel) (hx : HMat h x M) :
    HVec h (Host.reduceAdd (F := Ideal) (φ := .f32) x v hr hu) (fun i => ∑ k, M i k) := fun i => by
  rw [hostReduceAdd_apply, hv, Ideal.hostReduceAdd_r3_a2, zero_add]
  exact (Finset.sum_congr rfl fun k _ => hx i k).trans (sum_coe _ _)

theorem HMat.sumCols {u : Shape} {v : u.Idx → EReal} (hv : ∀ k, v k = 0)
    (hr : (⟨3, ![n, a, b]⟩ : Shape).ReducesTo [1] ⟨2, ![n, b]⟩) (hu : 0 < u.numel) (hx : HMat h x M) :
    HVec h (Host.reduceAdd (F := Ideal) (φ := .f32) x v hr hu) (fun j => ∑ k, M k j) := fun j => by
  rw [hostReduceAdd_apply, hv, Ideal.hostReduceAdd_r3_a1, zero_add]
  exact (Finset.sum_congr rfl fun k _ => hx k j).trans (sum_coe _ _)

theorem HMat.sumAll {u : Shape} {v : u.Idx → EReal} (hv : ∀ k, v k = 0)
    (hr : (⟨3, ![n, a, b]⟩ : Shape).ReducesTo [1, 2] ⟨1, ![n]⟩) (hu : 0 < u.numel) (hx : HMat h x M) :
    HNum h (Host.reduceAdd (F := Ideal) (φ := .f32) x v hr hu) (∑ i, ∑ j, M i j) := by
  show Host.reduceAdd (F := Ideal) (φ := .f32) x v hr hu (ix1 h) = _
  rw [hostReduceAdd_apply, hv, Ideal.hostReduceAdd_r3_a12, zero_add]
  refine (Finset.sum_congr rfl fun i _ => ?_).trans (sum_coe _ _)
  exact (Finset.sum_congr rfl fun j _ => hx i j).trans (sum_coe _ _)

end Rank3

/-! ## Vectors and numbers, one per head -/

section Rank2
variable {x y : (⟨2, ![n, a]⟩ : Shape).Idx → EReal} {f g : Fin a → ℝ}

theorem HVec.congr (hx : HVec h x f) (e : ∀ i, f i = g i) : HVec h x g := fun i => by rw [hx i, e i]

theorem HVec.mul (hx : HVec h x f) (hy : HVec h y g) :
    HVec h (mulf (F := Ideal) (φ := .f32) x y) (fun i => f i * g i) := fun i => by
  rw [mulf_apply, hx i, hy i, ← EReal.coe_mul]

theorem HVec.add (hx : HVec h x f) (hy : HVec h y g) :
    HVec h (addf (F := Ideal) (φ := .f32) x y) (fun i => f i + g i) := fun i => by
  rw [addf_apply, hx i, hy i, ← EReal.coe_add]

theorem HVec.sub (hx : HVec h x f) (hy : HVec h y g) :
    HVec h (subf (F := Ideal) (φ := .f32) x y) (fun i => f i - g i) := fun i => by
  rw [subf_apply, hx i, hy i, ← EReal.coe_sub]

theorem HVec.neg (hx : HVec h x f) : HVec h (Host.negf (F := Ideal) (φ := .f32) x) (fun i => - f i) := fun i => by
  show -(x (ix2 h i)) = _
  rw [hx i, ← EReal.coe_neg]

theorem HVec.exp (hx : HVec h x f) : HVec h (Host.exp (F := Ideal) (φ := .f32) x) (fun i => Real.exp (f i)) := fun i => by
  show Ideal.exp (x (ix2 h i)) = _
  rw [hx i, coe_exp]

theorem HVec.sum {u : Shape} {v : u.Idx → EReal} (hv : ∀ k, v k = 0)
    (hr : (⟨2, ![n, a]⟩ : Shape).ReducesTo [1] ⟨1, ![n]⟩) (hu : 0 < u.numel) (hx : HVec h x f) :
    HNum h (Host.reduceAdd (F := Ideal) (φ := .f32) x v hr hu) (∑ k, f k) := by
  show Host.reduceAdd (F := Ideal) (φ := .f32) x v hr hu (ix1 h) = _
  rw [hostReduceAdd_apply, hv, Ideal.hostReduceAdd_r2_a1, zero_add]
  exact (Finset.sum_congr rfl fun k _ => hx k).trans (sum_coe _ _)

/-- A vector as a column. -/
theorem HVec.col (hn : n ≠ 1) (ha : a ≠ 1) (hb : (⟨2, ![n, a]⟩ : Shape).BroadcastsInDim ⟨3, ![n, a, 1]⟩ ![0, 1]) (hx : HVec h x f) :
    HMat h (broadcastInDim ⟨3, ![n, a, 1]⟩ ![0, 1] hb x) (fun i _ => f i) := fun i j =>
  (broadcastInDim_apply ![0, 1] hb x (ix3 h i j) (ix2 h i) fun k => by
    match k with
    | ⟨0, _⟩ => exact (if_neg hn).symm
    | ⟨1, _⟩ => exact (if_neg ha).symm).trans (hx i)

/-- A vector as a row. -/
theorem HVec.row (hn : n ≠ 1) (ha : a ≠ 1) (hb : (⟨2, ![n, a]⟩ : Shape).BroadcastsInDim ⟨3, ![n, 1, a]⟩ ![0, 2]) (hx : HVec h x f) :
    HMat h (broadcastInDim ⟨3, ![n, 1, a]⟩ ![0, 2] hb x) (fun _ j => f j) := fun i j =>
  (broadcastInDim_apply ![0, 2] hb x (ix3 h i j) (ix2 h j) fun k => by
    match k with
    | ⟨0, _⟩ => exact (if_neg hn).symm
    | ⟨1, _⟩ => exact (if_neg ha).symm).trans (hx j)

/-- A vector cast to a column. -/
theorem HVec.castCol (hc : Shape.ShapeCasts (⟨2, ![n, a]⟩ : Shape) ⟨3, ![n, a, 1]⟩) (hx : HVec h x f) :
    HMat h (shapeCast ⟨3, ![n, a, 1]⟩ x hc) (fun i _ => f i) := fun i j =>
  (shapeCast_apply x hc (ix3 h i j) (ix2 h i) (by
    rw [Shape.rowMajor_val_two, Shape.rowMajor_val_three]
    have := j.isLt
    show h.val * a + i.val = (h.val * a + i.val) * 1 + j.val
    omega)).trans (hx i)

/-- A vector cast to a row. -/
theorem HVec.castRow (hc : Shape.ShapeCasts (⟨2, ![n, a]⟩ : Shape) ⟨3, ![n, 1, a]⟩) (hx : HVec h x f) :
    HMat h (shapeCast ⟨3, ![n, 1, a]⟩ x hc) (fun _ j => f j) := fun i j =>
  (shapeCast_apply x hc (ix3 h i j) (ix2 h j) (by
    rw [Shape.rowMajor_val_two, Shape.rowMajor_val_three]
    have hi : i.val = 0 := by have := i.isLt; omega
    show h.val * a + j.val = (h.val * 1 + i.val) * a + j.val
    rw [hi, Nat.mul_one, Nat.add_zero])).trans (hx j)

/-- One entry of a vector, kept as a vector of one entry. -/
theorem HVec.entry (q : ℕ) (hs : Shape.Slices (⟨2, ![n, a]⟩ : Shape) ![0, q] ⟨2, ![n, 1]⟩) (hq : q < a) (hx : HVec h x f) :
    HVec h (extractStridedSlice ⟨2, ![n, 1]⟩ ![0, q] x hs) (fun _ => f ⟨q, hq⟩) := fun i =>
  (extractStridedSlice_apply ![0, q] x hs (ix2 h i) (ix2 h ⟨q, hq⟩) fun k => by
    match k with
    | ⟨0, _⟩ => exact (Nat.zero_add _).symm
    | ⟨1, _⟩ => show q = q + i.val; have := i.isLt; omega).trans (hx _)

/-- A one-entry vector repeated. -/
theorem HVec.spread {z : (⟨2, ![n, 1]⟩ : Shape).Idx → EReal} {r : ℝ} (hn : n ≠ 1)
    (hb : (⟨2, ![n, 1]⟩ : Shape).BroadcastsInDim ⟨2, ![n, a]⟩ ![0, 1]) (hz : HVec h z (fun _ => r)) :
    HVec h (broadcastInDim ⟨2, ![n, a]⟩ ![0, 1] hb z) (fun _ => r) := fun i =>
  (broadcastInDim_apply ![0, 1] hb z (ix2 h i) (ix2 h 0) fun k => by
    match k with
    | ⟨0, _⟩ => exact (if_neg hn).symm
    | ⟨1, _⟩ => rfl).trans (hz 0)

/-- A number put in the last of 64 places. -/
theorem HVec.padLast {z : (⟨2, ![n, 1]⟩ : Shape).Idx → EReal} {r : ℝ} {u : Shape} {v : u.Idx → EReal} (hv : ∀ k, v k = 0)
    (hp : (⟨2, ![n, 1]⟩ : Shape).Pads ![0, 63] ![0, 0] ![0, 0] ⟨2, ![n, 64]⟩) (hu : 0 < u.numel) (hz : HVec h z (fun _ => r)) :
    HVec h (pad ⟨2, ![n, 64]⟩ ![0, 63] ![0, 0] ![0, 0] z v hp hu) (fun i => if i.val = 63 then r else 0) := fun i => by
  show pad ⟨2, ![n, 64]⟩ ![0, 63] ![0, 0] ![0, 0] z v hp hu (ix2 h i) = ((if i.val = 63 then r else 0 : ℝ) : EReal)
  by_cases e : i.val = 63
  · rw [if_pos e]
    refine (pad_apply_of_inside ![0, 63] ![0, 0] ![0, 0] z v hp hu (ix2 h i) (ix2 h 0) fun k => ?_).trans (hz 0)
    match k with
    | ⟨0, _⟩ => show h.val = 0 + h.val * (0 + 1); omega
    | ⟨1, _⟩ => show i.val = 63 + 0 * (0 + 1); omega
  · rw [if_neg e]
    refine (pad_apply_of_not_inside ![0, 63] ![0, 0] ![0, 0] z v hp hu (ix2 h i) (1 : Fin 2) ?_).trans ((hv _).trans EReal.coe_zero.symm)
    intro hh
    have h1 : 63 ≤ i.val := hh.1
    omega

theorem HVec.toNum {z : (⟨2, ![n, 1]⟩ : Shape).Idx → EReal} {r : ℝ} (hc : Shape.ShapeCasts (⟨2, ![n, 1]⟩ : Shape) ⟨1, ![n]⟩)
    (hz : HVec h z (fun _ => r)) : HNum h (shapeCast ⟨1, ![n]⟩ z hc) r :=
  (shapeCast_apply z hc (ix1 h) (ix2 h 0) (by
    rw [Shape.rowMajor_val_two, Shape.rowMajor_val_one]
    show h.val * 1 + 0 = h.val
    omega)).trans (hz 0)

end Rank2

section Rank1
variable {x y : (⟨1, ![n]⟩ : Shape).Idx → EReal} {r s : ℝ}

theorem HNum.mul (hx : HNum h x r) (hy : HNum h y s) : HNum h (mulf (F := Ideal) (φ := .f32) x y) (r * s) := by
  show mulf (F := Ideal) (φ := .f32) x y (ix1 h) = _
  rw [mulf_apply, hx, hy, ← EReal.coe_mul]

theorem HNum.exp (hx : HNum h x r) : HNum h (Host.exp (F := Ideal) (φ := .f32) x) (Real.exp r) := by
  show Ideal.exp (x (ix1 h)) = _
  rw [hx, coe_exp]

theorem HNum.vec (hn : n ≠ 1) (hb : (⟨1, ![n]⟩ : Shape).BroadcastsInDim ⟨2, ![n, 1]⟩ ![0]) (hx : HNum h x r) :
    HVec h (broadcastInDim ⟨2, ![n, 1]⟩ ![0] hb x) (fun _ => r) := fun i =>
  (broadcastInDim_apply ![0] hb x (ix2 h i) (ix1 h) fun k => by
    match k with
    | ⟨0, _⟩ => exact (if_neg hn).symm).trans hx

theorem HNum.mat (hn : n ≠ 1) (hb : (⟨1, ![n]⟩ : Shape).BroadcastsInDim ⟨3, ![n, 1, 1]⟩ ![0]) (hx : HNum h x r) :
    HMat h (broadcastInDim ⟨3, ![n, 1, 1]⟩ ![0] hb x) (fun _ _ => r) := fun i j =>
  (broadcastInDim_apply ![0] hb x (ix3 h i j) (ix1 h) fun k => by
    match k with
    | ⟨0, _⟩ => exact (if_neg hn).symm).trans hx

theorem HNum.castVec (hc : Shape.ShapeCasts (⟨1, ![n]⟩ : Shape) ⟨2, ![n, 1]⟩) (hx : HNum h x r) :
    HVec h (shapeCast ⟨2, ![n, 1]⟩ x hc) (fun _ => r) := fun i =>
  (shapeCast_apply x hc (ix2 h i) (ix1 h) (by
    rw [Shape.rowMajor_val_two, Shape.rowMajor_val_one]
    have := i.isLt
    show h.val = h.val * 1 + i.val
    omega)).trans hx

theorem HNum.castMat (hc : Shape.ShapeCasts (⟨1, ![n]⟩ : Shape) ⟨3, ![n, 1, 1]⟩) (hx : HNum h x r) :
    HMat h (shapeCast ⟨3, ![n, 1, 1]⟩ x hc) (fun _ _ => r) := fun i j =>
  (shapeCast_apply x hc (ix3 h i j) (ix1 h) (by
    rw [Shape.rowMajor_val_three, Shape.rowMajor_val_one]
    have := i.isLt
    have := j.isLt
    show h.val = (h.val * 1 + i.val) * 1 + j.val
    omega)).trans hx

end Rank1

/-- A column repeated along the rows of every head. -/
theorem HMat.spreadCol {x : (⟨3, ![n, a, 1]⟩ : Shape).Idx → EReal} {M : Matrix (Fin a) (Fin 1) ℝ} (hn : n ≠ 1) (ha : a ≠ 1)
    (hb : (⟨3, ![n, a, 1]⟩ : Shape).BroadcastsInDim ⟨3, ![n, a, b]⟩ ![0, 1, 2]) (hx : HMat h x M) :
    HMat h (broadcastInDim ⟨3, ![n, a, b]⟩ ![0, 1, 2] hb x) (fun i _ => M i 0) := fun i j =>
  (broadcastInDim_apply ![0, 1, 2] hb x (ix3 h i j) (ix3 h i 0) fun k => by
    match k with
    | ⟨0, _⟩ => exact (if_neg hn).symm
    | ⟨1, _⟩ => exact (if_neg ha).symm
    | ⟨2, _⟩ => rfl).trans (hx i 0)

/-- A row repeated down the columns of every head. -/
theorem HMat.spreadRow {x : (⟨3, ![n, 1, b]⟩ : Shape).Idx → EReal} {M : Matrix (Fin 1) (Fin b) ℝ} (hn : n ≠ 1) (hb' : b ≠ 1)
    (hb : (⟨3, ![n, 1, b]⟩ : Shape).BroadcastsInDim ⟨3, ![n, a, b]⟩ ![0, 1, 2]) (hx : HMat h x M) :
    HMat h (broadcastInDim ⟨3, ![n, a, b]⟩ ![0, 1, 2] hb x) (fun _ j => M 0 j) := fun i j =>
  (broadcastInDim_apply ![0, 1, 2] hb x (ix3 h i j) (ix3 h 0 j) fun k => by
    match k with
    | ⟨0, _⟩ => exact (if_neg hn).symm
    | ⟨1, _⟩ => rfl
    | ⟨2, _⟩ => exact (if_neg hb').symm).trans (hx 0 j)

/-- One number per head repeated over a matrix. -/
theorem HMat.spreadOne {x : (⟨3, ![n, 1, 1]⟩ : Shape).Idx → EReal} {M : Matrix (Fin 1) (Fin 1) ℝ} (hn : n ≠ 1)
    (hb : (⟨3, ![n, 1, 1]⟩ : Shape).BroadcastsInDim ⟨3, ![n, a, b]⟩ ![0, 1, 2]) (hx : HMat h x M) :
    HMat h (broadcastInDim ⟨3, ![n, a, b]⟩ ![0, 1, 2] hb x) (fun _ _ => M 0 0) := fun i j =>
  (broadcastInDim_apply ![0, 1, 2] hb x (ix3 h i j) (ix3 h 0 0) fun k => by
    match k with
    | ⟨0, _⟩ => exact (if_neg hn).symm
    | ⟨1, _⟩ => rfl
    | ⟨2, _⟩ => rfl).trans (hx 0 0)

/-- A mask repeated for every head. -/
theorem mask_head {α : Type} (x : (⟨2, ![a, b]⟩ : Shape).Idx → α) (ha : a ≠ 1) (hb' : b ≠ 1)
    (hb : (⟨2, ![a, b]⟩ : Shape).BroadcastsInDim ⟨3, ![n, a, b]⟩ ![1, 2]) (i : Fin a) (j : Fin b) :
    broadcastInDim ⟨3, ![n, a, b]⟩ ![1, 2] hb x (ix3 h i j) = x (ix2 i j) :=
  broadcastInDim_apply ![1, 2] hb x (ix3 h i j) (ix2 i j) fun k => by
    match k with
    | ⟨0, _⟩ => exact (if_neg ha).symm
    | ⟨1, _⟩ => exact (if_neg hb').symm

/-- A sum over an axis of one entry. -/
theorem HMat.sumOneCol {x : (⟨3, ![n, a, 1]⟩ : Shape).Idx → EReal} {f : Fin a → ℝ} {u : Shape} {v : u.Idx → EReal} (hv : ∀ k, v k = 0)
    (hr : (⟨3, ![n, a, 1]⟩ : Shape).ReducesTo [2] ⟨2, ![n, a]⟩) (hu : 0 < u.numel) (hx : HMat h x (fun i _ => f i)) :
    HVec h (Host.reduceAdd (F := Ideal) (φ := .f32) x v hr hu) f :=
  (hx.sumRows hv hr hu).congr fun i => Fin.sum_univ_one _

theorem HMat.sumOneRow {x : (⟨3, ![n, 1, b]⟩ : Shape).Idx → EReal} {f : Fin b → ℝ} {u : Shape} {v : u.Idx → EReal} (hv : ∀ k, v k = 0)
    (hr : (⟨3, ![n, 1, b]⟩ : Shape).ReducesTo [1] ⟨2, ![n, b]⟩) (hu : 0 < u.numel) (hx : HMat h x (fun _ j => f j)) :
    HVec h (Host.reduceAdd (F := Ideal) (φ := .f32) x v hr hu) f :=
  (hx.sumCols hv hr hu).congr fun i => Fin.sum_univ_one _

theorem HMat.sumOne {x : (⟨3, ![n, 1, 1]⟩ : Shape).Idx → EReal} {r : ℝ} {u : Shape} {v : u.Idx → EReal} (hv : ∀ k, v k = 0)
    (hr : (⟨3, ![n, 1, 1]⟩ : Shape).ReducesTo [1, 2] ⟨1, ![n]⟩) (hu : 0 < u.numel) (hx : HMat h x (fun _ _ => r)) :
    HNum h (Host.reduceAdd (F := Ideal) (φ := .f32) x v hr hu) r := by
  have := hx.sumAll hv hr hu
  rwa [Fin.sum_univ_one, Fin.sum_univ_one] at this

end

/-! ## Products, head by head -/

section Products
variable {n a b c : ℕ} {h : Fin n}

/-- Rows of the left operand times columns of the right one. -/
theorem HMat.dotNN {φ₁ φ₂ : FTy} {D : DotDims (⟨3, ![n, a, c]⟩ : Shape) ⟨3, ![n, c, b]⟩ ⟨3, ![n, a, b]⟩} {wf}
    (hD : D = ⟨[2], [1], [1], [2], [0], [0], wf⟩)
    {x : FVec Ideal ⟨3, ![n, a, c]⟩ φ₁} {y : FVec Ideal ⟨3, ![n, c, b]⟩ φ₂} {M N} (hx : HMat h x M) (hy : HMat h y N) :
    HMat h (Host.dotGeneral (F := Ideal) D none x y) (M * N) := fun i j => by
  subst hD
  refine (Ideal.dotGeneral_apply _ none _ x y (ix3 h i j)).trans ?_
  refine dot_read _ c rfl rfl x y (ix3 h i j) (fun k => M i k) (fun k => N k j) (fun k => ?_) (fun k => ?_)
  · refine (congrArg x ?_).trans (hx i k)
    funext e; apply Fin.ext
    match e with
    | ⟨0, _⟩ => rfl
    | ⟨1, _⟩ => rfl
    | ⟨2, _⟩ => exact contrEquiv1_symm_val (DotDims.mk [2] [1] [1] [2] [0] [0] wf) c rfl rfl k
  · refine (congrArg y ?_).trans (hy k j)
    funext e; apply Fin.ext
    match e with
    | ⟨0, _⟩ => rfl
    | ⟨1, _⟩ => exact contrEquiv1_symm_val (DotDims.mk [2] [1] [1] [2] [0] [0] wf) c rfl rfl k
    | ⟨2, _⟩ => rfl

/-- Rows of the left operand times rows of the right one. -/
theorem HMat.dotNT {φ₁ φ₂ : FTy} {D : DotDims (⟨3, ![n, a, c]⟩ : Shape) ⟨3, ![n, b, c]⟩ ⟨3, ![n, a, b]⟩} {wf}
    (hD : D = ⟨[2], [2], [1], [1], [0], [0], wf⟩)
    {x : FVec Ideal ⟨3, ![n, a, c]⟩ φ₁} {y : FVec Ideal ⟨3, ![n, b, c]⟩ φ₂} {M N} (hx : HMat h x M) (hy : HMat h y N) :
    HMat h (Host.dotGeneral (F := Ideal) D none x y) (M * Nᵀ) := fun i j => by
  subst hD
  refine (Ideal.dotGeneral_apply _ none _ x y (ix3 h i j)).trans ?_
  refine dot_read _ c rfl rfl x y (ix3 h i j) (fun k => M i k) (fun k => N j k) (fun k => ?_) (fun k => ?_)
  · refine (congrArg x ?_).trans (hx i k)
    funext e; apply Fin.ext
    match e with
    | ⟨0, _⟩ => rfl
    | ⟨1, _⟩ => rfl
    | ⟨2, _⟩ => exact contrEquiv1_symm_val (DotDims.mk [2] [2] [1] [1] [0] [0] wf) c rfl rfl k
  · refine (congrArg y ?_).trans (hy j k)
    funext e; apply Fin.ext
    match e with
    | ⟨0, _⟩ => rfl
    | ⟨1, _⟩ => rfl
    | ⟨2, _⟩ => exact contrEquiv1_symm_val (DotDims.mk [2] [2] [1] [1] [0] [0] wf) c rfl rfl k

/-- Columns of the left operand times columns of the right one. -/
theorem HMat.dotTN {φ₁ φ₂ : FTy} {D : DotDims (⟨3, ![n, c, a]⟩ : Shape) ⟨3, ![n, c, b]⟩ ⟨3, ![n, a, b]⟩} {wf}
    (hD : D = ⟨[1], [1], [2], [2], [0], [0], wf⟩)
    {x : FVec Ideal ⟨3, ![n, c, a]⟩ φ₁} {y : FVec Ideal ⟨3, ![n, c, b]⟩ φ₂} {M N} (hx : HMat h x M) (hy : HMat h y N) :
    HMat h (Host.dotGeneral (F := Ideal) D none x y) (Mᵀ * N) := fun i j => by
  subst hD
  refine (Ideal.dotGeneral_apply _ none _ x y (ix3 h i j)).trans ?_
  refine dot_read _ c rfl rfl x y (ix3 h i j) (fun k => M k i) (fun k => N k j) (fun k => ?_) (fun k => ?_)
  · refine (congrArg x ?_).trans (hx k i)
    funext e; apply Fin.ext
    match e with
    | ⟨0, _⟩ => rfl
    | ⟨1, _⟩ => exact contrEquiv1_symm_val (DotDims.mk [1] [1] [2] [2] [0] [0] wf) c rfl rfl k
    | ⟨2, _⟩ => rfl
  · refine (congrArg y ?_).trans (hy k j)
    funext e; apply Fin.ext
    match e with
    | ⟨0, _⟩ => rfl
    | ⟨1, _⟩ => exact contrEquiv1_symm_val (DotDims.mk [1] [1] [2] [2] [0] [0] wf) c rfl rfl k
    | ⟨2, _⟩ => rfl

/-- Columns of the left operand times rows of the right one. -/
theorem HMat.dotTT {φ₁ φ₂ : FTy} {D : DotDims (⟨3, ![n, c, a]⟩ : Shape) ⟨3, ![n, b, c]⟩ ⟨3, ![n, a, b]⟩} {wf}
    (hD : D = ⟨[1], [2], [2], [1], [0], [0], wf⟩)
    {x : FVec Ideal ⟨3, ![n, c, a]⟩ φ₁} {y : FVec Ideal ⟨3, ![n, b, c]⟩ φ₂} {M N} (hx : HMat h x M) (hy : HMat h y N) :
    HMat h (Host.dotGeneral (F := Ideal) D none x y) (Mᵀ * Nᵀ) := fun i j => by
  subst hD
  refine (Ideal.dotGeneral_apply _ none _ x y (ix3 h i j)).trans ?_
  refine dot_read _ c rfl rfl x y (ix3 h i j) (fun k => M k i) (fun k => N j k) (fun k => ?_) (fun k => ?_)
  · refine (congrArg x ?_).trans (hx k i)
    funext e; apply Fin.ext
    match e with
    | ⟨0, _⟩ => rfl
    | ⟨1, _⟩ => exact contrEquiv1_symm_val (DotDims.mk [1] [2] [2] [1] [0] [0] wf) c rfl rfl k
    | ⟨2, _⟩ => rfl
  · refine (congrArg y ?_).trans (hy j k)
    funext e; apply Fin.ext
    match e with
    | ⟨0, _⟩ => rfl
    | ⟨1, _⟩ => rfl
    | ⟨2, _⟩ => exact contrEquiv1_symm_val (DotDims.mk [1] [2] [2] [1] [0] [0] wf) c rfl rfl k

end Products

/-! ## Heads cut out of rows of 512 lanes, and put back -/

section Heads
variable {h : Fin 4}

/-- Head `h` of a 64 × 512 matrix: its lanes `128 h …`. -/
def headCols (M : Matrix (Fin 64) (Fin 512) ℝ) (h : Fin 4) : Matrix (Fin 64) (Fin 128) ℝ :=
  fun i j => M i ⟨128 * h.val + j.val, by have := h.isLt; have := j.isLt; omega⟩

theorem Mat.heads {x : (⟨2, ![64, 512]⟩ : Shape).Idx → EReal} {M : Matrix (Fin 64) (Fin 512) ℝ}
    (hc : Shape.ShapeCasts (⟨2, ![64, 512]⟩ : Shape) ⟨3, ![64, 4, 128]⟩)
    (ht : Shape.Transposes (⟨3, ![64, 4, 128]⟩ : Shape) [1, 0, 2] ⟨3, ![4, 64, 128]⟩) (hx : Mat x M) :
    HMat h (transpose ⟨3, ![4, 64, 128]⟩ [1, 0, 2] (shapeCast ⟨3, ![64, 4, 128]⟩ x hc) ht) (headCols M h) := fun i j => by
  refine (transpose_apply [1, 0, 2] _ ht (ix3 h i j) (ix3 i h j) fun k => ?_).trans ?_
  · match k with
    | ⟨0, _⟩ => rfl
    | ⟨1, _⟩ => rfl
    | ⟨2, _⟩ => rfl
  refine (shapeCast_apply x hc (ix3 i h j) (ix2 i ⟨128 * h.val + j.val, by have := h.isLt; have := j.isLt; omega⟩) ?_).trans (hx _ _)
  rw [Shape.rowMajor_val_two, Shape.rowMajor_val_three]
  show i.val * 512 + (128 * h.val + j.val) = (i.val * 4 + h.val) * 128 + j.val
  omega

/-- Four heads side by side in rows of 512 lanes. -/
def joinCols (M : Fin 4 → Matrix (Fin 64) (Fin 128) ℝ) : Matrix (Fin 64) (Fin 512) ℝ :=
  fun i l => M ⟨l.val / 128, by have := l.isLt; omega⟩ i ⟨l.val % 128, Nat.mod_lt _ (by decide)⟩

theorem HMat.join {x : (⟨3, ![4, 64, 128]⟩ : Shape).Idx → EReal} {M : Fin 4 → Matrix (Fin 64) (Fin 128) ℝ}
    (ht : Shape.Transposes (⟨3, ![4, 64, 128]⟩ : Shape) [1, 0, 2] ⟨3, ![64, 4, 128]⟩)
    (hc : Shape.ShapeCasts (⟨3, ![64, 4, 128]⟩ : Shape) ⟨2, ![64, 512]⟩) (hx : ∀ h, HMat h x (M h)) :
    Mat (shapeCast ⟨2, ![64, 512]⟩ (transpose ⟨3, ![64, 4, 128]⟩ [1, 0, 2] x ht) hc) (joinCols M) := fun i l => by
  have hl := l.isLt
  refine (shapeCast_apply _ hc (ix2 i l) (ix3 i ⟨l.val / 128, by omega⟩ ⟨l.val % 128, Nat.mod_lt _ (by decide)⟩) ?_).trans ?_
  · rw [Shape.rowMajor_val_two, Shape.rowMajor_val_three]
    show (i.val * 4 + l.val / 128) * 128 + l.val % 128 = i.val * 512 + l.val
    omega
  refine (transpose_apply [1, 0, 2] x ht _ (ix3 ⟨l.val / 128, by omega⟩ i ⟨l.val % 128, Nat.mod_lt _ (by decide)⟩) fun k => ?_).trans (hx _ _ _)
  match k with
  | ⟨0, _⟩ => rfl
  | ⟨1, _⟩ => rfl
  | ⟨2, _⟩ => rfl

/-- Head `h`'s gate: lane `p + h` of a row of gates. -/
theorem Mat.gate {x : (⟨2, ![64, 128]⟩ : Shape).Idx → EReal} {M : Matrix (Fin 64) (Fin 128) ℝ} (p : ℕ) (hp : p + 4 ≤ 128)
    (hs : Shape.Slices (⟨2, ![64, 128]⟩ : Shape) ![0, p] ⟨2, ![64, 4]⟩)
    (ht : Shape.Transposes (⟨2, ![64, 4]⟩ : Shape) [1, 0] ⟨2, ![4, 64]⟩) (hx : Mat x M) :
    HVec h (transpose ⟨2, ![4, 64]⟩ [1, 0] (extractStridedSlice ⟨2, ![64, 4]⟩ ![0, p] x hs) ht)
      (fun i => M i ⟨p + h.val, by have := h.isLt; omega⟩) := fun i =>
  ((((hx.slice 0 p hs (by decide) hp).transp ht) h i).trans
    (congrArg (fun r : ℝ => (r : EReal)) (congrArg (fun k => M k _) (Fin.ext (Nat.zero_add _)))))

end Heads

end Delta

end
-- ==== Proof.Spec.lean ====
/-
  The gradient of one chunk of the recurrence, over the real numbers.

  `Head` holds what one head of one chunk is computed from, and the definitions after it are the gradient in the form both
  programs are compared with: products of matrices, entrywise products, row sums and column sums. `Head.dq`, `Head.dk`,
  `Head.dv`, `Head.dβ` and `Head.dg` are the gradients of the chunk's queries, keys, values and gates, and `Head.next` is the
  gradient of the state before the chunk. `inverse L` is the inverse of `1 + L`, less one, for a strictly lower triangular `L`.
-/
module

public import Mathlib.Data.Matrix.Mul
public import Mathlib.Analysis.SpecialFunctions.Exp
public import Mathlib.Tactic.Ring
public import Mathlib.Tactic.Abel
public import Mathlib.Tactic.NoncommRing

@[expose] public section

noncomputable section

namespace Delta

open scoped BigOperators Matrix

/-- One head of one chunk: `β` and `g` are the gates, `S` the state before the chunk, `D` the gradient of the state after it. -/
structure Head where
  q : Matrix (Fin 64) (Fin 128) ℝ
  k : Matrix (Fin 64) (Fin 128) ℝ
  v : Matrix (Fin 64) (Fin 128) ℝ
  dO : Matrix (Fin 64) (Fin 128) ℝ
  β : Fin 64 → ℝ
  g : Fin 64 → ℝ
  S : Matrix (Fin 128) (Fin 128) ℝ
  D : Matrix (Fin 128) (Fin 128) ℝ

/-- `n` rounds of substitution for `X = -(L + L X)`, from zero. -/
def rounds (L : Matrix (Fin 64) (Fin 64) ℝ) : ℕ → Matrix (Fin 64) (Fin 64) ℝ
  | 0 => 0
  | n + 1 => -(L + L * rounds L n)

/-- One plus `n` rounds of substitution is the sum of the first `n + 1` powers of `-L`. -/
theorem rounds_eq (L : Matrix (Fin 64) (Fin 64) ℝ) (n : ℕ) : 1 + rounds L n = ∑ k ∈ Finset.range (n + 1), (-L) ^ k := by
  induction n with
  | zero => simp [rounds]
  | succ n ih =>
    rw [Finset.sum_range_succ', pow_zero, add_comm]
    congr 1
    have : rounds L (n + 1) = (-L) * (1 + rounds L n) := by rw [rounds]; noncomm_ring
    rw [this, ih, Finset.mul_sum]
    exact Finset.sum_congr rfl fun k _ => (pow_succ' _ _).symm

/-- Twice as many terms of the series: `1 + x + p + x p = (1 + x) (1 + p)`. -/
theorem rounds_double (L : Matrix (Fin 64) (Fin 64) ℝ) (n : ℕ) (hn : Even (n + 1)) :
    rounds L n + L ^ (n + 1) + rounds L n * L ^ (n + 1) = rounds L (2 * n + 1) := by
  have h := rounds_eq L n
  have h2 := rounds_eq L (2 * n + 1)
  have hs : ∑ k ∈ Finset.range (2 * n + 1 + 1), (-L) ^ k = (∑ k ∈ Finset.range (n + 1), (-L) ^ k) * (1 + (-L) ^ (n + 1)) := by
    have : 2 * n + 1 + 1 = (n + 1) + (n + 1) := by omega
    rw [this, Finset.sum_range_add, mul_add, mul_one, Finset.sum_mul]
    congr 1
    exact Finset.sum_congr rfl fun k _ => by rw [← pow_add, add_comm]
  rw [hs, ← h, hn.neg_pow] at h2
  have : rounds L (2 * n + 1) = (1 + rounds L n) * (1 + L ^ (n + 1)) - 1 := by rw [← h2]; abel
  rw [this]; noncomm_ring

/-- The inverse of `1 + L`, less one: each round settles one more row. -/
def inverse (L : Matrix (Fin 64) (Fin 64) ℝ) : Matrix (Fin 64) (Fin 64) ℝ := rounds L 63

/-- Each row of `M` times that row's number. -/
def scale {a b : ℕ} (M : Matrix (Fin a) (Fin b) ℝ) (r : Fin a → ℝ) : Matrix (Fin a) (Fin b) ℝ := fun i j => M i j * r i

namespace Head
variable (c : Head)

def eg : Fin 64 → ℝ := fun i => Real.exp (c.g i)
def eTail : Fin 64 → ℝ := fun i => Real.exp (c.g 63 - c.g i)
def eEnd : ℝ := Real.exp (c.g 63)
/-- The decay from row `j` to row `i`, on and below the diagonal. -/
def dec : Matrix (Fin 64) (Fin 64) ℝ := fun i j => if j.val ≤ i.val then Real.exp (c.g i - c.g j) else 0
def kb : Matrix (Fin 64) (Fin 128) ℝ := scale c.k c.β
def vb : Matrix (Fin 64) (Fin 128) ℝ := scale c.v c.β
def kbg : Matrix (Fin 64) (Fin 128) ℝ := scale c.kb c.eg
def qDec : Matrix (Fin 64) (Fin 128) ℝ := scale c.q c.eg
def kDec : Matrix (Fin 64) (Fin 128) ℝ := scale c.k c.eTail
def low : Matrix (Fin 64) (Fin 64) ℝ := fun i j => if j.val < i.val then (c.kb * c.kᵀ) i j * c.dec i j else 0
def qk : Matrix (Fin 64) (Fin 64) ℝ := fun i j => (c.q * c.kᵀ) i j * c.dec i j
/-- The inverse that solves the chunk's triangular system, less one. -/
def X : Matrix (Fin 64) (Fin 64) ℝ := inverse c.low
def u : Matrix (Fin 64) (Fin 128) ℝ := c.vb + c.X * c.vb
def w : Matrix (Fin 64) (Fin 128) ℝ := c.kbg + c.X * c.kbg
def dqDec : Matrix (Fin 64) (Fin 128) ℝ := c.dO * c.Sᵀ
def vNew : Matrix (Fin 64) (Fin 128) ℝ := c.u - c.w * c.S
def dqk : Matrix (Fin 64) (Fin 64) ℝ := fun i j => if j.val ≤ i.val then (c.dO * c.vNewᵀ) i j else 0
def dkDec : Matrix (Fin 64) (Fin 128) ℝ := c.vNew * c.Dᵀ
def dvNew : Matrix (Fin 64) (Fin 128) ℝ := c.qkᵀ * c.dO + c.kDec * c.D
def dw : Matrix (Fin 64) (Fin 128) ℝ := -(c.dvNew * c.Sᵀ)
def next : Matrix (Fin 128) (Fin 128) ℝ := c.eEnd • c.D + c.qDecᵀ * c.dO - c.wᵀ * c.dvNew
def dt : Matrix (Fin 64) (Fin 64) ℝ := c.dvNew * c.vbᵀ + c.dw * c.kbgᵀ
def dvb : Matrix (Fin 64) (Fin 128) ℝ := c.dvNew + c.Xᵀ * c.dvNew
def dkbg : Matrix (Fin 64) (Fin 128) ℝ := c.dw + c.Xᵀ * c.dw
def y : Matrix (Fin 64) (Fin 64) ℝ := c.dt + c.Xᵀ * c.dt
def dlow : Matrix (Fin 64) (Fin 64) ℝ := fun i j => if j.val < i.val then -(c.y + c.y * c.Xᵀ) i j else 0
def dmm : Matrix (Fin 64) (Fin 64) ℝ := fun i j => c.dlow i j * c.dec i j
def dnn : Matrix (Fin 64) (Fin 64) ℝ := fun i j => c.dqk i j * c.dec i j
def dkb : Matrix (Fin 64) (Fin 128) ℝ := c.dmm * c.k + scale c.dkbg c.eg
def dq : Matrix (Fin 64) (Fin 128) ℝ := c.dnn * c.k + scale c.dqDec c.eg
def dk : Matrix (Fin 64) (Fin 128) ℝ := c.dmmᵀ * c.kb + c.dnnᵀ * c.q + scale c.dkDec c.eTail + scale c.dkb c.β
def dv : Matrix (Fin 64) (Fin 128) ℝ := scale c.dvb c.β
def dβ : Fin 64 → ℝ := fun i => ∑ j, (c.dkb i j * c.k i j + c.dvb i j * c.v i j)
def e : Matrix (Fin 64) (Fin 64) ℝ := fun i j => c.dlow i j * c.low i j + c.dqk i j * c.qk i j
def kd : Fin 64 → ℝ := fun i => ∑ j, c.dkDec i j * c.kDec i j
def total : ℝ := ∑ i, ∑ j, c.D i j * c.S i j
def dg : Fin 64 → ℝ := fun i =>
  ∑ j, c.e i j - ∑ j, c.e j i + ∑ j, c.dqDec i j * c.qDec i j - c.kd i + ∑ j, c.dkbg i j * c.kbg i j
    + (if i.val = 63 then ∑ k, c.kd k + c.total * c.eEnd else 0)

/-- The gradient of a triangular solve, written with the solution: `(1 + Xᵀ) d (solution)ᵀ` is `y (1 + Xᵀ)`. -/
theorem y_solution : c.dvb * c.uᵀ + c.dkbg * c.wᵀ = c.y + c.y * c.Xᵀ := by
  unfold dvb u dkbg w y dt
  simp only [Matrix.transpose_add, Matrix.transpose_mul, Matrix.add_mul, Matrix.mul_add, Matrix.mul_assoc]
  abel

end Head

end Delta

end
-- ==== Proof.Sequence.lean ====
/-
  The gradient of the whole sequence, over the real numbers: 128 chunks of 64 rows, the state's gradient carried from the last chunk back to
  the first. `headAt d n h` is what chunk `n` computes for head `h`, and `wholeRows` lays the chunks' results one under the other.
-/
module

public import proofs.«01_k».proof.Proof.RepHost
public import proofs.«01_k».proof.Proof.Spec

@[expose] public section

set_option maxRecDepth 16384

noncomputable section

namespace Delta

open Idealize.ShloMosaic hiding ix0 ix1 ix2 ix3 ix4 ix5
open Idealize.ShloMosaic.ValueIdx

/-- The gradients of the gates of four heads, as a row of 128 lanes. -/
def gateCols (H : Fin 4 → Head) : Matrix (Fin 64) (Fin 128) ℝ := fun i l =>
  if h : l.val < 4 then (H ⟨l.val, h⟩).dβ i else if h : l.val < 8 then (H ⟨l.val - 4, by omega⟩).dg i else 0

/-- One chunk of the sequence: lanes `h` and `4 + h` of `bg` are head `h`'s two gates. -/
structure Chunk where
  q : Matrix (Fin 64) (Fin 512) ℝ
  k : Matrix (Fin 64) (Fin 512) ℝ
  v : Matrix (Fin 64) (Fin 512) ℝ
  dO : Matrix (Fin 64) (Fin 512) ℝ
  bg : Matrix (Fin 64) (Fin 128) ℝ
  S : Fin 4 → Matrix (Fin 128) (Fin 128) ℝ

/-- One head of a chunk, `D` the gradient of the state after it. -/
def Chunk.head (c : Chunk) (h : Fin 4) (D : Matrix (Fin 128) (Fin 128) ℝ) : Head where
  q := headCols c.q h
  k := headCols c.k h
  v := headCols c.v h
  dO := headCols c.dO h
  β := fun i => c.bg i ⟨h.val, by have := h.isLt; omega⟩
  g := fun i => c.bg i ⟨4 + h.val, by have := h.isLt; omega⟩
  S := c.S h
  D := D

/-- The chunk `j` places before the last. -/
def back (j : ℕ) : Fin 128 := ⟨127 - j, by omega⟩

/-- The gradient of the state once the last `j` chunks are done. -/
def gradState (d : Fin 128 → Chunk) : ℕ → Fin 4 → Matrix (Fin 128) (Fin 128) ℝ
  | 0 => fun _ => 0
  | j + 1 => fun h => ((d (back j)).head h (gradState d j h)).next

/-- Head `h` of chunk `n`. -/
def headAt (d : Fin 128 → Chunk) (n : Fin 128) (h : Fin 4) : Head := (d n).head h (gradState d (127 - n.val) h)

theorem gradState_succ (d : Fin 128 → Chunk) (j : ℕ) (h : Fin 4) :
    gradState d (j + 1) h = ((d (back j)).head h (gradState d j h)).next := rfl

theorem headAt_back (d : Fin 128 → Chunk) (j : ℕ) (hj : j < 128) (h : Fin 4) :
    headAt d (back j) h = (d (back j)).head h (gradState d j h) := by
  unfold headAt back
  rw [show 127 - (127 - j) = j by omega]

/-- Chunk results one under the other. -/
def wholeRows {w : ℕ} (G : Fin 128 → Matrix (Fin 64) (Fin w) ℝ) : Matrix (Fin 8192) (Fin w) ℝ := fun r l =>
  G ⟨r.val / 64, by have := r.isLt; omega⟩ ⟨r.val % 64, Nat.mod_lt _ (by decide)⟩ l

theorem wholeRows_at {w : ℕ} (G : Fin 128 → Matrix (Fin 64) (Fin w) ℝ) (n : Fin 128) (i : Fin 64) (r : Fin 8192) (l : Fin w)
    (hr : r.val = 64 * n.val + i.val) : wholeRows G r l = G n i l := by
  have hi := i.isLt
  have e1 : ∀ h, (⟨r.val / 64, h⟩ : Fin 128) = n := fun h => Fin.ext (by show r.val / 64 = n.val; omega)
  have e2 : ∀ h, (⟨r.val % 64, h⟩ : Fin 64) = i := fun h => Fin.ext (by show r.val % 64 = i.val; omega)
  unfold wholeRows
  rw [e1, e2]

/-- The four results. -/
def dqRows (d : Fin 128 → Chunk) (n : Fin 128) : Matrix (Fin 64) (Fin 512) ℝ := joinCols fun h => (headAt d n h).dq
def dkRows (d : Fin 128 → Chunk) (n : Fin 128) : Matrix (Fin 64) (Fin 512) ℝ := joinCols fun h => (headAt d n h).dk
def dvRows (d : Fin 128 → Chunk) (n : Fin 128) : Matrix (Fin 64) (Fin 512) ℝ := joinCols fun h => (headAt d n h).dv
def dbgRows (d : Fin 128 → Chunk) (n : Fin 128) : Matrix (Fin 64) (Fin 128) ℝ := gateCols (headAt d n)

/-- Real data for the six arguments. -/
structure Data where
  q : Matrix (Fin 8192) (Fin 512) ℝ
  k : Matrix (Fin 8192) (Fin 512) ℝ
  v : Matrix (Fin 8192) (Fin 512) ℝ
  dO : Matrix (Fin 8192) (Fin 512) ℝ
  bg : Matrix (Fin 8192) (Fin 128) ℝ
  S : Fin 128 → Fin 4 → Matrix (Fin 128) (Fin 128) ℝ

/-- Six arrays that hold the data. -/
structure Data.On (d : Data) (q k v : (⟨2, ![8192, 512]⟩ : Shape).Idx → EReal) (bg : (⟨2, ![8192, 128]⟩ : Shape).Idx → EReal)
    (S : (⟨4, ![128, 4, 128, 128]⟩ : Shape).Idx → EReal) (dO : (⟨2, ![8192, 512]⟩ : Shape).Idx → EReal) : Prop where
  q : Mat q d.q
  k : Mat k d.k
  v : Mat v d.v
  bg : Mat bg d.bg
  S : ∀ n h i j, S (ix4 n h i j) = ((d.S n h i j : ℝ) : EReal)
  dO : Mat dO d.dO

/-- Row `i` of chunk `n`. -/
def rowOf (n : Fin 128) (i : Fin 64) : Fin 8192 := ⟨64 * n.val + i.val, by have := n.isLt; have := i.isLt; omega⟩

/-- The chunks of the data. -/
def Data.chunk (d : Data) (n : Fin 128) : Chunk where
  q i := d.q (rowOf n i)
  k i := d.k (rowOf n i)
  v i := d.v (rowOf n i)
  dO i := d.dO (rowOf n i)
  bg i := d.bg (rowOf n i)
  S := d.S n

end Delta

end
-- ==== Proof.TileRead.lean ====
/-
  The kernel's work on one head of one chunk, read as real matrices: each value of `Tile` holds the matrix that `Head` names.
-/
module

public import proofs.«01_k».proof.Proof.Rep
public import proofs.«01_k».proof.Proof.Tile
public import proofs.«01_k».proof.Proof.Spec

@[expose] public section

set_option maxRecDepth 16384

noncomputable section

namespace Delta

open Idealize.ShloMosaic Idealize.ShloMosaic.ValueIdx
open scoped BigOperators Matrix

/-! ## The masks -/

theorem causal_iff : ∀ i j : Fin 64, causal (ix2 i j) = 1#1 ↔ j.val ≤ i.val := by decide +kernel
theorem strict_iff : ∀ i j : Fin 64, strict (ix2 i j) = 1#1 ↔ j.val < i.val := by decide +kernel
theorem lastRow_iff : ∀ (i : Fin 64) (j : Fin 1), lastRow (ix2 i j) = 1#1 ↔ i.val = 63 := by decide +kernel

/-- The number that stands for minus infinity is a real number. -/
theorem mask_real : ∃ r : ℝ, Ideal.ofBits .f32 0xF149F2CA#32 = ((r : ℝ) : EReal) := by
  refine ⟨-(13234890 * 2 ^ 76), ?_⟩
  simp [Ideal.ofBits, Ideal.ieee]

/-! ## Matrices side by side and one above the other -/

section Blocks
variable {a b b' n m : ℕ}

theorem mul_hcat_left (A : Matrix (Fin a) (Fin n) ℝ) (M : Matrix (Fin n) (Fin b) ℝ) (N : Matrix (Fin n) (Fin b') ℝ) (i : Fin a) (j : Fin b) :
    (A * hcat M N) i (Fin.castAdd b' j) = (A * M) i j := by
  simp only [Matrix.mul_apply, hcat, Fin.addCases_left]

theorem mul_hcat_right (A : Matrix (Fin a) (Fin n) ℝ) (M : Matrix (Fin n) (Fin b) ℝ) (N : Matrix (Fin n) (Fin b') ℝ) (i : Fin a) (j : Fin b') :
    (A * hcat M N) i (Fin.natAdd b j) = (A * N) i j := by
  simp only [Matrix.mul_apply, hcat, Fin.addCases_right]

theorem hcat_mul_hcat (M : Matrix (Fin a) (Fin b) ℝ) (N : Matrix (Fin a) (Fin b') ℝ) (P : Matrix (Fin n) (Fin b) ℝ)
    (Q : Matrix (Fin n) (Fin b') ℝ) : hcat M N * (hcat P Q)ᵀ = M * Pᵀ + N * Qᵀ := by
  ext i j
  refine (Fin.sum_univ_add _).trans ?_
  simp only [Matrix.transpose_apply, hcat, Fin.addCases_left, Fin.addCases_right]
  rfl

theorem vcat_mul_top (M : Matrix (Fin b) (Fin n) ℝ) (N : Matrix (Fin b') (Fin n) ℝ) (A : Matrix (Fin n) (Fin a) ℝ) (i : Fin b) (j : Fin a) :
    (vcat M N * A) (Fin.castAdd b' i) j = (M * A) i j := by
  simp only [Matrix.mul_apply, vcat, Fin.addCases_left]

theorem vcat_mul_bottom (M : Matrix (Fin b) (Fin n) ℝ) (N : Matrix (Fin b') (Fin n) ℝ) (A : Matrix (Fin n) (Fin a) ℝ) (i : Fin b') (j : Fin a) :
    (vcat M N * A) (Fin.natAdd b i) j = (N * A) i j := by
  simp only [Matrix.mul_apply, vcat, Fin.addCases_right]

theorem vcat_mul_vcat (M : Matrix (Fin b) (Fin a) ℝ) (N : Matrix (Fin b') (Fin a) ℝ) (P : Matrix (Fin b) (Fin n) ℝ)
    (Q : Matrix (Fin b') (Fin n) ℝ) : (vcat M N)ᵀ * vcat P Q = Mᵀ * P + Nᵀ * Q := by
  ext i j
  refine (Fin.sum_univ_add _).trans ?_
  simp only [Matrix.transpose_apply, vcat, Fin.addCases_left, Fin.addCases_right]
  rfl

end Blocks

/-! ## The named operations -/

section Named
variable {x y : V Ideal 64 128} {M N : Matrix (Fin 64) (Fin 128) ℝ}

theorem Mat.nil (a b : ℕ) : Mat (Delta.nil (F := Ideal) a b) (fun _ _ => 0) := Mat.zero

theorem Mat.bf {a b : ℕ} {x : V Ideal a b} {M} (hx : Mat x M) : Mat (Delta.bf x) M := hx

theorem Mat.lanes {x : V Ideal 64 1} {r : Fin 64 → ℝ} (hx : Mat x (fun i _ => r i)) : Mat (Delta.lanes x) (fun i _ => r i) :=
  hx.spreadCol (by decide) _

theorem Mat.scale {r : V Ideal 64 1} {f : Fin 64 → ℝ} (hx : Mat x M) (hr : Mat r (fun i _ => f i)) :
    Mat (mulf x (Delta.lanes r)) (Delta.scale M f) := hx.mul hr.lanes

theorem Mat.sumLanes (hx : Mat x M) : Mat (Delta.sumLanes x) (fun i _ => ∑ k, M i k) := hx.rowSum _ _ _ _

theorem Mat.sumRow {x : V Ideal 64 64} {M : Matrix (Fin 64) (Fin 64) ℝ} (hx : Mat x M) : Mat (Delta.sumRow x) (fun i _ => ∑ k, M i k) :=
  hx.rowSum _ _ _ _

theorem Mat.byState {s : V Ideal 128 128} {S : Matrix (Fin 128) (Fin 128) ℝ} (hx : Mat x M) (hs : Mat s S) :
    Mat (Delta.byState x s) (M * S) := Mat.dotNN rfl hx.bf hs.bf

theorem Mat.byStateT {s : V Ideal 128 128} {S : Matrix (Fin 128) (Fin 128) ℝ} (hx : Mat x M) (hs : Mat s S) :
    Mat (Delta.byStateT x s) (M * Sᵀ) := Mat.dotNT rfl hx.bf hs.bf

theorem Mat.outer (hx : Mat x M) (hy : Mat y N) : Mat (Delta.outer x y) (Mᵀ * N) := Mat.dotTN rfl hx.bf hy.bf

theorem Mat.beside (hx : Mat x M) (hy : Mat y N) : Mat (Delta.beside x y) (Delta.hcat M N) := Mat.hcat cat_beside hx hy

theorem Mat.above (hx : Mat x M) (hy : Mat y N) : Mat (Delta.above x y) (Delta.vcat M N) := Mat.vcat cat_above hx hy

theorem Mat.above64 {x y : V Ideal 64 64} {M N : Matrix (Fin 64) (Fin 64) ℝ} (hx : Mat x M) (hy : Mat y N) :
    Mat (Delta.above64 x y) (Delta.vcat M N) := Mat.vcat cat_above64 hx hy

/-- The left half of a product with two matrices side by side. -/
theorem Mat.left {z : V Ideal 64 256} {A : Matrix (Fin 64) (Fin 64) ℝ} (hz : Mat z (A * Delta.hcat M N)) : Mat (Delta.left z) (A * M) :=
  (hz.slice 0 0 _ (by decide) (by decide)).congr fun i j => by
    refine Eq.trans (congrArg₂ (A * Delta.hcat M N) (Fin.ext (Nat.zero_add _)) (Fin.ext (Nat.zero_add _))) (mul_hcat_left A M N i j)

theorem Mat.right {z : V Ideal 64 256} {A : Matrix (Fin 64) (Fin 64) ℝ} (hz : Mat z (A * Delta.hcat M N)) : Mat (Delta.right z) (A * N) :=
  (hz.slice 0 128 _ (by decide) (by decide)).congr fun i j => by
    refine Eq.trans (congrArg₂ (A * Delta.hcat M N) (Fin.ext (Nat.zero_add _)) (Fin.ext rfl)) (mul_hcat_right A M N i j)

/-- The rows that the first of two matrices one above the other gives a product. -/
theorem Mat.top {m n : ℕ} {z : V Ideal 128 n} {P Q : Matrix (Fin 64) (Fin m) ℝ} {A : Matrix (Fin m) (Fin n) ℝ} (hz : Mat z (Delta.vcat P Q * A))
    (h : Shape.Slices (⟨2, ![128, n]⟩ : Shape) ![0, 0] ⟨2, ![64, n]⟩) : Mat (extractStridedSlice ⟨2, ![64, n]⟩ ![0, 0] z h) (P * A) :=
  (hz.slice 0 0 _ (by decide) (by omega)).congr fun i j => by
    refine Eq.trans (congrArg₂ (Delta.vcat P Q * A) (Fin.ext (Nat.zero_add _)) (Fin.ext (Nat.zero_add _))) (vcat_mul_top P Q A i j)

theorem Mat.bottom {m n : ℕ} {z : V Ideal 128 n} {P Q : Matrix (Fin 64) (Fin m) ℝ} {A : Matrix (Fin m) (Fin n) ℝ} (hz : Mat z (Delta.vcat P Q * A))
    (h : Shape.Slices (⟨2, ![128, n]⟩ : Shape) ![64, 0] ⟨2, ![64, n]⟩) : Mat (extractStridedSlice ⟨2, ![64, n]⟩ ![64, 0] z h) (Q * A) :=
  (hz.slice 64 0 _ (by decide) (by omega)).congr fun i j => by
    refine Eq.trans (congrArg₂ (Delta.vcat P Q * A) (Fin.ext rfl) (Fin.ext (Nat.zero_add _))) (vcat_mul_bottom P Q A i j)

section Series
variable {L : Matrix (Fin 64) (Fin 64) ℝ} {n : ℕ} {p x : V Ideal 64 64}

theorem Mat.square {x y : V Ideal 64 64} {M N : Matrix (Fin 64) (Fin 64) ℝ} (hx : Mat x M) (hy : Mat y N) : Mat (Delta.square x y) (M * N) :=
  Mat.dotNN rfl hx.bf hy.bf

theorem Mat.double {m : ℕ} (hp : Mat p (L ^ m)) (hx : Mat x (rounds L n)) :
    Mat (Delta.double p x) (Delta.vcat (L ^ m) (rounds L n) * L ^ m) := Mat.dotNN rfl (hp.above64 hx).bf hp.bf

theorem Mat.nextPower (m m' : ℕ) (hm : m' = m + m) (hp : Mat p (L ^ m)) (hx : Mat x (rounds L n)) : Mat (Delta.nextPower p x) (L ^ m') :=
  ((Mat.double hp hx).top _).congr fun i j => by rw [hm, pow_add]

theorem Mat.nextSum (m n n' : ℕ) (hm : m = n + 1) (hn' : n' = 2 * n + 1) (hn : Even (n + 1)) (hp : Mat p (L ^ m))
    (hx : Mat x (rounds L n)) : Mat (Delta.nextSum p x) (rounds L n') := by
  subst hm hn'
  exact ((hx.add hp).add ((Mat.double hp hx).bottom _)).congr fun i j => congrFun (congrFun (rounds_double L n hn) i) j

end Series

end Named

/-! ## One head of one chunk -/

/-- The tile's arrays hold the head's matrices. -/
structure Tile.Holds (c : Tile Ideal) (H : Head) : Prop where
  q : Mat c.q H.q
  k : Mat c.k H.k
  v : Mat c.v H.v
  dO : Mat c.dO H.dO
  beta : Mat c.beta (fun i _ => H.β i)
  g : Mat c.g (fun i _ => H.g i)
  grow : Mat c.grow (fun _ j => H.g j)
  S : Mat c.S H.S
  D : Mat c.D H.D

namespace Tile.Holds
variable {c : Tile Ideal} {H : Head} (h : c.Holds H)
include h

theorem kb : Mat c.kb H.kb := h.k.scale h.beta
theorem eg : Mat c.eg (fun i _ => H.eg i) := h.g.exp
theorem gEnd : Mat c.gEnd (fun _ _ => H.g 63) :=
  (h.g.slice (c := 1) (d := 1) 63 0 _ (by decide) (by decide)).congr fun i j => congrArg H.g (Fin.ext (by have := i.isLt; show 63 + i.val = 63; omega))
theorem eTail : Mat c.eTail (fun i _ => H.eTail i) := ((h.gEnd.spreadOne _).sub h.g).exp
theorem eEnd : Mat c.eEnd (fun _ _ => H.eEnd) := h.gEnd.exp
/-- On and below the diagonal the kernel's decay is the decay. -/
theorem dec : ∃ r : ℝ, Mat c.dec (fun i j => if j.val ≤ i.val then H.dec i j else r) := by
  obtain ⟨m, hm⟩ := mask_real
  refine ⟨Real.exp m, ?_⟩
  refine (Mat.exp (Mat.sel causal (fun i j => j.val ≤ i.val) causal_iff
    ((h.g.spreadCol (by decide) _).sub (h.grow.spreadRow (by decide) _)) (Mat.splat _ m hm))).congr fun i j => ?_
  unfold Head.dec
  by_cases hij : j.val ≤ i.val
  · simp only [if_pos hij]
  · simp only [if_neg hij]
theorem vb : Mat c.vb H.vb := h.v.scale h.beta
theorem kbg : Mat c.kbg H.kbg := h.kb.scale h.eg
theorem qDec : Mat c.qDec H.qDec := h.q.scale h.eg
theorem kDec : Mat c.kDec H.kDec := h.k.scale h.eTail
theorem gram : Mat c.gram (vcat H.kb H.q * H.kᵀ) := Mat.dotNT rfl (h.kb.above h.q).bf h.k.bf

theorem low : Mat c.low H.low := by
  obtain ⟨r, hr⟩ := h.dec
  refine (Mat.sel strict (fun i j => j.val < i.val) strict_iff ((h.gram.top _).mul hr) (Mat.nil 64 64)).congr fun i j => ?_
  unfold Head.low
  by_cases hij : j.val < i.val
  · simp only [if_pos hij, if_pos hij.le]
  · simp only [if_neg hij]

theorem qk : Mat c.qk H.qk := by
  obtain ⟨r, hr⟩ := h.dec
  refine (Mat.sel causal (fun i j => j.val ≤ i.val) causal_iff ((h.gram.bottom _).mul hr) (Mat.nil 64 64)).congr fun i j => ?_
  unfold Head.qk
  by_cases hij : j.val ≤ i.val
  · simp only [if_pos hij]
  · simp only [if_neg hij, Head.dec, mul_zero]

theorem x1 : Mat c.x1 (rounds H.low 1) := h.low.zsub.congr fun i j => by simp [rounds]
theorem p2 : Mat c.p2 (H.low ^ 2) := (Mat.square h.low h.low).congr fun i j => by rw [pow_two]
theorem x3 : Mat c.x3 (rounds H.low 3) := Mat.nextSum 2 1 3 rfl rfl (by decide) h.p2 h.x1
theorem p4 : Mat c.p4 (H.low ^ 4) := Mat.nextPower 2 4 rfl h.p2 h.x1
theorem x7 : Mat c.x7 (rounds H.low 7) := Mat.nextSum 4 3 7 rfl rfl (by decide) h.p4 h.x3
theorem p8 : Mat c.p8 (H.low ^ 8) := Mat.nextPower 4 8 rfl h.p4 h.x3
theorem x15 : Mat c.x15 (rounds H.low 15) := Mat.nextSum 8 7 15 rfl rfl (by decide) h.p8 h.x7
theorem p16 : Mat c.p16 (H.low ^ 16) := Mat.nextPower 8 16 rfl h.p8 h.x7
theorem x31 : Mat c.x31 (rounds H.low 31) := Mat.nextSum 16 15 31 rfl rfl (by decide) h.p16 h.x15
theorem p32 : Mat c.p32 (H.low ^ 32) := Mat.nextPower 16 32 rfl h.p16 h.x15
theorem X : Mat c.X H.X :=
  ((h.x31.add h.p32).add (Mat.square h.x31 h.p32)).congr fun i j => congrFun (congrFun (rounds_double H.low 31 (by decide)) i) j
theorem sol : Mat c.sol (H.X * hcat H.vb H.kbg) := Mat.dotNN rfl h.X.bf (h.vb.beside h.kbg).bf
theorem u : Mat c.u H.u := h.vb.add h.sol.left
theorem w : Mat c.w H.w := h.kbg.add h.sol.right
theorem dqDec : Mat c.dqDec H.dqDec := h.dO.byStateT h.S
theorem vNew : Mat c.vNew H.vNew := h.u.sub (h.w.byState h.S)
theorem dqk : Mat c.dqk H.dqk :=
  Mat.sel causal (fun i j => j.val ≤ i.val) causal_iff (Mat.dotNT rfl h.dO.bf h.vNew.bf) (Mat.nil 64 64)
theorem dkDec : Mat c.dkDec H.dkDec := h.vNew.byStateT h.D
theorem dvNew : Mat c.dvNew H.dvNew := (Mat.dotTN rfl h.qk.bf h.dO.bf).add (h.kDec.byState h.D)
theorem dw : Mat c.dw H.dw := (h.dvNew.byStateT h.S).zsub
theorem next : Mat c.next H.next := (((h.eEnd.spreadOne _).mul h.D).add (h.qDec.outer h.dO)).sub (h.w.outer h.dvNew)
theorem dt : Mat c.dt H.dt :=
  (Mat.dotNT rfl (h.dvNew.beside h.dw).bf (h.vb.beside h.kbg).bf).congr fun i j => by rw [hcat_mul_hcat]; rfl
theorem dsol : Mat c.dsol (H.Xᵀ * hcat H.dvNew H.dw) := Mat.dotTN rfl h.X.bf (h.dvNew.beside h.dw).bf
theorem dvb : Mat c.dvb H.dvb := h.dvNew.add h.dsol.left
theorem dkbg : Mat c.dkbg H.dkbg := h.dw.add h.dsol.right
theorem y : Mat c.y H.y := h.dt.add (Mat.dotTN rfl h.X.bf h.dt.bf)
theorem dlow : Mat c.dlow H.dlow :=
  Mat.sel strict (fun i j => j.val < i.val) strict_iff (h.y.add (Mat.dotNT rfl h.y.bf h.X.bf)).zsub (Mat.nil 64 64)

theorem dmm : Mat (mulf c.dlow c.dec) H.dmm := by
  obtain ⟨r, hr⟩ := h.dec
  refine (h.dlow.mul hr).congr fun i j => ?_
  unfold Head.dmm Head.dlow
  by_cases hij : j.val < i.val
  · simp only [if_pos hij, if_pos hij.le]
  · simp only [if_neg hij, zero_mul]

theorem dnn : Mat (mulf c.dqk c.dec) H.dnn := by
  obtain ⟨r, hr⟩ := h.dec
  refine (h.dqk.mul hr).congr fun i j => ?_
  unfold Head.dnn Head.dqk
  by_cases hij : j.val ≤ i.val
  · simp only [if_pos hij]
  · simp only [if_neg hij, zero_mul]

theorem dgram : Mat c.dgram (vcat H.dmm H.dnn) := h.dmm.above64 h.dnn
theorem dkq : Mat c.dkq (vcat H.dmm H.dnn * H.k) := Mat.dotNN rfl h.dgram.bf h.k.bf
theorem dkT : Mat c.dkT (H.dmmᵀ * H.kb + H.dnnᵀ * H.q) :=
  (Mat.dotTN rfl h.dgram.bf (h.kb.above h.q).bf).congr fun i j => by rw [vcat_mul_vcat]
theorem dkb : Mat c.dkb H.dkb := (h.dkq.top _).add (h.dkbg.scale h.eg)
theorem dq : Mat c.dq H.dq := (h.dkq.bottom _).add (h.dqDec.scale h.eg)
theorem dk : Mat c.dk H.dk := (h.dkT.add (h.dkDec.scale h.eTail)).add (h.dkb.scale h.beta)
theorem dv : Mat c.dv H.dv := h.dvb.scale h.beta
theorem dbeta : Mat c.dbeta (fun i _ => H.dβ i) := ((h.dkb.mul h.k).add (h.dvb.mul h.v)).sumLanes
theorem e : Mat c.e H.e := (h.dlow.mul h.low).add (h.dqk.mul h.qk)
theorem kd : Mat c.kd (fun i _ => H.kd i) := (h.dkDec.mul h.kDec).sumLanes
theorem total : Mat c.total (fun _ _ => H.total) := ((h.D.mul h.S).rowSum _ _ _ _).colSum _ _ _ _
theorem dgEnd : Mat c.dgEnd (fun _ _ => ∑ k, H.kd k + H.total * H.eEnd) := (h.kd.colSum _ _ _ _).add (h.total.mul h.eEnd)
theorem dg : Mat c.dg (fun i _ => H.dg i) :=
  ((((h.e.sumRow.sub (h.e.transp _).sumRow).add (h.dqDec.mul h.qDec).sumLanes).sub h.kd).add (h.dkbg.mul h.kbg).sumLanes).add
    (Mat.sel lastRow (fun i _ => i.val = 63) lastRow_iff ((h.dgEnd.castSame _).spreadOne _) (Mat.nil 64 1))

end Tile.Holds

end Delta

end
-- ==== Proof.BlockRead.lean ====
/-
  The kernel's work on a block of eight chunks, read as real matrices.
-/
module

public import proofs.«01_k».proof.Proof.Sequence
public import proofs.«01_k».proof.Proof.TileRead
public import proofs.«01_k».proof.Proof.Block

@[expose] public section

set_option maxRecDepth 16384

noncomputable section

namespace Delta

open Idealize.ShloMosaic hiding ix0 ix1 ix2 ix3 ix4 ix5
open Idealize.ShloMosaic.ValueIdx

/-! ## Four heads side by side, and the gates in their lanes -/

/-- The four pieces. -/
abbrev fourOf (x : Fin 4 → V Ideal 64 128) : List ((s : Shape) × (s.Idx → EReal)) :=
  [⟨⟨2, ![64, 128]⟩, x 0⟩, ⟨⟨2, ![64, 128]⟩, x 1⟩, ⟨⟨2, ![64, 128]⟩, x 2⟩, ⟨⟨2, ![64, 128]⟩, x 3⟩]

theorem heads4_at (x : Fin 4 → V Ideal 64 128) (i : Fin 64) (h : Fin 4) (j : Fin 128) (l : Fin 512) (hl : 128 * h.val + j.val = l.val) :
    Rows.heads4 x (ix2 i l) = x h (ix2 i j) := by
  have off : ∀ b : Fin 2, b.cast rfl ≠ (1 : Fin 2) → (ix2 i j b).val = (ix2 i l (b.cast rfl)).val := fun b hb => by
    match b, hb with
    | ⟨0, _⟩, _ => rfl
    | ⟨1, _⟩, hb => exact absurd rfl hb
  unfold Rows.heads4
  match h, hl with
  | 0, hl => exact concatenate_apply_piece (t := ⟨2, ![64, 512]⟩) (1 : Fin 2) (fourOf x) cat_heads4 (ix2 i l) 0 (show 0 < 4 by decide) _ (x 0) rfl rfl 0 rfl (ix2 i j) off hl
  | 1, hl => exact concatenate_apply_piece (t := ⟨2, ![64, 512]⟩) (1 : Fin 2) (fourOf x) cat_heads4 (ix2 i l) 1 (show 1 < 4 by decide) _ (x 1) rfl rfl 128 rfl (ix2 i j) off hl
  | 2, hl => exact concatenate_apply_piece (t := ⟨2, ![64, 512]⟩) (1 : Fin 2) (fourOf x) cat_heads4 (ix2 i l) 2 (show 2 < 4 by decide) _ (x 2) rfl rfl 256 rfl (ix2 i j) off hl
  | 3, hl => exact concatenate_apply_piece (t := ⟨2, ![64, 512]⟩) (1 : Fin 2) (fourOf x) cat_heads4 (ix2 i l) 3 (show 3 < 4 by decide) _ (x 3) rfl rfl 384 rfl (ix2 i j) off hl

theorem Mat.heads4 {x : Fin 4 → V Ideal 64 128} {M : Fin 4 → Matrix (Fin 64) (Fin 128) ℝ} (hx : ∀ h, Mat (x h) (M h)) :
    Mat (Rows.heads4 x) (joinCols M) := fun i l =>
  (heads4_at x i ⟨l.val / 128, by have := l.isLt; omega⟩ ⟨l.val % 128, Nat.mod_lt _ (by decide)⟩ l
    (show 128 * (l.val / 128) + l.val % 128 = l.val by omega)).trans (hx _ _ _)

theorem lane_iff : ∀ (n : Fin 8) (l : Fin 128), lane (BitVec.ofNat 32 n.val) (ix2 (0 : Fin 64) l) = 1#1 ↔ l.val = n.val := by
  decide +kernel

theorem Mat.put (n : Fin 8) {x : V Ideal 64 1} {f : Fin 64 → ℝ} {rest : V Ideal 64 128} {M : Matrix (Fin 64) (Fin 128) ℝ}
    (hx : Mat x (fun i _ => f i)) (hr : Mat rest M) :
    Mat (Rows.put (BitVec.ofNat 32 n.val) x rest) (fun i l => if l.val = n.val then f i else M i l) :=
  Mat.sel (lane (BitVec.ofNat 32 n.val)) (fun _ l => l.val = n.val) (fun _ l => lane_iff n l) (hx.castSame _).lanes hr

theorem gate_lanes (f g : Fin 4 → ℝ) (v : ℕ) :
    (if v = 3 then f 3 else if v = 2 then f 2 else if v = 1 then f 1 else if v = 0 then f 0 else 0)
      + (if v = 7 then g 3 else if v = 6 then g 2 else if v = 5 then g 1 else if v = 4 then g 0 else 0)
      = if h : v < 4 then f ⟨v, h⟩ else if h : v < 8 then g ⟨v - 4, by omega⟩ else 0 := by
  by_cases h4 : v < 4
  · rw [dif_pos h4, if_neg (by omega : ¬v = 7), if_neg (by omega : ¬v = 6), if_neg (by omega : ¬v = 5), if_neg (by omega : ¬v = 4), add_zero]
    rcases (by omega : v = 0 ∨ v = 1 ∨ v = 2 ∨ v = 3) with rfl | rfl | rfl | rfl <;> rfl
  · rw [dif_neg h4, if_neg (by omega : ¬v = 3), if_neg (by omega : ¬v = 2), if_neg (by omega : ¬v = 1), if_neg (by omega : ¬v = 0), zero_add]
    by_cases h8 : v < 8
    · rw [dif_pos h8]
      rcases (by omega : v = 4 ∨ v = 5 ∨ v = 6 ∨ v = 7) with rfl | rfl | rfl | rfl <;> rfl
    · rw [dif_neg h8, if_neg (by omega : ¬v = 7), if_neg (by omega : ¬v = 6), if_neg (by omega : ¬v = 5), if_neg (by omega : ¬v = 4)]

/-! ## One chunk -/

/-- What the kernel loads for a chunk holds the chunk's data. -/
structure Rows.Holds (r : Rows Ideal) (c : Chunk) : Prop where
  q : Mat r.q c.q
  k : Mat r.k c.k
  v : Mat r.v c.v
  dO : Mat r.dO c.dO
  bg : Mat r.bg c.bg
  S : ∀ h i j, r.S h (ix4 (0 : Fin 1) (0 : Fin 1) i j) = ((c.S h i j : ℝ) : EReal)

theorem Mat.headOf {x : V Ideal 64 512} {M : Matrix (Fin 64) (Fin 512) ℝ} (hx : Mat x M) (h : Fin 4) : Mat (Rows.headOf x h) (headCols M h) :=
  (hx.slice 0 (128 * h.val) _ (by decide) (by have := h.isLt; omega)).congr fun i _ => congrArg (fun k => M k _) (Fin.ext (Nat.zero_add i.val))

/-- One lane of a chunk's gates, as a column. -/
theorem Mat.laneCol {x : V Ideal 64 128} {M : Matrix (Fin 64) (Fin 128) ℝ} (hx : Mat x M) (p : ℕ) (hp : p < 128)
    (hs : Shape.Slices (⟨2, ![64, 128]⟩ : Shape) ![0, p] ⟨2, ![64, 1]⟩) :
    Mat (extractStridedSlice ⟨2, ![64, 1]⟩ ![0, p] x hs) (fun i _ => M i ⟨p, hp⟩) :=
  (hx.slice (c := 64) (d := 1) 0 p hs (by decide) (by omega)).congr fun i j =>
    congrArg₂ M (Fin.ext (Nat.zero_add i.val)) (Fin.ext (by have := j.isLt; show p + j.val = p; omega))

/-- The same, as a row. -/
theorem Mat.laneRow {x : V Ideal 64 128} {M : Matrix (Fin 64) (Fin 128) ℝ} (hx : Mat x M) (p : ℕ) (hp : p < 128)
    (ht : Shape.Transposes (⟨2, ![64, 128]⟩ : Shape) [1, 0] ⟨2, ![128, 64]⟩)
    (hs : Shape.Slices (⟨2, ![128, 64]⟩ : Shape) ![p, 0] ⟨2, ![1, 64]⟩) :
    Mat (extractStridedSlice ⟨2, ![1, 64]⟩ ![p, 0] (transpose ⟨2, ![128, 64]⟩ [1, 0] x ht) hs) (fun _ j => M j ⟨p, hp⟩) :=
  ((hx.transp ht).slice (c := 1) (d := 64) p 0 hs (by omega) (by decide)).congr fun i j =>
    congrArg₂ M (Fin.ext (Nat.zero_add j.val)) (Fin.ext (by have := i.isLt; show p + i.val = p; omega))

theorem slices_beta : ∀ h : Fin 4, Shape.Slices (⟨2, ![64, 128]⟩ : Shape) ![0, h.val] ⟨2, ![64, 1]⟩ := by decide
theorem slices_g : ∀ h : Fin 4, Shape.Slices (⟨2, ![64, 128]⟩ : Shape) ![0, 4 + h.val] ⟨2, ![64, 1]⟩ := by decide
theorem slices_row : ∀ h : Fin 4, Shape.Slices (⟨2, ![128, 64]⟩ : Shape) ![4 + h.val, 0] ⟨2, ![1, 64]⟩ := by decide

namespace Rows.Holds
variable {r : Rows Ideal} {c : Chunk} (hr : r.Holds c) {D : Fin 4 → V Ideal 128 128} {E : Fin 4 → Matrix (Fin 128) (Fin 128) ℝ}
  (hD : ∀ h, Mat (D h) (E h))
include hr hD

theorem tile (h : Fin 4) : (r.tile D h).Holds (c.head h (E h)) where
  q := hr.q.headOf h
  k := hr.k.headOf h
  v := hr.v.headOf h
  dO := hr.dO.headOf h
  beta := hr.bg.laneCol h.val (by have := h.isLt; omega) (slices_beta h)
  g := hr.bg.laneCol (4 + h.val) (by have := h.isLt; omega) (slices_g h)
  grow := hr.bg.laneRow (4 + h.val) (by have := h.isLt; omega) (by decide) (slices_row h)
  S := fun i j => (shapeCast_apply (r.S h) _ (ix2 i j) (ix4 (0 : Fin 1) (0 : Fin 1) i j) (by
    rw [Shape.rowMajor_val_two, Shape.rowMajor_val_four]
    show ((0 * 1 + 0) * 128 + i.val) * 128 + j.val = i.val * 128 + j.val
    omega)).trans (hr.S h i j)
  D := hD h

theorem next (h : Fin 4) : Mat (r.next D h) (c.head h (E h)).next := (hr.tile hD h).next
theorem outQ : Mat (r.outQ D) (joinCols fun h => (c.head h (E h)).dq) := Mat.heads4 fun h => (hr.tile hD h).dq
theorem outK : Mat (r.outK D) (joinCols fun h => (c.head h (E h)).dk) := Mat.heads4 fun h => (hr.tile hD h).dk
theorem outV : Mat (r.outV D) (joinCols fun h => (c.head h (E h)).dv) := Mat.heads4 fun h => (hr.tile hD h).dv
theorem outBG : Mat (r.outBG D) (gateCols fun h => c.head h (E h)) :=
  ((Mat.put 3 (hr.tile hD 3).dbeta (Mat.put 2 (hr.tile hD 2).dbeta (Mat.put 1 (hr.tile hD 1).dbeta
    (Mat.put 0 (hr.tile hD 0).dbeta (Mat.nil 64 128))))).add
   (Mat.put 7 (hr.tile hD 3).dg (Mat.put 6 (hr.tile hD 2).dg (Mat.put 5 (hr.tile hD 1).dg
    (Mat.put 4 (hr.tile hD 0).dg (Mat.nil 64 128)))))).congr fun i l =>
  gate_lanes (fun h => (c.head h (E h)).dβ i) (fun h => (c.head h (E h)).dg i) l.val

end Rows.Holds

/-! ## One block -/

/-- Chunk `n` of the block that grid point `t` takes: the last block first. -/
def chunkNo (t : Fin 16) (n : Fin 8) : Fin 128 := ⟨8 * (15 - t.val) + n.val, by have := n.isLt; omega⟩

theorem back_chunkNo (t : Fin 16) (j : ℕ) (hj : j < 8) : back (8 * t.val + j) = chunkNo t (rev j) := by
  have := t.isLt
  exact Fin.ext (show 127 - (8 * t.val + j) = 8 * (15 - t.val) + (7 - j) by omega)

section
variable {b : Blk Ideal} {d : Fin 128 → Chunk} {t : Fin 16} (hb : ∀ n, (b.rows n).Holds (d (chunkNo t n)))
  {D : Fin 4 → V Ideal 128 128} (hD : ∀ h, Mat (D h) (gradState d (8 * t.val) h))
include hb hD

theorem state_holds (j : ℕ) (hj : j ≤ 8) (h : Fin 4) : Mat (b.state D j h) (gradState d (8 * t.val + j) h) := by
  induction j generalizing h with
  | zero => exact hD h
  | succ j ih =>
    have e := (hb (rev j)).next (fun h => ih (by omega) h) h
    rw [← back_chunkNo t j (by omega)] at e
    exact e

/-- The gradient of the state that chunk `n` takes. -/
theorem state_before (n : Fin 8) (h : Fin 4) : Mat (b.state D (7 - n.val) h) (gradState d (127 - (chunkNo t n).val) h) := by
  have e := state_holds hb hD (7 - n.val) (by omega) h
  have ht := t.isLt
  have hn := n.isLt
  rwa [show 8 * t.val + (7 - n.val) = 127 - (chunkNo t n).val by show _ = 127 - (8 * (15 - t.val) + n.val); omega] at e

theorem chunk_dq (n : Fin 8) : Mat ((b.rows n).outQ (b.state D (7 - n.val))) (dqRows d (chunkNo t n)) := (hb n).outQ (state_before hb hD n)
theorem chunk_dk (n : Fin 8) : Mat ((b.rows n).outK (b.state D (7 - n.val))) (dkRows d (chunkNo t n)) := (hb n).outK (state_before hb hD n)
theorem chunk_dv (n : Fin 8) : Mat ((b.rows n).outV (b.state D (7 - n.val))) (dvRows d (chunkNo t n)) := (hb n).outV (state_before hb hD n)
theorem chunk_dbg (n : Fin 8) : Mat ((b.rows n).outBG (b.state D (7 - n.val))) (dbgRows d (chunkNo t n)) := (hb n).outBG (state_before hb hD n)

end

/-- A block of results, row by row. -/
theorem out_at {b : Blk Ideal} {D : Fin 4 → V Ideal 128 128} {t : Fin 16} {w : ℕ} (f : Rows Ideal → (Fin 4 → V Ideal 128 128) → V Ideal 64 w)
    (G : Fin 128 → Matrix (Fin 64) (Fin w) ℝ) (hf : ∀ n, Mat (f (b.rows n) (b.state D (7 - n.val))) (G (chunkNo t n)))
    (r : Fin 512) (l : Fin w) (R : Fin 8192) (hR : R.val = 512 * (15 - t.val) + r.val) :
    b.out D f (ix2 r l) = ((wholeRows G R l : ℝ) : EReal) := by
  rw [← rowIx_chunkOf r, Blk.out_rowIx, hf, wholeRows_at G (chunkNo t (chunkOf r)) (within r) R l]
  show R.val = 64 * (8 * (15 - t.val) + r.val / 64) + r.val % 64
  omega

end Delta

end
-- ==== Proof.GridRead.lean ====
/-
  The kernel's results on arguments that hold real data: each result array holds the gradient of the whole sequence.
-/
module

public import proofs.«01_k».proof.Proof.Grid
public import proofs.«01_k».proof.Proof.BlockRead
public import Idealize.ShloMosaic.Lib.Pipeline.ValueKit

@[expose] public section

set_option maxRecDepth 16384

noncomputable section

namespace Delta.Grid

open Idealize.ShloMosaic hiding ix0 ix1 ix2 ix3 ix4 ix5
open Idealize.ShloMosaic.TcCoe Idealize.ShloMosaic.ValueIdx Idealize.ShloMosaic.Tactic
open Idealize.SL.Sem
open Idealize.ShloMosaic.Pipeline (Dat Cfg Window)
open Cert.KernelIdeal Cert.KernelIdeal.Gen

/-! ## Which block a grid point takes: the last first -/

theorem points : cfg0.N = 16 := by decide +kernel

/-- A grid point's number. -/
def pt (t : Fin cfg0.N) : Fin 16 := ⟨t.val, points ▸ t.isLt⟩

theorem index_0 : ∀ t : Fin cfg0.N, win0_0.index t = ![15 - t.val, 0] := (by decide +kernel : ∀ t : Fin grid0.N, _)
theorem index_1 : ∀ t : Fin cfg0.N, win0_1.index t = ![15 - t.val, 0] := (by decide +kernel : ∀ t : Fin grid0.N, _)
theorem index_2 : ∀ t : Fin cfg0.N, win0_2.index t = ![15 - t.val, 0] := (by decide +kernel : ∀ t : Fin grid0.N, _)
theorem index_3 : ∀ t : Fin cfg0.N, win0_3.index t = ![15 - t.val, 0] := (by decide +kernel : ∀ t : Fin grid0.N, _)
theorem index_4 : ∀ t : Fin cfg0.N, win0_4.index t = ![15 - t.val, 0, 0, 0] := (by decide +kernel : ∀ t : Fin grid0.N, _)
theorem index_5 : ∀ t : Fin cfg0.N, win0_5.index t = ![15 - t.val, 0] := (by decide +kernel : ∀ t : Fin grid0.N, _)
theorem index_6 : ∀ t : Fin cfg0.N, win0_6.index t = ![15 - t.val, 0] := (by decide +kernel : ∀ t : Fin grid0.N, _)
theorem index_7 : ∀ t : Fin cfg0.N, win0_7.index t = ![15 - t.val, 0] := (by decide +kernel : ∀ t : Fin grid0.N, _)
theorem index_8 : ∀ t : Fin cfg0.N, win0_8.index t = ![15 - t.val, 0] := (by decide +kernel : ∀ t : Fin grid0.N, _)
theorem index_9 : ∀ t : Fin cfg0.N, win0_9.index t = ![15 - t.val, 0] := (by decide +kernel : ∀ t : Fin grid0.N, _)

/-- Row `r` of grid point `t`'s block. -/
def rowAt (t : Fin cfg0.N) (r : Fin 512) : Fin 8192 := ⟨512 * (15 - t.val) + r.val, by have := r.isLt; omega⟩

theorem rowAt_rowIx (t : Fin cfg0.N) (n : Fin 8) (r : Fin 64) : rowAt t (rowIx n r) = rowOf (chunkNo (pt t) n) r :=
  Fin.ext (show 512 * (15 - t.val) + (64 * n.val + r.val) = 64 * (8 * (15 - t.val) + n.val) + r.val by omega)

section
variable (t : Fin cfg0.N) (r : Fin 512)

theorem emb_0 (l : Fin 512) : ((cfg0.win 0).blk t).view.emb (ix2 r l) = ix2 (rowAt t r) l := by
  funext a; apply Fin.ext
  match a with
  | ⟨0, _⟩ => blk_simp [index_0]; show (15 - t.val) * 512 + r.val = 512 * (15 - t.val) + r.val; omega
  | ⟨1, _⟩ => blk_simp [index_0]
theorem emb_1 (l : Fin 512) : ((cfg0.win 1).blk t).view.emb (ix2 r l) = ix2 (rowAt t r) l := by
  funext a; apply Fin.ext
  match a with
  | ⟨0, _⟩ => blk_simp [index_1]; show (15 - t.val) * 512 + r.val = 512 * (15 - t.val) + r.val; omega
  | ⟨1, _⟩ => blk_simp [index_1]
theorem emb_2 (l : Fin 512) : ((cfg0.win 2).blk t).view.emb (ix2 r l) = ix2 (rowAt t r) l := by
  funext a; apply Fin.ext
  match a with
  | ⟨0, _⟩ => blk_simp [index_2]; show (15 - t.val) * 512 + r.val = 512 * (15 - t.val) + r.val; omega
  | ⟨1, _⟩ => blk_simp [index_2]
theorem emb_3 (l : Fin 128) : ((cfg0.win 3).blk t).view.emb (ix2 r l) = ix2 (rowAt t r) l := by
  funext a; apply Fin.ext
  match a with
  | ⟨0, _⟩ => blk_simp [index_3]; show (15 - t.val) * 512 + r.val = 512 * (15 - t.val) + r.val; omega
  | ⟨1, _⟩ => blk_simp [index_3]
theorem emb_5 (l : Fin 512) : ((cfg0.win 5).blk t).view.emb (ix2 r l) = ix2 (rowAt t r) l := by
  funext a; apply Fin.ext
  match a with
  | ⟨0, _⟩ => blk_simp [index_5]; show (15 - t.val) * 512 + r.val = 512 * (15 - t.val) + r.val; omega
  | ⟨1, _⟩ => blk_simp [index_5]
theorem emb_6 (l : Fin 512) : ((cfg0.win 6).blk t).view.emb (ix2 r l) = ix2 (rowAt t r) l := by
  funext a; apply Fin.ext
  match a with
  | ⟨0, _⟩ => blk_simp [index_6]; show (15 - t.val) * 512 + r.val = 512 * (15 - t.val) + r.val; omega
  | ⟨1, _⟩ => blk_simp [index_6]
theorem emb_7 (l : Fin 512) : ((cfg0.win 7).blk t).view.emb (ix2 r l) = ix2 (rowAt t r) l := by
  funext a; apply Fin.ext
  match a with
  | ⟨0, _⟩ => blk_simp [index_7]; show (15 - t.val) * 512 + r.val = 512 * (15 - t.val) + r.val; omega
  | ⟨1, _⟩ => blk_simp [index_7]
theorem emb_8 (l : Fin 512) : ((cfg0.win 8).blk t).view.emb (ix2 r l) = ix2 (rowAt t r) l := by
  funext a; apply Fin.ext
  match a with
  | ⟨0, _⟩ => blk_simp [index_8]; show (15 - t.val) * 512 + r.val = 512 * (15 - t.val) + r.val; omega
  | ⟨1, _⟩ => blk_simp [index_8]
theorem emb_9 (l : Fin 128) : ((cfg0.win 9).blk t).view.emb (ix2 r l) = ix2 (rowAt t r) l := by
  funext a; apply Fin.ext
  match a with
  | ⟨0, _⟩ => blk_simp [index_9]; show (15 - t.val) * 512 + r.val = 512 * (15 - t.val) + r.val; omega
  | ⟨1, _⟩ => blk_simp [index_9]
theorem emb_4 (n : Fin 8) (h : Fin 4) (i j : Fin 128) :
    ((cfg0.win 4).blk t).view.emb (ix4 n h i j) = ix4 (chunkNo (pt t) n) h i j := by
  funext a; apply Fin.ext
  match a with
  | ⟨0, _⟩ => blk_simp [index_4]; show (15 - t.val) * 8 + n.val = 8 * (15 - t.val) + n.val; omega
  | ⟨1, _⟩ => blk_simp [index_4]
  | ⟨2, _⟩ => blk_simp [index_4]
  | ⟨3, _⟩ => blk_simp [index_4]

end

/-! ## The blocks hold their chunks -/

variable {m : (ℓ : Loc nD τ sig) → Buf (Elt Ideal) ℓ} {c : Dev nD} {d : Data}

/-- The arguments of core `c` hold the data. -/
def Given (m : (ℓ : Loc nD τ sig) → Buf (Elt Ideal) ℓ) (c : Dev nD) (d : Data) : Prop :=
  d.On (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

section
variable (g : Given m c d)
include g

theorem rows_hold (t : Fin cfg0.N) (n : Fin 8) : ((blkAt m c t).rows n).Holds (d.chunk (chunkNo (pt t) n)) where
  q i l := (congrArg (m ((c.tc : Thread nD τ).loc main_arg0)) ((emb_0 t (rowIx n i) l).trans (by rw [rowAt_rowIx]))).trans (g.q _ l)
  k i l := (congrArg (m ((c.tc : Thread nD τ).loc main_arg1)) ((emb_1 t (rowIx n i) l).trans (by rw [rowAt_rowIx]))).trans (g.k _ l)
  v i l := (congrArg (m ((c.tc : Thread nD τ).loc main_arg2)) ((emb_2 t (rowIx n i) l).trans (by rw [rowAt_rowIx]))).trans (g.v _ l)
  bg i l := (congrArg (m ((c.tc : Thread nD τ).loc main_arg3)) ((emb_3 t (rowIx n i) l).trans (by rw [rowAt_rowIx]))).trans (g.bg _ l)
  S h i j := (congrArg (m ((c.tc : Thread nD τ).loc main_arg4)) (emb_4 t n h i j)).trans (g.S _ h i j)
  dO i l := (congrArg (m ((c.tc : Thread nD τ).loc main_arg5)) ((emb_5 t (rowIx n i) l).trans (by rw [rowAt_rowIx]))).trans (g.dO _ l)

theorem stateAt_holds (n : ℕ) (hn : n ≤ 16) (h : Fin 4) : Mat (stateAt m c n h) (gradState d.chunk (8 * n) h) := by
  induction n generalizing h with
  | zero => exact Mat.zero
  | succ n ih =>
    have e := state_holds (t := (⟨n, hn⟩ : Fin 16)) (rows_hold g ⟨n, points ▸ hn⟩) (ih (by omega)) 8 le_rfl h
    rw [← stateAt_succ m c ⟨n, points ▸ hn⟩] at e
    exact e

/-! ## The results -/

theorem result_dq : (dats m 0 c).arrAt 6 cfg0.N
    = fun x : (⟨2, ![8192, 512]⟩ : Shape).Idx => ((wholeRows (dqRows d.chunk) (x 0) (x 1) : ℝ) : EReal) := by
  refine (dats m 0 c).arrAt_eq_of_covers 6 _ (by decide +kernel) fun t hf y => ?_
  blk_simp
  rw [after_6]
  obtain ⟨r, l, rfl⟩ : ∃ (r : Fin 512) (l : Fin 512), y = ix2 r l := ⟨y 0, y 1, ValueIdx.eq_ix2 y⟩
  rw [emb_6]
  exact out_at (t := pt t) Rows.outQ (dqRows d.chunk)
    (chunk_dq (rows_hold g t) (stateAt_holds g t.val (Nat.le_of_lt (pt t).isLt))) r l (rowAt t r) rfl

theorem result_dk : (dats m 0 c).arrAt 7 cfg0.N
    = fun x : (⟨2, ![8192, 512]⟩ : Shape).Idx => ((wholeRows (dkRows d.chunk) (x 0) (x 1) : ℝ) : EReal) := by
  refine (dats m 0 c).arrAt_eq_of_covers 7 _ (by decide +kernel) fun t hf y => ?_
  blk_simp
  rw [after_7]
  obtain ⟨r, l, rfl⟩ : ∃ (r : Fin 512) (l : Fin 512), y = ix2 r l := ⟨y 0, y 1, ValueIdx.eq_ix2 y⟩
  rw [emb_7]
  exact out_at (t := pt t) Rows.outK (dkRows d.chunk)
    (chunk_dk (rows_hold g t) (stateAt_holds g t.val (Nat.le_of_lt (pt t).isLt))) r l (rowAt t r) rfl

theorem result_dv : (dats m 0 c).arrAt 8 cfg0.N
    = fun x : (⟨2, ![8192, 512]⟩ : Shape).Idx => ((wholeRows (dvRows d.chunk) (x 0) (x 1) : ℝ) : EReal) := by
  refine (dats m 0 c).arrAt_eq_of_covers 8 _ (by decide +kernel) fun t hf y => ?_
  blk_simp
  rw [after_8]
  obtain ⟨r, l, rfl⟩ : ∃ (r : Fin 512) (l : Fin 512), y = ix2 r l := ⟨y 0, y 1, ValueIdx.eq_ix2 y⟩
  rw [emb_8]
  exact out_at (t := pt t) Rows.outV (dvRows d.chunk)
    (chunk_dv (rows_hold g t) (stateAt_holds g t.val (Nat.le_of_lt (pt t).isLt))) r l (rowAt t r) rfl

theorem result_dbg : (dats m 0 c).arrAt 9 cfg0.N
    = fun x : (⟨2, ![8192, 128]⟩ : Shape).Idx => ((wholeRows (dbgRows d.chunk) (x 0) (x 1) : ℝ) : EReal) := by
  refine (dats m 0 c).arrAt_eq_of_covers 9 _ (by decide +kernel) fun t hf y => ?_
  blk_simp
  rw [after_9]
  obtain ⟨r, l, rfl⟩ : ∃ (r : Fin 512) (l : Fin 128), y = ix2 r l := ⟨y 0, y 1, ValueIdx.eq_ix2 y⟩
  rw [emb_9]
  exact out_at (t := pt t) Rows.outBG (dbgRows d.chunk)
    (chunk_dbg (rows_hold g t) (stateAt_holds g t.val (Nat.le_of_lt (pt t).isLt))) r l (rowAt t r) rfl

end

end Delta.Grid

end
-- ==== Proof.HostRead.lean ====
/-
  The reference's work on one chunk, read as real matrices: where the arrays one iteration reads hold a head's matrices, each value of the
  iteration holds the matrix that `Head` names.
-/
module

public import proofs.«01_k».proof.Proof.Sequence
public import proofs.«01_k».proof.Proof.TileRead
public import proofs.«01_k».proof.Proof.Gen.ReferenceIdeal.Step
public import Idealize.ShloMosaic.Lib.Tactic

@[expose] public section

set_option maxRecDepth 16384

noncomputable section

namespace Delta

open Idealize.ShloMosaic hiding ix0 ix1 ix2 ix3 ix4 ix5
open Idealize.ShloMosaic.ValueIdx Idealize.ShloMosaic.Tactic
open Cert.ReferenceIdeal Cert.ReferenceIdeal.Gen Cert.ReferenceIdeal.Step
open scoped BigOperators Matrix

/-! ## Matrices side by side -/

section Sides
variable {a b b' : ℕ}

theorem hcat_left (M : Matrix (Fin a) (Fin b) ℝ) (N : Matrix (Fin a) (Fin b') ℝ) (i : Fin a) (j : Fin b) : hcat M N i (Fin.castAdd b' j) = M i j := by
  simp only [hcat, Fin.addCases_left]

theorem hcat_right (M : Matrix (Fin a) (Fin b) ℝ) (N : Matrix (Fin a) (Fin b') ℝ) (i : Fin a) (j : Fin b') : hcat M N i (Fin.natAdd b j) = N i j := by
  simp only [hcat, Fin.addCases_right]

theorem hcat_add_mul (A : Matrix (Fin a) (Fin a) ℝ) (M : Matrix (Fin a) (Fin b) ℝ) (N : Matrix (Fin a) (Fin b') ℝ) (i : Fin a) (j : Fin (b + b')) :
    hcat M N i j + (A * hcat M N) i j = hcat (M + A * M) (N + A * N) i j := by
  refine Fin.addCases (fun j => ?_) (fun j => ?_) j
  · rw [hcat_left, hcat_left, mul_hcat_left]; rfl
  · rw [hcat_right, hcat_right, mul_hcat_right]; rfl

theorem hcat_zero_add (M : Matrix (Fin a) (Fin b) ℝ) (N : Matrix (Fin a) (Fin b') ℝ) (i : Fin a) (j : Fin (b + b')) :
    hcat (0 : Matrix (Fin a) (Fin b) ℝ) N i j + hcat M (0 : Matrix (Fin a) (Fin b') ℝ) i j = hcat M N i j := by
  refine Fin.addCases (fun j => ?_) (fun j => ?_) j
  · rw [hcat_left, hcat_left, hcat_left]; exact zero_add _
  · rw [hcat_right, hcat_right, hcat_right]; exact add_zero _

theorem HMat.leftCols {n : ℕ} {h : Fin n} {x : (⟨3, ![n, a, b + b']⟩ : Shape).Idx → EReal} {M : Matrix (Fin a) (Fin b) ℝ} {N : Matrix (Fin a) (Fin b') ℝ}
    (hs : Shape.Slices (⟨3, ![n, a, b + b']⟩ : Shape) ![0, 0, 0] ⟨3, ![n, a, b]⟩) (hx : HMat h x (Delta.hcat M N)) :
    HMat h (extractStridedSlice ⟨3, ![n, a, b]⟩ ![0, 0, 0] x hs) M :=
  (hx.cols 0 hs (by omega)).congr fun i j => Eq.trans (congrArg (Delta.hcat M N i) (Fin.ext (Nat.zero_add _))) (Delta.hcat_left M N i j)

theorem HMat.rightCols {n : ℕ} {h : Fin n} {x : (⟨3, ![n, a, b + b']⟩ : Shape).Idx → EReal} {M : Matrix (Fin a) (Fin b) ℝ} {N : Matrix (Fin a) (Fin b') ℝ}
    (hs : Shape.Slices (⟨3, ![n, a, b + b']⟩ : Shape) ![0, 0, b] ⟨3, ![n, a, b']⟩) (hx : HMat h x (Delta.hcat M N)) :
    HMat h (extractStridedSlice ⟨3, ![n, a, b']⟩ ![0, 0, b] x hs) N :=
  (hx.cols b hs (by omega)).congr fun i j => Eq.trans (congrArg (Delta.hcat M N i) (Fin.ext rfl)) (Delta.hcat_right M N i j)

end Sides

/-! ## Constants and masks -/

theorem zero_word (k : S_.Idx) : constant (F := Ideal) S_ .f32 0x00000000#32 k = 0 := Ideal.ofBits_zero_f32

theorem zero_real : Ideal.ofBits .f32 0x00000000#32 = ((0 : ℝ) : EReal) := Ideal.ofBits_zero_f32.trans EReal.coe_zero.symm

theorem minus_infinity : Ideal.ofBits .f32 0xFF800000#32 = (⊥ : EReal) := by simp [Ideal.ofBits, Ideal.ieee]

theorem mask_causal (j : ℕ) (s : State Ideal) (i k : Fin 64) : b49 j s (ix2 i k) = 1#1 ↔ k.val ≤ i.val := by
  revert i k
  show ∀ i k : Fin 64, select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1)) (ix2 i k) = 1#1 ↔ k.val ≤ i.val
  decide +kernel

theorem mask_strict (j : ℕ) (s : State Ideal) (i k : Fin 64) : b60 j s (ix2 i k) = 1#1 ↔ k.val < i.val := by
  revert i k
  show ∀ i k : Fin 64, select (cmpi .sge (addi (iotaInDim S64x64 32 0) (broadcastInDim S64x64 ![] bcast_S_S64x64 (constantI S_ 32 4294967295#32))) (iotaInDim S64x64 32 1))
    (broadcastInDim S64x64 ![] bcast_S_S64x64 (constantI S_ 1 1#1)) (broadcastInDim S64x64 ![] bcast_S_S64x64 (constantI S_ 1 0#1)) (ix2 i k) = 1#1 ↔ k.val < i.val
  decide +kernel

/-! ## The substitution -/

/-- `n` rounds of substitution on arrays. -/
def substituted (low zero : FVec Ideal S4x64x64 .f32) : ℕ → FVec Ideal S4x64x64 .f32
  | 0 => zero
  | n + 1 => Host.negf (addf low (Host.dotGeneral dot_S4x64x64_S4x64x64_S4x64x64_2_1_1_2_0_0 none low (substituted low zero n)))

theorem HMat.substituted {h : Fin 4} {low zero : FVec Ideal S4x64x64 .f32} {L : Matrix (Fin 64) (Fin 64) ℝ} (hl : HMat h low L)
    (hz : HMat h zero (fun _ _ => 0)) (n : ℕ) : HMat h (Delta.substituted low zero n) (rounds L n) := by
  induction n with
  | zero => exact hz
  | succ n ih => exact (hl.add (HMat.dotNN rfl hl ih)).neg

/-! ## One iteration -/

/-- The arrays that iteration `j` works on hold head `h`'s matrices. -/
structure Reads (j : ℕ) (s : State Ideal) (h : Fin 4) (H : Head) : Prop where
  q : HMat h (b30 j s) H.q
  k : HMat h (b32 j s) H.k
  v : HMat h (b34 j s) H.v
  dO : HMat h (b318 j s) H.dO
  β : HVec h (b36 j s) H.β
  g : HVec h (b38 j s) H.g
  S : HMat h (b24 j s) H.S
  D : HMat h s.main_v10_7 H.D

namespace Reads
variable {j : ℕ} {s : State Ideal} {h : Fin 4} {H : Head} (r : Reads j s h H)
include r

theorem dec : HMat h (b73 j s) H.dec :=
  HMat.expSel (b68 j s) (fun i k => k.val ≤ i.val) (fun i k => by rw [show b68 j s (ix3 h i k) = b49 j s (ix2 i k) from mask_head (b49 j s) (by decide) (by decide) _ i k]; exact mask_causal j s i k)
    (((r.g.col (by decide) (by decide) _).spreadCol (by decide) (by decide) _).sub ((r.g.row (by decide) (by decide) _).spreadRow (by decide) (by decide) _))
    (fun k => (broadcastInDim_scalar_apply _ _ k).trans minus_infinity)

theorem kb : HMat h (b76 j s) H.kb :=
  r.k.mul ((r.β.col (by decide) (by decide) _).spreadCol (by decide) (by decide) _)

theorem vb : HMat h (b79 j s) H.vb :=
  r.v.mul ((r.β.col (by decide) (by decide) _).spreadCol (by decide) (by decide) _)

theorem gram : HMat h (b80 j s) (H.kb * H.kᵀ) :=
  HMat.dotNT rfl r.kb r.k

theorem low : HMat h (b86 j s) H.low :=
  HMat.sel (b84 j s) (fun i k => k.val < i.val) (fun i k => by rw [show b84 j s (ix3 h i k) = b60 j s (ix2 i k) from mask_head (b60 j s) (by decide) (by decide) _ i k]; exact mask_strict j s i k)
    (r.gram.mul r.dec) (HMat.const _ 0 zero_real _)

theorem eg : HVec h (b89 j s) H.eg :=
  r.g.exp

theorem eg' : HVec h (b291 j s) H.eg :=
  r.g.exp

theorem kbg : HMat h (b92 j s) H.kbg :=
  r.kb.mul ((r.eg.col (by decide) (by decide) _).spreadCol (by decide) (by decide) _)

theorem rhs : HMat h (b93 j s) (hcat H.vb H.kbg) :=
  HMat.hcat _ r.vb r.kbg

theorem X : HMat h (b284 j s) H.X := by
  have e : b284 j s = substituted (b86 j s) (b95 j s) 63 := by sl_kernel_rfl
  rw [e]
  exact HMat.substituted r.low (HMat.const _ 0 zero_real _) 63

theorem sol : HMat h (b286 j s) (hcat H.u H.w) :=
  (r.rhs.add (HMat.dotNN rfl r.X r.rhs)).congr fun i k => hcat_add_mul H.X H.vb H.kbg i k

theorem u : HMat h (b287 j s) H.u :=
  HMat.leftCols (b := 128) (b' := 128) _ r.sol

theorem w : HMat h (b288 j s) H.w :=
  HMat.rightCols (b := 128) (b' := 128) _ r.sol

theorem qkRaw : HMat h (b289 j s) (H.q * H.kᵀ) :=
  HMat.dotNT rfl r.q r.k

theorem qk : HMat h (b290 j s) H.qk :=
  r.qkRaw.mul r.dec

theorem qDec : HMat h (b294 j s) H.qDec :=
  r.q.mul ((r.eg'.col (by decide) (by decide) _).spreadCol (by decide) (by decide) _)

theorem eTail : HVec h (b298 j s) H.eTail :=
  (((r.g.entry 63 _ (by decide)).spread (by decide) _).sub r.g).exp

theorem kDec : HMat h (b301 j s) H.kDec :=
  r.k.mul ((r.eTail.col (by decide) (by decide) _).spreadCol (by decide) (by decide) _)

theorem eEnd : HNum h (b304 j s) H.eEnd :=
  ((r.g.entry 63 _ (by decide)).toNum _).exp

theorem vNew : HMat h (b306 j s) H.vNew :=
  r.u.sub (HMat.dotNN rfl r.w r.S)

theorem byD : HMat h (b320 j s) (H.kDec * H.D) :=
  (HMat.transp _ (HMat.dotTT rfl r.D r.kDec)).congr fun i k => by rw [← Matrix.transpose_mul, Matrix.transpose_transpose]

theorem dkDec : HMat h (b322 j s) H.dkDec :=
  (HMat.transp _ (HMat.dotNT rfl r.D r.vNew)).congr fun i k => by rw [Matrix.transpose_mul, Matrix.transpose_transpose]; rfl

theorem total : HNum h (b330 j s) H.total := by
  have e : (∑ i, ∑ k, H.S i k * H.D i k) = H.total := Finset.sum_congr rfl fun i _ => Finset.sum_congr rfl fun k _ => mul_comm _ _
  rw [← e]
  exact HMat.sumOne zero_word _ _ (((r.S.mul r.D).sumAll zero_word _ _).castMat _)

theorem dScaled : HMat h (b328 j s) (fun i k => H.D i k * H.eEnd) :=
  r.D.mul ((r.eEnd.mat (by decide) _).spreadOne (by decide) _)

theorem byQk : HMat h (b332 j s) (H.qkᵀ * H.dO) :=
  (HMat.transp _ (HMat.dotTN rfl r.dO r.qk)).congr fun i k => by rw [Matrix.transpose_mul, Matrix.transpose_transpose]

theorem dvNew : HMat h (b333 j s) H.dvNew :=
  (r.byD.add r.byQk).congr fun i k => add_comm _ _

theorem dA : HMat h (b334 j s) (H.dO * H.vNewᵀ) :=
  HMat.dotNT rfl r.dO r.vNew

theorem outer : HMat h (b336 j s) (H.qDecᵀ * H.dO) :=
  (HMat.transp _ (HMat.dotTN rfl r.dO r.qDec)).congr fun i k => by rw [Matrix.transpose_mul, Matrix.transpose_transpose]

theorem dqDec : HMat h (b338 j s) H.dqDec :=
  HMat.dotNT rfl r.dO r.S

theorem negDv : HMat h (b339 j s) (-H.dvNew) :=
  r.dvNew.neg

theorem outerW : HMat h (b341 j s) (-(H.wᵀ * H.dvNew)) :=
  (HMat.transp _ (HMat.dotTN rfl r.negDv r.w)).congr fun i k => by rw [Matrix.transpose_mul, Matrix.transpose_transpose, Matrix.mul_neg]

theorem next : HMat h (b342 j s) H.next :=
  ((r.dScaled.add r.outer).add r.outerW).congr fun i k => by
    show H.D i k * H.eEnd + (H.qDecᵀ * H.dO) i k + -((H.wᵀ * H.dvNew) i k) = H.eEnd * H.D i k + (H.qDecᵀ * H.dO) i k - (H.wᵀ * H.dvNew) i k
    ring

theorem dw : HMat h (b343 j s) H.dw :=
  (HMat.dotNT rfl r.negDv r.S).congr fun i k => by rw [Matrix.neg_mul]; rfl

theorem endPart : HVec h (b347 j s) (fun i => if i.val = 63 then H.total * H.eEnd else 0) :=
  HVec.padLast zero_word _ _ ((r.total.mul r.eEnd).vec (by decide) _)

omit r in
/-- A row's sum, times the row's number. -/
theorem sum_scaled (A B : Matrix (Fin 64) (Fin 128) ℝ) (f : Fin 64 → ℝ) (i : Fin 64) :
    (∑ k, A i k * B i k) * f i = ∑ k, B i k * scale A f i k := by
  rw [Finset.sum_mul]
  exact Finset.sum_congr rfl fun k _ => by rw [scale]; ring

theorem kd : HVec h (b356 j s) H.kd :=
  ((HMat.sumOneCol zero_word _ _ (((r.k.mul r.dkDec).sumRows zero_word _ _).castCol _)).mul r.eTail).congr fun i => sum_scaled H.k H.dkDec H.eTail i

theorem kdEnd : HVec h (b363 j s) (fun i => if i.val = 63 then ∑ k, H.kd k else 0) :=
  HVec.padLast zero_word _ _ ((r.kd.sum zero_word _ _).castVec _)

theorem dkTail : HMat h (b353 j s) (scale H.dkDec H.eTail) :=
  r.dkDec.mul ((r.eTail.col (by decide) (by decide) _).spreadCol (by decide) (by decide) _)

theorem qd : HVec h (b373 j s) (fun i => ∑ k, H.dqDec i k * H.qDec i k) :=
  ((HMat.sumOneCol zero_word _ _ (((r.q.mul r.dqDec).sumRows zero_word _ _).castCol _)).mul r.eg').congr fun i => sum_scaled H.q H.dqDec H.eg i

theorem dnn : HMat h (b376 j s) H.dnn :=
  (r.dA.mul r.dec).congr fun i k => by
    unfold Head.dnn Head.dqk
    by_cases hik : k.val ≤ i.val
    · simp only [if_pos hik]
    · simp only [Head.dec, if_neg hik, mul_zero]

theorem byDnn : HMat h (b377 j s) (H.dnnᵀ * H.q) :=
  HMat.dotTN rfl r.dnn r.q

theorem dqScaled : HMat h (b370 j s) (scale H.dqDec H.eg) :=
  r.dqDec.mul ((r.eg'.col (by decide) (by decide) _).spreadCol (by decide) (by decide) _)

theorem dq : HMat h (b380 j s) H.dq :=
  (r.dqScaled.add (HMat.dotNN rfl r.dnn r.k)).congr fun i k => add_comm _ _

theorem dSol : HMat h (b385 j s) (hcat H.dvNew H.dw) :=
  ((HMat.padLeft zero_word _ _ r.dw).add (HMat.padRight zero_word _ _ r.dvNew)).congr fun i k => hcat_zero_add H.dvNew H.dw i k

theorem dRhs : HMat h (b388 j s) (hcat H.dvb H.dkbg) :=
  (r.dSol.add (HMat.dotNN rfl (HMat.transp _ r.X) r.dSol)).congr fun i k => hcat_add_mul H.Xᵀ H.dvNew H.dw i k

theorem dSys : HMat h (b389 j s) (H.y + H.y * H.Xᵀ) :=
  (HMat.dotNT rfl r.dRhs r.sol).congr fun i k => by rw [hcat_mul_hcat, Head.y_solution]

theorem dvb : HMat h (b391 j s) H.dvb :=
  HMat.leftCols (b := 128) (b' := 128) _ r.dRhs

theorem dkbg : HMat h (b392 j s) H.dkbg :=
  HMat.rightCols (b := 128) (b' := 128) _ r.dRhs

theorem gg : HVec h (b401 j s) (fun i => ∑ k, H.dkbg i k * H.kbg i k) :=
  ((HMat.sumOneCol zero_word _ _ (((r.kb.mul r.dkbg).sumRows zero_word _ _).castCol _)).mul r.eg).congr fun i => sum_scaled H.kb H.dkbg H.eg i

theorem dlow : HMat h (b405 j s) H.dlow :=
  HMat.sel (b84 j s) (fun i k => k.val < i.val) (fun i k => by rw [show b84 j s (ix3 h i k) = b60 j s (ix2 i k) from mask_head (b60 j s) (by decide) (by decide) _ i k]; exact mask_strict j s i k)
    r.dSys.neg (HMat.const _ 0 zero_real _)

theorem dmm : HMat h (b408 j s) H.dmm :=
  r.dlow.mul r.dec

theorem dkbgScaled : HMat h (b398 j s) (scale H.dkbg H.eg) :=
  r.dkbg.mul ((r.eg.col (by decide) (by decide) _).spreadCol (by decide) (by decide) _)

theorem dkb : HMat h (b412 j s) H.dkb :=
  (r.dkbgScaled.add (HMat.dotNN rfl r.dmm r.k)).congr fun i k => add_comm _ _

theorem dv : HMat h (b418 j s) H.dv :=
  r.dvb.mul ((r.β.col (by decide) (by decide) _).spreadCol (by decide) (by decide) _)

theorem dβ : HVec h (b430 j s) H.dβ :=
  ((HMat.sumOneCol zero_word _ _ (((r.v.mul r.dvb).sumRows zero_word _ _).castCol _)).add (HMat.sumOneCol zero_word _ _ (((r.k.mul r.dkb).sumRows zero_word _ _).castCol _))).congr fun i => by
    show (∑ k, H.v i k * H.dvb i k) + (∑ k, H.k i k * H.dkb i k) = ∑ k, (H.dkb i k * H.k i k + H.dvb i k * H.v i k)
    rw [← Finset.sum_add_distrib]
    exact Finset.sum_congr rfl fun k _ => by ring

theorem dk : HMat h (b427 j s) H.dk :=
  ((((r.dkTail.add r.byDnn).add (HMat.dotTN rfl r.dmm r.kb)).add (r.dkb.mul ((r.β.col (by decide) (by decide) _).spreadCol (by decide) (by decide) _))).congr fun i k => by
    show scale H.dkDec H.eTail i k + (H.dnnᵀ * H.q) i k + (H.dmmᵀ * H.kb) i k + scale H.dkb H.β i k
      = (H.dmmᵀ * H.kb) i k + (H.dnnᵀ * H.q) i k + scale H.dkDec H.eTail i k + scale H.dkb H.β i k
    ring)

theorem e : HMat h (b434 j s) H.e :=
  (HMat.sel (b68 j s) (fun i k => k.val ≤ i.val) (fun i k => by rw [show b68 j s (ix3 h i k) = b49 j s (ix2 i k) from mask_head (b49 j s) (by decide) (by decide) _ i k]; exact mask_causal j s i k)
    (((r.qkRaw.mul r.dA).add (r.gram.mul r.dlow)).mul r.dec) (HMat.const _ 0 zero_real _)).congr fun i k => by
    unfold Head.e Head.dqk Head.qk Head.low
    by_cases hik : k.val ≤ i.val
    · by_cases hlt : k.val < i.val
      · simp only [if_pos hik, if_pos hlt]; ring
      · simp only [if_pos hik, if_neg hlt, Head.dlow]; ring
    · simp only [if_neg hik, if_neg fun w : k.val < i.val => hik w.le]; ring

theorem eRows : HVec h (b446 j s) (fun i => ∑ k, H.e i k) :=
  HMat.sumOneCol zero_word _ _ ((r.e.sumRows zero_word _ _).castCol _)

theorem eCols : HVec h (b443 j s) (fun i => -∑ k, H.e k i) :=
  (HMat.sumOneRow zero_word _ _ ((r.e.neg.sumCols zero_word _ _).castRow _)).congr fun i => Finset.sum_neg_distrib _

theorem dg : HVec h (b447 j s) H.dg :=
  ((((((r.endPart.add r.kd.neg).add r.kdEnd).add r.qd).add r.gg).add r.eCols).add r.eRows).congr fun i => by
    unfold Head.dg
    by_cases hi : i.val = 63
    · simp only [if_pos hi]; ring
    · simp only [if_neg hi]; ring

end Reads

/-! ## The rows one iteration writes -/

/-- Four columns put at lanes `p …` of 128. -/
theorem gate_pad {x : (⟨2, ![4, 64]⟩ : Shape).Idx → EReal} {f : Fin 4 → Fin 64 → ℝ} {u : Shape} {v : u.Idx → EReal} (hv : ∀ k, v k = 0) (p q : ℕ)
    (ht : Shape.Transposes (⟨2, ![4, 64]⟩ : Shape) [1, 0] ⟨2, ![64, 4]⟩)
    (hp : (⟨2, ![64, 4]⟩ : Shape).Pads ![0, p] ![0, q] ![0, 0] ⟨2, ![64, 128]⟩) (hu : 0 < u.numel) (hx : ∀ h, HVec h x (f h)) :
    Mat (pad ⟨2, ![64, 128]⟩ ![0, p] ![0, q] ![0, 0] (transpose ⟨2, ![64, 4]⟩ [1, 0] x ht) v hp hu)
      (fun i l => if h : p ≤ l.val ∧ l.val < p + 4 then f ⟨l.val - p, by omega⟩ i else 0) := fun i l => by
  show pad ⟨2, ![64, 128]⟩ ![0, p] ![0, q] ![0, 0] (transpose ⟨2, ![64, 4]⟩ [1, 0] x ht) v hp hu (ix2 i l)
    = ((if h : p ≤ l.val ∧ l.val < p + 4 then f ⟨l.val - p, by omega⟩ i else 0 : ℝ) : EReal)
  by_cases e : p ≤ l.val ∧ l.val < p + 4
  · rw [dif_pos e]
    refine (pad_apply_of_inside ![0, p] ![0, q] ![0, 0] _ v hp hu (ix2 i l) (ix2 i ⟨l.val - p, by omega⟩) fun k => ?_).trans ?_
    · match k with
      | ⟨0, _⟩ => show i.val = 0 + i.val * (0 + 1); omega
      | ⟨1, _⟩ => show l.val = p + (l.val - p) * (0 + 1); omega
    · refine (transpose_apply [1, 0] x ht (ix2 i ⟨l.val - p, by omega⟩) (ix2 ⟨l.val - p, by omega⟩ i) fun k => ?_).trans (hx _ i)
      match k with
      | ⟨0, _⟩ => rfl
      | ⟨1, _⟩ => rfl
  · rw [dif_neg e]
    refine (pad_apply_of_not_inside ![0, p] ![0, q] ![0, 0] (transpose ⟨2, ![64, 4]⟩ [1, 0] x ht) v hp hu (ix2 i l) (1 : Fin 2) ?_).trans ((hv _).trans EReal.coe_zero.symm)
    intro hh
    have h1 : p ≤ l.val := hh.1
    have h2 : (l.val - p) / (0 + 1) < 4 := hh.2.2
    simp only [Nat.zero_add, Nat.div_one] at h2
    omega

section Written
variable {j : ℕ} {s : State Ideal} {H : Fin 4 → Head} (r : ∀ h, Reads j s h (H h))
include r

theorem rows_dq : Mat (b460 j s) (joinCols fun h => (H h).dq) := HMat.join _ _ fun h => (r h).dq
theorem rows_dk : Mat (b458 j s) (joinCols fun h => (H h).dk) := HMat.join _ _ fun h => (r h).dk
theorem rows_dv : Mat (b456 j s) (joinCols fun h => (H h).dv) := HMat.join _ _ fun h => (r h).dv
theorem rows_dbg : Mat (b454 j s) (gateCols H) :=
  ((gate_pad zero_word 4 120 _ _ _ fun h => (r h).dg).add (gate_pad zero_word 0 124 _ _ _ fun h => (r h).dβ)).congr fun i l => by
    unfold gateCols
    by_cases h4 : l.val < 4
    · rw [dif_neg (by omega), dif_pos (by omega), dif_pos h4, zero_add]; rfl
    · by_cases h8 : l.val < 8
      · rw [dif_pos (by omega), dif_neg (by omega), dif_neg h4, dif_pos h8, add_zero]
      · rw [dif_neg (by omega), dif_neg (by omega), dif_neg h4, dif_neg h8, add_zero]

end Written

end Delta

end
-- ==== Proof.RefRun.lean ====
/-
  The reference's loop, as a sequence of states: the run's one trip over the buffers is `Step.step` on the state those buffers
  hold, so the four results are fields of the 128th state of the sequence that starts at `Step.init` of the arguments.
-/
module

public import proofs.«01_k».proof.Proof.Gen.ReferenceIdeal.Run
public import proofs.«01_k».proof.Proof.Gen.ReferenceIdeal.Step
public import Idealize.ShloMosaic.Lib.Tactic
public import Idealize.ShloMosaic.Lib.Quiescent

@[expose] public section

set_option maxRecDepth 16384

noncomputable section

namespace Delta.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state that the loop's buffers hold. -/
def stateOf (W : Valuation τ sig (Elt F)) : State F where
  main_v10_7 := W (Proc.devRef .tc main_v10_7)
  main_v10_8 := W (Proc.devRef .tc main_v10_8)
  main_v10_9 := W (Proc.devRef .tc main_v10_9)
  main_v10_10 := W (Proc.devRef .tc main_v10_10)
  main_v10_11 := W (Proc.devRef .tc main_v10_11)
  main_v10_0 := W (Proc.devRef .tc main_v10_0)
  main_v10_1 := W (Proc.devRef .tc main_v10_1)
  main_v10_2 := W (Proc.devRef .tc main_v10_2)
  main_v10_3 := W (Proc.devRef .tc main_v10_3)
  main_v10_4 := W (Proc.devRef .tc main_v10_4)
  main_v10_5 := W (Proc.devRef .tc main_v10_5)

/-- The counter of trip `j`. -/
abbrev number (j : ℕ) : (Proc.devRef .tc main_v10_6 : DevRef τ sig).ty.Contents (Elt F) :=
  constantI S_ 32 (BitVec.ofNat 32 j)

/-- The buffers with the counter at `j`. -/
def counted (W : Valuation τ sig (Elt F)) (j : ℕ) : Valuation τ sig (Elt F) :=
  Function.update W (Proc.devRef .tc main_v10_6) (number j)

theorem counted_eq (W : Valuation τ sig (Elt F)) (j : ℕ) (h : W (Proc.devRef .tc main_v10_6) = number j) :
    counted W j = W := by
  unfold counted; rw [← h, Function.update_eq_self]

variable (W : Valuation τ sig (Elt F)) (j : ℕ)

theorem trip_state : step_main_v10_7 (counted W j) = Step.b342 j (stateOf (counted W j)) := by sl_kernel_rfl
theorem trip_dq : step_main_v10_8 (counted W j) = Step.b464 j (stateOf (counted W j)) := by sl_kernel_rfl
theorem trip_dk : step_main_v10_9 (counted W j) = Step.b468 j (stateOf (counted W j)) := by sl_kernel_rfl
theorem trip_dv : step_main_v10_10 (counted W j) = Step.b472 j (stateOf (counted W j)) := by sl_kernel_rfl
theorem trip_dbg : step_main_v10_11 (counted W j) = Step.b476 j (stateOf (counted W j)) := by sl_kernel_rfl

/-- One trip of the loop steps the state. -/
theorem trip (h : W (Proc.devRef .tc main_v10_6) = number j) : stateOf (STEP W) = step j (stateOf W) := by
  have e := counted_eq W j h
  have e7 := trip_state W j
  have e8 := trip_dq W j
  have e9 := trip_dk W j
  have e10 := trip_dv W j
  have e11 := trip_dbg W j
  rw [e] at e7 e8 e9 e10 e11
  unfold step
  rw [← e7, ← e8, ← e9, ← e10, ← e11]
  unfold stateOf
  rw [STEP_main_v10_7, STEP_main_v10_8, STEP_main_v10_9, STEP_main_v10_10, STEP_main_v10_11, STEP_main_v10_0,
    STEP_main_v10_1, STEP_main_v10_2, STEP_main_v10_3, STEP_main_v10_4, STEP_main_v10_5]

/-- One trip of the loop steps the counter. -/
theorem trip_number (h : W (Proc.devRef .tc main_v10_6) = number j) :
    STEP W (Proc.devRef .tc main_v10_6) = number (j + 1) := by
  rw [STEP_main_v10_6]
  unfold step_main_v10_6
  rw [h]
  funext i
  show BitVec.ofNat 32 j + 1#32 = BitVec.ofNat 32 (j + 1)
  simp only [BitVec.ofNat_add]

variable (m : (ℓ : Loc nD τ sig) → Buf (Elt F) ℓ) (c : Dev nD)

/-- The state the loop starts from. -/
def start : State F :=
  init (m ((c.tc : Thread nD τ).loc main_arg4)) (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg5))

/-- The states before each trip. -/
def states : ℕ → State F
  | 0 => start m c
  | n + 1 => step n (states n)

set_option maxRecDepth 65536 in
set_option maxHeartbeats 1000000 in
theorem entry_state : stateOf (entryContents preI m c) = start m c := by
  unfold stateOf start init
  congr 1 <;> (simp only [entryContents, afterL_cons, afterL_nil]; after_reads_simp) <;> rfl

set_option maxRecDepth 65536 in
set_option maxHeartbeats 1000000 in
theorem entry_number : entryContents preI m c (Proc.devRef .tc main_v10_6) = number 0 := by
  (simp only [entryContents, afterL_cons, afterL_nil]; after_reads_simp) <;> rfl

theorem iterates (n : ℕ) : stateOf (STEP^[n] (entryContents preI m c)) = states m c n
    ∧ STEP^[n] (entryContents preI m c) (Proc.devRef .tc main_v10_6) = number n := by
  induction n with
  | zero => exact ⟨entry_state m c, entry_number m c⟩
  | succ n ih =>
    rw [Function.iterate_succ_apply']
    exact ⟨(trip _ n ih.2).trans (by rw [ih.1]; rfl), trip_number _ n ih.2⟩

theorem out_dq : out_main_v11 W = Step.R_main_v11 (stateOf W) := by sl_kernel_rfl
theorem out_dk : out_main_v12 W = Step.R_main_v12 (stateOf W) := by sl_kernel_rfl
theorem out_dv : out_main_v13 W = Step.R_main_v13 (stateOf W) := by sl_kernel_rfl
theorem out_dbg : out_main_v14 W = Step.R_main_v14 (stateOf W) := by sl_kernel_rfl

/-- Every run of the reference ends with its results at the fields of the last state, the arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v11) = Step.R_main_v11 (states m c 128)
      ∧ r.2.mem ((c.tc : Thread nD τ).loc main_v12) = Step.R_main_v12 (states m c 128)
      ∧ r.2.mem ((c.tc : Thread nD τ).loc main_v13) = Step.R_main_v13 (states m c 128)
      ∧ r.2.mem ((c.tc : Thread nD τ).loc main_v14) = Step.R_main_v14 (states m c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    have hs := (iterates m c 128).1
    obtain ⟨h1, h2, h3, h4, h5⟩ := h c
    rw [out_dq, hs] at h1
    rw [out_dk, hs] at h2
    rw [out_dv, hs] at h3
    rw [out_dbg, hs] at h4
    exact ⟨h1, h2, h3, h4, h5⟩) (Cert.ReferenceIdeal.Value.run m ρ)

/-- The reference has no counters, so every run ends with its arguments as they were and every counter zero. -/
theorem quiet (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2.2, sem_eq_zero_of_no_sems (by rfl) r.2⟩) (run m ρ)

end Delta.RefRun

end
-- ==== Proof.RefRead.lean ====
/-
  The reference's results on arguments that hold real data: the loop goes from the last chunk back to the first, and each iteration cuts a
  chunk out of the arrays and writes that chunk's results into place.
-/
module

public import proofs.«01_k».proof.Proof.HostRead
public import proofs.«01_k».proof.Proof.RefRun
public import Idealize.ShloMosaic.Lib.Pointwise.ShapeOpsCore

@[expose] public section

set_option maxRecDepth 16384

noncomputable section

namespace Delta

open Idealize.ShloMosaic hiding ix0 ix1 ix2 ix3 ix4 ix5
open Idealize.ShloMosaic.ValueIdx Idealize.ShloMosaic.TcCoe
open Cert.ReferenceIdeal Cert.ReferenceIdeal.Gen Cert.ReferenceIdeal.Step

/-! ## Cutting a chunk out, and writing one into place -/

section Chunks
variable {w : ℕ} {x : (⟨3, ![128, 64, w]⟩ : Shape).Idx → EReal} {start : Fin 3 → Int} {n : Fin 128}

/-- Chunk `n`, cut out and laid flat. -/
theorem HMat.cut (h0 : start 0 = (n.val : Int)) (h1 : start 1 = ((0 : ℕ) : Int)) (h2 : start 2 = ((0 : ℕ) : Int))
    (hs : Shape.Slices (⟨3, ![128, 64, w]⟩ : Shape) (fun _ => 0) ⟨3, ![1, 64, w]⟩)
    (hc : Shape.ShapeCasts (⟨3, ![1, 64, w]⟩ : Shape) ⟨2, ![64, w]⟩) {M : Matrix (Fin 64) (Fin w) ℝ} (hx : HMat n x M) :
    Mat (shapeCast ⟨2, ![64, w]⟩ (Host.dynamicSlice ⟨3, ![1, 64, w]⟩ x start hs) hc) M := fun i l => by
  refine (shapeCast_apply _ hc (ix2 i l) (ix3 (0 : Fin 1) i l) ?_).trans ?_
  · rw [Shape.rowMajor_val_two, Shape.rowMajor_val_three]
    show (0 * 64 + i.val) * w + l.val = i.val * w + l.val
    rw [Nat.zero_mul, Nat.zero_add]
  refine Eq.trans ?_ (hx i l)
  rw [Host.dynamicSlice_apply]
  refine congrArg x (funext fun a => Fin.ext ?_)
  match a with
  | ⟨0, _⟩ =>
    show Host.clampedStart _ _ hs.1 start 0 + 0 = n.val
    rw [Host.clampedStart_of_le hs.1 start 0 n.val h0 n.isLt, Nat.add_zero]
  | ⟨1, _⟩ =>
    show Host.clampedStart _ _ hs.1 start 1 + i.val = i.val
    rw [Host.clampedStart_of_le hs.1 start 1 0 h1 (show 0 + 64 ≤ 64 by omega), Nat.zero_add]
  | ⟨2, _⟩ =>
    show Host.clampedStart _ _ hs.1 start 2 + l.val = l.val
    rw [Host.clampedStart_of_le hs.1 start 2 0 h2 (show 0 + w ≤ w by omega), Nat.zero_add]

variable {z : (⟨2, ![64, w]⟩ : Shape).Idx → EReal} (h0 : start 0 = (n.val : Int)) (h1 : start 1 = ((0 : ℕ) : Int)) (h2 : start 2 = ((0 : ℕ) : Int))
  (hs : Shape.Slices (⟨3, ![128, 64, w]⟩ : Shape) (fun _ => 0) ⟨3, ![1, 64, w]⟩)
  (hb : Shape.BroadcastsInDim (⟨2, ![64, w]⟩ : Shape) ⟨3, ![1, 64, w]⟩ ![1, 2])
include h0 h1 h2

/-- The chunk that was written. -/
theorem HMat.written (hw : w ≠ 1) {M : Matrix (Fin 64) (Fin w) ℝ} (hz : Mat z M) :
    HMat n (Host.dynamicUpdateSlice x (broadcastInDim ⟨3, ![1, 64, w]⟩ ![1, 2] hb z) start hs) M := fun i l => by
  have c0 := Host.clampedStart_of_le (t := ⟨3, ![1, 64, w]⟩) hs.1 start 0 n.val h0 n.isLt
  have c1 := Host.clampedStart_of_le (t := ⟨3, ![1, 64, w]⟩) hs.1 start 1 0 h1 (show 0 + 64 ≤ 64 by omega)
  have c2 := Host.clampedStart_of_le (t := ⟨3, ![1, 64, w]⟩) hs.1 start 2 0 h2 (show 0 + w ≤ w by omega)
  rw [Host.dynamicUpdateSlice_apply, dif_pos fun a => ?_]
  · refine (broadcastInDim_apply _ hb _ _ (ix2 i l) fun a => ?_).trans (hz i l)
    match a with
    | ⟨0, _⟩ =>
      show i.val = if 64 = 1 then 0 else i.val - Host.clampedStart _ _ hs.1 start 1
      rw [c1, Nat.sub_zero]
      exact (if_neg (show ¬(64 = 1) by decide)).symm
    | ⟨1, _⟩ =>
      show l.val = if w = 1 then 0 else l.val - Host.clampedStart _ _ hs.1 start 2
      rw [c2, Nat.sub_zero]
      exact (if_neg hw).symm
  · match a with
    | ⟨0, _⟩ => show Host.clampedStart _ _ hs.1 start 0 ≤ n.val ∧ n.val < Host.clampedStart _ _ hs.1 start 0 + 1; rw [c0]; omega
    | ⟨1, _⟩ => show Host.clampedStart _ _ hs.1 start 1 ≤ i.val ∧ i.val < Host.clampedStart _ _ hs.1 start 1 + 64; rw [c1]; have := i.isLt; omega
    | ⟨2, _⟩ => show Host.clampedStart _ _ hs.1 start 2 ≤ l.val ∧ l.val < Host.clampedStart _ _ hs.1 start 2 + w; rw [c2]; have := l.isLt; omega

/-- The others are as they were. -/
theorem HMat.kept {n' : Fin 128} (hn : n' ≠ n) {M : Matrix (Fin 64) (Fin w) ℝ} (hx : HMat n' x M) (u : (⟨3, ![1, 64, w]⟩ : Shape).Idx → EReal) :
    HMat n' (Host.dynamicUpdateSlice x u start hs) M := fun i l => by
  have c0 := Host.clampedStart_of_le (t := ⟨3, ![1, 64, w]⟩) hs.1 start 0 n.val h0 n.isLt
  rw [Host.dynamicUpdateSlice_apply, dif_neg]
  · exact hx i l
  · intro h
    have h' : Host.clampedStart _ _ hs.1 start 0 ≤ n'.val ∧ n'.val < Host.clampedStart _ _ hs.1 start 0 + 1 := h 0
    rw [c0] at h'
    exact hn (Fin.ext (by omega))

end Chunks

/-- The four states saved for chunk `n`, cut out. -/
theorem cut_saved {x : (⟨4, ![128, 4, 128, 128]⟩ : Shape).Idx → EReal} {start : Fin 4 → Int} {n : Fin 128} (h0 : start 0 = (n.val : Int))
    (h1 : start 1 = ((0 : ℕ) : Int)) (h2 : start 2 = ((0 : ℕ) : Int)) (h3 : start 3 = ((0 : ℕ) : Int))
    (hs : Shape.Slices (⟨4, ![128, 4, 128, 128]⟩ : Shape) (fun _ => 0) ⟨4, ![1, 4, 128, 128]⟩)
    (hc : Shape.ShapeCasts (⟨4, ![1, 4, 128, 128]⟩ : Shape) ⟨3, ![4, 128, 128]⟩) {S : Fin 4 → Matrix (Fin 128) (Fin 128) ℝ}
    (hx : ∀ h i l, x (ix4 n h i l) = ((S h i l : ℝ) : EReal)) (h : Fin 4) :
    HMat h (shapeCast ⟨3, ![4, 128, 128]⟩ (Host.dynamicSlice ⟨4, ![1, 4, 128, 128]⟩ x start hs) hc) (S h) := fun i l => by
  refine (shapeCast_apply _ hc (ix3 h i l) (ix4 (0 : Fin 1) h i l) ?_).trans ?_
  · rw [Shape.rowMajor_val_four, Shape.rowMajor_val_three]
    show ((0 * 4 + h.val) * 128 + i.val) * 128 + l.val = (h.val * 128 + i.val) * 128 + l.val
    omega
  refine Eq.trans ?_ (hx h i l)
  rw [Host.dynamicSlice_apply]
  refine congrArg x (funext fun a => Fin.ext ?_)
  match a with
  | ⟨0, _⟩ =>
    show Host.clampedStart _ _ hs.1 start 0 + 0 = n.val
    rw [Host.clampedStart_of_le hs.1 start 0 n.val h0 n.isLt, Nat.add_zero]
  | ⟨1, _⟩ =>
    show Host.clampedStart _ _ hs.1 start 1 + h.val = h.val
    rw [Host.clampedStart_of_le hs.1 start 1 0 h1 (show 0 + 4 ≤ 4 by omega), Nat.zero_add]
  | ⟨2, _⟩ =>
    show Host.clampedStart _ _ hs.1 start 2 + i.val = i.val
    rw [Host.clampedStart_of_le hs.1 start 2 0 h2 (show 0 + 128 ≤ 128 by omega), Nat.zero_add]
  | ⟨3, _⟩ =>
    show Host.clampedStart _ _ hs.1 start 3 + l.val = l.val
    rw [Host.clampedStart_of_le hs.1 start 3 0 h3 (show 0 + 128 ≤ 128 by omega), Nat.zero_add]

/-- Rows cut into chunks. -/
theorem Mat.chunks {w : ℕ} {x : (⟨2, ![8192, w]⟩ : Shape).Idx → EReal} {M : Matrix (Fin 8192) (Fin w) ℝ}
    (hc : Shape.ShapeCasts (⟨2, ![8192, w]⟩ : Shape) ⟨3, ![128, 64, w]⟩) (hx : Mat x M) (n : Fin 128) :
    HMat n (shapeCast ⟨3, ![128, 64, w]⟩ x hc) (fun i => M (rowOf n i)) := fun i l =>
  (shapeCast_apply x hc (ix3 n i l) (ix2 (rowOf n i) l) (by
    rw [Shape.rowMajor_val_two, Shape.rowMajor_val_three]
    show (64 * n.val + i.val) * w + l.val = (n.val * 64 + i.val) * w + l.val
    rw [Nat.mul_comm 64])).trans (hx _ _)

/-- Chunks laid one under the other. -/
theorem HMat.whole {w : ℕ} {x : (⟨3, ![128, 64, w]⟩ : Shape).Idx → EReal} {G : Fin 128 → Matrix (Fin 64) (Fin w) ℝ}
    (hc : Shape.ShapeCasts (⟨3, ![128, 64, w]⟩ : Shape) ⟨2, ![8192, w]⟩) (hx : ∀ n, HMat n x (G n)) :
    shapeCast ⟨2, ![8192, w]⟩ x hc = fun y : (⟨2, ![8192, w]⟩ : Shape).Idx => ((wholeRows G (y 0) (y 1) : ℝ) : EReal) := by
  funext y
  obtain ⟨r, l, rfl⟩ : ∃ (r : Fin 8192) (l : Fin w), y = ix2 r l := ⟨y 0, y 1, ValueIdx.eq_ix2 y⟩
  have hr := r.isLt
  refine (shapeCast_apply x hc (ix2 r l) (ix3 ⟨r.val / 64, by omega⟩ ⟨r.val % 64, Nat.mod_lt _ (by decide)⟩ l) ?_).trans (hx _ _ _)
  rw [Shape.rowMajor_val_two, Shape.rowMajor_val_three]
  show (r.val / 64 * 64 + r.val % 64) * w + l.val = r.val * w + l.val
  rw [Nat.div_add_mod' r.val 64]

/-! ## One iteration -/

theorem start_word : ∀ j : Fin 128, (128#32 - BitVec.ofNat 32 j.val - 1#32).toInt = (((back j.val).val : ℕ) : Int) := by decide +kernel

theorem start_at (j : ℕ) (hj : j < 128) (s : State Ideal) (i : S_.Idx) : (b3 j s i).toInt = (((back j).val : ℕ) : Int) := start_word ⟨j, hj⟩

/-- The state before iteration `j`: the chunks, the gradient of the state, and the results of the chunks done. -/
structure Reached (d : Fin 128 → Chunk) (j : ℕ) (s : State Ideal) : Prop where
  q : ∀ n, HMat n s.main_v10_0 (d n).q
  k : ∀ n, HMat n s.main_v10_1 (d n).k
  v : ∀ n, HMat n s.main_v10_2 (d n).v
  bg : ∀ n, HMat n s.main_v10_3 (d n).bg
  S : ∀ n h i l, s.main_v10_4 (ix4 n h i l) = (((d n).S h i l : ℝ) : EReal)
  dO : ∀ n, HMat n s.main_v10_5 (d n).dO
  D : ∀ h, HMat h s.main_v10_7 (gradState d j h)
  dq : ∀ n : Fin 128, 128 - j ≤ n.val → HMat n s.main_v10_8 (dqRows d n)
  dk : ∀ n : Fin 128, 128 - j ≤ n.val → HMat n s.main_v10_9 (dkRows d n)
  dv : ∀ n : Fin 128, 128 - j ≤ n.val → HMat n s.main_v10_10 (dvRows d n)
  dbg : ∀ n : Fin 128, 128 - j ≤ n.val → HMat n s.main_v10_11 (dbgRows d n)

section Step
variable {d : Fin 128 → Chunk} {j : ℕ} {s : State Ideal} (hj : j < 128) (r : Reached d j s)
include hj r

theorem Reached.cut_q : Mat (b7 j s) (d (back j)).q := by
  unfold b7 b6
  exact (r.q (back j)).cut (start_at j hj s _) rfl rfl _ _
theorem Reached.cut_k : Mat (b11 j s) (d (back j)).k := by
  unfold b11 b10
  exact (r.k (back j)).cut (start_at j hj s _) rfl rfl _ _
theorem Reached.cut_v : Mat (b15 j s) (d (back j)).v := by
  unfold b15 b14
  exact (r.v (back j)).cut (start_at j hj s _) rfl rfl _ _
theorem Reached.cut_bg : Mat (b19 j s) (d (back j)).bg := by
  unfold b19 b18
  exact (r.bg (back j)).cut (start_at j hj s _) rfl rfl _ _
theorem Reached.cut_dO : Mat (b28 j s) (d (back j)).dO := by
  unfold b28 b27
  exact (r.dO (back j)).cut (start_at j hj s _) rfl rfl _ _
theorem Reached.cut_S (h : Fin 4) : HMat h (b24 j s) ((d (back j)).S h) := by
  unfold b24 b23
  exact cut_saved (start_at j hj s _) rfl rfl rfl _ _ (r.S (back j)) h

theorem Reached.reads (h : Fin 4) : Reads j s h (headAt d (back j) h) := by
  rw [headAt_back d j hj h]
  exact
    { q := by unfold b30 b29; exact (r.cut_q hj).heads _ _
      k := by unfold b32 b31; exact (r.cut_k hj).heads _ _
      v := by unfold b34 b33; exact (r.cut_v hj).heads _ _
      dO := by unfold b318 b317; exact (r.cut_dO hj).heads _ _
      β := by
        unfold b36 b35
        exact ((r.cut_bg hj).gate 0 (by decide) _ _).congr fun i => congrArg ((d (back j)).bg i) (Fin.ext (Nat.zero_add _))
      g := by unfold b38 b37; exact (r.cut_bg hj).gate 4 (by decide) _ _
      S := r.cut_S hj h
      D := r.D h }

/-- What holds after an iteration of a result array that the iteration writes chunk `back j` of. -/
theorem Reached.grow {w : ℕ} {x y : (⟨3, ![128, 64, w]⟩ : Shape).Idx → EReal} {G : Fin 128 → Matrix (Fin 64) (Fin w) ℝ}
    (hw : HMat (back j) y (G (back j))) (hk : ∀ n, n ≠ back j → HMat n x (G n) → HMat n y (G n))
    (hx : ∀ n : Fin 128, 128 - j ≤ n.val → HMat n x (G n)) (n : Fin 128) (hn : 128 - (j + 1) ≤ n.val) : HMat n y (G n) := by
  by_cases e : n = back j
  · subst e; exact hw
  · have : n.val ≠ 127 - j := fun h => e (Fin.ext h)
    exact hk n e (hx n (by omega))

theorem Reached.step_dq (n : Fin 128) (hn : 128 - (j + 1) ≤ n.val) : HMat n (b464 j s) (dqRows d n) := by
  refine Reached.grow hj r (G := dqRows d) ?_ (fun n hn hx => ?_) r.dq n hn
  · unfold b464 b461
    exact HMat.written (start_at j hj s _) rfl rfl _ _ (by decide) (rows_dq (r.reads hj))
  · unfold b464
    exact hx.kept (start_at j hj s _) rfl rfl _ hn _

theorem Reached.step_dk (n : Fin 128) (hn : 128 - (j + 1) ≤ n.val) : HMat n (b468 j s) (dkRows d n) := by
  refine Reached.grow hj r (G := dkRows d) ?_ (fun n hn hx => ?_) r.dk n hn
  · unfold b468 b465
    exact HMat.written (start_at j hj s _) rfl rfl _ _ (by decide) (rows_dk (r.reads hj))
  · unfold b468
    exact hx.kept (start_at j hj s _) rfl rfl _ hn _

theorem Reached.step_dv (n : Fin 128) (hn : 128 - (j + 1) ≤ n.val) : HMat n (b472 j s) (dvRows d n) := by
  refine Reached.grow hj r (G := dvRows d) ?_ (fun n hn hx => ?_) r.dv n hn
  · unfold b472 b469
    exact HMat.written (start_at j hj s _) rfl rfl _ _ (by decide) (rows_dv (r.reads hj))
  · unfold b472
    exact hx.kept (start_at j hj s _) rfl rfl _ hn _

theorem Reached.step_dbg (n : Fin 128) (hn : 128 - (j + 1) ≤ n.val) : HMat n (b476 j s) (dbgRows d n) := by
  refine Reached.grow hj r (G := dbgRows d) ?_ (fun n hn hx => ?_) r.dbg n hn
  · unfold b476 b473
    exact HMat.written (start_at j hj s _) rfl rfl _ _ (by decide) (rows_dbg (r.reads hj))
  · unfold b476
    exact hx.kept (start_at j hj s _) rfl rfl _ hn _

theorem Reached.step : Reached d (j + 1) (step j s) where
  q := by unfold Step.step; exact r.q
  k := by unfold Step.step; exact r.k
  v := by unfold Step.step; exact r.v
  bg := by unfold Step.step; exact r.bg
  S := by unfold Step.step; exact r.S
  dO := by unfold Step.step; exact r.dO
  D h := by
    rw [step_main_v10_7, gradState_succ, ← headAt_back d j hj h]
    exact (r.reads hj h).next
  dq := by rw [step_main_v10_8]; exact r.step_dq hj
  dk := by rw [step_main_v10_9]; exact r.step_dk hj
  dv := by rw [step_main_v10_10]; exact r.step_dv hj
  dbg := by rw [step_main_v10_11]; exact r.step_dbg hj

end Step

/-! ## The whole loop -/

section
variable {m : (ℓ : Loc nD τ sig) → Buf (Elt Ideal) ℓ} {c : Dev nD} {d : Data}

/-- The arguments of core `c` hold the data. -/
def RefRun.Given (m : (ℓ : Loc nD τ sig) → Buf (Elt Ideal) ℓ) (c : Dev nD) (d : Data) : Prop :=
  d.On (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

variable (g : RefRun.Given m c d)
include g

theorem reached_start : Reached d.chunk 0 (RefRun.start m c) where
  q n := g.q.chunks _ n
  k n := g.k.chunks _ n
  v n := g.v.chunks _ n
  bg n := g.bg.chunks _ n
  S n h i l := g.S n h i l
  dO n := g.dO.chunks _ n
  D h := HMat.const (n := 4) (a := 128) (b := 128) _ 0 zero_real bcast_S_S4x128x128
  dq n hn := absurd n.isLt (by omega)
  dk n hn := absurd n.isLt (by omega)
  dv n hn := absurd n.isLt (by omega)
  dbg n hn := absurd n.isLt (by omega)

theorem reached (j : ℕ) (hj : j ≤ 128) : Reached d.chunk j (RefRun.states m c j) := by
  induction j with
  | zero => exact reached_start g
  | succ j ih => exact (ih (by omega)).step hj

theorem ref_dq : R_main_v11 (RefRun.states m c 128)
    = fun y : (⟨2, ![8192, 512]⟩ : Shape).Idx => ((wholeRows (dqRows d.chunk) (y 0) (y 1) : ℝ) : EReal) :=
  HMat.whole _ fun n => (reached g 128 le_rfl).dq n (Nat.zero_le _)
theorem ref_dk : R_main_v12 (RefRun.states m c 128)
    = fun y : (⟨2, ![8192, 512]⟩ : Shape).Idx => ((wholeRows (dkRows d.chunk) (y 0) (y 1) : ℝ) : EReal) :=
  HMat.whole _ fun n => (reached g 128 le_rfl).dk n (Nat.zero_le _)
theorem ref_dv : R_main_v13 (RefRun.states m c 128)
    = fun y : (⟨2, ![8192, 512]⟩ : Shape).Idx => ((wholeRows (dvRows d.chunk) (y 0) (y 1) : ℝ) : EReal) :=
  HMat.whole _ fun n => (reached g 128 le_rfl).dv n (Nat.zero_le _)
theorem ref_dbg : R_main_v14 (RefRun.states m c 128)
    = fun y : (⟨2, ![8192, 128]⟩ : Shape).Idx => ((wholeRows (dbgRows d.chunk) (y 0) (y 1) : ℝ) : EReal) :=
  HMat.whole _ fun n => (reached g 128 le_rfl).dbg n (Nat.zero_le _)

end

end Delta

end
-- ==== Proof.Finite.lean ====
/-
  The precondition: arguments whose entries are all finite hold real data.
-/
module

public import proofs.«01_k».proof.Pre_finite
public import proofs.«01_k».proof.Proof.Sequence

@[expose] public section

set_option maxRecDepth 16384

noncomputable section

namespace Delta.Finite

open Idealize.ShloMosaic hiding ix0 ix1 ix2 ix3 ix4 ix5
open Idealize.ShloMosaic.ValueIdx
open Cert.Pre_finite

theorem facts : Cert.Pre_finite.Facts := ⟨by decide, by decide, by decide⟩

theorem infinity : Ideal.ofBits .f32 0x7F800000#32 = (⊤ : EReal) := by simp [Ideal.ofBits, Ideal.ieee]

/-- An entry whose absolute value is below infinity is a real number. -/
theorem entry {s : Shape} (x : s.Idx → EReal) (hb : S_.BroadcastsInDim s (![] : Fin 0 → Fin s.rank))
    (h : cmpf (F := Ideal) (φ := .f32) .olt (Host.absf x) (broadcastInDim s ![] hb (constant S_ .f32 0x7F800000#32)) = fun _ => 1#1)
    (i : s.Idx) : x i = (((x i).toReal : ℝ) : EReal) := by
  have h1 : Ideal.cmp .olt (max (x i) (-(x i))) (Ideal.ofBits .f32 0x7F800000#32) = 1#1 := congrFun h i
  rw [infinity] at h1
  have h2 : max (x i) (-(x i)) < (⊤ : EReal) := by
    by_contra hn
    simp [Ideal.cmp, hn] at h1
  refine (EReal.coe_toReal ?_ ?_).symm
  · intro e; rw [e] at h2; simp at h2
  · intro e; rw [e] at h2; simp at h2

section
variable (q k v : (⟨2, ![8192, 512]⟩ : Shape).Idx → EReal) (bg : (⟨2, ![8192, 128]⟩ : Shape).Idx → EReal)
  (S : (⟨4, ![128, 4, 128, 128]⟩ : Shape).Idx → EReal) (dO : (⟨2, ![8192, 512]⟩ : Shape).Idx → EReal)

/-- The data of six arrays. -/
def data : Data where
  q i l := (q (ix2 i l)).toReal
  k i l := (k (ix2 i l)).toReal
  v i l := (v (ix2 i l)).toReal
  bg i l := (bg (ix2 i l)).toReal
  S n h i l := (S (ix4 n h i l)).toReal
  dO i l := (dO (ix2 i l)).toReal

/-- Finite arrays hold their data. -/
theorem data_on [Cert.Pre_finite.Facts]
    (h0 : (fn (F := Ideal) q k v bg S dO).1 = fun _ => 1#1) (h1 : (fn (F := Ideal) q k v bg S dO).2.1 = fun _ => 1#1)
    (h2 : (fn (F := Ideal) q k v bg S dO).2.2.1 = fun _ => 1#1) (h3 : (fn (F := Ideal) q k v bg S dO).2.2.2.1 = fun _ => 1#1)
    (h4 : (fn (F := Ideal) q k v bg S dO).2.2.2.2.1 = fun _ => 1#1) (h5 : (fn (F := Ideal) q k v bg S dO).2.2.2.2.2 = fun _ => 1#1) :
    (data q k v bg S dO).On q k v bg S dO where
  q _ _ := entry q _ h0 _
  k _ _ := entry k _ h1 _
  v _ _ := entry v _ h2 _
  bg _ _ := entry bg _ h3 _
  S _ _ _ _ := entry S _ h4 _
  dO _ _ := entry dO _ h5 _

end

end Delta.Finite

end
-- ==== Proof.Entry.lean ====
/-
  Matrices of extended reals, entry by entry.

  `Is x f` says that entry `(i, j)` of the rank-two array `x` is `f i j`, and `IsVec x f` the same of a rank-one array. Each
  operation of the feed-forward programs has a lemma that carries such a reading from its operands to its result. Nothing
  here asks the entries to be finite.
-/
module

public import Idealize.ShloMosaic.Lib.Pointwise.Reduce
public import proofs.«01_k».proof.Proof.Rep

@[expose] public section

set_option maxRecDepth 16384

noncomputable section

namespace Feed

open Idealize.ShloMosaic hiding ix0 ix1 ix2 ix3 ix4 ix5
open Idealize.ShloMosaic.ValueIdx
open scoped BigOperators

/-- Entry `(i, j)` of `x` is `f i j`. -/
def Is {a b : ℕ} (x : (⟨2, ![a, b]⟩ : Shape).Idx → EReal) (f : Fin a → Fin b → EReal) : Prop := ∀ i j, x (ix2 i j) = f i j

/-- Entry `i` of `x` is `f i`. -/
def IsVec {a : ℕ} (x : (⟨1, ![a]⟩ : Shape).Idx → EReal) (f : Fin a → EReal) : Prop := ∀ i, x (ix1 i) = f i

section Entries
variable {a b : ℕ} {x y : (⟨2, ![a, b]⟩ : Shape).Idx → EReal} {f g : Fin a → Fin b → EReal}

theorem Is.self (x : (⟨2, ![a, b]⟩ : Shape).Idx → EReal) : Is x (fun i j => x (ix2 i j)) := fun _ _ => rfl

theorem Is.congr (hx : Is x f) (e : ∀ i j, f i j = g i j) : Is x g := fun i j => (hx i j).trans (e i j)

theorem Is.ext (hx : Is x f) (hy : Is y f) : x = y := funext fun k =>
  (congrArg x (ValueIdx.eq_ix2 k)).trans ((hx _ _).trans ((hy _ _).symm.trans (congrArg y (ValueIdx.eq_ix2 k)).symm))

theorem Is.mul (hx : Is x f) (hy : Is y g) : Is (mulf (F := Ideal) (φ := .f32) x y) (fun i j => f i j * g i j) :=
  fun i j => congrArg₂ (· * ·) (hx i j) (hy i j)

theorem Is.add (hx : Is x f) (hy : Is y g) : Is (addf (F := Ideal) (φ := .f32) x y) (fun i j => f i j + g i j) :=
  fun i j => congrArg₂ (· + ·) (hx i j) (hy i j)

theorem Is.sub (hx : Is x f) (hy : Is y g) : Is (subf (F := Ideal) (φ := .f32) x y) (fun i j => f i j - g i j) :=
  fun i j => congrArg₂ (· - ·) (hx i j) (hy i j)

theorem Is.div (hx : Is x f) (hy : Is y g) : Is (divf (F := Ideal) (φ := .f32) x y) (fun i j => Ideal.div (f i j) (g i j)) :=
  fun i j => congrArg₂ Ideal.div (hx i j) (hy i j)

theorem Is.hostDiv (hx : Is x f) (hy : Is y g) :
    Is (Host.divf (F := Ideal) (φ := .f32) x y) (fun i j => Ideal.div (f i j) (g i j)) :=
  fun i j => congrArg₂ Ideal.div (hx i j) (hy i j)

theorem Is.tanh (hx : Is x f) : Is (Idealize.ShloMosaic.tanh (F := Ideal) (φ := .f32) x) (fun i j => Ideal.tanh (f i j)) :=
  fun i j => congrArg Ideal.tanh (hx i j)

theorem Is.rsqrt (hx : Is x f) : Is (Idealize.ShloMosaic.rsqrt (F := Ideal) (φ := .f32) x) (fun i j => Ideal.rsqrt (f i j)) :=
  fun i j => congrArg Ideal.rsqrt (hx i j)

theorem Is.hostRsqrt (hx : Is x f) : Is (Host.rsqrt (F := Ideal) (φ := .f32) x) (fun i j => Ideal.rsqrt (f i j)) :=
  fun i j => congrArg Ideal.rsqrt (hx i j)

theorem Is.hostExp (hx : Is x f) : Is (Host.exp (F := Ideal) (φ := .f32) x) (fun i j => Ideal.exp (f i j)) :=
  fun i j => congrArg Ideal.exp (hx i j)

theorem Is.hostNeg (hx : Is x f) : Is (Host.negf (F := Ideal) (φ := .f32) x) (fun i j => -(f i j)) :=
  fun i j => congrArg Neg.neg (hx i j)

theorem Is.trunc (hx : Is x f) (h : FTy.bf16.bits < FTy.f32.bits) : Is (truncf (F := Ideal) (φ := .f32) .bf16 x h) f := hx

theorem Is.extend (hx : Is x f) (h : FTy.bf16.bits < FTy.f32.bits) : Is (extf (F := Ideal) (φ := .bf16) .f32 x h) f := hx

theorem Is.splat (bits : BitVec 32) :
    Is (broadcast (⟨2, ![a, b]⟩ : Shape) (Scalar.ofBits (F := Ideal) .f32 bits)) (fun _ _ => Ideal.ofBits .f32 bits) := fun _ _ => rfl

theorem Is.const (bits : BitVec 32) (h : (⟨0, ![]⟩ : Shape).BroadcastsInDim ⟨2, ![a, b]⟩ ![]) :
    Is (broadcastInDim ⟨2, ![a, b]⟩ ![] h (constant (F := Ideal) ⟨0, ![]⟩ .f32 bits)) (fun _ _ => Ideal.ofBits .f32 bits) :=
  fun i j => (broadcastInDim_scalar_apply h _ (ix2 i j)).trans rfl

theorem Is.castSame (h : Shape.ShapeCasts (⟨2, ![a, b]⟩ : Shape) ⟨2, ![a, b]⟩) (hx : Is x f) : Is (shapeCast ⟨2, ![a, b]⟩ x h) f :=
  fun i j => (shapeCast_apply x h (ix2 i j) (ix2 i j) rfl).trans (hx i j)

theorem Is.transp (h : Shape.Transposes (⟨2, ![a, b]⟩ : Shape) [1, 0] ⟨2, ![b, a]⟩) (hx : Is x f) :
    Is (transpose ⟨2, ![b, a]⟩ [1, 0] x h) (fun i j => f j i) := fun i j =>
  (transpose_apply [1, 0] x h (ix2 i j) (ix2 j i) fun k => by
    match k with
    | ⟨0, _⟩ => rfl
    | ⟨1, _⟩ => rfl).trans (hx j i)

/-- Row sums, as a column. -/
theorem Is.sumRows (h : Shape.Reduces (⟨2, ![a, b]⟩ : Shape) [1] ⟨1, ![a]⟩) (hφ : FTy.f32 = FTy.f32 ∨ FTy.f32 = FTy.bf16)
    (hacc : (0x00000000#32 : BitVec 32) = FKind.add.neutral .f32 hφ) (hc : Shape.ShapeCasts (⟨1, ![a]⟩ : Shape) ⟨2, ![a, 1]⟩)
    (hx : Is x f) :
    Is (shapeCast ⟨2, ![a, 1]⟩ (multiReduction (F := Ideal) .add [1] ⟨1, ![a]⟩ x 0x00000000#32 h hφ hacc) hc)
      (fun i _ => ∑ k, f i k) := fun i j => by
  refine (shapeCast_apply _ hc (ix2 i j) (ix1 i) ?_).trans ?_
  · rw [Shape.rowMajor_val_one, Shape.rowMajor_val_two]
    have := j.isLt
    show i.val = i.val * 1 + j.val
    omega
  · rw [Ideal.multiReduction_add_single]
    refine Finset.sum_congr rfl fun k _ => (congrArg x ?_).trans (hx i k)
    funext e
    match e with
    | ⟨0, _⟩ => rfl
    | ⟨1, _⟩ => rfl

/-- Column sums, as a row. -/
theorem Is.sumCols (h : Shape.Reduces (⟨2, ![a, b]⟩ : Shape) [0] ⟨1, ![b]⟩) (hφ : FTy.f32 = FTy.f32 ∨ FTy.f32 = FTy.bf16)
    (hacc : (0x00000000#32 : BitVec 32) = FKind.add.neutral .f32 hφ) (hc : Shape.ShapeCasts (⟨1, ![b]⟩ : Shape) ⟨2, ![1, b]⟩)
    (hx : Is x f) :
    Is (shapeCast ⟨2, ![1, b]⟩ (multiReduction (F := Ideal) .add [0] ⟨1, ![b]⟩ x 0x00000000#32 h hφ hacc) hc)
      (fun _ j => ∑ k, f k j) := fun i j => by
  refine (shapeCast_apply _ hc (ix2 i j) (ix1 j) ?_).trans ?_
  · rw [Shape.rowMajor_val_one, Shape.rowMajor_val_two]
    have hi : i.val = 0 := by have := i.isLt; omega
    show j.val = i.val * b + j.val
    rw [hi, Nat.zero_mul, Nat.zero_add]
  · rw [Ideal.multiReduction_add_single]
    refine Finset.sum_congr rfl fun k _ => (congrArg x ?_).trans (hx k j)
    funext e
    match e with
    | ⟨0, _⟩ => rfl
    | ⟨1, _⟩ => rfl

/-- Row sums on the host. -/
theorem Is.hostSumRows {u : Shape} {v : u.Idx → EReal} (hv : ∀ k, v k = 0)
    (hr : (⟨2, ![a, b]⟩ : Shape).ReducesTo [1] ⟨1, ![a]⟩) (hu : 0 < u.numel) (hx : Is x f) :
    IsVec (Host.reduceAdd (F := Ideal) (φ := .f32) x v hr hu) (fun i => ∑ k, f i k) := fun i => by
  rw [hostReduceAdd_apply, hv, Ideal.hostReduceAdd_r2_a1, zero_add]
  exact Finset.sum_congr rfl fun k _ => hx i k

/-- Column sums on the host. -/
theorem Is.hostSumCols {u : Shape} {v : u.Idx → EReal} (hv : ∀ k, v k = 0)
    (hr : (⟨2, ![a, b]⟩ : Shape).ReducesTo [0] ⟨1, ![b]⟩) (hu : 0 < u.numel) (hx : Is x f) :
    IsVec (Host.reduceAdd (F := Ideal) (φ := .f32) x v hr hu) (fun j => ∑ k, f k j) := fun j => by
  rw [hostReduceAdd_apply, hv, Ideal.hostReduceAdd_r2_a0, zero_add]
  exact Finset.sum_congr rfl fun k _ => hx k j

end Entries

section Spread
variable {a b : ℕ}

/-- A column repeated along the rows. -/
theorem Is.spreadCol {x : (⟨2, ![a, 1]⟩ : Shape).Idx → EReal} {f : Fin a → Fin 1 → EReal} (ha : a ≠ 1)
    (h : Shape.Broadcasts (⟨2, ![a, 1]⟩ : Shape) ⟨2, ![a, b]⟩) (hx : Is x f) :
    Is (broadcastTo ⟨2, ![a, b]⟩ x h) (fun i _ => f i 0) := fun i j =>
  (broadcastTo_apply x h (ix2 i j) (ix2 i 0) fun k => by
    match k with
    | ⟨0, _⟩ => exact (if_neg ha).symm
    | ⟨1, _⟩ => rfl).trans (hx _ _)

/-- A row repeated down the columns. -/
theorem Is.spreadRow {x : (⟨2, ![1, b]⟩ : Shape).Idx → EReal} {f : Fin 1 → Fin b → EReal} (hb : b ≠ 1)
    (h : Shape.Broadcasts (⟨2, ![1, b]⟩ : Shape) ⟨2, ![a, b]⟩) (hx : Is x f) :
    Is (broadcastTo ⟨2, ![a, b]⟩ x h) (fun _ j => f 0 j) := fun i j =>
  (broadcastTo_apply x h (ix2 i j) (ix2 0 j) fun k => by
    match k with
    | ⟨0, _⟩ => rfl
    | ⟨1, _⟩ => exact (if_neg hb).symm).trans (hx _ _)

/-- The same on the host. -/
theorem Is.hostSpreadCol {x : (⟨2, ![a, 1]⟩ : Shape).Idx → EReal} {f : Fin a → Fin 1 → EReal} (ha : a ≠ 1)
    (h : (⟨2, ![a, 1]⟩ : Shape).BroadcastsInDim ⟨2, ![a, b]⟩ ![0, 1]) (hx : Is x f) :
    Is (broadcastInDim ⟨2, ![a, b]⟩ ![0, 1] h x) (fun i _ => f i 0) := fun i j =>
  (broadcastInDim_apply ![0, 1] h x (ix2 i j) (ix2 i 0) fun k => by
    match k with
    | ⟨0, _⟩ => exact (if_neg ha).symm
    | ⟨1, _⟩ => rfl).trans (hx _ _)

theorem Is.hostSpreadRow {x : (⟨2, ![1, b]⟩ : Shape).Idx → EReal} {f : Fin 1 → Fin b → EReal} (hb : b ≠ 1)
    (h : (⟨2, ![1, b]⟩ : Shape).BroadcastsInDim ⟨2, ![a, b]⟩ ![0, 1]) (hx : Is x f) :
    Is (broadcastInDim ⟨2, ![a, b]⟩ ![0, 1] h x) (fun _ j => f 0 j) := fun i j =>
  (broadcastInDim_apply ![0, 1] h x (ix2 i j) (ix2 0 j) fun k => by
    match k with
    | ⟨0, _⟩ => rfl
    | ⟨1, _⟩ => exact (if_neg hb).symm).trans (hx _ _)

/-- A vector as a column, as a row, and repeated. -/
theorem IsVec.hostCol {x : (⟨1, ![a]⟩ : Shape).Idx → EReal} {f : Fin a → EReal} (ha : a ≠ 1)
    (h : (⟨1, ![a]⟩ : Shape).BroadcastsInDim ⟨2, ![a, b]⟩ ![0]) (hx : IsVec x f) :
    Is (broadcastInDim ⟨2, ![a, b]⟩ ![0] h x) (fun i _ => f i) := fun i j =>
  (broadcastInDim_apply ![0] h x (ix2 i j) (ix1 i) fun k => by
    match k with
    | ⟨0, _⟩ => exact (if_neg ha).symm).trans (hx _)

theorem IsVec.hostRow {x : (⟨1, ![b]⟩ : Shape).Idx → EReal} {f : Fin b → EReal} (hb : b ≠ 1)
    (h : (⟨1, ![b]⟩ : Shape).BroadcastsInDim ⟨2, ![a, b]⟩ ![1]) (hx : IsVec x f) :
    Is (broadcastInDim ⟨2, ![a, b]⟩ ![1] h x) (fun _ j => f j) := fun i j =>
  (broadcastInDim_apply ![1] h x (ix2 i j) (ix1 j) fun k => by
    match k with
    | ⟨0, _⟩ => exact (if_neg hb).symm).trans (hx _)

theorem IsVec.castCol {x : (⟨1, ![a]⟩ : Shape).Idx → EReal} {f : Fin a → EReal}
    (h : Shape.ShapeCasts (⟨1, ![a]⟩ : Shape) ⟨2, ![a, 1]⟩) (hx : IsVec x f) : Is (shapeCast ⟨2, ![a, 1]⟩ x h) (fun i _ => f i) := fun i j =>
  (shapeCast_apply x h (ix2 i j) (ix1 i) (by
    rw [Shape.rowMajor_val_one, Shape.rowMajor_val_two]
    have := j.isLt
    show i.val = i.val * 1 + j.val
    omega)).trans (hx i)

theorem IsVec.castRow {x : (⟨1, ![b]⟩ : Shape).Idx → EReal} {f : Fin b → EReal}
    (h : Shape.ShapeCasts (⟨1, ![b]⟩ : Shape) ⟨2, ![1, b]⟩) (hx : IsVec x f) : Is (shapeCast ⟨2, ![1, b]⟩ x h) (fun _ j => f j) := fun i j =>
  (shapeCast_apply x h (ix2 i j) (ix1 j) (by
    rw [Shape.rowMajor_val_one, Shape.rowMajor_val_two]
    have hi : i.val = 0 := by have := i.isLt; omega
    show j.val = i.val * b + j.val
    rw [hi, Nat.zero_mul, Nat.zero_add])).trans (hx j)

end Spread

/-! ## Products -/

/-- A product over one shared axis, whatever the record that lays the axes out. -/
theorem dot_sum {sl sr so : Shape} (D : DotDims sl sr so) (n : ℕ) (hr : D.contr.rank = 1)
    (hs : D.contr.size ⟨0, by omega⟩ = n) (x : sl.Idx → EReal) (y : sr.Idx → EReal) (o : so.Idx) (f g : Fin n → EReal)
    (hx : ∀ k, x (D.lhsIdx o ((contrEquiv1 D n hr hs).symm k)) = f k)
    (hy : ∀ k, y (D.rhsIdx o ((contrEquiv1 D n hr hs).symm k)) = g k) :
    ∑ k : D.contr.Idx, x (D.lhsIdx o k) * y (D.rhsIdx o k) = ∑ k, f k * g k := by
  rw [← Equiv.sum_comp (contrEquiv1 D n hr hs).symm]
  exact Finset.sum_congr rfl fun k _ => congrArg₂ (· * ·) (hx k) (hy k)

section Products
variable {a b c : ℕ} {φ₁ φ₂ : FTy}

/-- Rows of the left operand against columns of the right one. -/
theorem sum_nn {D : DotDims (⟨2, ![a, c]⟩ : Shape) ⟨2, ![c, b]⟩ ⟨2, ![a, b]⟩} {wf} (hD : D = ⟨[1], [0], [0], [1], [], [], wf⟩)
    {x : FVec Ideal ⟨2, ![a, c]⟩ φ₁} {y : FVec Ideal ⟨2, ![c, b]⟩ φ₂} {f g} (hx : Is x f) (hy : Is y g) (i : Fin a) (j : Fin b) :
    ∑ k : D.contr.Idx, x (D.lhsIdx (ix2 i j) k) * y (D.rhsIdx (ix2 i j) k) = ∑ k, f i k * g k j := by
  subst hD
  refine dot_sum _ c rfl rfl x y (ix2 i j) (fun k => f i k) (fun k => g k j) (fun k => ?_) (fun k => ?_)
  · refine (congrArg x ?_).trans (hx i k)
    funext e; apply Fin.ext
    match e with
    | ⟨0, _⟩ => rfl
    | ⟨1, _⟩ => exact contrEquiv1_symm_val (DotDims.mk [1] [0] [0] [1] [] [] wf) c rfl rfl k
  · refine (congrArg y ?_).trans (hy k j)
    funext e; apply Fin.ext
    match e with
    | ⟨0, _⟩ => exact contrEquiv1_symm_val (DotDims.mk [1] [0] [0] [1] [] [] wf) c rfl rfl k
    | ⟨1, _⟩ => rfl

/-- Rows of the left operand against rows of the right one. -/
theorem sum_nt {D : DotDims (⟨2, ![a, c]⟩ : Shape) ⟨2, ![b, c]⟩ ⟨2, ![a, b]⟩} {wf} (hD : D = ⟨[1], [1], [0], [0], [], [], wf⟩)
    {x : FVec Ideal ⟨2, ![a, c]⟩ φ₁} {y : FVec Ideal ⟨2, ![b, c]⟩ φ₂} {f g} (hx : Is x f) (hy : Is y g) (i : Fin a) (j : Fin b) :
    ∑ k : D.contr.Idx, x (D.lhsIdx (ix2 i j) k) * y (D.rhsIdx (ix2 i j) k) = ∑ k, f i k * g j k := by
  subst hD
  refine dot_sum _ c rfl rfl x y (ix2 i j) (fun k => f i k) (fun k => g j k) (fun k => ?_) (fun k => ?_)
  · refine (congrArg x ?_).trans (hx i k)
    funext e; apply Fin.ext
    match e with
    | ⟨0, _⟩ => rfl
    | ⟨1, _⟩ => exact contrEquiv1_symm_val (DotDims.mk [1] [1] [0] [0] [] [] wf) c rfl rfl k
  · refine (congrArg y ?_).trans (hy j k)
    funext e; apply Fin.ext
    match e with
    | ⟨0, _⟩ => rfl
    | ⟨1, _⟩ => exact contrEquiv1_symm_val (DotDims.mk [1] [1] [0] [0] [] [] wf) c rfl rfl k

/-- Columns of the left operand against columns of the right one. -/
theorem sum_tn {D : DotDims (⟨2, ![c, a]⟩ : Shape) ⟨2, ![c, b]⟩ ⟨2, ![a, b]⟩} {wf} (hD : D = ⟨[0], [0], [1], [1], [], [], wf⟩)
    {x : FVec Ideal ⟨2, ![c, a]⟩ φ₁} {y : FVec Ideal ⟨2, ![c, b]⟩ φ₂} {f g} (hx : Is x f) (hy : Is y g) (i : Fin a) (j : Fin b) :
    ∑ k : D.contr.Idx, x (D.lhsIdx (ix2 i j) k) * y (D.rhsIdx (ix2 i j) k) = ∑ k, f k i * g k j := by
  subst hD
  refine dot_sum _ c rfl rfl x y (ix2 i j) (fun k => f k i) (fun k => g k j) (fun k => ?_) (fun k => ?_)
  · refine (congrArg x ?_).trans (hx k i)
    funext e; apply Fin.ext
    match e with
    | ⟨0, _⟩ => exact contrEquiv1_symm_val (DotDims.mk [0] [0] [1] [1] [] [] wf) c rfl rfl k
    | ⟨1, _⟩ => rfl
  · refine (congrArg y ?_).trans (hy k j)
    funext e; apply Fin.ext
    match e with
    | ⟨0, _⟩ => exact contrEquiv1_symm_val (DotDims.mk [0] [0] [1] [1] [] [] wf) c rfl rfl k
    | ⟨1, _⟩ => rfl

theorem Is.dotNN {D : DotDims (⟨2, ![a, c]⟩ : Shape) ⟨2, ![c, b]⟩ ⟨2, ![a, b]⟩} {wf} (hD : D = ⟨[1], [0], [0], [1], [], [], wf⟩)
    {x : FVec Ideal ⟨2, ![a, c]⟩ φ₁} {y : FVec Ideal ⟨2, ![c, b]⟩ φ₂} {f g} (hx : Is x f) (hy : Is y g) :
    Is (matmul (F := Ideal) D none x y (constant (F := Ideal) ⟨2, ![a, b]⟩ .f32 0x00000000#32)) (fun i j => ∑ k, f i k * g k j) :=
  fun i j => ((Ideal.matmul_apply _ none x y _ (ix2 i j)).trans
    ((congrArg (· + _) (Delta.zero_acc _)).trans (zero_add _))).trans (sum_nn hD hx hy i j)

theorem Is.dotNT {D : DotDims (⟨2, ![a, c]⟩ : Shape) ⟨2, ![b, c]⟩ ⟨2, ![a, b]⟩} {wf} (hD : D = ⟨[1], [1], [0], [0], [], [], wf⟩)
    {x : FVec Ideal ⟨2, ![a, c]⟩ φ₁} {y : FVec Ideal ⟨2, ![b, c]⟩ φ₂} {f g} (hx : Is x f) (hy : Is y g) :
    Is (matmul (F := Ideal) D none x y (constant (F := Ideal) ⟨2, ![a, b]⟩ .f32 0x00000000#32)) (fun i j => ∑ k, f i k * g j k) :=
  fun i j => ((Ideal.matmul_apply _ none x y _ (ix2 i j)).trans
    ((congrArg (· + _) (Delta.zero_acc _)).trans (zero_add _))).trans (sum_nt hD hx hy i j)

theorem Is.dotTN {D : DotDims (⟨2, ![c, a]⟩ : Shape) ⟨2, ![c, b]⟩ ⟨2, ![a, b]⟩} {wf} (hD : D = ⟨[0], [0], [1], [1], [], [], wf⟩)
    {x : FVec Ideal ⟨2, ![c, a]⟩ φ₁} {y : FVec Ideal ⟨2, ![c, b]⟩ φ₂} {f g} (hx : Is x f) (hy : Is y g) :
    Is (matmul (F := Ideal) D none x y (constant (F := Ideal) ⟨2, ![a, b]⟩ .f32 0x00000000#32)) (fun i j => ∑ k, f k i * g k j) :=
  fun i j => ((Ideal.matmul_apply _ none x y _ (ix2 i j)).trans
    ((congrArg (· + _) (Delta.zero_acc _)).trans (zero_add _))).trans (sum_tn hD hx hy i j)

theorem Is.hostNN {D : DotDims (⟨2, ![a, c]⟩ : Shape) ⟨2, ![c, b]⟩ ⟨2, ![a, b]⟩} {wf} (hD : D = ⟨[1], [0], [0], [1], [], [], wf⟩)
    {x : FVec Ideal ⟨2, ![a, c]⟩ φ₁} {y : FVec Ideal ⟨2, ![c, b]⟩ φ₂} {f g} (hx : Is x f) (hy : Is y g) :
    Is (Host.dotGeneral (F := Ideal) D none x y) (fun i j => ∑ k, f i k * g k j) :=
  fun i j => (Ideal.dotGeneral_apply _ none _ x y (ix2 i j)).trans (sum_nn hD hx hy i j)

theorem Is.hostNT {D : DotDims (⟨2, ![a, c]⟩ : Shape) ⟨2, ![b, c]⟩ ⟨2, ![a, b]⟩} {wf} (hD : D = ⟨[1], [1], [0], [0], [], [], wf⟩)
    {x : FVec Ideal ⟨2, ![a, c]⟩ φ₁} {y : FVec Ideal ⟨2, ![b, c]⟩ φ₂} {f g} (hx : Is x f) (hy : Is y g) :
    Is (Host.dotGeneral (F := Ideal) D none x y) (fun i j => ∑ k, f i k * g j k) :=
  fun i j => (Ideal.dotGeneral_apply _ none _ x y (ix2 i j)).trans (sum_nt hD hx hy i j)

theorem Is.hostTN {D : DotDims (⟨2, ![c, a]⟩ : Shape) ⟨2, ![c, b]⟩ ⟨2, ![a, b]⟩} {wf} (hD : D = ⟨[0], [0], [1], [1], [], [], wf⟩)
    {x : FVec Ideal ⟨2, ![c, a]⟩ φ₁} {y : FVec Ideal ⟨2, ![c, b]⟩ φ₂} {f g} (hx : Is x f) (hy : Is y g) :
    Is (Host.dotGeneral (F := Ideal) D none x y) (fun i j => ∑ k, f k i * g k j) :=
  fun i j => (Ideal.dotGeneral_apply _ none _ x y (ix2 i j)).trans (sum_tn hD hx hy i j)

end Products

/-! ## The weights, packed by chip and unpacked again -/

/-- One of the three weights as the calls take it: four pieces of 704 rows of a rank-three array, laid one under the other. -/
theorem Is.stack {x : (⟨3, ![4, 704, 1024]⟩ : Shape).Idx → EReal} {f : Fin 2816 → Fin 1024 → EReal}
    (hx : ∀ (s : Fin 4) (r : Fin 704) (d : Fin 1024), x (ix3 s r d) = f ⟨704 * s.val + r.val, by omega⟩ d)
    (h₁ : Shape.ShapeCasts (⟨3, ![4, 704, 1024]⟩ : Shape) ⟨3, ![4, 704, 1024]⟩)
    (h₂ : Shape.ShapeCasts (⟨3, ![4, 704, 1024]⟩ : Shape) ⟨2, ![2816, 1024]⟩) :
    Is (shapeCast ⟨2, ![2816, 1024]⟩ (shapeCast ⟨3, ![4, 704, 1024]⟩ x h₁) h₂) f := fun j d => by
  have hj := j.isLt
  refine (shapeCast_apply _ h₂ (ix2 j d) (ix3 (⟨j.val / 704, by omega⟩ : Fin 4) (⟨j.val % 704, Nat.mod_lt _ (by decide)⟩ : Fin 704) d) ?_).trans ?_
  · rw [Shape.rowMajor_val_two, Shape.rowMajor_val_three]
    show (j.val / 704 * 704 + j.val % 704) * 1024 + d.val = j.val * 1024 + d.val
    omega
  · refine (shapeCast_apply x h₁ _ _ rfl).trans ((hx _ _ _).trans (congrArg (fun k => f k d) (Fin.ext ?_)))
    show 704 * (j.val / 704) + j.val % 704 = j.val
    omega

/-- The same pieces cut from a matrix. -/
theorem Is.pieces {x : (⟨2, ![2816, 1024]⟩ : Shape).Idx → EReal} {f : Fin 2816 → Fin 1024 → EReal} (hx : Is x f)
    (h : Shape.ShapeCasts (⟨2, ![2816, 1024]⟩ : Shape) ⟨3, ![4, 704, 1024]⟩) (s : Fin 4) (r : Fin 704) (d : Fin 1024) :
    shapeCast ⟨3, ![4, 704, 1024]⟩ x h (ix3 s r d) = f ⟨704 * s.val + r.val, by omega⟩ d :=
  (shapeCast_apply x h (ix3 s r d) (ix2 (⟨704 * s.val + r.val, by omega⟩ : Fin 2816) d) (by
    rw [Shape.rowMajor_val_two, Shape.rowMajor_val_three]
    show (704 * s.val + r.val) * 1024 + d.val = (s.val * 704 + r.val) * 1024 + d.val
    omega)).trans (hx _ _)

/-- The three pieces beside one another, each chip's rows of one weight under those of the weight before. -/
theorem packed_at {x₀ x₁ x₂ : (⟨3, ![4, 704, 1024]⟩ : Shape).Idx → EReal}
    (hc : Shape.Concatenates [(⟨3, ![4, 704, 1024]⟩ : Shape), ⟨3, ![4, 704, 1024]⟩, ⟨3, ![4, 704, 1024]⟩] ⟨3, ![4, 2112, 1024]⟩ 1)
    (w : Fin 3) (s : Fin 4) (r : Fin 704) (d : Fin 1024) (l : Fin 2112) (hl : 704 * w.val + r.val = l.val) :
    concatenate ⟨3, ![4, 2112, 1024]⟩ 1
        [⟨⟨3, ![4, 704, 1024]⟩, x₀⟩, ⟨⟨3, ![4, 704, 1024]⟩, x₁⟩, ⟨⟨3, ![4, 704, 1024]⟩, x₂⟩] hc (ix3 s l d)
      = (![x₀, x₁, x₂] w) (ix3 s r d) := by
  have off : ∀ e : Fin 3, e.cast rfl ≠ (1 : Fin 3) → (ix3 s r d e).val = (ix3 s l d (e.cast rfl)).val := fun e he => by
    match e, he with
    | ⟨0, _⟩, _ => rfl
    | ⟨1, _⟩, he => exact absurd rfl he
    | ⟨2, _⟩, _ => rfl
  let xs : List ((s : Shape) × (s.Idx → EReal)) := [⟨⟨3, ![4, 704, 1024]⟩, x₀⟩, ⟨⟨3, ![4, 704, 1024]⟩, x₁⟩, ⟨⟨3, ![4, 704, 1024]⟩, x₂⟩]
  match w, hl with
  | 0, hl => exact concatenate_apply_piece (t := ⟨3, ![4, 2112, 1024]⟩) (1 : Fin 3) xs hc (ix3 s l d) 0 (show 0 < 3 by decide) _ x₀ rfl rfl 0 rfl (ix3 s r d) off hl
  | 1, hl => exact concatenate_apply_piece (t := ⟨3, ![4, 2112, 1024]⟩) (1 : Fin 3) xs hc (ix3 s l d) 1 (show 1 < 3 by decide) _ x₁ rfl rfl 704 rfl (ix3 s r d) off hl
  | 2, hl => exact concatenate_apply_piece (t := ⟨3, ![4, 2112, 1024]⟩) (1 : Fin 3) xs hc (ix3 s l d) 2 (show 2 < 3 by decide) _ x₂ rfl rfl 1408 rfl (ix3 s r d) off hl

end Feed
-- ==== Proof.Feed.lean ====
/-
  The feed-forward part of a block of the network, as functions of extended reals, and the two readings of its forward half:
  what the forward call computes for the rows it holds, and what the plain program computes for all rows.
-/
module

public import proofs.«01_k».proof.Proof.Entry
public import proofs.«01_k».proof.Proof.Gen.Kernel3Ideal.Skeleton
public import Mathlib.Analysis.SpecialFunctions.Trigonometric.DerivHyp

@[expose] public section

set_option maxRecDepth 16384

noncomputable section

namespace Feed

open Idealize.ShloMosaic hiding ix0 ix1 ix2 ix3 ix4 ix5
open Idealize.ShloMosaic.ValueIdx
open scoped BigOperators

/-! ## The functions -/

/-- A matrix of extended reals. -/
abbrev M (a b : ℕ) := Fin a → Fin b → EReal

section Functions
variable {a : ℕ}

/-- The mean of a row's squares, and the small constant. -/
def power (x : M a 1024) (i : Fin a) : EReal :=
  Ideal.div (∑ k, x i k * x i k) (Ideal.ofBits .f32 0x44800000#32) + Ideal.ofBits .f32 0x358637BD#32
/-- One over its root. -/
def inv (x : M a 1024) (i : Fin a) : EReal := Ideal.rsqrt (power x i)
/-- A row of unit mean square. -/
def unit (x : M a 1024) : M a 1024 := fun i d => x i d * inv x i
/-- The same times the trained gain. -/
def hidden (x : M a 1024) (g : Fin 1024 → EReal) : M a 1024 := fun i d => unit x i d * g d
/-- A product with a weight. -/
def times {b c : ℕ} (h : M a b) (w : M b c) : M a c := fun i j => ∑ k, h i k * w k j
/-- The logistic function. -/
def logistic (x : EReal) : EReal := Ideal.div 1 (1 + Ideal.exp (-x))
/-- The gated product of the two halves. -/
def gated (p q : M a 2816) : M a 2816 := fun i j => p i j * logistic (p i j) * q i j
/-- The part's result. -/
def result (x : M a 1024) (g : Fin 1024 → EReal) (wg wu : M 1024 2816) (wd : M 2816 1024) : M a 1024 := fun i d =>
  x i d + times (gated (times (hidden x g) wg) (times (hidden x g) wu)) wd i d

end Functions

/-! ## The logistic function by way of the hyperbolic tangent -/

theorem half_real : Ideal.ofBits .f32 0x3F000000#32 = (((1 : ℝ) / 2 : ℝ) : EReal) := by
  simp [Ideal.ofBits, Ideal.ieee]
  rw [← EReal.coe_mul]
  norm_num

theorem tanh_half (r : ℝ) : 1 / 2 * Real.tanh (1 / 2 * r) + 1 / 2 = 1 / (1 + Real.exp (-r)) := by
  have e : Real.exp (-r) = Real.exp (-(1 / 2 * r)) / Real.exp (1 / 2 * r) := by
    rw [← Real.exp_sub]
    congr 1
    ring
  have h0 := Real.exp_pos (1 / 2 * r)
  have h1 := Real.exp_pos (-(1 / 2 * r))
  rw [Real.tanh_eq_sinh_div_cosh, Real.sinh_eq, Real.cosh_eq, e]
  field_simp
  ring

theorem logistic_real (r : ℝ) : logistic ((r : ℝ) : EReal) = ((1 / (1 + Real.exp (-r)) : ℝ) : EReal) := by
  have h := Real.exp_pos (-r)
  unfold logistic Ideal.div
  rw [← EReal.coe_neg, Delta.coe_exp, ← EReal.coe_one, ← EReal.coe_add, if_neg (by
    rw [← EReal.coe_zero]
    exact fun e => absurd (EReal.coe_injective e) (by positivity)), ← EReal.coe_inv, ← EReal.coe_mul, one_div, one_mul]

theorem logistic_tanh (x : EReal) :
    Ideal.ofBits .f32 0x3F000000#32 * Ideal.tanh (Ideal.ofBits .f32 0x3F000000#32 * x) + Ideal.ofBits .f32 0x3F000000#32 = logistic x := by
  have pos : (0 : EReal) < (((1 : ℝ) / 2 : ℝ) : EReal) := by rw [← EReal.coe_zero]; exact EReal.coe_lt_coe_iff.2 (by norm_num)
  rw [half_real]
  induction x using EReal.rec with
  | bot =>
    rw [EReal.mul_bot_of_pos pos]
    show _ * (-1 : EReal) + _ = Ideal.div 1 (1 + Ideal.exp (-⊥))
    rw [EReal.neg_bot]
    show _ = Ideal.div 1 (1 + ⊤)
    rw [← EReal.coe_one, EReal.coe_add_top, ← EReal.coe_neg, ← EReal.coe_mul, ← EReal.coe_add]
    unfold Ideal.div
    rw [if_neg (by decide), EReal.inv_top, mul_zero, ← EReal.coe_zero]
    congr 1
    norm_num
  | top =>
    rw [EReal.mul_top_of_pos pos]
    show _ * (1 : EReal) + _ = Ideal.div 1 (1 + Ideal.exp (-⊤))
    rw [EReal.neg_top]
    show _ = Ideal.div 1 (1 + 0)
    unfold Ideal.div
    rw [add_zero, if_neg one_ne_zero, ← EReal.coe_one, ← EReal.coe_mul, ← EReal.coe_add, ← EReal.coe_inv, ← EReal.coe_mul]
    congr 1
    norm_num
  | coe r =>
    rw [logistic_real, ← EReal.coe_mul]
    show _ * ((Real.tanh _ : ℝ) : EReal) + _ = _
    rw [← EReal.coe_mul, ← EReal.coe_add, tanh_half]

/-! ## The forward call on the rows it holds -/

section Call
open Cert.Kernel3Ideal Cert.Kernel3Ideal.Gen
attribute [local instance] Cert.Kernel3Ideal.Gen.facts

variable {x : Vec Ideal S256x1024 .f32} {g : Vec Ideal S1x1024 .f32} {wg wu wd : Vec Ideal S4x704x1024 .bf16}
  {X : M 256 1024} {G : Fin 1024 → EReal} {Wg Wu : M 1024 2816} {Wd : M 2816 1024}

/-- A block of one of the weights: the four chips' rows of it. -/
def Piece (w : Vec Ideal S4x704x1024 .bf16) (W : M 2816 1024) : Prop :=
  ∀ (s : Fin 4) (r : Fin 704) (d : Fin 1024), w (ix3 s r d) = W ⟨704 * s.val + r.val, by omega⟩ d

theorem call_hidden (hx : Is x X) (hg : Is g fun _ d => G d) : Is (k0_pay4 x g) (hidden X G) := by
  have one := ((((hx.mul hx).sumRows reduces_S256x1024_S256 (.inl rfl) rfl shapeCasts_S256_S256x1).div (Is.splat 0x44800000#32)).add
    (Is.splat 0x358637BD#32)).rsqrt.congr (g := fun i _ => inv X i) fun _ _ => rfl
  exact ((hx.mul (one.spreadCol (by decide) broadcasts_S256x1_S256x1024)).mul
    ((hg.castSame shapeCasts_S1x1024_S1x1024).spreadRow (by decide) broadcasts_S1x1024_S256x1024)).trunc bitsLt_bf16_f32

theorem call_gate (hx : Is x X) (hg : Is g fun _ d => G d) (hw : Piece wg fun j d => Wg d j) :
    Is (k0_pay5 x g wg) (times (hidden X G) Wg) :=
  (call_hidden hx hg).dotNT rfl (Is.stack (f := fun j d => Wg d j) hw shapeCasts_S4x704x1024_S4x704x1024 shapeCasts_S4x704x1024_S2816x1024)

theorem call_up (hx : Is x X) (hg : Is g fun _ d => G d) (hw : Piece wu fun j d => Wu d j) :
    Is (k0_pay6 x g wu) (times (hidden X G) Wu) :=
  (call_hidden hx hg).dotNT rfl (Is.stack (f := fun j d => Wu d j) hw shapeCasts_S4x704x1024_S4x704x1024 shapeCasts_S4x704x1024_S2816x1024)

theorem call_gated (hx : Is x X) (hg : Is g fun _ d => G d) (hw : Piece wg fun j d => Wg d j) (hu : Piece wu fun j d => Wu d j) :
    Is (k0_pay7 x g wg wu) (gated (times (hidden X G) Wg) (times (hidden X G) Wu)) := by
  have p := call_gate hx hg hw
  have s := (((Is.splat 0x3F000000#32).mul (((Is.splat 0x3F000000#32).mul p).tanh)).add (Is.splat 0x3F000000#32)).congr
    fun i j => logistic_tanh _
  exact ((p.mul s).mul (call_up hx hg hu)).trunc bitsLt_bf16_f32

theorem call_result (hx : Is x X) (hg : Is g fun _ d => G d) (hw : Piece wg fun j d => Wg d j) (hu : Piece wu fun j d => Wu d j)
    (hd : Piece wd Wd) :
    Is (k0_pay1 x (k0_pay7 x g wg wu) (k0_pay8 wd) (constant S256x1024 .f32 0x00000000#32)) (result X G Wg Wu Wd) :=
  hx.add ((call_gated hx hg hw hu).dotNN rfl (Is.stack (f := Wd) hd shapeCasts_S4x704x1024_S4x704x1024 shapeCasts_S4x704x1024_S2816x1024))

end Call

/-! ## The plain program -/

section Plain
variable {a : ℕ} (ha : a ≠ 1) {x : FVec Ideal ⟨2, ![a, 1024]⟩ .f32} {g : FVec Ideal ⟨1, ![1024]⟩ .f32}
  {X : M a 1024} {G : Fin 1024 → EReal} {p q : FVec Ideal ⟨2, ![a, 2816]⟩ .f32} {P Q : M a 2816}
include ha

theorem plain_power (hx : Is x X) {u : Shape} {v : u.Idx → EReal} (hv : ∀ k, v k = 0)
    (hr : (⟨2, ![a, 1024]⟩ : Shape).ReducesTo [1] ⟨1, ![a]⟩) (hu : 0 < u.numel)
    (h₁ : (⟨1, ![a]⟩ : Shape).BroadcastsInDim ⟨2, ![a, 1]⟩ ![0]) (h₂ h₃ : (⟨0, ![]⟩ : Shape).BroadcastsInDim ⟨2, ![a, 1]⟩ ![]) :
    Is (addf (F := Ideal) (φ := .f32) (Host.divf (broadcastInDim ⟨2, ![a, 1]⟩ ![0] h₁
        (Host.reduceAdd (F := Ideal) (φ := .f32) (mulf (F := Ideal) (φ := .f32) x x) v hr hu))
      (broadcastInDim ⟨2, ![a, 1]⟩ ![] h₂ (constant ⟨0, ![]⟩ .f32 0x44800000#32)))
      (broadcastInDim ⟨2, ![a, 1]⟩ ![] h₃ (constant ⟨0, ![]⟩ .f32 0x358637BD#32))) (fun i _ => power X i) :=
  ((((hx.mul hx).hostSumRows hv hr hu).hostCol ha h₁).hostDiv (Is.const 0x44800000#32 h₂)).add (Is.const 0x358637BD#32 h₃)

theorem plain_unit (hx : Is x X) {q : FVec Ideal ⟨2, ![a, 1]⟩ .f32} (hq : Is q fun i _ => power X i)
    (h : (⟨2, ![a, 1]⟩ : Shape).BroadcastsInDim ⟨2, ![a, 1024]⟩ ![0, 1]) :
    Is (mulf (F := Ideal) (φ := .f32) x (broadcastInDim ⟨2, ![a, 1024]⟩ ![0, 1] h (Host.rsqrt q))) (unit X) :=
  hx.mul (hq.hostRsqrt.hostSpreadCol ha h)

omit ha in
theorem plain_gain (hg : IsVec g G) (h₁ : (⟨1, ![1024]⟩ : Shape).BroadcastsInDim ⟨2, ![1, 1024]⟩ ![1])
    (h₂ : (⟨2, ![1, 1024]⟩ : Shape).BroadcastsInDim ⟨2, ![a, 1024]⟩ ![0, 1]) :
    Is (broadcastInDim ⟨2, ![a, 1024]⟩ ![0, 1] h₂ (broadcastInDim ⟨2, ![1, 1024]⟩ ![1] h₁ g)) (fun _ d => G d) :=
  (hg.hostRow (by decide) h₁).hostSpreadRow (by decide) h₂

omit ha in
theorem plain_logistic (hp : Is p P) (h₁ h₂ : (⟨0, ![]⟩ : Shape).BroadcastsInDim ⟨2, ![a, 2816]⟩ ![]) :
    Is (Host.divf (F := Ideal) (φ := .f32) (broadcastInDim ⟨2, ![a, 2816]⟩ ![] h₁ (constant ⟨0, ![]⟩ .f32 0x3F800000#32))
      (addf (broadcastInDim ⟨2, ![a, 2816]⟩ ![] h₂ (constant ⟨0, ![]⟩ .f32 0x3F800000#32)) (Host.exp (Host.negf p))))
      (fun i j => logistic (P i j)) :=
  ((Is.const 0x3F800000#32 h₁).hostDiv ((Is.const 0x3F800000#32 h₂).add hp.hostNeg.hostExp)).congr fun i j => by
    rw [Ideal.ofBits_one_f32]
    rfl

end Plain

end Feed
-- ==== Proof.FeedForward.lean ====
/-
  The feed-forward part, forward: the call's result arrays and the plain program's hold the same functions of the arguments.
-/
module

public import proofs.«01_k».proof.Proof.Feed
public import proofs.«01_k».proof.Proof.Gen.Kernel3Ideal.Value
public import proofs.«01_k».proof.Proof.Gen.Reference3Ideal
public import Idealize.ShloMosaic.Lib.Pipeline.ValueKit

@[expose] public section

set_option maxRecDepth 16384

noncomputable section

namespace Feed

open Idealize.ShloMosaic hiding ix0 ix1 ix2 ix3 ix4 ix5
open Idealize.ShloMosaic.TcCoe Idealize.ShloMosaic.ValueIdx Idealize.ShloMosaic.Tactic
open Idealize.SL.Sem
open scoped BigOperators

/-- An array's entries. -/
def rows {a b : ℕ} (x : (⟨2, ![a, b]⟩ : Shape).Idx → EReal) : M a b := fun i j => x (ix2 i j)
/-- An array with given entries. -/
def whole {a b : ℕ} (f : M a b) : (⟨2, ![a, b]⟩ : Shape).Idx → EReal := fun x => f (x 0) (x 1)

theorem Is.whole {a b : ℕ} {x : (⟨2, ![a, b]⟩ : Shape).Idx → EReal} {f : M a b} (hx : Is x f) : x = whole f :=
  hx.ext fun _ _ => rfl

/-- A row of one of 32 blocks of 256 rows. -/
def rowAt (t : ℕ) (ht : t < 32) (r : Fin 256) : Fin 8192 := ⟨256 * t + r.val, by have := r.isLt; omega⟩

/-- The rows of a block. -/
def blockOf {b : ℕ} (t : ℕ) (ht : t < 32) (f : M 8192 b) : M 256 b := fun r => f (rowAt t ht r)

namespace Forward

open Idealize.ShloMosaic.Pipeline (Dat Cfg Window)
open Cert.Kernel3Ideal Cert.Kernel3Ideal.Gen
attribute [local instance] Cert.Kernel3Ideal.Gen.facts

theorem points : cfg0.N = 32 := by decide +kernel

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![0, 1, 0] := (by decide +kernel : ∀ t : Fin grid0.N, _)
theorem index_4 : ∀ t : Fin cfg0.N, win0_4.index t = ![0, 2, 0] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)

section
variable (t : Fin cfg0.N)

theorem lt : t.val < 32 := points ▸ t.isLt

theorem emb_0 (r : Fin 256) (l : Fin 1024) : ((cfg0.win 0).blk t).view.emb (ix2 r l) = ix2 (rowAt t.val (lt t) r) l := by
  funext a; apply Fin.ext
  match a with
  | ⟨0, _⟩ => blk_simp [index_0]; show t.val * 256 + r.val = 256 * t.val + r.val; omega
  | ⟨1, _⟩ => blk_simp [index_0]
theorem emb_1 (i : Fin 1) (l : Fin 1024) : ((cfg0.win 1).blk t).view.emb (ix2 i l) = ix2 i l := by
  funext a; apply Fin.ext
  match a with
  | ⟨0, _⟩ => blk_simp [index_1]
  | ⟨1, _⟩ => blk_simp [index_1]
theorem emb_2 (s : Fin 4) (r : Fin 704) (d : Fin 1024) :
    ((cfg0.win 2).blk t).view.emb (ix3 s r d) = ix3 s (⟨704 * 0 + r.val, by have := r.isLt; omega⟩ : Fin 2112) d := by
  funext a; apply Fin.ext
  match a with
  | ⟨0, _⟩ => blk_simp [index_2]
  | ⟨1, _⟩ => blk_simp [index_2]; show r.val = 704 * 0 + r.val; omega
  | ⟨2, _⟩ => blk_simp [index_2]
theorem emb_3 (s : Fin 4) (r : Fin 704) (d : Fin 1024) :
    ((cfg0.win 3).blk t).view.emb (ix3 s r d) = ix3 s (⟨704 * 1 + r.val, by have := r.isLt; omega⟩ : Fin 2112) d := by
  funext a; apply Fin.ext
  match a with
  | ⟨0, _⟩ => blk_simp [index_3]
  | ⟨1, _⟩ => blk_simp [index_3]
  | ⟨2, _⟩ => blk_simp [index_3]
theorem emb_4 (s : Fin 4) (r : Fin 704) (d : Fin 1024) :
    ((cfg0.win 4).blk t).view.emb (ix3 s r d) = ix3 s (⟨704 * 2 + r.val, by have := r.isLt; omega⟩ : Fin 2112) d := by
  funext a; apply Fin.ext
  match a with
  | ⟨0, _⟩ => blk_simp [index_4]
  | ⟨1, _⟩ => blk_simp [index_4]
  | ⟨2, _⟩ => blk_simp [index_4]
theorem emb_5 (r : Fin 256) (l : Fin 1024) : ((cfg0.win 5).blk t).view.emb (ix2 r l) = ix2 (rowAt t.val (lt t) r) l := by
  funext a; apply Fin.ext
  match a with
  | ⟨0, _⟩ => blk_simp [index_5]; show t.val * 256 + r.val = 256 * t.val + r.val; omega
  | ⟨1, _⟩ => blk_simp [index_5]
theorem emb_6 (r : Fin 256) (l : Fin 2816) : ((cfg0.win 6).blk t).view.emb (ix2 r l) = ix2 (rowAt t.val (lt t) r) l := by
  funext a; apply Fin.ext
  match a with
  | ⟨0, _⟩ => blk_simp [index_6]; show t.val * 256 + r.val = 256 * t.val + r.val; omega
  | ⟨1, _⟩ => blk_simp [index_6]
theorem emb_7 (r : Fin 256) (l : Fin 2816) : ((cfg0.win 7).blk t).view.emb (ix2 r l) = ix2 (rowAt t.val (lt t) r) l := by
  funext a; apply Fin.ext
  match a with
  | ⟨0, _⟩ => blk_simp [index_7]; show t.val * 256 + r.val = 256 * t.val + r.val; omega
  | ⟨1, _⟩ => blk_simp [index_7]
theorem emb_8 (r : Fin 256) (l : Fin 1024) : ((cfg0.win 8).blk t).view.emb (ix2 r l) = ix2 (rowAt t.val (lt t) r) l := by
  funext a; apply Fin.ext
  match a with
  | ⟨0, _⟩ => blk_simp [index_8]; show t.val * 256 + r.val = 256 * t.val + r.val; omega
  | ⟨1, _⟩ => blk_simp [index_8]

end

/-! ## What a grid point finds -/

section
variable (m : (ℓ : Loc nD τ sig) → Buf (Elt Ideal) ℓ) (c : Dev nD) (t : Fin cfg0.N)

/-- The five arguments' entries. -/
def inX : M 8192 1024 := rows (m ((c : Thread nD τ).loc main_arg0))
def inG : Fin 1024 → EReal := fun d => m ((c : Thread nD τ).loc main_arg1) (ix1 d)
def inGate : M 1024 2816 := rows (m ((c : Thread nD τ).loc main_arg2))
def inUp : M 1024 2816 := rows (m ((c : Thread nD τ).loc main_arg3))
def inDown : M 2816 1024 := rows (m ((c : Thread nD τ).loc main_arg4))

theorem V_gain : V m c main_v0 = shapeCast S1x1024 (m ((c : Thread nD τ).loc main_arg1)) shapeCasts_S1024_S1x1024 := by
  show StableHlo.after hostOps0 _ (Proc.devRef .tc main_v0) = _
  after_results
  rfl

theorem V_packed : V m c main_v7 = truncf (F := Ideal) (φ := .f32) .bf16 (concatenate S4x2112x1024 1
      [⟨S4x704x1024, shapeCast S4x704x1024 (transpose S2816x1024 [1, 0] (m ((c : Thread nD τ).loc main_arg2)) transposes_S1024x2816_S2816x1024_1_0) shapeCasts_S2816x1024_S4x704x1024⟩,
        ⟨S4x704x1024, shapeCast S4x704x1024 (transpose S2816x1024 [1, 0] (m ((c : Thread nD τ).loc main_arg3)) transposes_S1024x2816_S2816x1024_1_0) shapeCasts_S2816x1024_S4x704x1024⟩,
        ⟨S4x704x1024, shapeCast S4x704x1024 (m ((c : Thread nD τ).loc main_arg4)) shapeCasts_S2816x1024_S4x704x1024⟩]
      concatenates_S4x704x1024_S4x704x1024_S4x704x1024_S4x2112x1024_d1) bitsLt_bf16_f32 := by
  show StableHlo.after hostOps0 _ (Proc.devRef .tc main_v7) = _
  after_results
  rfl

theorem block_x : Is (iblk m c 0 t) (blockOf t.val (lt t) (inX m c)) := fun r l =>
  (congrArg (V m c main_arg0) (emb_0 t r l)).trans (congrFun (V_main_arg0 m c) _)

theorem block_g : Is (iblk m c 1 t) (fun _ d => inG m c d) := fun i d => by
  refine (congrArg (V m c main_v0) (emb_1 t i d)).trans ((congrFun (V_gain m c) _).trans ?_)
  exact (IsVec.castRow shapeCasts_S1024_S1x1024 (f := inG m c) fun _ => rfl) i d

theorem block_gate : Piece (iblk m c 2 t) (fun j d => inGate m c d j) := fun s r d => by
  refine (congrArg (V m c main_v7) (emb_2 t s r d)).trans ((congrFun (V_packed m c) _).trans ?_)
  exact (packed_at concatenates_S4x704x1024_S4x704x1024_S4x704x1024_S4x2112x1024_d1 0 s r d _ rfl).trans
    (Is.pieces (Is.transp transposes_S1024x2816_S2816x1024_1_0 (f := inGate m c) fun _ _ => rfl) shapeCasts_S2816x1024_S4x704x1024 s r d)

theorem block_up : Piece (iblk m c 3 t) (fun j d => inUp m c d j) := fun s r d => by
  refine (congrArg (V m c main_v7) (emb_3 t s r d)).trans ((congrFun (V_packed m c) _).trans ?_)
  exact (packed_at concatenates_S4x704x1024_S4x704x1024_S4x704x1024_S4x2112x1024_d1 1 s r d _ rfl).trans
    (Is.pieces (Is.transp transposes_S1024x2816_S2816x1024_1_0 (f := inUp m c) fun _ _ => rfl) shapeCasts_S2816x1024_S4x704x1024 s r d)

theorem block_down : Piece (iblk m c 4 t) (inDown m c) := fun s r d => by
  refine (congrArg (V m c main_v7) (emb_4 t s r d)).trans ((congrFun (V_packed m c) _).trans ?_)
  exact (packed_at concatenates_S4x704x1024_S4x704x1024_S4x704x1024_S4x2112x1024_d1 2 s r d _ rfl).trans
    (Is.pieces (f := inDown m c) (fun _ _ => rfl) shapeCasts_S2816x1024_S4x704x1024 s r d)

end

/-! ## What a grid point leaves -/

theorem zero2 : (![0, 0] : Fin 2 → ℕ) = fun _ => 0 := by funext a; match a with | 0 => rfl | 1 => rfl
theorem zero3 : (![0, 0, 0] : Fin 3 → ℕ) = fun _ => 0 := by funext a; match a with | 0 => rfl | 1 => rfl | 2 => rfl

section
variable (x0 : Vec Ideal S256x1024 .f32) (x1 : Vec Ideal S1x1024 .f32) (x2 x3 x4 : Vec Ideal S4x704x1024 .bf16)

theorem left_5 : out0_5 x0 x1 x2 x3 x4
    = k0_pay1 x0 (k0_pay7 x0 x1 x2 x3) (k0_pay8 x4) (constant S256x1024 .f32 0x00000000#32) := by
  unfold out0_5
  rw [View.canon_unit_zero zero2, View.ld_unit_zero zero2, View.ld_unit_zero zero2, View.ld_unit_zero zero3, View.ld_unit_zero zero3,
    View.ld_unit_zero zero3]
theorem left_6 : out0_6 x0 x1 x2 x3 x4 = k0_pay2 (k0_pay5 x0 x1 x2) := by
  unfold out0_6
  rw [View.canon_unit_zero zero2, View.ld_unit_zero zero2, View.ld_unit_zero zero2, View.ld_unit_zero zero3]
theorem left_7 : out0_7 x0 x1 x2 x3 x4 = k0_pay3 (k0_pay6 x0 x1 x3) := by
  unfold out0_7
  rw [View.canon_unit_zero zero2, View.ld_unit_zero zero2, View.ld_unit_zero zero2, View.ld_unit_zero zero3]
theorem left_8 : out0_8 x0 x1 x2 x3 x4 = k0_pay4 x0 x1 := by
  unfold out0_8
  rw [View.canon_unit_zero zero2, View.ld_unit_zero zero2, View.ld_unit_zero zero2]

end

/-! ## The result arrays -/

section
variable (m : (ℓ : Loc nD τ sig) → Buf (Elt Ideal) ℓ) (c : Dev nD)

theorem result_out : (dats m 0 c).arrAt 5 cfg0.N = whole (result (inX m c) (inG m c) (inGate m c) (inUp m c) (inDown m c)) := by
  refine (dats m 0 c).arrAt_eq_of_covers 5 _ (by decide +kernel) fun t hf y => ?_
  blk_simp
  rw [after0_5, left_5]
  obtain ⟨r, l, rfl⟩ : ∃ (r : Fin 256) (l : Fin 1024), y = ix2 r l := ⟨y 0, y 1, ValueIdx.eq_ix2 y⟩
  rw [emb_5]
  exact call_result (block_x m c t) (block_g m c t) (block_gate m c t) (block_up m c t) (block_down m c t) r l

theorem result_gate : (dats m 0 c).arrAt 6 cfg0.N = whole (times (hidden (inX m c) (inG m c)) (inGate m c)) := by
  refine (dats m 0 c).arrAt_eq_of_covers 6 _ (by decide +kernel) fun t hf y => ?_
  blk_simp
  rw [after0_6, left_6]
  obtain ⟨r, l, rfl⟩ : ∃ (r : Fin 256) (l : Fin 2816), y = ix2 r l := ⟨y 0, y 1, ValueIdx.eq_ix2 y⟩
  rw [emb_6]
  exact call_gate (block_x m c t) (block_g m c t) (block_gate m c t) r l

theorem result_up : (dats m 0 c).arrAt 7 cfg0.N = whole (times (hidden (inX m c) (inG m c)) (inUp m c)) := by
  refine (dats m 0 c).arrAt_eq_of_covers 7 _ (by decide +kernel) fun t hf y => ?_
  blk_simp
  rw [after0_7, left_7]
  obtain ⟨r, l, rfl⟩ : ∃ (r : Fin 256) (l : Fin 2816), y = ix2 r l := ⟨y 0, y 1, ValueIdx.eq_ix2 y⟩
  rw [emb_7]
  exact call_up (block_x m c t) (block_g m c t) (block_up m c t) r l

theorem result_hidden : (dats m 0 c).arrAt 8 cfg0.N = whole (hidden (inX m c) (inG m c)) := by
  refine (dats m 0 c).arrAt_eq_of_covers 8 _ (by decide +kernel) fun t hf y => ?_
  blk_simp
  rw [after0_8, left_8]
  obtain ⟨r, l, rfl⟩ : ∃ (r : Fin 256) (l : Fin 1024), y = ix2 r l := ⟨y 0, y 1, ValueIdx.eq_ix2 y⟩
  rw [emb_8]
  exact call_hidden (block_x m c t) (block_g m c t) r l

end

end Forward

end Feed
-- ==== Proof.FeedPlain.lean ====
/-
  The feed-forward part, forward: what the two programs leave in their results, as the same functions of the arguments.
-/
module

public import proofs.«01_k».proof.Defs
public import proofs.«01_k».proof.Proof.FeedForward
public import proofs.«01_k».proof.Proof.Gen.Reference3Ideal.Run

@[expose] public section

set_option maxRecDepth 16384

noncomputable section

namespace Feed.Forward

open Idealize.ShloMosaic hiding ix0 ix1 ix2 ix3 ix4 ix5
open Idealize.ShloMosaic.TcCoe Idealize.ShloMosaic.ValueIdx Idealize.ShloMosaic.Tactic
open Idealize.SL.Sem
open scoped BigOperators

section
open Cert.Reference3Ideal Cert.Reference3Ideal.Gen
theorem many : (8192 : ℕ) ≠ 1 := by decide

theorem plain_hidden {x : FVec Ideal S8192x1024 .f32} {g : FVec Ideal S1024 .f32} {X : M 8192 1024} {G : Fin 1024 → EReal}
    (hx : Is x X) (hg : IsVec g G) : Is (mulf (mulf x (broadcastInDim S8192x1024 ![0, 1] bcast_S8192x1_S8192x1024_0_1 (Host.rsqrt
      (addf (Host.divf (broadcastInDim S8192x1 ![0] bcast_S8192_S8192x1_0 (Host.reduceAdd (mulf x x) (constant S_ .f32 0x00000000#32)
        reducesTo_S8192x1024_S8192_d1 h_S_)) (broadcastInDim S8192x1 ![] bcast_S_S8192x1 (constant S_ .f32 0x44800000#32)))
        (broadcastInDim S8192x1 ![] bcast_S_S8192x1 (constant S_ .f32 0x358637BD#32))))))
      (broadcastInDim S8192x1024 ![0, 1] bcast_S1x1024_S8192x1024_0_1 (broadcastInDim S1x1024 ![1] bcast_S1024_S1x1024_1 g)))
      (hidden X G) :=
  (plain_unit many hx (plain_power many hx (fun _ => Ideal.ofBits_zero_f32) _ _ _ _ _) _).mul (plain_gain hg _ _)

theorem plain_gated {p q : FVec Ideal S8192x2816 .f32} {P Q : M 8192 2816} (hp : Is p P) (hq : Is q Q) :
    Is (mulf (mulf p (Host.divf (broadcastInDim S8192x2816 ![] bcast_S_S8192x2816 (constant S_ .f32 0x3F800000#32))
      (addf (broadcastInDim S8192x2816 ![] bcast_S_S8192x2816 (constant S_ .f32 0x3F800000#32)) (Host.exp (Host.negf p))))) q)
      (gated P Q) :=
  (hp.mul (plain_logistic hp _ _)).mul hq

end

/-- The forward call's four results are the plain program's. -/
theorem algebraic : Cert.algebraic_Kernel3Ideal_Reference3Ideal (hKernel3Ideal := Cert.Kernel3Ideal.Gen.facts)
    (hReference3Ideal := Cert.Reference3Ideal.Gen.facts) := by
  intro m g m' g' hpre hargs
  refine ⟨fun c => whole (result (inX m c) (inG m c) (inGate m c) (inUp m c) (inDown m c)),
    fun c => whole (times (hidden (inX m c) (inG m c)) (inGate m c)), fun c => whole (times (hidden (inX m c) (inG m c)) (inUp m c)),
    fun c => whole (hidden (inX m c) (inG m c)),
    (θ_run _ _ _).mono (fun r h c => ?_) (Cert.Kernel3Ideal.Value.run_blocks m g),
    (θ_run _ _ _).mono (fun r h c => ?_) (Cert.Reference3Ideal.Value.run m' g')⟩
  · obtain ⟨h1, h2, h3, h4, h5⟩ := h c
    exact ⟨h1.trans (result_out m c), h2.trans (result_gate m c), h3.trans (result_up m c), h4.trans (result_hidden m c), h5⟩
  · obtain ⟨e0, e1, e2, e3, e4⟩ := hargs c
    have hx : Is _ (inX m c) := fun i j => congrFun e0 (ix2 i j)
    have hg : IsVec _ (inG m c) := fun j => congrFun e1 (ix1 j)
    have hw : Is _ (inGate m c) := fun i j => congrFun e2 (ix2 i j)
    have hu : Is _ (inUp m c) := fun i j => congrFun e3 (ix2 i j)
    have hd : Is _ (inDown m c) := fun i j => congrFun e4 (ix2 i j)
    have hh := plain_hidden hx hg
    have ha := Is.hostNN (φ₁ := .f32) (φ₂ := .f32) (D := Cert.Reference3Ideal.dot_S8192x1024_S1024x2816_S8192x2816_1_0_0_1_n_n) rfl hh hw
    have hb := Is.hostNN (φ₁ := .f32) (φ₂ := .f32) (D := Cert.Reference3Ideal.dot_S8192x1024_S1024x2816_S8192x2816_1_0_0_1_n_n) rfl hh hu
    have ho := hx.add (Is.hostNN (φ₁ := .f32) (φ₂ := .f32) (D := Cert.Reference3Ideal.dot_S8192x2816_S2816x1024_S8192x1024_1_0_0_1_n_n) rfl (plain_gated ha hb) hd)
    obtain ⟨h1, h2, h3, h4, h5⟩ := h c
    exact ⟨h1.trans ho.whole, h2.trans ha.whole, h3.trans hb.whole, h4.trans hh.whole, h5⟩

end Feed.Forward
-- ==== Proof.FeedSlope.lean ====
/-
  The backward half of the feed-forward part, as functions of extended reals; where the data are real numbers, the kernel's order of
  operations gives the same as the plain program's.
-/
module

public import proofs.«01_k».proof.Proof.Feed

@[expose] public section

set_option maxRecDepth 16384

noncomputable section

namespace Feed

open Idealize.ShloMosaic hiding ix0 ix1 ix2 ix3 ix4 ix5
open Idealize.ShloMosaic.ValueIdx
open scoped BigOperators

/-! ## The functions -/

section Functions
variable {a : ℕ}

/-- What reaches the gated product. -/
def pull (dx : M a 1024) (wd : M 2816 1024) : M a 2816 := times dx fun d j => wd j d
/-- What reaches the gate, from `s` at the gated product. -/
def gateSlope (p q s : M a 2816) : M a 2816 := fun i j =>
  s i j * q i j * (logistic (p i j) * (1 + p i j * (1 - logistic (p i j))))
/-- What reaches the other half. -/
def upSlope (p s : M a 2816) : M a 2816 := fun i j => s i j * (p i j * logistic (p i j))
/-- What reaches the normalised rows. -/
def reach (da db : M a 2816) (wg wu : M 1024 2816) : M a 1024 := fun i d =>
  times da (fun j d => wg d j) i d + times db (fun j d => wu d j) i d
/-- A row's share of the gain's gradient. -/
def gainShare (x dh : M a 1024) : M a 1024 := fun i d => dh i d * unit x i d
/-- What reaches the rows, the part that passes by included. -/
def rowSlope (dx x : M a 1024) (g : Fin 1024 → EReal) (dh : M a 1024) : M a 1024 := fun i d =>
  dx i d + inv x i * (dh i d * g d
    - unit x i d * Ideal.div (∑ k, dh i k * g k * unit x i k) (Ideal.ofBits .f32 0x44800000#32))

/-- The gate's half, of rows `x`. -/
def gateOf (x : M a 1024) (g : Fin 1024 → EReal) (wg : M 1024 2816) : M a 2816 := times (hidden x g) wg
/-- The gate's gradient. -/
def gateGrad (dx x : M a 1024) (g : Fin 1024 → EReal) (wg wu : M 1024 2816) (wd : M 2816 1024) : M a 2816 :=
  gateSlope (gateOf x g wg) (gateOf x g wu) (pull dx wd)
/-- The other half's gradient. -/
def upGrad (dx x : M a 1024) (g : Fin 1024 → EReal) (wg : M 1024 2816) (wd : M 2816 1024) : M a 2816 :=
  upSlope (gateOf x g wg) (pull dx wd)
/-- The normalised rows' gradient. -/
def hiddenGrad (dx x : M a 1024) (g : Fin 1024 → EReal) (wg wu : M 1024 2816) (wd : M 2816 1024) : M a 1024 :=
  reach (gateGrad dx x g wg wu wd) (upGrad dx x g wg wd) wg wu
/-- The rows' gradient. -/
def rowGrad (dx x : M a 1024) (g : Fin 1024 → EReal) (wg wu : M 1024 2816) (wd : M 2816 1024) : M a 1024 :=
  rowSlope dx x g (hiddenGrad dx x g wg wu wd)
/-- Each row's share of the gain's gradient. -/
def gainGrad (dx x : M a 1024) (g : Fin 1024 → EReal) (wg wu : M 1024 2816) (wd : M 2816 1024) : M a 1024 :=
  gainShare x (hiddenGrad dx x g wg wu wd)

end Functions

/-! ## Real numbers among the extended reals -/

/-- A real number. -/
def Num (x : EReal) : Prop := ∃ r : ℝ, x = (r : EReal)

theorem Num.mul {x y : EReal} (hx : Num x) (hy : Num y) : Num (x * y) := by
  obtain ⟨r, rfl⟩ := hx
  obtain ⟨s, rfl⟩ := hy
  exact ⟨r * s, (EReal.coe_mul r s).symm⟩

theorem Num.add {x y : EReal} (hx : Num x) (hy : Num y) : Num (x + y) := by
  obtain ⟨r, rfl⟩ := hx
  obtain ⟨s, rfl⟩ := hy
  exact ⟨r + s, (EReal.coe_add r s).symm⟩

theorem Num.sub {x y : EReal} (hx : Num x) (hy : Num y) : Num (x - y) := by
  obtain ⟨r, rfl⟩ := hx
  obtain ⟨s, rfl⟩ := hy
  exact ⟨r - s, (EReal.coe_sub r s).symm⟩

theorem Num.one : Num 1 := ⟨1, EReal.coe_one.symm⟩

theorem Num.sum {n : ℕ} {f : Fin n → EReal} (hf : ∀ k, Num (f k)) : Num (∑ k, f k) := by
  choose r hr using hf
  exact ⟨∑ k, r k, (Finset.sum_congr rfl fun k _ => hr k).trans (Delta.sum_coe _ _)⟩

theorem Num.logistic {x : EReal} (hx : Num x) : Num (logistic x) := by
  obtain ⟨r, rfl⟩ := hx
  exact ⟨_, logistic_real r⟩

theorem Num.times {a b c : ℕ} {h : M a b} {w : M b c} (hh : ∀ i k, Num (h i k)) (hw : ∀ k j, Num (w k j)) (i : Fin a) (j : Fin c) :
    Num (times h w i j) := Num.sum fun k => (hh i k).mul (hw k j)

theorem thousand_real : Ideal.ofBits .f32 0x44800000#32 = ((1024 : ℝ) : EReal) := by
  simp [Ideal.ofBits, Ideal.ieee]
  rw [← EReal.coe_mul]
  norm_num

theorem minus_half_real : Ideal.ofBits .f32 0xBF000000#32 = ((-(1 / 2) : ℝ) : EReal) := by
  simp [Ideal.ofBits, Ideal.ieee]
  rw [← EReal.coe_mul]
  norm_num

theorem small_real : ∃ e : ℝ, 0 < e ∧ Ideal.ofBits .f32 0x358637BD#32 = (e : EReal) := by
  simp [Ideal.ofBits, Ideal.ieee]
  refine ⟨_, ?_, (EReal.coe_mul _ _).symm⟩
  positivity

theorem div_real {r s : ℝ} (hs : s ≠ 0) : Ideal.div (r : EReal) (s : EReal) = ((r / s : ℝ) : EReal) := by
  rw [Ideal.div_coe hs, ← EReal.coe_mul, mul_one_div]

theorem power_real {a : ℕ} {x : M a 1024} {i : Fin a} (hx : ∀ k, Num (x i k)) : ∃ q : ℝ, 0 < q ∧ power x i = (q : EReal) := by
  choose r hr using hx
  obtain ⟨e, he, h⟩ := small_real
  refine ⟨(∑ k, r k * r k) / 1024 + e, ?_, ?_⟩
  · have : 0 ≤ ∑ k, r k * r k := Finset.sum_nonneg fun k _ => mul_self_nonneg _
    positivity
  · have one : ∑ k, x i k * x i k = ((∑ k, r k * r k : ℝ) : EReal) :=
      (Finset.sum_congr rfl fun k _ => by rw [hr k, ← EReal.coe_mul]).trans (Delta.sum_coe _ _)
    unfold power
    rw [one, h, thousand_real, div_real (by norm_num), ← EReal.coe_add]

theorem rsqrt_real {q : ℝ} (hq : 0 < q) : Ideal.rsqrt (q : EReal) = (((Real.sqrt q)⁻¹ : ℝ) : EReal) := by
  show (if q < 0 then (⊥ : EReal) else if q = 0 then ⊤ else (((Real.sqrt q)⁻¹ : ℝ) : EReal)) = _
  rw [if_neg hq.le.not_gt, if_neg hq.ne']

theorem Num.inv {a : ℕ} {x : M a 1024} {i : Fin a} (hx : ∀ k, Num (x i k)) : Num (inv x i) := by
  obtain ⟨q, hq, h⟩ := power_real hx
  exact ⟨_, by unfold Feed.inv; rw [h, rsqrt_real hq]⟩

theorem Num.hidden {a : ℕ} {x : M a 1024} {g : Fin 1024 → EReal} (hx : ∀ i k, Num (x i k)) (hg : ∀ k, Num (g k)) (i : Fin a)
    (d : Fin 1024) : Num (hidden x g i d) := ((hx i d).mul (Num.inv (hx i))).mul (hg d)

/-! ## The plain program's order of operations -/

/-- The slope of `x · logistic x`, the product rule taken in the plain program's order. -/
theorem gate_order {p q s : EReal} (hp : Num p) (hq : Num q) (hs : Num s) :
    s * q * logistic p + p * (s * q) * (logistic p * (1 - logistic p)) = s * q * (logistic p * (1 + p * (1 - logistic p))) := by
  obtain ⟨l, hl⟩ := hp.logistic
  obtain ⟨p, rfl⟩ := hp
  obtain ⟨q, rfl⟩ := hq
  obtain ⟨s, rfl⟩ := hs
  rw [hl, ← EReal.coe_one]
  simp only [← EReal.coe_mul, ← EReal.coe_sub, ← EReal.coe_add]
  congr 1
  ring

/-- What the plain program carries back through the mean square of a row. -/
def carried {a : ℕ} (x s : M a 1024) (i : Fin a) : EReal :=
  Ideal.div ((∑ k, x i k * s i k) * (Ideal.ofBits .f32 0xBF000000#32 * Ideal.div (inv x i) (power x i))) (Ideal.ofBits .f32 0x44800000#32)

/-- The slope of the normalisation, taken in the plain program's order. -/
theorem row_order {a : ℕ} {x dh : M a 1024} {g : Fin 1024 → EReal} (dx : M a 1024) (i : Fin a) (d : Fin 1024) (hx : ∀ k, Num (x i k))
    (hs : ∀ k, Num (dh i k * g k)) :
    dx i d + (dh i d * g d * inv x i + x i d * carried x (fun i k => dh i k * g k) i + carried x (fun i k => dh i k * g k) i * x i d)
      = rowSlope dx x g dh i d := by
  obtain ⟨q, hq, h⟩ := power_real hx
  have hi : inv x i = (((Real.sqrt q)⁻¹ : ℝ) : EReal) := by unfold inv; rw [h, rsqrt_real hq]
  choose X hX using hx
  choose S hS using hs
  have one : ∑ k, x i k * (dh i k * g k) = ((∑ k, X k * S k : ℝ) : EReal) :=
    (Finset.sum_congr rfl fun k _ => by rw [hX k, hS k, ← EReal.coe_mul]).trans (Delta.sum_coe _ _)
  have two : ∑ k, dh i k * g k * unit x i k = ((∑ k, S k * (X k * (Real.sqrt q)⁻¹) : ℝ) : EReal) :=
    (Finset.sum_congr rfl fun k _ => by unfold unit; rw [hi, hX k, hS k, ← EReal.coe_mul, ← EReal.coe_mul]).trans (Delta.sum_coe _ _)
  have three : ∑ k, S k * (X k * (Real.sqrt q)⁻¹) = (∑ k, X k * S k) * (Real.sqrt q)⁻¹ := by
    rw [Finset.sum_mul]
    exact Finset.sum_congr rfl fun k _ => by ring
  unfold rowSlope carried
  rw [two]
  beta_reduce
  rw [one, three, h]
  unfold unit
  rw [hi, hX d, hS d, thousand_real, minus_half_real, div_real hq.ne']
  simp only [← EReal.coe_mul]
  rw [div_real (by norm_num), div_real (by norm_num)]
  simp only [← EReal.coe_mul, ← EReal.coe_sub, ← EReal.coe_add]
  congr 2
  set w := Real.sqrt q with hw
  have hw0 : w ≠ 0 := (Real.sqrt_pos.2 hq).ne'
  have hqw : q = w * w := (Real.mul_self_sqrt hq.le).symm
  generalize ∑ k, X k * S k = T
  clear_value w
  subst hqw
  field_simp
  ring

/-! ## Sums over rows, block by block -/

/-- Rows taken `b` at a time. -/
theorem sum_blocks (n b : ℕ) (f : Fin (n * b) → EReal) :
    ∑ i, f i = ∑ t : Fin n, ∑ r : Fin b, f ⟨b * t.val + r.val, by
      have := t.isLt; have := r.isLt
      calc b * t.val + r.val < b * t.val + b := by omega
        _ = b * (t.val + 1) := by ring
        _ ≤ b * n := Nat.mul_le_mul_left _ (by omega)
        _ = n * b := Nat.mul_comm _ _⟩ := by
  rw [← Equiv.sum_comp finProdFinEquiv, Fintype.sum_prod_type]
  refine Finset.sum_congr rfl fun t _ => Finset.sum_congr rfl fun r _ => congrArg f (Fin.ext ?_)
  show r.val + b * t.val = b * t.val + r.val
  omega

end Feed

end
-- ==== Proof.FeedBack.lean ====
/-
  The backward call of the feed-forward part: what it computes for the rows it holds, and what it leaves after each grid point.
-/
module

public import proofs.«01_k».proof.Proof.FeedForward
public import proofs.«01_k».proof.Proof.FeedSlope
public import proofs.«01_k».proof.Proof.Gen.Kernel2Ideal.Frame
public import Idealize.ShloMosaic.Lib.Tactic
public import Idealize.ShloMosaic.Lib.Pipeline.ValueKit
public import Idealize.ShloMosaic.Lib.WritesUnit
public import Idealize.ShloMosaic.Lib.VecWindow

@[expose] public section

set_option maxRecDepth 16384

noncomputable section

namespace Feed.Backward

open Idealize.ShloMosaic hiding ix0 ix1 ix2 ix3 ix4 ix5
open Idealize.ShloMosaic.TcCoe Idealize.ShloMosaic.ValueIdx Idealize.ShloMosaic.Tactic
open Idealize.SL.Sem
open scoped BigOperators
open Feed.Forward (zero2 zero3)
open Cert.Kernel2Ideal Cert.Kernel2Ideal.Gen
attribute [local instance] Cert.Kernel2Ideal.Gen.facts

/-! ## The call on the rows it holds -/

section Call
variable {x0 x1 : Vec Ideal S256x1024 .f32} {x2 x3 : Vec Ideal S256x2816 .bf16} {x4 : Vec Ideal S1x1024 .f32}
  {x5 x6 x7 : Vec Ideal S4x704x1024 .bf16}
  {D X : M 256 1024} {P Q S : M 256 2816} {G : Fin 1024 → EReal} {Wg Wu : M 1024 2816} {Wd : M 2816 1024}

theorem stacked {w : Vec Ideal S4x704x1024 .bf16} {W : M 2816 1024} (hw : Piece w W) :
    Is (shapeCast S2816x1024 (shapeCast S4x704x1024 w shapeCasts_S4x704x1024_S4x704x1024) shapeCasts_S4x704x1024_S2816x1024) W :=
  Is.stack (f := W) hw shapeCasts_S4x704x1024_S4x704x1024 shapeCasts_S4x704x1024_S2816x1024

theorem call_p (h2 : Is x2 P) : Is (k0_pay4 x2) P := (h2.castSame shapeCasts_S256x2816_S256x2816).extend bitsLt_bf16_f32
theorem call_q (h3 : Is x3 Q) : Is (k0_pay5 x3) Q := (h3.castSame shapeCasts_S256x2816_S256x2816).extend bitsLt_bf16_f32

theorem call_pull (h0 : Is x0 D) (h7 : Piece x7 Wd) : Is (k0_pay6 x0 x7) (pull D Wd) :=
  (h0.trunc bitsLt_bf16_f32).dotNT rfl (stacked h7)

theorem call_logistic (h2 : Is x2 P) : Is (k0_pay7 x2) (fun i j => logistic (P i j)) :=
  (((Is.splat 0x3F000000#32).mul (((Is.splat 0x3F000000#32).mul (call_p h2)).tanh)).add (Is.splat 0x3F000000#32)).congr
    fun i j => logistic_tanh _

theorem call_swish (h2 : Is x2 P) : Is (k0_pay8 x2) (fun i j => P i j * logistic (P i j)) := (call_p h2).mul (call_logistic h2)

theorem call_act (h2 : Is x2 P) (h3 : Is x3 Q) : Is (k0_pay2 (k0_pay5 x3) (k0_pay8 x2)) (gated P Q) :=
  ((call_swish h2).mul (call_q h3)).trunc bitsLt_bf16_f32

theorem call_gate (h0 : Is x0 D) (h2 : Is x2 P) (h3 : Is x3 Q) (h7 : Piece x7 Wd) :
    Is (k0_pay9 x0 x2 x3 x7) (gateSlope P Q (pull D Wd)) := by
  have one : Is (broadcast S256x2816 (Scalar.ofBits (F := Ideal) .f32 0x3F800000#32)) (fun _ _ => (1 : EReal)) :=
    (Is.splat 0x3F800000#32).congr fun _ _ => Ideal.ofBits_one_f32
  exact (((call_pull h0 h7).mul (call_q h3)).mul ((call_logistic h2).mul
    (one.add ((call_p h2).mul (one.sub (call_logistic h2)))))).trunc bitsLt_bf16_f32

theorem call_up (h0 : Is x0 D) (h2 : Is x2 P) (h7 : Piece x7 Wd) : Is (k0_pay10 x0 x2 x7) (upSlope P (pull D Wd)) :=
  ((call_pull h0 h7).mul (call_swish h2)).trunc bitsLt_bf16_f32

variable {da db : FVec Ideal S256x2816 .bf16} {A B : M 256 2816} {H : M 256 1024}

theorem call_reach (ha : Is da A) (hb : Is db B) (h5 : Piece x5 fun j d => Wg d j) (h6 : Piece x6 fun j d => Wu d j) :
    Is (k0_pay12 da db (k0_pay11 x5) (constant S256x1024 .f32 0x00000000#32) x6) (reach A B Wg Wu) :=
  (ha.dotNN rfl (stacked h5)).add (hb.dotNN rfl (stacked h6))

theorem call_inv (h1 : Is x1 X) : Is (k0_pay13 x1) (fun i _ => inv X i) :=
  ((((h1.mul h1).sumRows reduces_S256x1024_S256 (.inl rfl) rfl shapeCasts_S256_S256x1).div (Is.splat 0x44800000#32)).add
    (Is.splat 0x358637BD#32)).rsqrt

theorem call_unit (h1 : Is x1 X) : Is (k0_pay14 x1) (unit X) :=
  h1.mul ((call_inv h1).spreadCol (by decide) broadcasts_S256x1_S256x1024)

theorem call_rows (h0 : Is x0 D) (h1 : Is x1 X) (h4 : Is x4 fun _ d => G d) (ha : Is da A) (hb : Is db B)
    (h5 : Piece x5 fun j d => Wg d j) (h6 : Piece x6 fun j d => Wu d j) :
    Is (k0_pay16 x0 da db (k0_pay11 x5) (constant S256x1024 .f32 0x00000000#32) x6 x1 x4) (rowSlope D X G (reach A B Wg Wu)) := by
  have s := (call_reach ha hb h5 h6).mul ((h4.castSame shapeCasts_S1x1024_S1x1024).spreadRow (by decide) broadcasts_S1x1024_S256x1024)
  have u := call_unit h1
  exact h0.add (((call_inv h1).spreadCol (by decide) broadcasts_S256x1_S256x1024).mul (s.sub (u.mul
    ((((s.mul u).sumRows reduces_S256x1024_S256 (.inl rfl) rfl shapeCasts_S256_S256x1).div (Is.splat 0x44800000#32)).spreadCol (by decide)
      broadcasts_S256x1_S256x1024))))

theorem call_gain {row : Vec Ideal S1x1024 .f32} {R : Fin 1024 → EReal} (hr : Is row fun _ d => R d) (h1 : Is x1 X) (ha : Is da A)
    (hb : Is db B) (h5 : Piece x5 fun j d => Wg d j) (h6 : Piece x6 fun j d => Wu d j) :
    Is (k0_pay15 da db (k0_pay11 x5) (constant S256x1024 .f32 0x00000000#32) x6 x1 row)
      (fun _ d => R d + ∑ i, gainShare X (reach A B Wg Wu) i d) :=
  (hr.castSame shapeCasts_S1x1024_S1x1024).add
    (((call_reach ha hb h5 h6).mul (call_unit h1)).sumCols reduces_S256x1024_S1024 (.inl rfl) rfl shapeCasts_S1024_S1x1024)

end Call

/-! ## What a grid point leaves -/

section Row
variable {κ : Kind} {sp : Space} (v : View sig κ sp S8x1024 .f32) (f : v.ty.Contents (Elt Ideal)) (w : Vec Ideal S1x1024 .f32)
  (L : List (View.Piece (Elt Ideal) S8x1024 .f32)) (k : Fin 8) (d : Fin 1024)

theorem row_in (hk : k.val = 0) : v.read (Elt Ideal) (v.writes (Elt Ideal) f
    (⟨Rect.unit (s := S8x1024) ![0, 0] S1x1024.size inb_S8x1024_S1x1024_0_0, w⟩ :: L)) (ix2 k d) = w (ix2 0 d) :=
  View.read_writes_cons_rows_of_mem (o := 0) v f inb_S8x1024_S1x1024_0_0 w L (ix2 k d) (ix2 (0 : Fin 1) d) rfl
    (by show k.val = 0 + 0; omega) rfl

theorem row_out (hk : k.val ≠ 0) : v.read (Elt Ideal) (v.writes (Elt Ideal) f
    (⟨Rect.unit (s := S8x1024) ![0, 0] S1x1024.size inb_S8x1024_S1x1024_0_0, w⟩ :: L)) (ix2 k d)
      = v.read (Elt Ideal) (v.writes (Elt Ideal) f L) (ix2 k d) :=
  View.read_writes_cons_rows_of_not_mem (o := 0) (W := 1) v f inb_S8x1024_S1x1024_0_0 w L (ix2 k d) rfl rfl
    (.inr (by show 0 + 1 ≤ k.val; omega))

/-- The row read back after a store of all the rows. -/
theorem row_read (w : Vec Ideal S8x1024 .f32) : v.readCov [⟨Rect.unit (s := S8x1024) ![0, 0] S8x1024.size inb_S8x1024_S8x1024_0_0, w⟩]
    (Rect.unit (s := S8x1024) ![0, 0] S1x1024.size inb_S8x1024_S1x1024_0_0).toLoadRect
      = View.ld w (Rect.unit (s := S8x1024) ![0, 0] S1x1024.size inb_S8x1024_S1x1024_0_0) :=
  congrArg (fun X => View.ld X (Rect.unit (s := S8x1024) ![0, 0] S1x1024.size inb_S8x1024_S1x1024_0_0))
    (View.read_writes_full v v.junk inb_S8x1024_S8x1024_0_0 w [])

end Row

section Point
variable (c : Dev nD) (i : grid0.Coords)
  (a1 : Memref sig .tc .vmem S256x1024 .f32) (h1 : a1.IsWhole) (a2 : Memref sig .tc .vmem S256x1024 .f32) (h2 : a2.IsWhole)
  (a3 : Memref sig .tc .vmem S256x2816 .bf16) (h3 : a3.IsWhole) (a4 : Memref sig .tc .vmem S256x2816 .bf16) (h4 : a4.IsWhole)
  (a5 : Memref sig .tc .vmem S1x1024 .f32) (h5 : a5.IsWhole) (a6 : Memref sig .tc .vmem S4x704x1024 .bf16) (h6 : a6.IsWhole)
  (a7 : Memref sig .tc .vmem S4x704x1024 .bf16) (h7 : a7.IsWhole) (a8 : Memref sig .tc .vmem S4x704x1024 .bf16) (h8 : a8.IsWhole)
  (a9 : Memref sig .tc .vmem S256x1024 .f32) (h9 : a9.IsWhole) (a10 : Memref sig .tc .vmem S256x1024 .bf16) (h10 : a10.IsWhole)
  (a11 : Memref sig .tc .vmem S256x2816 .bf16) (h11 : a11.IsWhole) (a12 : Memref sig .tc .vmem S256x2816 .bf16) (h12 : a12.IsWhole)
  (a13 : Memref sig .tc .vmem S256x2816 .bf16) (h13 : a13.IsWhole) (a14 : Memref sig .tc .vmem S8x1024 .f32) (h14 : a14.IsWhole)
  (x0 x1 : Vec Ideal S256x1024 .f32) (x2 x3 : Vec Ideal S256x2816 .bf16) (x4 : Vec Ideal S1x1024 .f32)
  (x5 x6 x7 : Vec Ideal S4x704x1024 .bf16)

/-- The rows' gradient, of the blocks read. -/
def newRows : Vec Ideal S256x1024 .f32 :=
  k0_pay16 x0 (k0_pay9 x0 x2 x3 x7) (k0_pay10 x0 x2 x7) (k0_pay11 x5) (constant S256x1024 .f32 0x00000000#32) x6 x1 x4
/-- The gain's row, of the row before. -/
def newGain (row : Vec Ideal S1x1024 .f32) : Vec Ideal S1x1024 .f32 :=
  k0_pay15 (k0_pay9 x0 x2 x3 x7) (k0_pay10 x0 x2 x7) (k0_pay11 x5) (constant S256x1024 .f32 0x00000000#32) x6 x1 row

theorem first_8 (hc : cond0_0 i) : out0_A_8 c i a1 h1 a2 h2 a3 h3 a4 h4 a5 h5 a6 h6 a7 h7 a8 h8 a9 h9 a10 h10 a11 h11 a12 h12 a13 h13 a14 h14 hc x0 x1 x2 x3 x4 x5 x6 x7
    = newRows x0 x1 x2 x3 x4 x5 x6 x7 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  simp only [View.canon_unit_zero (S := S256x1024) zero2, View.canon_unit_zero (S := S256x2816) zero2, View.readAt_eq_ld,
    h1.read_unread, h2.read_unread, h3.read_unread, h4.read_unread, h5.read_unread, h6.read_unread, h7.read_unread, h8.read_unread,
    View.ld_unit_zero (S := S256x1024) zero2, View.ld_unit_zero (S := S256x2816) zero2, View.ld_unit_zero (S := S1x1024) zero2,
    View.ld_unit_zero (S := S4x704x1024) zero3]
  rfl

theorem next_8 (hc : ¬cond0_0 i) (xo : Vec Ideal S8x1024 .f32) : out0_B_8 c i a1 h1 a2 h2 a3 h3 a4 h4 a5 h5 a6 h6 a7 h7 a8 h8 a9 h9 a10 h10 a11 h11 a12 h12 a13 h13 a14 h14 hc x0 x1 x2 x3 x4 x5 x6 x7 xo
    = newRows x0 x1 x2 x3 x4 x5 x6 x7 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 hc x0 x1 x2 x3 x4 x5 x6 x7 xo)]
  unfold kernelRun0_B
  dsimp only
  sl_unfold_words
  simp only [View.canon_unit_zero (S := S256x1024) zero2, View.canon_unit_zero (S := S256x2816) zero2, View.readAt_eq_ld,
    h1.read_unread, h2.read_unread, h3.read_unread, h4.read_unread, h5.read_unread, h6.read_unread, h7.read_unread, h8.read_unread,
    View.ld_unit_zero (S := S256x1024) zero2, View.ld_unit_zero (S := S256x2816) zero2, View.ld_unit_zero (S := S1x1024) zero2,
    View.ld_unit_zero (S := S4x704x1024) zero3]
  rfl

theorem first_9 (hc : cond0_0 i) : out0_A_9 c i a1 h1 a2 h2 a3 h3 a4 h4 a5 h5 a6 h6 a7 h7 a8 h8 a9 h9 a10 h10 a11 h11 a12 h12 a13 h13 a14 h14 hc x0 x1 x2 x3 x4 x5 x6 x7
    = k0_pay1 (F := Ideal) (newRows x0 x1 x2 x3 x4 x5 x6 x7) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  simp only [View.canon_unit_zero (S := S256x1024) zero2, View.canon_unit_zero (S := S256x2816) zero2, View.readAt_eq_ld,
    h1.read_unread, h2.read_unread, h3.read_unread, h4.read_unread, h5.read_unread, h6.read_unread, h7.read_unread, h8.read_unread,
    View.ld_unit_zero (S := S256x1024) zero2, View.ld_unit_zero (S := S256x2816) zero2, View.ld_unit_zero (S := S1x1024) zero2,
    View.ld_unit_zero (S := S4x704x1024) zero3]
  rfl

theorem next_9 (hc : ¬cond0_0 i) (xo : Vec Ideal S8x1024 .f32) : out0_B_9 c i a1 h1 a2 h2 a3 h3 a4 h4 a5 h5 a6 h6 a7 h7 a8 h8 a9 h9 a10 h10 a11 h11 a12 h12 a13 h13 a14 h14 hc x0 x1 x2 x3 x4 x5 x6 x7 xo
    = k0_pay1 (F := Ideal) (newRows x0 x1 x2 x3 x4 x5 x6 x7) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 hc x0 x1 x2 x3 x4 x5 x6 x7 xo)]
  unfold kernelRun0_B
  dsimp only
  sl_unfold_words
  simp only [View.canon_unit_zero (S := S256x1024) zero2, View.canon_unit_zero (S := S256x2816) zero2, View.readAt_eq_ld,
    h1.read_unread, h2.read_unread, h3.read_unread, h4.read_unread, h5.read_unread, h6.read_unread, h7.read_unread, h8.read_unread,
    View.ld_unit_zero (S := S256x1024) zero2, View.ld_unit_zero (S := S256x2816) zero2, View.ld_unit_zero (S := S1x1024) zero2,
    View.ld_unit_zero (S := S4x704x1024) zero3]
  rfl

theorem first_10 (hc : cond0_0 i) : out0_A_10 c i a1 h1 a2 h2 a3 h3 a4 h4 a5 h5 a6 h6 a7 h7 a8 h8 a9 h9 a10 h10 a11 h11 a12 h12 a13 h13 a14 h14 hc x0 x1 x2 x3 x4 x5 x6 x7
    = k0_pay9 x0 x2 x3 x7 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  simp only [View.canon_unit_zero (S := S256x1024) zero2, View.canon_unit_zero (S := S256x2816) zero2, View.readAt_eq_ld,
    h1.read_unread, h2.read_unread, h3.read_unread, h4.read_unread, h5.read_unread, h6.read_unread, h7.read_unread, h8.read_unread,
    View.ld_unit_zero (S := S256x1024) zero2, View.ld_unit_zero (S := S256x2816) zero2, View.ld_unit_zero (S := S1x1024) zero2,
    View.ld_unit_zero (S := S4x704x1024) zero3]

theorem next_10 (hc : ¬cond0_0 i) (xo : Vec Ideal S8x1024 .f32) : out0_B_10 c i a1 h1 a2 h2 a3 h3 a4 h4 a5 h5 a6 h6 a7 h7 a8 h8 a9 h9 a10 h10 a11 h11 a12 h12 a13 h13 a14 h14 hc x0 x1 x2 x3 x4 x5 x6 x7 xo
    = k0_pay9 x0 x2 x3 x7 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 hc x0 x1 x2 x3 x4 x5 x6 x7 xo)]
  unfold kernelRun0_B
  dsimp only
  sl_unfold_words
  simp only [View.canon_unit_zero (S := S256x1024) zero2, View.canon_unit_zero (S := S256x2816) zero2, View.readAt_eq_ld,
    h1.read_unread, h2.read_unread, h3.read_unread, h4.read_unread, h5.read_unread, h6.read_unread, h7.read_unread, h8.read_unread,
    View.ld_unit_zero (S := S256x1024) zero2, View.ld_unit_zero (S := S256x2816) zero2, View.ld_unit_zero (S := S1x1024) zero2,
    View.ld_unit_zero (S := S4x704x1024) zero3]

theorem first_11 (hc : cond0_0 i) : out0_A_11 c i a1 h1 a2 h2 a3 h3 a4 h4 a5 h5 a6 h6 a7 h7 a8 h8 a9 h9 a10 h10 a11 h11 a12 h12 a13 h13 a14 h14 hc x0 x1 x2 x3 x4 x5 x6 x7
    = k0_pay10 x0 x2 x7 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  simp only [View.canon_unit_zero (S := S256x1024) zero2, View.canon_unit_zero (S := S256x2816) zero2, View.readAt_eq_ld,
    h1.read_unread, h2.read_unread, h3.read_unread, h4.read_unread, h5.read_unread, h6.read_unread, h7.read_unread, h8.read_unread,
    View.ld_unit_zero (S := S256x1024) zero2, View.ld_unit_zero (S := S256x2816) zero2, View.ld_unit_zero (S := S1x1024) zero2,
    View.ld_unit_zero (S := S4x704x1024) zero3]

theorem next_11 (hc : ¬cond0_0 i) (xo : Vec Ideal S8x1024 .f32) : out0_B_11 c i a1 h1 a2 h2 a3 h3 a4 h4 a5 h5 a6 h6 a7 h7 a8 h8 a9 h9 a10 h10 a11 h11 a12 h12 a13 h13 a14 h14 hc x0 x1 x2 x3 x4 x5 x6 x7 xo
    = k0_pay10 x0 x2 x7 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc x0 x1 x2 x3 x4 x5 x6 x7 xo)]
  unfold kernelRun0_B
  dsimp only
  sl_unfold_words
  simp only [View.canon_unit_zero (S := S256x1024) zero2, View.canon_unit_zero (S := S256x2816) zero2, View.readAt_eq_ld,
    h1.read_unread, h2.read_unread, h3.read_unread, h4.read_unread, h5.read_unread, h6.read_unread, h7.read_unread, h8.read_unread,
    View.ld_unit_zero (S := S256x1024) zero2, View.ld_unit_zero (S := S256x2816) zero2, View.ld_unit_zero (S := S1x1024) zero2,
    View.ld_unit_zero (S := S4x704x1024) zero3]

theorem first_12 (hc : cond0_0 i) : out0_A_12 c i a1 h1 a2 h2 a3 h3 a4 h4 a5 h5 a6 h6 a7 h7 a8 h8 a9 h9 a10 h10 a11 h11 a12 h12 a13 h13 a14 h14 hc x0 x1 x2 x3 x4 x5 x6 x7
    = k0_pay2 (k0_pay5 x3) (k0_pay8 x2) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  simp only [View.canon_unit_zero (S := S256x1024) zero2, View.canon_unit_zero (S := S256x2816) zero2, View.readAt_eq_ld,
    h1.read_unread, h2.read_unread, h3.read_unread, h4.read_unread, h5.read_unread, h6.read_unread, h7.read_unread, h8.read_unread,
    View.ld_unit_zero (S := S256x1024) zero2, View.ld_unit_zero (S := S256x2816) zero2, View.ld_unit_zero (S := S1x1024) zero2,
    View.ld_unit_zero (S := S4x704x1024) zero3]

theorem next_12 (hc : ¬cond0_0 i) (xo : Vec Ideal S8x1024 .f32) : out0_B_12 c i a1 h1 a2 h2 a3 h3 a4 h4 a5 h5 a6 h6 a7 h7 a8 h8 a9 h9 a10 h10 a11 h11 a12 h12 a13 h13 a14 h14 hc x0 x1 x2 x3 x4 x5 x6 x7 xo
    = k0_pay2 (k0_pay5 x3) (k0_pay8 x2) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc x0 x1 x2 x3 x4 x5 x6 x7 xo)]
  unfold kernelRun0_B
  dsimp only
  sl_unfold_words
  simp only [View.canon_unit_zero (S := S256x1024) zero2, View.canon_unit_zero (S := S256x2816) zero2, View.readAt_eq_ld,
    h1.read_unread, h2.read_unread, h3.read_unread, h4.read_unread, h5.read_unread, h6.read_unread, h7.read_unread, h8.read_unread,
    View.ld_unit_zero (S := S256x1024) zero2, View.ld_unit_zero (S := S256x2816) zero2, View.ld_unit_zero (S := S1x1024) zero2,
    View.ld_unit_zero (S := S4x704x1024) zero3]

theorem first_13 (hc : cond0_0 i) (k : Fin 8) (d : Fin 1024) : out0_A_13 c i a1 h1 a2 h2 a3 h3 a4 h4 a5 h5 a6 h6 a7 h7 a8 h8 a9 h9 a10 h10 a11 h11 a12 h12 a13 h13 a14 h14 hc x0 x1 x2 x3 x4 x5 x6 x7 (ix2 k d)
    = if k.val = 0 then newGain x0 x1 x2 x3 x5 x6 x7 (fun _ => 0) (ix2 0 d) else 0 := by
  unfold out0_A_13 kernelRun0_A
  dsimp only
  sl_unfold_words
  rw [row_read]
  simp only [View.readAt_eq_ld, h1.read_unread, h2.read_unread, h3.read_unread, h4.read_unread, h5.read_unread, h6.read_unread,
    h7.read_unread, h8.read_unread, h14.read_unread, View.ld_unit_zero (S := S256x1024) zero2, View.ld_unit_zero (S := S256x2816) zero2,
    View.ld_unit_zero (S := S1x1024) zero2, View.ld_unit_zero (S := S4x704x1024) zero3]
  have zero : View.ld (Val := Elt Ideal) (e' := .f32) (k0_pay3 (F := Ideal)) (Rect.unit (s := S8x1024) ![0, 0] S1x1024.size inb_S8x1024_S1x1024_0_0) = fun _ => 0 := by
    funext y
    exact Ideal.ofBits_zero_f32
  by_cases hk : k.val = 0
  · rw [if_pos hk]
    refine (row_in VO0_13 VO0_13.junk (newGain x0 x1 x2 x3 x5 x6 x7 (View.ld (Val := Elt Ideal) (e' := .f32) (k0_pay3 (F := Ideal)) (Rect.unit (s := S8x1024) ![0, 0] S1x1024.size inb_S8x1024_S1x1024_0_0)))
      [⟨Rect.unit (s := S8x1024) ![0, 0] S8x1024.size inb_S8x1024_S8x1024_0_0, k0_pay3 (F := Ideal)⟩] k d hk).trans ?_
    exact congrArg (fun row => newGain x0 x1 x2 x3 x5 x6 x7 row (ix2 0 d)) zero
  · rw [if_neg hk]
    refine (row_out VO0_13 VO0_13.junk (newGain x0 x1 x2 x3 x5 x6 x7 (View.ld (Val := Elt Ideal) (e' := .f32) (k0_pay3 (F := Ideal)) (Rect.unit (s := S8x1024) ![0, 0] S1x1024.size inb_S8x1024_S1x1024_0_0)))
      [⟨Rect.unit (s := S8x1024) ![0, 0] S8x1024.size inb_S8x1024_S8x1024_0_0, k0_pay3 (F := Ideal)⟩] k d hk).trans ?_
    exact (congrFun (View.read_writes_full _ _ _ _ _) _).trans Ideal.ofBits_zero_f32

theorem next_13 (hc : ¬cond0_0 i) (xo : Vec Ideal S8x1024 .f32) (k : Fin 8) (d : Fin 1024) :
    out0_B_13 c i a1 h1 a2 h2 a3 h3 a4 h4 a5 h5 a6 h6 a7 h7 a8 h8 a9 h9 a10 h10 a11 h11 a12 h12 a13 h13 a14 h14 hc x0 x1 x2 x3 x4 x5 x6 x7 xo (ix2 k d)
    = if k.val = 0 then newGain x0 x1 x2 x3 x5 x6 x7 (fun y => xo (ix2 0 (y 1))) (ix2 0 d) else xo (ix2 k d) := by
  unfold out0_B_13 kernelRun0_B
  dsimp only
  sl_unfold_words
  simp only [View.readAt_eq_ld, h1.read_unread, h2.read_unread, h3.read_unread, h4.read_unread, h5.read_unread, h6.read_unread,
    h7.read_unread, h8.read_unread, h14.read_unread, View.ld_unit_zero (S := S256x1024) zero2, View.ld_unit_zero (S := S256x2816) zero2,
    View.ld_unit_zero (S := S1x1024) zero2, View.ld_unit_zero (S := S4x704x1024) zero3]
  have row : View.ld xo (Rect.unit (s := S8x1024) ![0, 0] S1x1024.size inb_S8x1024_S1x1024_0_0) = fun y => xo (ix2 0 (y 1)) :=
    funext fun y => View.ld_unit_apply_of xo ![0, 0] S1x1024.size inb_S8x1024_S1x1024_0_0 y (ix2 0 (y 1)) fun a => by
      match a with
      | ⟨0, _⟩ => show 0 = 0 + (y 0).val; have h : (y 0).val < 1 := (y 0).isLt; omega
      | ⟨1, _⟩ => show (y 1).val = 0 + (y 1).val; omega
  by_cases hk : k.val = 0
  · rw [if_pos hk]
    refine (row_in a14.view (h14.unread xo) (newGain x0 x1 x2 x3 x5 x6 x7 (View.ld xo (Rect.unit (s := S8x1024) ![0, 0] S1x1024.size inb_S8x1024_S1x1024_0_0))) [] k d hk).trans ?_
    exact congrArg (fun row => newGain x0 x1 x2 x3 x5 x6 x7 row (ix2 0 d)) row
  · rw [if_neg hk]
    refine (row_out a14.view (h14.unread xo) (newGain x0 x1 x2 x3 x5 x6 x7 (View.ld xo (Rect.unit (s := S8x1024) ![0, 0] S1x1024.size inb_S8x1024_S1x1024_0_0))) [] k d hk).trans ?_
    exact congrFun (h14.read_unread _) _

end Point

end Feed.Backward

end
-- ==== Proof.FeedBackGrid.lean ====
/-
  The backward call of the feed-forward part: its result arrays, as functions of the arguments.
-/
module

public import proofs.«01_k».proof.Proof.FeedBack
public import proofs.«01_k».proof.Proof.FeedPlain
public import proofs.«01_k».proof.Proof.Gen.Kernel2Ideal.Value

@[expose] public section

set_option maxRecDepth 16384

noncomputable section

namespace Feed.Backward

open Idealize.ShloMosaic hiding ix0 ix1 ix2 ix3 ix4 ix5
open Idealize.ShloMosaic.TcCoe Idealize.ShloMosaic.ValueIdx Idealize.ShloMosaic.Tactic
open Idealize.SL.Sem
open scoped BigOperators
open Idealize.ShloMosaic.Pipeline (Dat Cfg Window)
open Cert.Kernel2Ideal Cert.Kernel2Ideal.Gen
attribute [local instance] Cert.Kernel2Ideal.Gen.facts

theorem points : cfg0.N = 32 := by decide +kernel

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![t.val, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0, 0] := (by decide +kernel : ∀ t : Fin grid0.N, _)
theorem index_6 : ∀ t : Fin cfg0.N, win0_6.index t = ![0, 1, 0] := (by decide +kernel : ∀ t : Fin grid0.N, _)
theorem index_7 : ∀ t : Fin cfg0.N, win0_7.index t = ![0, 2, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![t.val, 0] := (by decide +kernel : ∀ t : Fin grid0.N, _)
theorem index_11 : ∀ t : Fin cfg0.N, win0_11.index t = ![t.val, 0] := (by decide +kernel : ∀ t : Fin grid0.N, _)
theorem index_12 : ∀ t : Fin cfg0.N, win0_12.index t = ![t.val, 0] := (by decide +kernel : ∀ t : Fin grid0.N, _)
theorem index_13 : ∀ t : Fin cfg0.N, win0_13.index t = ![0, 0] := (by decide +kernel : ∀ t : Fin grid0.N, _)

section
variable (t : Fin cfg0.N)

theorem lt : t.val < 32 := points ▸ t.isLt

theorem emb_0 (r : Fin 256) (l : Fin 1024) : ((cfg0.win 0).blk t).view.emb (ix2 r l) = ix2 (rowAt t.val (lt t) r) l := by
  funext a; apply Fin.ext
  match a with
  | ⟨0, _⟩ => blk_simp [index_0]; show t.val * 256 + r.val = 256 * t.val + r.val; omega
  | ⟨1, _⟩ => blk_simp [index_0]
theorem emb_1 (r : Fin 256) (l : Fin 1024) : ((cfg0.win 1).blk t).view.emb (ix2 r l) = ix2 (rowAt t.val (lt t) r) l := by
  funext a; apply Fin.ext
  match a with
  | ⟨0, _⟩ => blk_simp [index_1]; show t.val * 256 + r.val = 256 * t.val + r.val; omega
  | ⟨1, _⟩ => blk_simp [index_1]
theorem emb_2 (r : Fin 256) (l : Fin 2816) : ((cfg0.win 2).blk t).view.emb (ix2 r l) = ix2 (rowAt t.val (lt t) r) l := by
  funext a; apply Fin.ext
  match a with
  | ⟨0, _⟩ => blk_simp [index_2]; show t.val * 256 + r.val = 256 * t.val + r.val; omega
  | ⟨1, _⟩ => blk_simp [index_2]
theorem emb_3 (r : Fin 256) (l : Fin 2816) : ((cfg0.win 3).blk t).view.emb (ix2 r l) = ix2 (rowAt t.val (lt t) r) l := by
  funext a; apply Fin.ext
  match a with
  | ⟨0, _⟩ => blk_simp [index_3]; show t.val * 256 + r.val = 256 * t.val + r.val; omega
  | ⟨1, _⟩ => blk_simp [index_3]
theorem emb_8 (r : Fin 256) (l : Fin 1024) : ((cfg0.win 8).blk t).view.emb (ix2 r l) = ix2 (rowAt t.val (lt t) r) l := by
  funext a; apply Fin.ext
  match a with
  | ⟨0, _⟩ => blk_simp [index_8]; show t.val * 256 + r.val = 256 * t.val + r.val; omega
  | ⟨1, _⟩ => blk_simp [index_8]
theorem emb_9 (r : Fin 256) (l : Fin 1024) : ((cfg0.win 9).blk t).view.emb (ix2 r l) = ix2 (rowAt t.val (lt t) r) l := by
  funext a; apply Fin.ext
  match a with
  | ⟨0, _⟩ => blk_simp [index_9]; show t.val * 256 + r.val = 256 * t.val + r.val; omega
  | ⟨1, _⟩ => blk_simp [index_9]
theorem emb_10 (r : Fin 256) (l : Fin 2816) : ((cfg0.win 10).blk t).view.emb (ix2 r l) = ix2 (rowAt t.val (lt t) r) l := by
  funext a; apply Fin.ext
  match a with
  | ⟨0, _⟩ => blk_simp [index_10]; show t.val * 256 + r.val = 256 * t.val + r.val; omega
  | ⟨1, _⟩ => blk_simp [index_10]
theorem emb_11 (r : Fin 256) (l : Fin 2816) : ((cfg0.win 11).blk t).view.emb (ix2 r l) = ix2 (rowAt t.val (lt t) r) l := by
  funext a; apply Fin.ext
  match a with
  | ⟨0, _⟩ => blk_simp [index_11]; show t.val * 256 + r.val = 256 * t.val + r.val; omega
  | ⟨1, _⟩ => blk_simp [index_11]
theorem emb_12 (r : Fin 256) (l : Fin 2816) : ((cfg0.win 12).blk t).view.emb (ix2 r l) = ix2 (rowAt t.val (lt t) r) l := by
  funext a; apply Fin.ext
  match a with
  | ⟨0, _⟩ => blk_simp [index_12]; show t.val * 256 + r.val = 256 * t.val + r.val; omega
  | ⟨1, _⟩ => blk_simp [index_12]
theorem emb_4 (i : Fin 1) (l : Fin 1024) : ((cfg0.win 4).blk t).view.emb (ix2 i l) = ix2 i l := by
  funext a; apply Fin.ext
  match a with
  | ⟨0, _⟩ => blk_simp [index_4]
  | ⟨1, _⟩ => blk_simp [index_4]
theorem emb_13 (i : Fin 8) (l : Fin 1024) : ((cfg0.win 13).blk t).view.emb (ix2 i l) = ix2 i l := by
  funext a; apply Fin.ext
  match a with
  | ⟨0, _⟩ => blk_simp [index_13]
  | ⟨1, _⟩ => blk_simp [index_13]
theorem emb_5 (s : Fin 4) (r : Fin 704) (d : Fin 1024) :
    ((cfg0.win 5).blk t).view.emb (ix3 s r d) = ix3 s (⟨704 * 0 + r.val, by have := r.isLt; omega⟩ : Fin 2112) d := by
  funext a; apply Fin.ext
  match a with
  | ⟨0, _⟩ => blk_simp [index_5]
  | ⟨1, _⟩ => blk_simp [index_5]; show r.val = 704 * 0 + r.val; omega
  | ⟨2, _⟩ => blk_simp [index_5]
theorem emb_6 (s : Fin 4) (r : Fin 704) (d : Fin 1024) :
    ((cfg0.win 6).blk t).view.emb (ix3 s r d) = ix3 s (⟨704 * 1 + r.val, by have := r.isLt; omega⟩ : Fin 2112) d := by
  funext a; apply Fin.ext
  match a with
  | ⟨0, _⟩ => blk_simp [index_6]
  | ⟨1, _⟩ => blk_simp [index_6]
  | ⟨2, _⟩ => blk_simp [index_6]
theorem emb_7 (s : Fin 4) (r : Fin 704) (d : Fin 1024) :
    ((cfg0.win 7).blk t).view.emb (ix3 s r d) = ix3 s (⟨704 * 2 + r.val, by have := r.isLt; omega⟩ : Fin 2112) d := by
  funext a; apply Fin.ext
  match a with
  | ⟨0, _⟩ => blk_simp [index_7]
  | ⟨1, _⟩ => blk_simp [index_7]
  | ⟨2, _⟩ => blk_simp [index_7]

end

/-! ## What a grid point finds -/

section
variable (m : (ℓ : Loc nD τ sig) → Buf (Elt Ideal) ℓ) (c : Dev nD) (t : Fin cfg0.N)

/-- The six arguments' entries. -/
def inX : M 8192 1024 := rows (m ((c : Thread nD τ).loc main_arg0))
def inG : Fin 1024 → EReal := fun d => m ((c : Thread nD τ).loc main_arg1) (ix1 d)
def inGate : M 1024 2816 := rows (m ((c : Thread nD τ).loc main_arg2))
def inUp : M 1024 2816 := rows (m ((c : Thread nD τ).loc main_arg3))
def inDown : M 2816 1024 := rows (m ((c : Thread nD τ).loc main_arg4))
def inD : M 8192 1024 := rows (m ((c : Thread nD τ).loc main_arg5))

theorem V_p : Is (V m c main_v14) (gateOf (inX m c) (inG m c) (inGate m c)) := by
  have e : V m c main_v14 = StableHlo.after hostOps0 _ (Proc.devRef .tc main_v14) := rfl
  rw [e]
  after_results
  exact (Is.hostNN (φ₁ := .f32) (φ₂ := .f32) (D := dot_S8192x1024_S1024x2816_S8192x2816_1_0_0_1_n_n) rfl
    (Forward.plain_hidden (X := inX m c) (G := inG m c) (fun _ _ => rfl) fun _ => rfl) fun _ _ => rfl).trunc bitsLt_bf16_f32

theorem V_q : Is (V m c main_v16) (gateOf (inX m c) (inG m c) (inUp m c)) := by
  have e : V m c main_v16 = StableHlo.after hostOps0 _ (Proc.devRef .tc main_v16) := rfl
  rw [e]
  after_results
  exact (Is.hostNN (φ₁ := .f32) (φ₂ := .f32) (D := dot_S8192x1024_S1024x2816_S8192x2816_1_0_0_1_n_n) rfl
    (Forward.plain_hidden (X := inX m c) (G := inG m c) (fun _ _ => rfl) fun _ => rfl) fun _ _ => rfl).trunc bitsLt_bf16_f32

theorem V_gain : V m c main_v17 = shapeCast S1x1024 (m ((c : Thread nD τ).loc main_arg1)) shapeCasts_S1024_S1x1024 := by
  show StableHlo.after hostOps0 _ (Proc.devRef .tc main_v17) = _
  after_results
  rfl

theorem V_packed : V m c main_v24 = truncf (F := Ideal) (φ := .f32) .bf16 (concatenate S4x2112x1024 1
      [⟨S4x704x1024, shapeCast S4x704x1024 (transpose S2816x1024 [1, 0] (m ((c : Thread nD τ).loc main_arg2)) transposes_S1024x2816_S2816x1024_1_0) shapeCasts_S2816x1024_S4x704x1024⟩,
        ⟨S4x704x1024, shapeCast S4x704x1024 (transpose S2816x1024 [1, 0] (m ((c : Thread nD τ).loc main_arg3)) transposes_S1024x2816_S2816x1024_1_0) shapeCasts_S2816x1024_S4x704x1024⟩,
        ⟨S4x704x1024, shapeCast S4x704x1024 (m ((c : Thread nD τ).loc main_arg4)) shapeCasts_S2816x1024_S4x704x1024⟩]
      concatenates_S4x704x1024_S4x704x1024_S4x704x1024_S4x2112x1024_d1) bitsLt_bf16_f32 := by
  show StableHlo.after hostOps0 _ (Proc.devRef .tc main_v24) = _
  after_results
  rfl

theorem block_d : Is (iblk m c 0 t) (blockOf t.val (lt t) (inD m c)) := fun r l =>
  (congrArg (V m c main_arg5) (emb_0 t r l)).trans (congrFun (V_main_arg5 m c) _)

theorem block_x : Is (iblk m c 1 t) (blockOf t.val (lt t) (inX m c)) := fun r l =>
  (congrArg (V m c main_arg0) (emb_1 t r l)).trans (congrFun (V_main_arg0 m c) _)

theorem block_p : Is (iblk m c 2 t) (blockOf t.val (lt t) (gateOf (inX m c) (inG m c) (inGate m c))) := fun r l =>
  (congrArg (V m c main_v14) (emb_2 t r l)).trans (V_p m c _ _)

theorem block_q : Is (iblk m c 3 t) (blockOf t.val (lt t) (gateOf (inX m c) (inG m c) (inUp m c))) := fun r l =>
  (congrArg (V m c main_v16) (emb_3 t r l)).trans (V_q m c _ _)

theorem block_g : Is (iblk m c 4 t) (fun _ d => inG m c d) := fun i d => by
  refine (congrArg (V m c main_v17) (emb_4 t i d)).trans ((congrFun (V_gain m c) _).trans ?_)
  exact (IsVec.castRow shapeCasts_S1024_S1x1024 (f := inG m c) fun _ => rfl) i d

theorem block_gate : Piece (iblk m c 5 t) (fun j d => inGate m c d j) := fun s r d => by
  refine (congrArg (V m c main_v24) (emb_5 t s r d)).trans ((congrFun (V_packed m c) _).trans ?_)
  exact (packed_at concatenates_S4x704x1024_S4x704x1024_S4x704x1024_S4x2112x1024_d1 0 s r d _ rfl).trans
    (Is.pieces (Is.transp transposes_S1024x2816_S2816x1024_1_0 (f := inGate m c) fun _ _ => rfl) shapeCasts_S2816x1024_S4x704x1024 s r d)

theorem block_up : Piece (iblk m c 6 t) (fun j d => inUp m c d j) := fun s r d => by
  refine (congrArg (V m c main_v24) (emb_6 t s r d)).trans ((congrFun (V_packed m c) _).trans ?_)
  exact (packed_at concatenates_S4x704x1024_S4x704x1024_S4x704x1024_S4x2112x1024_d1 1 s r d _ rfl).trans
    (Is.pieces (Is.transp transposes_S1024x2816_S2816x1024_1_0 (f := inUp m c) fun _ _ => rfl) shapeCasts_S2816x1024_S4x704x1024 s r d)

theorem block_down : Piece (iblk m c 7 t) (inDown m c) := fun s r d => by
  refine (congrArg (V m c main_v24) (emb_7 t s r d)).trans ((congrFun (V_packed m c) _).trans ?_)
  exact (packed_at concatenates_S4x704x1024_S4x704x1024_S4x704x1024_S4x2112x1024_d1 2 s r d _ rfl).trans
    (Is.pieces (f := inDown m c) (fun _ _ => rfl) shapeCasts_S2816x1024_S4x704x1024 s r d)

/-! ## What a grid point leaves -/

theorem left_8 : (outsAt0 m c t.val t.isLt).1
    = newRows (iblk m c 0 t) (iblk m c 1 t) (iblk m c 2 t) (iblk m c 3 t) (iblk m c 4 t) (iblk m c 5 t) (iblk m c 6 t) (iblk m c 7 t) := by
  by_cases h0 : t.val % 32 = 0
  · rw [outsAt0_A m c t h0]
    dsimp only
    exact first_8 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) ((hcond0_0 t).mpr h0)
  · rw [outsAt0_B m c t h0]
    dsimp only
    exact next_8 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) (fun h => h0 ((hcond0_0 t).mp h)) _

theorem left_9 : (outsAt0 m c t.val t.isLt).2.1
    = k0_pay1 (F := Ideal) (newRows (iblk m c 0 t) (iblk m c 1 t) (iblk m c 2 t) (iblk m c 3 t) (iblk m c 4 t) (iblk m c 5 t) (iblk m c 6 t) (iblk m c 7 t)) := by
  by_cases h0 : t.val % 32 = 0
  · rw [outsAt0_A m c t h0]
    dsimp only
    exact first_9 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) ((hcond0_0 t).mpr h0)
  · rw [outsAt0_B m c t h0]
    dsimp only
    exact next_9 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) (fun h => h0 ((hcond0_0 t).mp h)) _

theorem left_10 : (outsAt0 m c t.val t.isLt).2.2.1
    = k0_pay9 (iblk m c 0 t) (iblk m c 2 t) (iblk m c 3 t) (iblk m c 7 t) := by
  by_cases h0 : t.val % 32 = 0
  · rw [outsAt0_A m c t h0]
    dsimp only
    exact first_10 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) ((hcond0_0 t).mpr h0)
  · rw [outsAt0_B m c t h0]
    dsimp only
    exact next_10 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) (fun h => h0 ((hcond0_0 t).mp h)) _

theorem left_11 : (outsAt0 m c t.val t.isLt).2.2.2.1
    = k0_pay10 (iblk m c 0 t) (iblk m c 2 t) (iblk m c 7 t) := by
  by_cases h0 : t.val % 32 = 0
  · rw [outsAt0_A m c t h0]
    dsimp only
    exact first_11 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) ((hcond0_0 t).mpr h0)
  · rw [outsAt0_B m c t h0]
    dsimp only
    exact next_11 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) (fun h => h0 ((hcond0_0 t).mp h)) _

theorem left_12 : (outsAt0 m c t.val t.isLt).2.2.2.2.1
    = k0_pay2 (k0_pay5 (iblk m c 3 t)) (k0_pay8 (iblk m c 2 t)) := by
  by_cases h0 : t.val % 32 = 0
  · rw [outsAt0_A m c t h0]
    dsimp only
    exact first_12 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) ((hcond0_0 t).mpr h0)
  · rw [outsAt0_B m c t h0]
    dsimp only
    exact next_12 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t) (ms0_10 t) (hs0_10 t)
      (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) (fun h => h0 ((hcond0_0 t).mp h)) _

end

/-! ## The result arrays -/

section
variable (m : (ℓ : Loc nD τ sig) → Buf (Elt Ideal) ℓ) (c : Dev nD)

/-- The five whole results and the rows' shares of the sixth. -/
def outRows : M 8192 1024 := rowGrad (inD m c) (inX m c) (inG m c) (inGate m c) (inUp m c) (inDown m c)
def outGate : M 8192 2816 := gateGrad (inD m c) (inX m c) (inG m c) (inGate m c) (inUp m c) (inDown m c)
def outUp : M 8192 2816 := upGrad (inD m c) (inX m c) (inG m c) (inGate m c) (inDown m c)
def outAct : M 8192 2816 := gated (gateOf (inX m c) (inG m c) (inGate m c)) (gateOf (inX m c) (inG m c) (inUp m c))
def outShare : M 8192 1024 := gainGrad (inD m c) (inX m c) (inG m c) (inGate m c) (inUp m c) (inDown m c)

theorem result_rows : (dats m 0 c).arrAt 8 cfg0.N = whole (outRows m c) := by
  refine (dats m 0 c).arrAt_eq_of_covers 8 _ (by decide +kernel) fun t hf y => ?_
  blk_simp
  rw [after0_8, left_8]
  obtain ⟨r, l, rfl⟩ : ∃ (r : Fin 256) (l : Fin 1024), y = ix2 r l := ⟨y 0, y 1, ValueIdx.eq_ix2 y⟩
  rw [emb_8]
  exact call_rows (block_d m c t) (block_x m c t) (block_g m c t) (call_gate (block_d m c t) (block_p m c t) (block_q m c t) (block_down m c t))
    (call_up (block_d m c t) (block_p m c t) (block_down m c t)) (block_gate m c t) (block_up m c t) r l

theorem result_copy : (dats m 0 c).arrAt 9 cfg0.N = whole (outRows m c) := by
  refine (dats m 0 c).arrAt_eq_of_covers 9 _ (by decide +kernel) fun t hf y => ?_
  blk_simp
  rw [after0_9, left_9]
  obtain ⟨r, l, rfl⟩ : ∃ (r : Fin 256) (l : Fin 1024), y = ix2 r l := ⟨y 0, y 1, ValueIdx.eq_ix2 y⟩
  rw [emb_9]
  exact ((call_rows (block_d m c t) (block_x m c t) (block_g m c t) (call_gate (block_d m c t) (block_p m c t) (block_q m c t) (block_down m c t))
    (call_up (block_d m c t) (block_p m c t) (block_down m c t)) (block_gate m c t) (block_up m c t)).trunc bitsLt_bf16_f32) r l

theorem result_gate : (dats m 0 c).arrAt 10 cfg0.N = whole (outGate m c) := by
  refine (dats m 0 c).arrAt_eq_of_covers 10 _ (by decide +kernel) fun t hf y => ?_
  blk_simp
  rw [after0_10, left_10]
  obtain ⟨r, l, rfl⟩ : ∃ (r : Fin 256) (l : Fin 2816), y = ix2 r l := ⟨y 0, y 1, ValueIdx.eq_ix2 y⟩
  rw [emb_10]
  exact call_gate (block_d m c t) (block_p m c t) (block_q m c t) (block_down m c t) r l

theorem result_up : (dats m 0 c).arrAt 11 cfg0.N = whole (outUp m c) := by
  refine (dats m 0 c).arrAt_eq_of_covers 11 _ (by decide +kernel) fun t hf y => ?_
  blk_simp
  rw [after0_11, left_11]
  obtain ⟨r, l, rfl⟩ : ∃ (r : Fin 256) (l : Fin 2816), y = ix2 r l := ⟨y 0, y 1, ValueIdx.eq_ix2 y⟩
  rw [emb_11]
  exact call_up (block_d m c t) (block_p m c t) (block_down m c t) r l

theorem result_act : (dats m 0 c).arrAt 12 cfg0.N = whole (outAct m c) := by
  refine (dats m 0 c).arrAt_eq_of_covers 12 _ (by decide +kernel) fun t hf y => ?_
  blk_simp
  rw [after0_12, left_12]
  obtain ⟨r, l, rfl⟩ : ∃ (r : Fin 256) (l : Fin 2816), y = ix2 r l := ⟨y 0, y 1, ValueIdx.eq_ix2 y⟩
  rw [emb_12]
  exact call_act (block_p m c t) (block_q m c t) r l

/-- The gain's row after a grid point, of the row before. -/
theorem step (t : Fin cfg0.N) {row : Vec Ideal S1x1024 .f32} {R : Fin 1024 → EReal} (hr : Is row fun _ d => R d) (d : Fin 1024) :
    newGain (iblk m c 0 t) (iblk m c 1 t) (iblk m c 2 t) (iblk m c 3 t) (iblk m c 5 t) (iblk m c 6 t) (iblk m c 7 t) row (ix2 0 d)
      = R d + ∑ r, outShare m c (rowAt t.val (lt t) r) d :=
  call_gain hr (block_x m c t) (call_gate (block_d m c t) (block_p m c t) (block_q m c t) (block_down m c t))
    (call_up (block_d m c t) (block_p m c t) (block_down m c t)) (block_gate m c t) (block_up m c t) 0 d

theorem left_first (t : Fin cfg0.N) (h0 : t.val % 32 = 0) (k : Fin 8) (d : Fin 1024) : (outsAt0 m c t.val t.isLt).2.2.2.2.2 (ix2 k d)
    = if k.val = 0 then newGain (iblk m c 0 t) (iblk m c 1 t) (iblk m c 2 t) (iblk m c 3 t) (iblk m c 5 t) (iblk m c 6 t) (iblk m c 7 t)
      (fun _ => 0) (ix2 0 d) else 0 := by
  rw [outsAt0_A m c t h0]
  dsimp only
  exact first_13 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t)
      (ms0_10 t) (hs0_10 t) (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) ((hcond0_0 t).mpr h0) k d

theorem left_next (t : Fin cfg0.N) (h0 : ¬t.val % 32 = 0) (k : Fin 8) (d : Fin 1024) (xo : Vec Ideal S8x1024 .f32)
    (hxo : (outsAt0 m c (t.val - 1) (Nat.lt_of_le_of_lt (Nat.sub_le _ _) t.isLt)).2.2.2.2.2 = xo) :
    (outsAt0 m c t.val t.isLt).2.2.2.2.2 (ix2 k d)
    = if k.val = 0 then newGain (iblk m c 0 t) (iblk m c 1 t) (iblk m c 2 t) (iblk m c 3 t) (iblk m c 5 t) (iblk m c 6 t) (iblk m c 7 t)
      (fun y => xo (ix2 0 (y 1))) (ix2 0 d) else xo (ix2 k d) := by
  rw [outsAt0_B m c t h0]
  dsimp only
  rw [hxo]
  exact next_13 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t) (ms0_9 t) (hs0_9 t)
      (ms0_10 t) (hs0_10 t) (ms0_11 t) (hs0_11 t) (ms0_12 t) (hs0_12 t) (ms0_13 t) (hs0_13 t)
      (iblk m c 0 t) (iblk m c 1 t) (iblk m c 2 t) (iblk m c 3 t) (iblk m c 4 t) (iblk m c 5 t) (iblk m c 6 t) (iblk m c 7 t) (fun h => h0 ((hcond0_0 t).mp h)) xo k d

/-- The gain's rows after a grid point: the sum over the blocks so far, above zeros. -/
theorem gain_at (n : ℕ) (hn : n < cfg0.N) (k : Fin 8) (d : Fin 1024) : (outsAt0 m c n hn).2.2.2.2.2 (ix2 k d)
    = if k.val = 0 then ∑ t : Fin (n + 1), ∑ r, outShare m c (rowAt t.val (by have := t.isLt; have := points ▸ hn; omega) r) d else 0 := by
  induction n generalizing k d with
  | zero =>
    refine (left_first m c ⟨0, hn⟩ rfl k d).trans ?_
    split
    · rw [step m c ⟨0, hn⟩ (R := fun _ => 0) fun _ _ => rfl, zero_add, Fin.sum_univ_one]
      rfl
    · rfl
  | succ n ih =>
    have h32 : n + 1 < 32 := points ▸ hn
    have h0 : ¬(n + 1) % 32 = 0 := by omega
    refine (left_next m c ⟨n + 1, hn⟩ h0 k d _ rfl).trans ?_
    split
    · rw [step m c ⟨n + 1, hn⟩ (R := fun d => (outsAt0 m c n (Nat.lt_of_succ_lt hn)).2.2.2.2.2 (ix2 0 d)) fun i d => rfl]
      beta_reduce
      rw [ih (Nat.lt_of_succ_lt hn) 0, if_pos (show (0 : Fin 8).val = 0 from rfl), Fin.sum_univ_castSucc (n := n + 1)]
      rfl
    · rename_i hk
      exact (ih (Nat.lt_of_succ_lt hn) k d).trans (if_neg hk)

/-- The sixth result: the gain's gradient in its first row. -/
def outGain : M 8 1024 := fun k d => if k.val = 0 then ∑ i, outShare m c i d else 0

theorem gain_last (n : ℕ) (hn : n < cfg0.N) (e : n = 31) (k : Fin 8) (d : Fin 1024) :
    (outsAt0 m c n hn).2.2.2.2.2 (ix2 k d) = outGain m c k d := by
  subst e
  refine (gain_at m c 31 hn k d).trans ?_
  show _ = if k.val = 0 then ∑ i, outShare m c i d else 0
  rw [sum_blocks 32 256 fun i => outShare m c i d]
  rfl

theorem last_13 : ∀ t : Fin cfg0.N, (cfg0.win 13).flush t = true → t.val = 31 := (by decide +kernel : ∀ t : Fin grid0.N, _)

theorem result_gain : (dats m 0 c).arrAt 13 cfg0.N = whole (outGain m c) := by
  refine (dats m 0 c).arrAt_eq_of_covers 13 _ (by decide +kernel) fun t hf y => ?_
  have last := last_13 t hf
  blk_simp
  rw [after0_13]
  obtain ⟨k, d, rfl⟩ : ∃ (k : Fin 8) (d : Fin 1024), y = ix2 k d := ⟨y 0, y 1, ValueIdx.eq_ix2 y⟩
  rw [emb_13]
  exact gain_last m c t.val t.isLt last k d

end

end Feed.Backward

end
-- ==== Proof.FeedBackPlain.lean ====
/-
  The feed-forward part, backward: what the plain program computes from data that are real numbers, and the claim that the two programs
  leave the same in their results.
-/
module

public import proofs.«01_k».proof.Defs
public import proofs.«01_k».proof.Proof.Finite
public import proofs.«01_k».proof.Pre_finite2
public import proofs.«01_k».proof.Proof.FeedPlain
public import proofs.«01_k».proof.Proof.FeedBackGrid
public import proofs.«01_k».proof.Proof.Gen.Reference2Ideal.Run

@[expose] public section

set_option maxRecDepth 16384

noncomputable section

namespace Feed.Backward

open Idealize.ShloMosaic hiding ix0 ix1 ix2 ix3 ix4 ix5
open Idealize.ShloMosaic.TcCoe Idealize.ShloMosaic.ValueIdx Idealize.ShloMosaic.Tactic
open Idealize.SL.Sem
open scoped BigOperators

/-! ## The plain program's operations -/

section Plain
open Cert.Reference2Ideal Cert.Reference2Ideal.Gen
open Feed.Forward (many plain_hidden)
attribute [local instance] Cert.Reference2Ideal.Gen.facts

variable {x dx dh : FVec Ideal S8192x1024 .f32} {g : FVec Ideal S1024 .f32} {X D H : M 8192 1024} {G : Fin 1024 → EReal}
  {p q s da db : FVec Ideal S8192x2816 .f32} {P Q S A B : M 8192 2816}

/-- The logistic function of an array. -/
abbrev logisticOf (p : FVec Ideal S8192x2816 .f32) : FVec Ideal S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf p)))

theorem plain_gate (hp : Is p P) (hq : Is q Q) (hs : Is s S) (np : ∀ i j, Num (P i j)) (nq : ∀ i j, Num (Q i j))
    (ns : ∀ i j, Num (S i j)) :
    Is (addf (mulf (mulf s q) (logisticOf p)) (mulf (mulf p (mulf s q)) (mulf (logisticOf p)
      (subf (broadcastInDim S8192x2816 ![] bcast_S_S8192x2816 (constant S_ .f32 0x3F800000#32)) (logisticOf p))))) (gateSlope P Q S) := by
  have l := plain_logistic hp bcast_S_S8192x2816 bcast_S_S8192x2816
  have one := (Is.const (a := 8192) (b := 2816) 0x3F800000#32 bcast_S_S8192x2816).congr fun _ _ => Ideal.ofBits_one_f32
  exact (((hs.mul hq).mul l).add ((hp.mul (hs.mul hq)).mul (l.mul (one.sub l)))).congr fun i j => gate_order (np i j) (nq i j) (ns i j)

theorem plain_up (hp : Is p P) (hs : Is s S) : Is (mulf (mulf p (logisticOf p)) s) (upSlope P S) :=
  ((hp.mul (plain_logistic hp bcast_S_S8192x2816 bcast_S_S8192x2816)).mul hs).congr fun _ _ => mul_comm _ _

theorem plain_reach {wg wu : FVec Ideal S1024x2816 .f32} {Wg Wu : M 1024 2816} (ha : Is da A) (hb : Is db B) (hg : Is wg Wg)
    (hu : Is wu Wu) : Is (addf (Host.dotGeneral dot_S8192x2816_S1024x2816_S8192x1024_1_1_0_0_n_n none db wu)
      (Host.dotGeneral dot_S8192x2816_S1024x2816_S8192x1024_1_1_0_0_n_n none da wg)) (reach A B Wg Wu) :=
  ((hb.hostNT rfl hu).add (ha.hostNT rfl hg)).congr fun _ _ => add_comm _ _

/-- One over the mean square and the small constant. -/
abbrev powerOf (x : FVec Ideal S8192x1024 .f32) : FVec Ideal S8192x1 .f32 :=
  addf (Host.divf (broadcastInDim S8192x1 ![0] bcast_S8192_S8192x1_0 (Host.reduceAdd (mulf x x) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x358637BD#32))

theorem power_of (hx : Is x X) : Is (powerOf x) (fun i _ => power X i) :=
  plain_power many hx (fun _ => Ideal.ofBits_zero_f32) _ _ _ _ _

/-- The gain's gradient, a row. -/
theorem plain_share (hx : Is x X) (hh : Is dh H) :
    Is (shapeCast S1x1024 (Host.reduceAdd (shapeCast S1x1024 (Host.reduceAdd (mulf (mulf x
      (broadcastInDim S8192x1024 ![0, 1] bcast_S8192x1_S8192x1024_0_1 (Host.rsqrt (powerOf x)))) dh)
      (constant S_ .f32 0x00000000#32) reducesTo_S8192x1024_S1024_d0 h_S_) shapeCasts_S1024_S1x1024)
      (constant S_ .f32 0x00000000#32) reducesTo_S1x1024_S1024_d0 h_S_) shapeCasts_S1024_S1x1024)
      (fun _ d => ∑ i, gainShare X H i d) := by
  have u := (plain_unit many hx (power_of hx) bcast_S8192x1_S8192x1024_0_1).mul hh
  have one := (u.hostSumCols (v := constant (F := Ideal) S_ .f32 0x00000000#32) (fun _ => Ideal.ofBits_zero_f32) reducesTo_S8192x1024_S1024_d0 h_S_).castRow
    shapeCasts_S1024_S1x1024
  have two := (one.hostSumCols (v := constant (F := Ideal) S_ .f32 0x00000000#32) (fun _ => Ideal.ofBits_zero_f32) reducesTo_S1x1024_S1024_d0 h_S_).castRow
    shapeCasts_S1024_S1x1024
  refine two.congr fun _ d => ?_
  rw [Fin.sum_univ_one]
  exact Finset.sum_congr rfl fun _ _ => mul_comm _ _

/-- What the plain program carries back through a row's mean square, along the row. -/
abbrev carriedOf (x s : FVec Ideal S8192x1024 .f32) : FVec Ideal S8192x1024 .f32 :=
  broadcastInDim S8192x1024 ![0] bcast_S8192_S8192x1024_0 (Host.reduceAdd (Host.divf (mulf (shapeCast S8192x1 (Host.reduceAdd (mulf x s)
    (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (powerOf x)) (powerOf x))))
    (broadcastInDim S8192x1 ![] bcast_S_S8192x1 (constant S_ .f32 0x44800000#32))) (constant S_ .f32 0x00000000#32)
    reducesTo_S8192x1_S8192_d1 h_S_)

theorem carried_of {s : FVec Ideal S8192x1024 .f32} {S : M 8192 1024} (hx : Is x X) (hs : Is s S) :
    Is (carriedOf x s) (fun i _ => carried X S i) := by
  have t := ((hx.mul hs).hostSumRows (v := constant (F := Ideal) S_ .f32 0x00000000#32) (fun _ => Ideal.ofBits_zero_f32) reducesTo_S8192x1024_S8192_d1 h_S_).castCol
    shapeCasts_S8192_S8192x1
  have r := (power_of hx).hostRsqrt.hostDiv (power_of hx)
  have one := (t.mul ((Is.const (a := 8192) (b := 1) 0xBF000000#32 bcast_S_S8192x1).mul r)).hostDiv
    (Is.const (a := 8192) (b := 1) 0x44800000#32 bcast_S_S8192x1)
  have two := (one.hostSumRows (v := constant (F := Ideal) S_ .f32 0x00000000#32) (fun _ => Ideal.ofBits_zero_f32) reducesTo_S8192x1_S8192_d1 h_S_).hostCol many
    bcast_S8192_S8192x1024_0
  refine two.congr fun i _ => ?_
  rw [Fin.sum_univ_one]
  rfl

theorem plain_rows (hd : Is dx D) (hx : Is x X) (hg : IsVec g G) (hh : Is dh H) (nx : ∀ i k, Num (X i k))
    (ns : ∀ i k, Num (H i k * G k)) :
    Is (addf dx (addf (addf (mulf (mulf dh (broadcastInDim S8192x1024 ![0, 1] bcast_S1x1024_S8192x1024_0_1
        (broadcastInDim S1x1024 ![1] bcast_S1024_S1x1024_1 g)))
        (broadcastInDim S8192x1024 ![0, 1] bcast_S8192x1_S8192x1024_0_1 (Host.rsqrt (powerOf x))))
      (mulf x (carriedOf x (mulf dh (broadcastInDim S8192x1024 ![0, 1] bcast_S1x1024_S8192x1024_0_1
        (broadcastInDim S1x1024 ![1] bcast_S1024_S1x1024_1 g))))))
      (mulf (carriedOf x (mulf dh (broadcastInDim S8192x1024 ![0, 1] bcast_S1x1024_S8192x1024_0_1
        (broadcastInDim S1x1024 ![1] bcast_S1024_S1x1024_1 g)))) x))) (rowSlope D X G H) := by
  have s := hh.mul (plain_gain (a := 8192) hg bcast_S1024_S1x1024_1 bcast_S1x1024_S8192x1024_0_1)
  have r := (power_of hx).hostRsqrt.hostSpreadCol (b := 1024) many bcast_S8192x1_S8192x1024_0_1
  have c := carried_of hx s
  exact (hd.add (((s.mul r).add (hx.mul c)).add (c.mul hx))).congr fun i d => row_order D i d (nx i) (ns i)

/-- A row above seven rows of zeros. -/
theorem plain_above {row : FVec Ideal S1x1024 .f32} {R : Fin 1024 → EReal} (hr : Is row fun _ d => R d) :
    Is (concatenate S8x1024 0 [⟨S1x1024, row⟩,
      ⟨S7x1024, broadcastInDim S7x1024 ![] bcast_S_S7x1024 (constant (F := Ideal) S_ .f32 0x00000000#32)⟩]
      concatenates_S1x1024_S7x1024_S8x1024_d0) (fun k d => if k.val = 0 then R d else 0) := fun k d => by
  let xs : List ((s : Shape) × (s.Idx → EReal)) := [⟨S1x1024, row⟩,
      ⟨S7x1024, broadcastInDim S7x1024 ![] bcast_S_S7x1024 (constant (F := Ideal) S_ .f32 0x00000000#32)⟩]
  by_cases hk : k.val = 0
  · refine Eq.trans ?_ (if_pos hk).symm
    exact (concatenate_apply_piece (t := S8x1024) (0 : Fin 2) xs concatenates_S1x1024_S7x1024_S8x1024_d0 (ix2 k d) 0 (show 0 < 2 by decide)
      _ row rfl rfl 0 rfl (ix2 (0 : Fin 1) d) (fun e he => by
        match e, he with
        | ⟨0, _⟩, he => exact absurd rfl he
        | ⟨1, _⟩, _ => rfl) (by show 0 + 0 = k.val; omega)).trans (hr 0 d)
  · refine Eq.trans ?_ (if_neg hk).symm
    exact (concatenate_apply_piece (t := S8x1024) (0 : Fin 2) xs concatenates_S1x1024_S7x1024_S8x1024_d0 (ix2 k d) 1 (show 1 < 2 by decide)
      _ _ rfl rfl 1 rfl (ix2 (⟨k.val - 1, by have := k.isLt; omega⟩ : Fin 7) d) (fun e he => by
        match e, he with
        | ⟨0, _⟩, he => exact absurd rfl he
        | ⟨1, _⟩, _ => rfl) (by show 1 + (k.val - 1) = k.val; omega)).trans Ideal.ofBits_zero_f32

end Plain

/-! ## Real data -/

theorem finite_facts : Cert.Pre_finite2.Facts := ⟨by decide, by decide, by decide, by decide⟩

theorem num_entry {s : Shape} (x : s.Idx → EReal) (hb : Cert.Pre_finite2.S_.BroadcastsInDim s (![] : Fin 0 → Fin s.rank))
    (h : cmpf (F := Ideal) (φ := .f32) .olt (Host.absf x) (broadcastInDim s ![] hb (constant Cert.Pre_finite2.S_ .f32 0x7F800000#32)) = fun _ => 1#1)
    (i : s.Idx) : Num (x i) :=
  ⟨_, Delta.Finite.entry x hb h i⟩

section Real
variable {a : ℕ} {dx x : M a 1024} {g : Fin 1024 → EReal} {wg wu : M 1024 2816} {wd : M 2816 1024}

theorem num_gateOf (hx : ∀ i k, Num (x i k)) (hg : ∀ k, Num (g k)) (hw : ∀ k j, Num (wg k j)) (i : Fin a) (j : Fin 2816) :
    Num (gateOf x g wg i j) := Num.times (fun i k => Num.hidden hx hg i k) hw i j

theorem num_pull (hd : ∀ i k, Num (dx i k)) (hw : ∀ j k, Num (wd j k)) (i : Fin a) (j : Fin 2816) : Num (pull dx wd i j) :=
  Num.times hd (fun k j => hw j k) i j

theorem num_gateSlope {p q s : M a 2816} (hp : ∀ i j, Num (p i j)) (hq : ∀ i j, Num (q i j)) (hs : ∀ i j, Num (s i j)) (i : Fin a)
    (j : Fin 2816) : Num (gateSlope p q s i j) :=
  ((hs i j).mul (hq i j)).mul ((hp i j).logistic.mul (Num.one.add ((hp i j).mul (Num.one.sub (hp i j).logistic))))

theorem num_upSlope {p s : M a 2816} (hp : ∀ i j, Num (p i j)) (hs : ∀ i j, Num (s i j)) (i : Fin a)
    (j : Fin 2816) : Num (upSlope p s i j) := (hs i j).mul ((hp i j).mul (hp i j).logistic)

theorem num_reach {da db : M a 2816} (ha : ∀ i j, Num (da i j)) (hb : ∀ i j, Num (db i j)) (hg : ∀ k j, Num (wg k j))
    (hu : ∀ k j, Num (wu k j)) (i : Fin a) (k : Fin 1024) : Num (reach da db wg wu i k) :=
  (Num.times ha (fun j k => hg k j) i k).add (Num.times hb (fun j k => hu k j) i k)

end Real

/-! ## The claim -/

section Claim
open Cert.Reference2Ideal Cert.Reference2Ideal.Gen
open Feed.Forward (many plain_hidden plain_gated)
attribute [local instance] Cert.Reference2Ideal.Gen.facts

theorem algebraic : Cert.algebraic_Kernel2Ideal_Reference2Ideal_pre_finite2 (hKernel2Ideal := Cert.Kernel2Ideal.Gen.facts)
    (hReference2Ideal := Cert.Reference2Ideal.Gen.facts) (hPre_finite2 := finite_facts) := by
  intro m g m' g' hpre hargs
  refine ⟨fun c => whole (outRows m c), fun c => whole (outRows m c), fun c => whole (outGate m c), fun c => whole (outUp m c),
    fun c => whole (outAct m c), fun c => whole (outGain m c),
    (θ_run _ _ _).mono (fun r h c => ?_) (Cert.Kernel2Ideal.Value.run_blocks m g),
    (θ_run _ _ _).mono (fun r h c => ?_) (Cert.Reference2Ideal.Value.run m' g')⟩
  · obtain ⟨h1, h2, h3, h4, h5, h6, h7⟩ := h c
    exact ⟨h1.trans (result_rows m c), h2.trans (result_copy m c), h3.trans (result_gate m c), h4.trans (result_up m c),
      h5.trans (result_act m c), h6.trans (result_gain m c), h7⟩
  · obtain ⟨e0, e1, e2, e3, e4, e5⟩ := hargs c
    have hx : Is _ (inX m c) := fun i j => congrFun e0 (ix2 i j)
    have hg : IsVec _ (inG m c) := fun j => congrFun e1 (ix1 j)
    have hw : Is _ (inGate m c) := fun i j => congrFun e2 (ix2 i j)
    have hu : Is _ (inUp m c) := fun i j => congrFun e3 (ix2 i j)
    have hv : Is _ (inDown m c) := fun i j => congrFun e4 (ix2 i j)
    have hd : Is _ (inD m c) := fun i j => congrFun e5 (ix2 i j)
    obtain ⟨n0, n1, n2, n3, n4, n5⟩ := hpre c
    have nx : ∀ i k, Num (inX m c i k) := fun i k => num_entry _ _ n0 (ix2 i k)
    have ng : ∀ k, Num (inG m c k) := fun k => num_entry _ _ n1 (ix1 k)
    have nw : ∀ i k, Num (inGate m c i k) := fun i k => num_entry _ _ n2 (ix2 i k)
    have nu : ∀ i k, Num (inUp m c i k) := fun i k => num_entry _ _ n3 (ix2 i k)
    have nv : ∀ i k, Num (inDown m c i k) := fun i k => num_entry _ _ n4 (ix2 i k)
    have nd : ∀ i k, Num (inD m c i k) := fun i k => num_entry _ _ n5 (ix2 i k)
    have np := num_gateOf nx ng nw
    have nq := num_gateOf nx ng nu
    have ns := num_pull nd nv
    have na := num_gateSlope np nq ns
    have nb := num_upSlope np ns
    have nh := num_reach na nb nw nu
    have hh := plain_hidden hx hg
    have hp := Is.hostNN (φ₁ := .f32) (φ₂ := .f32) (D := dot_S8192x1024_S1024x2816_S8192x2816_1_0_0_1_n_n) rfl hh hw
    have hq := Is.hostNN (φ₁ := .f32) (φ₂ := .f32) (D := dot_S8192x1024_S1024x2816_S8192x2816_1_0_0_1_n_n) rfl hh hu
    have hs := Is.hostNT (φ₁ := .f32) (φ₂ := .f32) (D := dot_S8192x1024_S2816x1024_S8192x2816_1_1_0_0_n_n) rfl hd hv
    have ha := plain_gate hp hq hs np nq ns
    have hb := plain_up hp hs
    have hr := plain_reach ha hb hw hu
    have ho := plain_rows hd hx hg hr nx fun i k => (nh i k).mul (ng k)
    have hf := plain_above (plain_share hx hr)
    obtain ⟨h1, h2, h3, h4, h5, h6, h7⟩ := h c
    exact ⟨h1.trans ho.whole, h2.trans ho.whole, h3.trans ha.whole, h4.trans hb.whole, h5.trans (plain_gated hp hq).whole,
      h6.trans hf.whole, h7⟩

end Claim

end Feed.Backward

end
-- ==== Proof.Weight.lean ====
/-
  The gradient of a weight: the product of two matrices of rows, written into some of the rows that each chip has in a packed array.

  The weight calls share this: the product's blocks, the two pieces a block's result is stored in, and the place the
  pieces have in the result, whose other rows the call leaves as they were.
-/
module

public import proofs.«01_k».proof.Proof.FeedForward
public import proofs.«01_k».proof.Proof.FeedSlope
public import Idealize.ShloMosaic.Lib.Tactic
public import Idealize.ShloMosaic.Lib.WritesUnit
public import Idealize.ShloMosaic.Lib.VecWindow

@[expose] public section

set_option maxRecDepth 16384

noncomputable section

namespace Feed.Weight

open Idealize.ShloMosaic hiding ix0 ix1 ix2 ix3 ix4 ix5
open Idealize.ShloMosaic.TcCoe Idealize.ShloMosaic.ValueIdx Idealize.ShloMosaic.Tactic
open scoped BigOperators

/-! ## The product and its blocks -/

/-- `Xᵀ Y`. -/
def product {A B : ℕ} (X : M 8192 A) (Y : M 8192 B) : M A B := fun j d => ∑ k, X k j * Y k d

/-- A row of one of eight blocks of 1024 rows. -/
def tall (k : ℕ) (hk : k < 8) (r : Fin 1024) : Fin 8192 := ⟨1024 * k + r.val, by have := r.isLt; omega⟩
/-- A column of one of `n` blocks of `W` columns. -/
def wide {n W A : ℕ} (h : n * W = A) (i : ℕ) (hi : i < n) (j : Fin W) : Fin A :=
  ⟨W * i + j.val, by
    have h1 : W * (i + 1) ≤ W * n := Nat.mul_le_mul_left W hi
    rw [Nat.mul_succ, Nat.mul_comm W n, h] at h1
    exact Nat.lt_of_lt_of_le (Nat.add_lt_add_left j.isLt _) h1⟩

/-- A block of rows. -/
def tallBlock {A : ℕ} (X : M 8192 A) (k : ℕ) (hk : k < 8) : M 1024 A := fun r j => X (tall k hk r) j
/-- A block of columns. -/
def wideBlock {n W A : ℕ} (h : n * W = A) (X : M 8192 A) (i : ℕ) (hi : i < n) : M 8192 W := fun k j => X k (wide h i hi j)

section Sums
variable {A B : ℕ} (X : M 8192 A) (Y : M 8192 B)

/-- The product over the first `n + 1` blocks of rows. -/
def upTo (n : ℕ) (hn : n < 8) : M A B := fun j d =>
  ∑ k : Fin (n + 1), ∑ r, X (tall k.val (by have := k.isLt; omega) r) j * Y (tall k.val (by have := k.isLt; omega) r) d

theorem upTo_zero (hn : 0 < 8) (j : Fin A) (d : Fin B) : 0 + ∑ r, tallBlock X 0 hn r j * tallBlock Y 0 hn r d = upTo X Y 0 hn j d := by
  unfold upTo
  rw [zero_add, Fin.sum_univ_one]
  rfl

theorem upTo_succ (n : ℕ) (hn : n + 1 < 8) (j : Fin A) (d : Fin B) :
    upTo X Y n (Nat.lt_of_succ_lt hn) j d + ∑ r, tallBlock X (n + 1) hn r j * tallBlock Y (n + 1) hn r d = upTo X Y (n + 1) hn j d := by
  unfold upTo
  rw [Fin.sum_univ_castSucc (n := n + 1)]
  rfl

theorem upTo_last (j : Fin A) (d : Fin B) : upTo X Y 7 (by decide) j d = product X Y j d := by
  unfold upTo product
  rw [sum_blocks 8 1024 fun k => X k j * Y k d]
  rfl

end Sums

/-! ## The place of a weight in the packed result -/

section Place
variable {R L D : ℕ}

/-- The packed array with some rows of each chip's, from row `first` on, replaced by a matrix of the chip. -/
def put (first : ℕ) (f : Fin 4 → M R D) (p : (⟨3, ![4, L, D]⟩ : Shape).Idx → EReal) : (⟨3, ![4, L, D]⟩ : Shape).Idx → EReal :=
  fun x => if h : first ≤ (x 1).val ∧ (x 1).val < first + R then f (x 0) ⟨(x 1).val - first, by omega⟩ (x 2) else p x

theorem put_inside (first : ℕ) (f : Fin 4 → M R D) (p : (⟨3, ![4, L, D]⟩ : Shape).Idx → EReal) (s : Fin 4) (l : Fin L) (d : Fin D)
    (r : Fin R) (hl : l.val = first + r.val) : put first f p (ix3 s l d) = f s r d := by
  have hr := r.isLt
  refine (dif_pos (show first ≤ l.val ∧ l.val < first + R by omega)).trans (congrArg (fun k => f s k d) (Fin.ext ?_))
  show l.val - first = r.val
  omega

theorem put_outside (first : ℕ) (f : Fin 4 → M R D) (p : (⟨3, ![4, L, D]⟩ : Shape).Idx → EReal) (s : Fin 4) (l : Fin L) (d : Fin D)
    (hl : ¬(first ≤ l.val ∧ l.val < first + R)) : put first f p (ix3 s l d) = p (ix3 s l d) :=
  dif_neg (show ¬(first ≤ l.val ∧ l.val < first + R) from hl)

/-- The plain program's update of the packed array. -/
theorem updated (first : ℕ) (hf : first + R ≤ L) (p : (⟨3, ![4, L, D]⟩ : Shape).Idx → EReal)
    (u : (⟨3, ![4, R, D]⟩ : Shape).Idx → EReal) (start : Fin 3 → Int)
    (h : (⟨3, ![4, L, D]⟩ : Shape).Slices (fun _ => 0) ⟨3, ![4, R, D]⟩)
    (e0 : start 0 = 0) (e1 : start 1 = first) (e2 : start 2 = 0) {f : Fin 4 → M R D}
    (hu : ∀ (s : Fin 4) (r : Fin R) (d : Fin D), u (ix3 s r d) = f s r d) :
    Host.dynamicUpdateSlice p u start h = put first f p := by
  funext x
  obtain ⟨s, l, d, rfl⟩ : ∃ (s : Fin 4) (l : Fin L) (d : Fin D), x = ix3 s l d := ⟨x 0, x 1, x 2, ValueIdx.eq_ix3 x⟩
  have c0 : Host.clampedStart ⟨3, ![4, L, D]⟩ ⟨3, ![4, R, D]⟩ h.1 start 0 = 0 :=
    Host.clampedStart_of_le h.1 start 0 0 e0 (by show 0 + 4 ≤ 4; omega)
  have c1 : Host.clampedStart ⟨3, ![4, L, D]⟩ ⟨3, ![4, R, D]⟩ h.1 start 1 = first :=
    Host.clampedStart_of_le h.1 start 1 first e1 hf
  have c2 : Host.clampedStart ⟨3, ![4, L, D]⟩ ⟨3, ![4, R, D]⟩ h.1 start 2 = 0 :=
    Host.clampedStart_of_le h.1 start 2 0 e2 (by show 0 + D ≤ D; omega)
  have hs := s.isLt
  have hd := d.isLt
  rw [Host.dynamicUpdateSlice_apply]
  by_cases hl : first ≤ l.val ∧ l.val < first + R
  · rw [dif_pos (fun a => by
      match a with
      | ⟨0, _⟩ =>
        refine ⟨le_of_eq_of_le c0 (Nat.zero_le _), lt_of_lt_of_eq (b := 0 + 4) (show s.val < 0 + 4 by omega) (congrArg (· + 4) c0.symm)⟩
      | ⟨1, _⟩ => exact ⟨le_of_eq_of_le c1 hl.1, lt_of_lt_of_eq (b := first + R) hl.2 (congrArg (· + R) c1.symm)⟩
      | ⟨2, _⟩ =>
        refine ⟨le_of_eq_of_le c2 (Nat.zero_le _), lt_of_lt_of_eq (b := 0 + D) (show d.val < 0 + D by omega) (congrArg (· + D) c2.symm)⟩)]
    refine Eq.trans (congrArg u ?_) ((hu s ⟨l.val - first, by omega⟩ d).trans
      (put_inside first f p s l d ⟨l.val - first, by omega⟩ (by show l.val = first + (l.val - first); omega)).symm)
    funext b; apply Fin.ext
    match b with
    | ⟨0, _⟩ => exact (congrArg (s.val - ·) c0).trans (Nat.sub_zero _)
    | ⟨1, _⟩ => exact congrArg (l.val - ·) c1
    | ⟨2, _⟩ => exact (congrArg (d.val - ·) c2).trans (Nat.sub_zero _)
  · rw [dif_neg (fun hall => hl (by
      have := hall 1
      rw [c1] at this
      exact this)), put_outside first f p s l d hl]

/-- The rows of a matrix, cut by chip. -/
def byChip {A : ℕ} (h : 4 * R = A) (f : M A D) : Fin 4 → M R D := fun s r d => f (wide h s.val s.isLt r) d

/-- The same cut by the plain program. -/
theorem cut {A : ℕ} (hA : 4 * R = A) {x : (⟨2, ![A, D]⟩ : Shape).Idx → EReal} {f : M A D} (hx : Is x f)
    (h : Shape.ShapeCasts (⟨2, ![A, D]⟩ : Shape) ⟨3, ![4, R, D]⟩) (s : Fin 4) (r : Fin R) (d : Fin D) :
    shapeCast ⟨3, ![4, R, D]⟩ x h (ix3 s r d) = byChip hA f s r d :=
  (shapeCast_apply x h (ix3 s r d) (ix2 (wide hA s.val s.isLt r) d) (by
    rw [Shape.rowMajor_val_two, Shape.rowMajor_val_three]
    show (R * s.val + r.val) * D + d.val = (s.val * R + r.val) * D + d.val
    rw [Nat.mul_comm R])).trans (hx _ d)

end Place

/-! ## What a block stores -/

section Stores
variable {R W : ℕ} {sig : RefSig} {κ : Kind} {sp : Space}

/-- The two chips' pieces a block stores, read back. -/
theorem two_pieces (v : View sig κ sp (⟨3, ![2, R, 1024]⟩ : Shape) .bf16) (f : v.ty.Contents (Elt Ideal))
    (lo hi : (⟨3, ![1, R, 1024]⟩ : Shape).Idx → EReal)
    (in0 : ∀ a, (![0, 0, 0] : Fin 3 → ℕ) a + (![1, R, 1024] : Fin 3 → ℕ) a ≤ (⟨3, ![2, R, 1024]⟩ : Shape).size a)
    (in1 : ∀ a, (![1, 0, 0] : Fin 3 → ℕ) a + (![1, R, 1024] : Fin 3 → ℕ) a ≤ (⟨3, ![2, R, 1024]⟩ : Shape).size a)
    (s : Fin 2) (r : Fin R) (d : Fin 1024) :
    v.read (Elt Ideal) (v.writes (Elt Ideal) f
      [⟨Rect.unit (s := ⟨3, ![2, R, 1024]⟩) ![1, 0, 0] ![1, R, 1024] in1, hi⟩,
        ⟨Rect.unit (s := ⟨3, ![2, R, 1024]⟩) ![0, 0, 0] ![1, R, 1024] in0, lo⟩]) (ix3 s r d)
      = if s.val = 0 then lo (ix3 0 r d) else hi (ix3 0 r d) := by
  have hs := s.isLt
  by_cases h : s.val = 0
  · rw [View.read_writes_cons_unit_of_not_mem v f in1 hi _ (ix3 s r d) rfl 0 (.inl (by show s.val < 1; omega))]
    refine (View.read_writes_cons_unit_of_mem v f in0 lo [] (ix3 s r d) (ix3 (0 : Fin 1) r d) rfl fun a => ?_).trans (if_pos h).symm
    match a with
    | ⟨0, _⟩ => show s.val = 0 + 0; omega
    | ⟨1, _⟩ => show r.val = 0 + r.val; omega
    | ⟨2, _⟩ => show d.val = 0 + d.val; omega
  · refine (View.read_writes_cons_unit_of_mem v f in1 hi _ (ix3 s r d) (ix3 (0 : Fin 1) r d) rfl fun a => ?_).trans (if_neg h).symm
    match a with
    | ⟨0, _⟩ => show s.val = 1 + 0; omega
    | ⟨1, _⟩ => show r.val = 0 + r.val; omega
    | ⟨2, _⟩ => show d.val = 0 + d.val; omega

/-- Some rows of the sums, after a store of all the sums. -/
theorem rows_loaded (v : View sig κ sp (⟨2, ![W, 1024]⟩ : Shape) .f32) (w : Vec Ideal (⟨2, ![W, 1024]⟩ : Shape) .f32) (o : ℕ)
    (inb : ∀ a, (![0, 0] : Fin 2 → ℕ) a + (⟨2, ![W, 1024]⟩ : Shape).size a ≤ (⟨2, ![W, 1024]⟩ : Shape).size a)
    (ino : ∀ a, (![o, 0] : Fin 2 → ℕ) a + (![R, 1024] : Fin 2 → ℕ) a ≤ (⟨2, ![W, 1024]⟩ : Shape).size a) :
    v.readCov [⟨Rect.unit (s := ⟨2, ![W, 1024]⟩) ![0, 0] (⟨2, ![W, 1024]⟩ : Shape).size inb, w⟩]
      (Rect.unit (s := ⟨2, ![W, 1024]⟩) ![o, 0] ![R, 1024] ino).toLoadRect
      = View.ld w (Rect.unit (s := ⟨2, ![W, 1024]⟩) ![o, 0] ![R, 1024] ino) :=
  congrArg (fun X => View.ld X (Rect.unit (s := ⟨2, ![W, 1024]⟩) ![o, 0] ![R, 1024] ino))
    (View.read_writes_full v v.junk inb w [])

theorem rows_at (w : Vec Ideal (⟨2, ![W, 1024]⟩ : Shape) .f32) (o : ℕ)
    (ino : ∀ a, (![o, 0] : Fin 2 → ℕ) a + (![R, 1024] : Fin 2 → ℕ) a ≤ (⟨2, ![W, 1024]⟩ : Shape).size a)
    {f : M W 1024} (hw : Is w f) (ho : o + R ≤ W) (r : Fin R) (d : Fin 1024) :
    View.ld (Val := Elt Ideal) (e' := .f32) w (Rect.unit (s := ⟨2, ![W, 1024]⟩) ![o, 0] ![R, 1024] ino) (ix2 r d)
      = f ⟨o + r.val, by omega⟩ d := by
  have hr := r.isLt
  refine Eq.trans (congrArg w ?_) (hw ⟨o + r.val, by omega⟩ d)
  funext a; apply Fin.ext
  match a with
  | ⟨0, _⟩ => show o + 1 * r.val = o + r.val; omega
  | ⟨1, _⟩ => show 0 + 1 * d.val = d.val; omega

end Stores

/-- Some rows as they are stored. -/
theorem piece_at {R : ℕ} {w : (⟨2, ![R, 1024]⟩ : Shape).Idx → EReal} {f : M R 1024} (hw : Is w f)
    (h : Shape.ShapeCasts (⟨2, ![R, 1024]⟩ : Shape) ⟨3, ![1, R, 1024]⟩) (r : Fin R) (d : Fin 1024) :
    shapeCast ⟨3, ![1, R, 1024]⟩ w h (ix3 0 r d) = f r d :=
  (shapeCast_apply w h (ix3 0 r d) (ix2 r d) (by
    rw [Shape.rowMajor_val_two, Shape.rowMajor_val_three]
    show r.val * 1024 + d.val = (0 * R + r.val) * 1024 + d.val
    rw [Nat.zero_mul, Nat.zero_add])).trans (hw r d)

end Feed.Weight

end
-- ==== Proof.WeightDown.lean ====
/-
  The gradient of the down projection: the call's packed result is the plain program's.
-/
module

public import proofs.«01_k».proof.Proof.Weight
public import proofs.«01_k».proof.Proof.Gen.Kernel4Ideal.Value
public import proofs.«01_k».proof.Proof.Gen.Reference4Ideal.Run
public import proofs.«01_k».proof.Defs
public import Idealize.ShloMosaic.Lib.Pipeline.ValueKit

@[expose] public section

set_option maxRecDepth 16384

noncomputable section

namespace Feed.Weight.Down

open Idealize.ShloMosaic hiding ix0 ix1 ix2 ix3 ix4 ix5
open Idealize.ShloMosaic.TcCoe Idealize.ShloMosaic.ValueIdx Idealize.ShloMosaic.Tactic
open Idealize.SL.Sem
open scoped BigOperators
open Feed.Forward (zero2 zero3)

section Call
open Cert.Kernel4Ideal Cert.Kernel4Ideal.Gen
attribute [local instance] Cert.Kernel4Ideal.Gen.facts

/-! ## What a grid point leaves -/

theorem sum_zero : Is (k0_pay1 (F := Ideal)) (fun _ _ => 0) := fun j d =>
  (shapeCast_apply (broadcast S1408x1024 (Scalar.ofBits (F := Ideal) .f32 0x00000000#32)) shapeCasts_S1408x1024_S1408x1024
    (ix2 j d) (ix2 j d) rfl).trans Ideal.ofBits_zero_f32

theorem sum_more {z : Vec Ideal S1408x1024 .f32} {x : Vec Ideal S1024x1408 .bf16} {y : Vec Ideal S1024x1024 .bf16}
    {Z : M 1408 1024} {X : M 1024 1408} {Y : M 1024 1024} (hz : Is z Z) (hx : Is x X) (hy : Is y Y) :
    Is (k0_pay2 (F := Ideal) z x y) (fun j d => Z j d + ∑ r, X r j * Y r d) :=
  Is.castSame shapeCasts_S1408x1024_S1408x1024
    (hz.add (Is.dotTN (D := dot_S1024x1408_S1024x1024_S1408x1024_0_0_1_1_n_n) (φ₁ := .bf16) (φ₂ := .bf16) rfl hx hy))

theorem first_piece {w : Vec Ideal S704x1024 .f32} {f : M 704 1024} (hw : Is w f) (r : Fin 704) (d : Fin 1024) :
    k0_pay3 (F := Ideal) w (ix3 0 r d) = f r d := piece_at (hw.trunc bitsLt_bf16_f32) shapeCasts_S704x1024_S1x704x1024 r d
theorem second_piece {w : Vec Ideal S704x1024 .f32} {f : M 704 1024} (hw : Is w f) (r : Fin 704) (d : Fin 1024) :
    k0_pay4 (F := Ideal) w (ix3 0 r d) = f r d := piece_at (hw.trunc bitsLt_bf16_f32) shapeCasts_S704x1024_S1x704x1024 r d

section Point
variable (c : Dev nD) (i : grid0.Coords) (a2 : Memref sig .tc .vmem S1024x1408 .bf16) (h2 : a2.IsWhole)
  (a3 : Memref sig .tc .vmem S1024x1024 .bf16) (h3 : a3.IsWhole) (a5 : Memref sig .tc .vmem S2x704x1024 .bf16) (h5 : a5.IsWhole)
  (a6 : Memref sig .tc .vmem S1408x1024 .f32) (h6 : a6.IsWhole)
  (x : Vec Ideal S1024x1408 .bf16) (y : Vec Ideal S1024x1024 .bf16) (z : Vec Ideal S1408x1024 .f32)

theorem first_sum (h0 : cond0_0 i) (h1 : ¬cond0_1 i) : sout0_A_0 c i a2 h2 a3 h3 a5 h5 a6 h6 h0 h1 x y = k0_pay2 (F := Ideal) (k0_pay1 (F := Ideal)) x y := by
  unfold sout0_A_0
  unfold kernelRun0_A
  dsimp only
  sl_unfold_words
  rw [View.read_writes_full (s := S1408x1024), View.readCov_full (s := S1408x1024)]
  simp only [View.readAt_eq_ld, h2.read_unread, h3.read_unread,
    View.ld_unit_zero (S := S1024x1408) zero2, View.ld_unit_zero (S := S1024x1024) zero2]

theorem next_sum (h0 : ¬cond0_0 i) (h1 : ¬cond0_1 i) : sout0_B_0 c i a2 h2 a3 h3 a5 h5 a6 h6 h0 h1 x y z = k0_pay2 (F := Ideal) z x y := by
  unfold sout0_B_0
  unfold kernelRun0_B
  dsimp only
  sl_unfold_words
  rw [View.read_writes_full (s := S1408x1024)]
  simp only [View.readAt_eq_ld, h2.read_unread, h3.read_unread, h6.read_unread, View.ld_unit_zero (S := S1408x1024) zero2,
    View.ld_unit_zero (S := S1024x1408) zero2, View.ld_unit_zero (S := S1024x1024) zero2]

theorem last_pieces (h0 : ¬cond0_0 i) (h1 : cond0_1 i) (s : Fin 2) (r : Fin 704) (d : Fin 1024) {f : M 1408 1024}
    (hf : Is (k0_pay2 (F := Ideal) z x y) f) :
    out0_C_2 c i a2 h2 a3 h3 a5 h5 a6 h6 h0 h1 x y z (ix3 s r d) = f ⟨704 * s.val + r.val, by omega⟩ d := by
  unfold out0_C_2
  unfold kernelRun0_C
  dsimp only
  sl_unfold_words
  simp only [View.readAt_eq_ld, h2.read_unread, h3.read_unread, h6.read_unread, View.ld_unit_zero (S := S1408x1024) zero2,
    View.ld_unit_zero (S := S1024x1408) zero2, View.ld_unit_zero (S := S1024x1024) zero2]
  refine (two_pieces VO0_2 _ _ _ inb_S2x704x1024_S1x704x1024_0_0_0 inb_S2x704x1024_S1x704x1024_1_0_0 s r d).trans ?_
  have hs := s.isLt
  split
  · rename_i hk
    refine (congrFun (congrArg (k0_pay3 (F := Ideal)) (rows_loaded _ _ 0 inb_S1408x1024_S1408x1024_0_0 inb_S1408x1024_S704x1024_0_0)) _).trans ?_
    refine (first_piece (rows_at _ 0 inb_S1408x1024_S704x1024_0_0 hf (by decide)) r d).trans (congrArg (fun k => f k d) (Fin.ext ?_))
    show 0 + r.val = 704 * s.val + r.val
    omega
  · rename_i hk
    refine (congrFun (congrArg (k0_pay4 (F := Ideal)) (rows_loaded _ _ 704 inb_S1408x1024_S1408x1024_0_0 inb_S1408x1024_S704x1024_704_0)) _).trans ?_
    refine (second_piece (rows_at _ 704 inb_S1408x1024_S704x1024_704_0 hf (by decide)) r d).trans (congrArg (fun k => f k d) (Fin.ext ?_))
    show 704 + r.val = 704 * s.val + r.val
    omega

end Point

/-! ## The blocks -/

theorem points : cfg0.N = 16 := N_0

theorem index_0 : ∀ t : Fin cfg0.N, win0_0.index t = ![t.val % 8, t.val / 8] := (by decide +kernel : ∀ t : Fin grid0.N, _)
theorem index_1 : ∀ t : Fin cfg0.N, win0_1.index t = ![t.val % 8, 0] := (by decide +kernel : ∀ t : Fin grid0.N, _)
theorem index_2 : ∀ t : Fin cfg0.N, win0_2.index t = ![t.val / 8, 2, 0] := (by decide +kernel : ∀ t : Fin grid0.N, _)

section
variable (t : Fin cfg0.N)

theorem lt : t.val < 16 := points ▸ t.isLt
theorem lt_k : t.val % 8 < 8 := Nat.mod_lt _ (by decide)
theorem lt_i : t.val / 8 < 2 := by have := lt t; omega

theorem emb_0 (r : Fin 1024) (j : Fin 1408) : ((cfg0.win 0).blk t).view.emb (ix2 r j) = ix2 (tall (t.val % 8) (lt_k t) r) (wide (by decide) (t.val / 8) (lt_i t) j) := by
  funext a; apply Fin.ext
  match a with
  | ⟨0, _⟩ => blk_simp [index_0]; show t.val % 8 * 1024 + r.val = 1024 * (t.val % 8) + r.val; omega
  | ⟨1, _⟩ => blk_simp [index_0]; show t.val / 8 * 1408 + j.val = 1408 * (t.val / 8) + j.val; omega
theorem emb_1 (r : Fin 1024) (d : Fin 1024) : ((cfg0.win 1).blk t).view.emb (ix2 r d) = ix2 (tall (t.val % 8) (lt_k t) r) d := by
  funext a; apply Fin.ext
  match a with
  | ⟨0, _⟩ => blk_simp [index_1]; show t.val % 8 * 1024 + r.val = 1024 * (t.val % 8) + r.val; omega
  | ⟨1, _⟩ => blk_simp [index_1]
theorem emb_2 (s : Fin 2) (r : Fin 704) (d : Fin 1024) : ((cfg0.win 2).blk t).view.emb (ix3 s r d)
    = ix3 (⟨2 * (t.val / 8) + s.val, by have := lt_i t; have := s.isLt; omega⟩ : Fin 4) (⟨1408 + r.val, by have := r.isLt; omega⟩ : Fin 2112) d := by
  funext a; apply Fin.ext
  match a with
  | ⟨0, _⟩ => blk_simp [index_2]; show t.val / 8 * 2 + s.val = 2 * (t.val / 8) + s.val; omega
  | ⟨1, _⟩ => blk_simp [index_2]
  | ⟨2, _⟩ => blk_simp [index_2]

end

section
variable (m : (ℓ : Loc nD τ sig) → Buf (Elt Ideal) ℓ) (c : Dev nD)

/-- The arguments' entries. -/
def inX : M 8192 2816 := rows (m ((c : Thread nD τ).loc main_arg0))
def inY : M 8192 1024 := rows (m ((c : Thread nD τ).loc main_arg1))
/-- The columns of the first argument that a row of the grid works on. -/
def part (i : ℕ) (hi : i < 2) : M 8192 1408 := wideBlock (by decide) (inX m c) i hi
/-- The gradient, cut by chip. -/
def slope : Fin 4 → M 704 1024 := byChip (by decide) (product (inX m c) (inY m c))

theorem block_x (t : Fin cfg0.N) : Is (iblk m c 0 t) (tallBlock (part m c (t.val / 8) (lt_i t)) (t.val % 8) (lt_k t)) := fun r j =>
  (congrArg (V m c main_arg0) (emb_0 t r j)).trans (congrFun (V_main_arg0 m c) _)

theorem block_y (t : Fin cfg0.N) : Is (iblk m c 1 t) (tallBlock (inY m c) (t.val % 8) (lt_k t)) := fun r d =>
  (congrArg (V m c main_arg1) (emb_1 t r d)).trans (congrFun (V_main_arg1 m c) _)

theorem left_first (t : Fin cfg0.N) (h0 : t.val % 8 = 0) :
    (outsAt0 m c t.val t.isLt).2 = k0_pay2 (F := Ideal) (k0_pay1 (F := Ideal)) (iblk m c 0 t) (iblk m c 1 t) := by
  have h1 : ¬t.val % 8 = 7 := by omega
  rw [outsAt0_A m c t h0 h1]
  dsimp only
  exact first_sum c (grid0.coords t) (ms0_0 t) (hs0_0 t) (ms0_1 t) (hs0_1 t) (ms0_2 t) (hs0_2 t) scM0_0 (Memref.isWhole_whole _)
    (iblk m c 0 t) (iblk m c 1 t) ((hcond0_0 t).mpr h0) (fun h => h1 ((hcond0_1 t).mp h))

theorem left_next (t : Fin cfg0.N) (h0 : ¬t.val % 8 = 0) (h1 : ¬t.val % 8 = 7) (z : Vec Ideal S1408x1024 .f32)
    (hz : (outsAt0 m c (t.val - 1) (Nat.lt_of_le_of_lt (Nat.sub_le _ _) t.isLt)).2 = z) :
    (outsAt0 m c t.val t.isLt).2 = k0_pay2 (F := Ideal) z (iblk m c 0 t) (iblk m c 1 t) := by
  rw [outsAt0_B m c t h0 h1]
  dsimp only
  rw [hz]
  exact next_sum c (grid0.coords t) (ms0_0 t) (hs0_0 t) (ms0_1 t) (hs0_1 t) (ms0_2 t) (hs0_2 t) scM0_0 (Memref.isWhole_whole _)
    (iblk m c 0 t) (iblk m c 1 t) z (fun h => h0 ((hcond0_0 t).mp h)) (fun h => h1 ((hcond0_1 t).mp h))

theorem left_last (t : Fin cfg0.N) (h0 : ¬t.val % 8 = 0) (h1 : t.val % 8 = 7) (z : Vec Ideal S1408x1024 .f32)
    (hz : (outsAt0 m c (t.val - 1) (Nat.lt_of_le_of_lt (Nat.sub_le _ _) t.isLt)).2 = z) {f : M 1408 1024}
    (hf : Is (k0_pay2 (F := Ideal) z (iblk m c 0 t) (iblk m c 1 t)) f) (s : Fin 2) (r : Fin 704) (d : Fin 1024) :
    (outsAt0 m c t.val t.isLt).1 (ix3 s r d) = f ⟨704 * s.val + r.val, by omega⟩ d := by
  rw [outsAt0_C m c t h0 h1]
  dsimp only
  rw [hz]
  exact last_pieces c (grid0.coords t) (ms0_0 t) (hs0_0 t) (ms0_1 t) (hs0_1 t) (ms0_2 t) (hs0_2 t) scM0_0 (Memref.isWhole_whole _)
    (iblk m c 0 t) (iblk m c 1 t) z (fun h => h0 ((hcond0_0 t).mp h)) ((hcond0_1 t).mpr h1) s r d hf

/-- The sums after a grid point that is not the last of its eight: the product over the blocks so far. -/
theorem sums_at (i : ℕ) (hi : i < 2) (n : ℕ) (hn : n < 7) (p : ℕ) (hp : p < cfg0.N) (e : p = 8 * i + n) :
    Is (outsAt0 m c p hp).2 (upTo (part m c i hi) (inY m c) n (by omega)) := by
  induction n generalizing p with
  | zero =>
    have h8 : p % 8 = 0 := by omega
    have hd : p / 8 = i := by omega
    rw [left_first m c ⟨p, hp⟩ h8]
    refine (sum_more sum_zero (block_x m c ⟨p, hp⟩) (block_y m c ⟨p, hp⟩)).congr fun j d => ?_
    have q := upTo_zero (part m c i hi) (inY m c) (by decide) j d
    subst hd
    simp only [h8]
    exact q
  | succ n ih =>
    have h8 : p % 8 = n + 1 := by omega
    have hd : p / 8 = i := by omega
    rw [left_next m c ⟨p, hp⟩ (by show ¬p % 8 = 0; omega) (by show ¬p % 8 = 7; omega) _ rfl]
    refine (sum_more (ih (by omega) (p - 1) (by omega) (by omega)) (block_x m c ⟨p, hp⟩) (block_y m c ⟨p, hp⟩)).congr fun j d => ?_
    have q := upTo_succ (part m c i hi) (inY m c) n (by omega) j d
    subst hd
    simp only [h8]
    exact q

/-- A block's result: its columns' share of the product. -/
theorem block_at (i : ℕ) (hi : i < 2) (p : ℕ) (hp : p < cfg0.N) (e : p = 8 * i + 7) (s : Fin 2) (r : Fin 704) (d : Fin 1024) :
    (outsAt0 m c p hp).1 (ix3 s r d) = product (inX m c) (inY m c) (wide (by decide) i hi (⟨704 * s.val + r.val, by omega⟩ : Fin 1408)) d := by
  have h8 : p % 8 = 7 := by omega
  have hd : p / 8 = i := by omega
  refine (left_last m c ⟨p, hp⟩ (by show ¬p % 8 = 0; omega) h8 _ rfl (f := upTo (part m c i hi) (inY m c) 7 (by decide)) ?_ s r d).trans
    (upTo_last (part m c i hi) (inY m c) _ d)
  refine (sum_more (sums_at m c i hi 6 (by decide) (p - 1) (by omega) (by omega)) (block_x m c ⟨p, hp⟩) (block_y m c ⟨p, hp⟩)).congr
    fun j d => ?_
  have q := upTo_succ (part m c i hi) (inY m c) 6 (by decide) j d
  subst hd
  simp only [h8]
  exact q

/-! ## The result array -/

/-- The packed array the call starts from. -/
def before : S4x2112x1024.Idx → EReal := m ((c : Thread nD τ).loc main_arg2)

theorem V_before : V m c main_v0 = before m c := by
  have e : V m c main_v0 = StableHlo.after hostOps0 _ (Proc.devRef .tc main_v0) := rfl
  rw [e]
  after_results
  rfl

/-- The packed array it leaves. -/
def after : S4x2112x1024.Idx → EReal := put 1408 (slope m c) (before m c)

theorem flushed_at : ∀ t : Fin cfg0.N, (cfg0.win 2).flush t = true → t.val % 8 = 7 := (by decide +kernel : ∀ t : Fin grid0.N, _)
theorem flush_of : ∀ t : Fin cfg0.N, t.val % 8 = 7 → (cfg0.win 2).flush t = true := (by decide +kernel : ∀ t : Fin grid0.N, _)

theorem flushed_block (t : Fin cfg0.N) (hf : (cfg0.win 2).flush t = true) :
    (dats m 0 c).flushed 2 t = ((cfg0.win 2).blk t).view.read (Elt Ideal) (after m c) := by
  have h7 := flushed_at t hf
  funext y
  blk_simp
  rw [after0_2]
  obtain ⟨s, r, d, rfl⟩ : ∃ (s : Fin 2) (r : Fin 704) (d : Fin 1024), y = ix3 s r d := ⟨y 0, y 1, y 2, ValueIdx.eq_ix3 y⟩
  rw [emb_2]
  refine (block_at m c (t.val / 8) (lt_i t) t.val t.isLt (by omega) s r d).trans
    (Eq.trans (congrArg (fun k => product (inX m c) (inY m c) k d) (Fin.ext ?_))
      (put_inside 1408 (slope m c) (before m c) _ _ d r rfl).symm)
  show 1408 * (t.val / 8) + (704 * s.val + r.val) = 704 * (2 * (t.val / 8) + s.val) + r.val
  omega

theorem result_array : (dats m 0 c).arrAt 2 cfg0.N = after m c := by
  funext k
  refine ((dats m 0 c).arrAt_eq_piecewise 2 (after m c) (flushed_block m c) k).trans ?_
  split
  · rfl
  · rename_i hk
    rw [A_eq]
    refine (congrFun (V_before m c) k).trans ?_
    obtain ⟨s, l, d, rfl⟩ : ∃ (s : Fin 4) (l : Fin 2112) (d : Fin 1024), k = ix3 s l d := ⟨k 0, k 1, k 2, ValueIdx.eq_ix3 k⟩
    refine (put_outside 1408 (slope m c) (before m c) s l d fun hl => hk ?_).symm
    have hs := s.isLt
    have ht : 8 * (s.val / 2) + 7 < cfg0.N := by rw [points]; omega
    refine ⟨⟨8 * (s.val / 2) + 7, ht⟩, flush_of _ (by show (8 * (s.val / 2) + 7) % 8 = 7; omega), ?_⟩
    have e := emb_2 ⟨8 * (s.val / 2) + 7, ht⟩ ⟨s.val % 2, Nat.mod_lt _ (by decide)⟩ ⟨l.val - 1408, by omega⟩ d
    have e' : ix3 s l d = ix3 (⟨2 * ((8 * (s.val / 2) + 7) / 8) + s.val % 2, by omega⟩ : Fin 4) (⟨1408 + (l.val - 1408), by omega⟩ : Fin 2112) d := by
      funext a; apply Fin.ext
      match a with
      | ⟨0, _⟩ => show s.val = 2 * ((8 * (s.val / 2) + 7) / 8) + s.val % 2; omega
      | ⟨1, _⟩ => show l.val = 1408 + (l.val - 1408); omega
      | ⟨2, _⟩ => rfl
    rw [e', ← e]
    exact View.emb_mem_set _ _

end

end Call

/-- The call's packed result is the plain program's. -/
theorem algebraic : Cert.algebraic_Kernel4Ideal_Reference4Ideal (hKernel4Ideal := Cert.Kernel4Ideal.Gen.facts)
    (hReference4Ideal := Cert.Reference4Ideal.Gen.facts) := by
  intro m g m' g' hpre hargs
  refine ⟨fun c => after m c, (θ_run _ _ _).mono (fun r h c => ?_) (Cert.Kernel4Ideal.Value.run_blocks m g),
    (θ_run _ _ _).mono (fun r h c => ?_) (Cert.Reference4Ideal.Value.run m' g')⟩
  · obtain ⟨h1, h2⟩ := h c
    exact ⟨h1.trans (result_array m c), h2⟩
  · obtain ⟨e0, e1, e2⟩ := hargs c
    have hx : Is _ (inX m c) := fun i j => congrFun e0 (ix2 i j)
    have hy : Is _ (inY m c) := fun i j => congrFun e1 (ix2 i j)
    have ho := (Is.transp Cert.Reference4Ideal.Gen.facts.transposes_S1024x2816_S2816x1024_1_0
      (Is.hostTN (φ₁ := .f32) (φ₂ := .f32) (D := Cert.Reference4Ideal.dot_S8192x1024_S8192x2816_S1024x2816_0_0_1_1_n_n) rfl
        (hy.extend (by decide)) (hx.extend (by decide)))).congr
      fun j d => Finset.sum_congr rfl fun k _ => mul_comm (inY m c k d) (inX m c k j)
    obtain ⟨h1, h2⟩ := h c
    refine ⟨h1.trans ((updated 1408 (by decide) _ _ _ _ rfl rfl rfl (f := slope m c) fun s r d => ?_).trans
      (congrArg (put 1408 (slope m c)) e2)), h2⟩
    exact cut (by decide) ho _ s r d

end Feed.Weight.Down

end
-- ==== Proof.WeightGate.lean ====
/-
  The gradient of the gate projection: the call's packed result is the plain program's.
-/
module

public import proofs.«01_k».proof.Proof.Weight
public import proofs.«01_k».proof.Proof.Gen.Kernel5Ideal.Value
public import proofs.«01_k».proof.Proof.Gen.Reference5Ideal.Run
public import proofs.«01_k».proof.Defs
public import Idealize.ShloMosaic.Lib.Pipeline.ValueKit

@[expose] public section

set_option maxRecDepth 16384

noncomputable section

namespace Feed.Weight.Gate

open Idealize.ShloMosaic hiding ix0 ix1 ix2 ix3 ix4 ix5
open Idealize.ShloMosaic.TcCoe Idealize.ShloMosaic.ValueIdx Idealize.ShloMosaic.Tactic
open Idealize.SL.Sem
open scoped BigOperators
open Feed.Forward (zero2 zero3)

section Call
open Cert.Kernel5Ideal Cert.Kernel5Ideal.Gen
attribute [local instance] Cert.Kernel5Ideal.Gen.facts

/-! ## What a grid point leaves -/

theorem sum_zero : Is (k0_pay1 (F := Ideal)) (fun _ _ => 0) := fun j d =>
  (shapeCast_apply (broadcast S1408x1024 (Scalar.ofBits (F := Ideal) .f32 0x00000000#32)) shapeCasts_S1408x1024_S1408x1024
    (ix2 j d) (ix2 j d) rfl).trans Ideal.ofBits_zero_f32

theorem sum_more {z : Vec Ideal S1408x1024 .f32} {x : Vec Ideal S1024x1408 .bf16} {y : Vec Ideal S1024x1024 .bf16}
    {Z : M 1408 1024} {X : M 1024 1408} {Y : M 1024 1024} (hz : Is z Z) (hx : Is x X) (hy : Is y Y) :
    Is (k0_pay2 (F := Ideal) z x y) (fun j d => Z j d + ∑ r, X r j * Y r d) :=
  Is.castSame shapeCasts_S1408x1024_S1408x1024
    (hz.add (Is.dotTN (D := dot_S1024x1408_S1024x1024_S1408x1024_0_0_1_1_n_n) (φ₁ := .bf16) (φ₂ := .bf16) rfl hx hy))

theorem first_piece {w : Vec Ideal S704x1024 .f32} {f : M 704 1024} (hw : Is w f) (r : Fin 704) (d : Fin 1024) :
    k0_pay3 (F := Ideal) w (ix3 0 r d) = f r d := piece_at (hw.trunc bitsLt_bf16_f32) shapeCasts_S704x1024_S1x704x1024 r d
theorem second_piece {w : Vec Ideal S704x1024 .f32} {f : M 704 1024} (hw : Is w f) (r : Fin 704) (d : Fin 1024) :
    k0_pay4 (F := Ideal) w (ix3 0 r d) = f r d := piece_at (hw.trunc bitsLt_bf16_f32) shapeCasts_S704x1024_S1x704x1024 r d

section Point
variable (c : Dev nD) (i : grid0.Coords) (a2 : Memref sig .tc .vmem S1024x1408 .bf16) (h2 : a2.IsWhole)
  (a3 : Memref sig .tc .vmem S1024x1024 .bf16) (h3 : a3.IsWhole) (a5 : Memref sig .tc .vmem S2x704x1024 .bf16) (h5 : a5.IsWhole)
  (a6 : Memref sig .tc .vmem S1408x1024 .f32) (h6 : a6.IsWhole)
  (x : Vec Ideal S1024x1408 .bf16) (y : Vec Ideal S1024x1024 .bf16) (z : Vec Ideal S1408x1024 .f32)

theorem first_sum (h0 : cond0_0 i) (h1 : ¬cond0_1 i) : sout0_A_0 c i a2 h2 a3 h3 a5 h5 a6 h6 h0 h1 x y = k0_pay2 (F := Ideal) (k0_pay1 (F := Ideal)) x y := by
  unfold sout0_A_0
  unfold kernelRun0_A
  dsimp only
  sl_unfold_words
  rw [View.read_writes_full (s := S1408x1024), View.readCov_full (s := S1408x1024)]
  simp only [View.readAt_eq_ld, h2.read_unread, h3.read_unread,
    View.ld_unit_zero (S := S1024x1408) zero2, View.ld_unit_zero (S := S1024x1024) zero2]

theorem next_sum (h0 : ¬cond0_0 i) (h1 : ¬cond0_1 i) : sout0_B_0 c i a2 h2 a3 h3 a5 h5 a6 h6 h0 h1 x y z = k0_pay2 (F := Ideal) z x y := by
  unfold sout0_B_0
  unfold kernelRun0_B
  dsimp only
  sl_unfold_words
  rw [View.read_writes_full (s := S1408x1024)]
  simp only [View.readAt_eq_ld, h2.read_unread, h3.read_unread, h6.read_unread, View.ld_unit_zero (S := S1408x1024) zero2,
    View.ld_unit_zero (S := S1024x1408) zero2, View.ld_unit_zero (S := S1024x1024) zero2]

theorem last_pieces (h0 : ¬cond0_0 i) (h1 : cond0_1 i) (s : Fin 2) (r : Fin 704) (d : Fin 1024) {f : M 1408 1024}
    (hf : Is (k0_pay2 (F := Ideal) z x y) f) :
    out0_C_2 c i a2 h2 a3 h3 a5 h5 a6 h6 h0 h1 x y z (ix3 s r d) = f ⟨704 * s.val + r.val, by omega⟩ d := by
  unfold out0_C_2
  unfold kernelRun0_C
  dsimp only
  sl_unfold_words
  simp only [View.readAt_eq_ld, h2.read_unread, h3.read_unread, h6.read_unread, View.ld_unit_zero (S := S1408x1024) zero2,
    View.ld_unit_zero (S := S1024x1408) zero2, View.ld_unit_zero (S := S1024x1024) zero2]
  refine (two_pieces VO0_2 _ _ _ inb_S2x704x1024_S1x704x1024_0_0_0 inb_S2x704x1024_S1x704x1024_1_0_0 s r d).trans ?_
  have hs := s.isLt
  split
  · rename_i hk
    refine (congrFun (congrArg (k0_pay3 (F := Ideal)) (rows_loaded _ _ 0 inb_S1408x1024_S1408x1024_0_0 inb_S1408x1024_S704x1024_0_0)) _).trans ?_
    refine (first_piece (rows_at _ 0 inb_S1408x1024_S704x1024_0_0 hf (by decide)) r d).trans (congrArg (fun k => f k d) (Fin.ext ?_))
    show 0 + r.val = 704 * s.val + r.val
    omega
  · rename_i hk
    refine (congrFun (congrArg (k0_pay4 (F := Ideal)) (rows_loaded _ _ 704 inb_S1408x1024_S1408x1024_0_0 inb_S1408x1024_S704x1024_704_0)) _).trans ?_
    refine (second_piece (rows_at _ 704 inb_S1408x1024_S704x1024_704_0 hf (by decide)) r d).trans (congrArg (fun k => f k d) (Fin.ext ?_))
    show 704 + r.val = 704 * s.val + r.val
    omega

end Point

/-! ## The blocks -/

theorem points : cfg0.N = 16 := N_0

theorem index_0 : ∀ t : Fin cfg0.N, win0_0.index t = ![t.val % 8, t.val / 8] := (by decide +kernel : ∀ t : Fin grid0.N, _)
theorem index_1 : ∀ t : Fin cfg0.N, win0_1.index t = ![t.val % 8, 0] := (by decide +kernel : ∀ t : Fin grid0.N, _)
theorem index_2 : ∀ t : Fin cfg0.N, win0_2.index t = ![t.val / 8, 0, 0] := (by decide +kernel : ∀ t : Fin grid0.N, _)

section
variable (t : Fin cfg0.N)

theorem lt : t.val < 16 := points ▸ t.isLt
theorem lt_k : t.val % 8 < 8 := Nat.mod_lt _ (by decide)
theorem lt_i : t.val / 8 < 2 := by have := lt t; omega

theorem emb_0 (r : Fin 1024) (j : Fin 1408) : ((cfg0.win 0).blk t).view.emb (ix2 r j) = ix2 (tall (t.val % 8) (lt_k t) r) (wide (by decide) (t.val / 8) (lt_i t) j) := by
  funext a; apply Fin.ext
  match a with
  | ⟨0, _⟩ => blk_simp [index_0]; show t.val % 8 * 1024 + r.val = 1024 * (t.val % 8) + r.val; omega
  | ⟨1, _⟩ => blk_simp [index_0]; show t.val / 8 * 1408 + j.val = 1408 * (t.val / 8) + j.val; omega
theorem emb_1 (r : Fin 1024) (d : Fin 1024) : ((cfg0.win 1).blk t).view.emb (ix2 r d) = ix2 (tall (t.val % 8) (lt_k t) r) d := by
  funext a; apply Fin.ext
  match a with
  | ⟨0, _⟩ => blk_simp [index_1]; show t.val % 8 * 1024 + r.val = 1024 * (t.val % 8) + r.val; omega
  | ⟨1, _⟩ => blk_simp [index_1]
theorem emb_2 (s : Fin 2) (r : Fin 704) (d : Fin 1024) : ((cfg0.win 2).blk t).view.emb (ix3 s r d)
    = ix3 (⟨2 * (t.val / 8) + s.val, by have := lt_i t; have := s.isLt; omega⟩ : Fin 4) (⟨0 + r.val, by have := r.isLt; omega⟩ : Fin 2112) d := by
  funext a; apply Fin.ext
  match a with
  | ⟨0, _⟩ => blk_simp [index_2]; show t.val / 8 * 2 + s.val = 2 * (t.val / 8) + s.val; omega
  | ⟨1, _⟩ => blk_simp [index_2]
  | ⟨2, _⟩ => blk_simp [index_2]

end

section
variable (m : (ℓ : Loc nD τ sig) → Buf (Elt Ideal) ℓ) (c : Dev nD)

/-- The arguments' entries. -/
def inX : M 8192 2816 := rows (m ((c : Thread nD τ).loc main_arg0))
def inY : M 8192 1024 := rows (m ((c : Thread nD τ).loc main_arg1))
/-- The columns of the first argument that a row of the grid works on. -/
def part (i : ℕ) (hi : i < 2) : M 8192 1408 := wideBlock (by decide) (inX m c) i hi
/-- The gradient, cut by chip. -/
def slope : Fin 4 → M 704 1024 := byChip (by decide) (product (inX m c) (inY m c))

theorem block_x (t : Fin cfg0.N) : Is (iblk m c 0 t) (tallBlock (part m c (t.val / 8) (lt_i t)) (t.val % 8) (lt_k t)) := fun r j =>
  (congrArg (V m c main_arg0) (emb_0 t r j)).trans (congrFun (V_main_arg0 m c) _)

theorem block_y (t : Fin cfg0.N) : Is (iblk m c 1 t) (tallBlock (inY m c) (t.val % 8) (lt_k t)) := fun r d =>
  (congrArg (V m c main_arg1) (emb_1 t r d)).trans (congrFun (V_main_arg1 m c) _)

theorem left_first (t : Fin cfg0.N) (h0 : t.val % 8 = 0) :
    (outsAt0 m c t.val t.isLt).2 = k0_pay2 (F := Ideal) (k0_pay1 (F := Ideal)) (iblk m c 0 t) (iblk m c 1 t) := by
  have h1 : ¬t.val % 8 = 7 := by omega
  rw [outsAt0_A m c t h0 h1]
  dsimp only
  exact first_sum c (grid0.coords t) (ms0_0 t) (hs0_0 t) (ms0_1 t) (hs0_1 t) (ms0_2 t) (hs0_2 t) scM0_0 (Memref.isWhole_whole _)
    (iblk m c 0 t) (iblk m c 1 t) ((hcond0_0 t).mpr h0) (fun h => h1 ((hcond0_1 t).mp h))

theorem left_next (t : Fin cfg0.N) (h0 : ¬t.val % 8 = 0) (h1 : ¬t.val % 8 = 7) (z : Vec Ideal S1408x1024 .f32)
    (hz : (outsAt0 m c (t.val - 1) (Nat.lt_of_le_of_lt (Nat.sub_le _ _) t.isLt)).2 = z) :
    (outsAt0 m c t.val t.isLt).2 = k0_pay2 (F := Ideal) z (iblk m c 0 t) (iblk m c 1 t) := by
  rw [outsAt0_B m c t h0 h1]
  dsimp only
  rw [hz]
  exact next_sum c (grid0.coords t) (ms0_0 t) (hs0_0 t) (ms0_1 t) (hs0_1 t) (ms0_2 t) (hs0_2 t) scM0_0 (Memref.isWhole_whole _)
    (iblk m c 0 t) (iblk m c 1 t) z (fun h => h0 ((hcond0_0 t).mp h)) (fun h => h1 ((hcond0_1 t).mp h))

theorem left_last (t : Fin cfg0.N) (h0 : ¬t.val % 8 = 0) (h1 : t.val % 8 = 7) (z : Vec Ideal S1408x1024 .f32)
    (hz : (outsAt0 m c (t.val - 1) (Nat.lt_of_le_of_lt (Nat.sub_le _ _) t.isLt)).2 = z) {f : M 1408 1024}
    (hf : Is (k0_pay2 (F := Ideal) z (iblk m c 0 t) (iblk m c 1 t)) f) (s : Fin 2) (r : Fin 704) (d : Fin 1024) :
    (outsAt0 m c t.val t.isLt).1 (ix3 s r d) = f ⟨704 * s.val + r.val, by omega⟩ d := by
  rw [outsAt0_C m c t h0 h1]
  dsimp only
  rw [hz]
  exact last_pieces c (grid0.coords t) (ms0_0 t) (hs0_0 t) (ms0_1 t) (hs0_1 t) (ms0_2 t) (hs0_2 t) scM0_0 (Memref.isWhole_whole _)
    (iblk m c 0 t) (iblk m c 1 t) z (fun h => h0 ((hcond0_0 t).mp h)) ((hcond0_1 t).mpr h1) s r d hf

/-- The sums after a grid point that is not the last of its eight: the product over the blocks so far. -/
theorem sums_at (i : ℕ) (hi : i < 2) (n : ℕ) (hn : n < 7) (p : ℕ) (hp : p < cfg0.N) (e : p = 8 * i + n) :
    Is (outsAt0 m c p hp).2 (upTo (part m c i hi) (inY m c) n (by omega)) := by
  induction n generalizing p with
  | zero =>
    have h8 : p % 8 = 0 := by omega
    have hd : p / 8 = i := by omega
    rw [left_first m c ⟨p, hp⟩ h8]
    refine (sum_more sum_zero (block_x m c ⟨p, hp⟩) (block_y m c ⟨p, hp⟩)).congr fun j d => ?_
    have q := upTo_zero (part m c i hi) (inY m c) (by decide) j d
    subst hd
    simp only [h8]
    exact q
  | succ n ih =>
    have h8 : p % 8 = n + 1 := by omega
    have hd : p / 8 = i := by omega
    rw [left_next m c ⟨p, hp⟩ (by show ¬p % 8 = 0; omega) (by show ¬p % 8 = 7; omega) _ rfl]
    refine (sum_more (ih (by omega) (p - 1) (by omega) (by omega)) (block_x m c ⟨p, hp⟩) (block_y m c ⟨p, hp⟩)).congr fun j d => ?_
    have q := upTo_succ (part m c i hi) (inY m c) n (by omega) j d
    subst hd
    simp only [h8]
    exact q

/-- A block's result: its columns' share of the product. -/
theorem block_at (i : ℕ) (hi : i < 2) (p : ℕ) (hp : p < cfg0.N) (e : p = 8 * i + 7) (s : Fin 2) (r : Fin 704) (d : Fin 1024) :
    (outsAt0 m c p hp).1 (ix3 s r d) = product (inX m c) (inY m c) (wide (by decide) i hi (⟨704 * s.val + r.val, by omega⟩ : Fin 1408)) d := by
  have h8 : p % 8 = 7 := by omega
  have hd : p / 8 = i := by omega
  refine (left_last m c ⟨p, hp⟩ (by show ¬p % 8 = 0; omega) h8 _ rfl (f := upTo (part m c i hi) (inY m c) 7 (by decide)) ?_ s r d).trans
    (upTo_last (part m c i hi) (inY m c) _ d)
  refine (sum_more (sums_at m c i hi 6 (by decide) (p - 1) (by omega) (by omega)) (block_x m c ⟨p, hp⟩) (block_y m c ⟨p, hp⟩)).congr
    fun j d => ?_
  have q := upTo_succ (part m c i hi) (inY m c) 6 (by decide) j d
  subst hd
  simp only [h8]
  exact q

/-! ## The result array -/

/-- The packed array the call starts from. -/
def before : S4x2112x1024.Idx → EReal := m ((c : Thread nD τ).loc main_arg2)

theorem V_before : V m c main_v0 = before m c := by
  have e : V m c main_v0 = StableHlo.after hostOps0 _ (Proc.devRef .tc main_v0) := rfl
  rw [e]
  after_results
  rfl

/-- The packed array it leaves. -/
def after : S4x2112x1024.Idx → EReal := put 0 (slope m c) (before m c)

theorem flushed_at : ∀ t : Fin cfg0.N, (cfg0.win 2).flush t = true → t.val % 8 = 7 := (by decide +kernel : ∀ t : Fin grid0.N, _)
theorem flush_of : ∀ t : Fin cfg0.N, t.val % 8 = 7 → (cfg0.win 2).flush t = true := (by decide +kernel : ∀ t : Fin grid0.N, _)

theorem flushed_block (t : Fin cfg0.N) (hf : (cfg0.win 2).flush t = true) :
    (dats m 0 c).flushed 2 t = ((cfg0.win 2).blk t).view.read (Elt Ideal) (after m c) := by
  have h7 := flushed_at t hf
  funext y
  blk_simp
  rw [after0_2]
  obtain ⟨s, r, d, rfl⟩ : ∃ (s : Fin 2) (r : Fin 704) (d : Fin 1024), y = ix3 s r d := ⟨y 0, y 1, y 2, ValueIdx.eq_ix3 y⟩
  rw [emb_2]
  refine (block_at m c (t.val / 8) (lt_i t) t.val t.isLt (by omega) s r d).trans
    (Eq.trans (congrArg (fun k => product (inX m c) (inY m c) k d) (Fin.ext ?_))
      (put_inside 0 (slope m c) (before m c) _ _ d r rfl).symm)
  show 1408 * (t.val / 8) + (704 * s.val + r.val) = 704 * (2 * (t.val / 8) + s.val) + r.val
  omega

theorem result_array : (dats m 0 c).arrAt 2 cfg0.N = after m c := by
  funext k
  refine ((dats m 0 c).arrAt_eq_piecewise 2 (after m c) (flushed_block m c) k).trans ?_
  split
  · rfl
  · rename_i hk
    rw [A_eq]
    refine (congrFun (V_before m c) k).trans ?_
    obtain ⟨s, l, d, rfl⟩ : ∃ (s : Fin 4) (l : Fin 2112) (d : Fin 1024), k = ix3 s l d := ⟨k 0, k 1, k 2, ValueIdx.eq_ix3 k⟩
    refine (put_outside 0 (slope m c) (before m c) s l d fun hl => hk ?_).symm
    have hs := s.isLt
    have ht : 8 * (s.val / 2) + 7 < cfg0.N := by rw [points]; omega
    refine ⟨⟨8 * (s.val / 2) + 7, ht⟩, flush_of _ (by show (8 * (s.val / 2) + 7) % 8 = 7; omega), ?_⟩
    have e := emb_2 ⟨8 * (s.val / 2) + 7, ht⟩ ⟨s.val % 2, Nat.mod_lt _ (by decide)⟩ ⟨l.val - 0, by omega⟩ d
    have e' : ix3 s l d = ix3 (⟨2 * ((8 * (s.val / 2) + 7) / 8) + s.val % 2, by omega⟩ : Fin 4) (⟨0 + (l.val - 0), by omega⟩ : Fin 2112) d := by
      funext a; apply Fin.ext
      match a with
      | ⟨0, _⟩ => show s.val = 2 * ((8 * (s.val / 2) + 7) / 8) + s.val % 2; omega
      | ⟨1, _⟩ => show l.val = 0 + (l.val - 0); omega
      | ⟨2, _⟩ => rfl
    rw [e', ← e]
    exact View.emb_mem_set _ _

end

end Call

/-- The call's packed result is the plain program's. -/
theorem algebraic : Cert.algebraic_Kernel5Ideal_Reference5Ideal (hKernel5Ideal := Cert.Kernel5Ideal.Gen.facts)
    (hReference5Ideal := Cert.Reference5Ideal.Gen.facts) := by
  intro m g m' g' hpre hargs
  refine ⟨fun c => after m c, (θ_run _ _ _).mono (fun r h c => ?_) (Cert.Kernel5Ideal.Value.run_blocks m g),
    (θ_run _ _ _).mono (fun r h c => ?_) (Cert.Reference5Ideal.Value.run m' g')⟩
  · obtain ⟨h1, h2⟩ := h c
    exact ⟨h1.trans (result_array m c), h2⟩
  · obtain ⟨e0, e1, e2⟩ := hargs c
    have hx : Is _ (inX m c) := fun i j => congrFun e0 (ix2 i j)
    have hy : Is _ (inY m c) := fun i j => congrFun e1 (ix2 i j)
    have ho := Is.transp Cert.Reference5Ideal.Gen.facts.transposes_S1024x2816_S2816x1024_1_0
      (Is.transp Cert.Reference5Ideal.Gen.facts.transposes_S2816x1024_S1024x2816_1_0
        (Is.hostTN (φ₁ := .f32) (φ₂ := .f32) (D := Cert.Reference5Ideal.dot_S8192x2816_S8192x1024_S2816x1024_0_0_1_1_n_n) rfl
          (hx.extend (by decide)) (hy.extend (by decide))))
    obtain ⟨h1, h2⟩ := h c
    refine ⟨h1.trans ((updated 0 (by decide) _ _ _ _ rfl rfl rfl (f := slope m c) fun s r d => ?_).trans
      (congrArg (put 0 (slope m c)) e2)), h2⟩
    exact cut (by decide) ho _ s r d

end Feed.Weight.Gate

end
-- ==== Proof.WeightUp.lean ====
/-
  The gradient of the up projection: the call's packed result is the plain program's.
-/
module

public import proofs.«01_k».proof.Proof.Weight
public import proofs.«01_k».proof.Proof.Gen.Kernel6Ideal.Value
public import proofs.«01_k».proof.Proof.Gen.Reference6Ideal.Run
public import proofs.«01_k».proof.Defs
public import Idealize.ShloMosaic.Lib.Pipeline.ValueKit

@[expose] public section

set_option maxRecDepth 16384

noncomputable section

namespace Feed.Weight.Up

open Idealize.ShloMosaic hiding ix0 ix1 ix2 ix3 ix4 ix5
open Idealize.ShloMosaic.TcCoe Idealize.ShloMosaic.ValueIdx Idealize.ShloMosaic.Tactic
open Idealize.SL.Sem
open scoped BigOperators
open Feed.Forward (zero2 zero3)

section Call
open Cert.Kernel6Ideal Cert.Kernel6Ideal.Gen
attribute [local instance] Cert.Kernel6Ideal.Gen.facts

/-! ## What a grid point leaves -/

theorem sum_zero : Is (k0_pay1 (F := Ideal)) (fun _ _ => 0) := fun j d =>
  (shapeCast_apply (broadcast S1408x1024 (Scalar.ofBits (F := Ideal) .f32 0x00000000#32)) shapeCasts_S1408x1024_S1408x1024
    (ix2 j d) (ix2 j d) rfl).trans Ideal.ofBits_zero_f32

theorem sum_more {z : Vec Ideal S1408x1024 .f32} {x : Vec Ideal S1024x1408 .bf16} {y : Vec Ideal S1024x1024 .bf16}
    {Z : M 1408 1024} {X : M 1024 1408} {Y : M 1024 1024} (hz : Is z Z) (hx : Is x X) (hy : Is y Y) :
    Is (k0_pay2 (F := Ideal) z x y) (fun j d => Z j d + ∑ r, X r j * Y r d) :=
  Is.castSame shapeCasts_S1408x1024_S1408x1024
    (hz.add (Is.dotTN (D := dot_S1024x1408_S1024x1024_S1408x1024_0_0_1_1_n_n) (φ₁ := .bf16) (φ₂ := .bf16) rfl hx hy))

theorem first_piece {w : Vec Ideal S704x1024 .f32} {f : M 704 1024} (hw : Is w f) (r : Fin 704) (d : Fin 1024) :
    k0_pay3 (F := Ideal) w (ix3 0 r d) = f r d := piece_at (hw.trunc bitsLt_bf16_f32) shapeCasts_S704x1024_S1x704x1024 r d
theorem second_piece {w : Vec Ideal S704x1024 .f32} {f : M 704 1024} (hw : Is w f) (r : Fin 704) (d : Fin 1024) :
    k0_pay4 (F := Ideal) w (ix3 0 r d) = f r d := piece_at (hw.trunc bitsLt_bf16_f32) shapeCasts_S704x1024_S1x704x1024 r d

section Point
variable (c : Dev nD) (i : grid0.Coords) (a2 : Memref sig .tc .vmem S1024x1408 .bf16) (h2 : a2.IsWhole)
  (a3 : Memref sig .tc .vmem S1024x1024 .bf16) (h3 : a3.IsWhole) (a5 : Memref sig .tc .vmem S2x704x1024 .bf16) (h5 : a5.IsWhole)
  (a6 : Memref sig .tc .vmem S1408x1024 .f32) (h6 : a6.IsWhole)
  (x : Vec Ideal S1024x1408 .bf16) (y : Vec Ideal S1024x1024 .bf16) (z : Vec Ideal S1408x1024 .f32)

theorem first_sum (h0 : cond0_0 i) (h1 : ¬cond0_1 i) : sout0_A_0 c i a2 h2 a3 h3 a5 h5 a6 h6 h0 h1 x y = k0_pay2 (F := Ideal) (k0_pay1 (F := Ideal)) x y := by
  unfold sout0_A_0
  unfold kernelRun0_A
  dsimp only
  sl_unfold_words
  rw [View.read_writes_full (s := S1408x1024), View.readCov_full (s := S1408x1024)]
  simp only [View.readAt_eq_ld, h2.read_unread, h3.read_unread,
    View.ld_unit_zero (S := S1024x1408) zero2, View.ld_unit_zero (S := S1024x1024) zero2]

theorem next_sum (h0 : ¬cond0_0 i) (h1 : ¬cond0_1 i) : sout0_B_0 c i a2 h2 a3 h3 a5 h5 a6 h6 h0 h1 x y z = k0_pay2 (F := Ideal) z x y := by
  unfold sout0_B_0
  unfold kernelRun0_B
  dsimp only
  sl_unfold_words
  rw [View.read_writes_full (s := S1408x1024)]
  simp only [View.readAt_eq_ld, h2.read_unread, h3.read_unread, h6.read_unread, View.ld_unit_zero (S := S1408x1024) zero2,
    View.ld_unit_zero (S := S1024x1408) zero2, View.ld_unit_zero (S := S1024x1024) zero2]

theorem last_pieces (h0 : ¬cond0_0 i) (h1 : cond0_1 i) (s : Fin 2) (r : Fin 704) (d : Fin 1024) {f : M 1408 1024}
    (hf : Is (k0_pay2 (F := Ideal) z x y) f) :
    out0_C_2 c i a2 h2 a3 h3 a5 h5 a6 h6 h0 h1 x y z (ix3 s r d) = f ⟨704 * s.val + r.val, by omega⟩ d := by
  unfold out0_C_2
  unfold kernelRun0_C
  dsimp only
  sl_unfold_words
  simp only [View.readAt_eq_ld, h2.read_unread, h3.read_unread, h6.read_unread, View.ld_unit_zero (S := S1408x1024) zero2,
    View.ld_unit_zero (S := S1024x1408) zero2, View.ld_unit_zero (S := S1024x1024) zero2]
  refine (two_pieces VO0_2 _ _ _ inb_S2x704x1024_S1x704x1024_0_0_0 inb_S2x704x1024_S1x704x1024_1_0_0 s r d).trans ?_
  have hs := s.isLt
  split
  · rename_i hk
    refine (congrFun (congrArg (k0_pay3 (F := Ideal)) (rows_loaded _ _ 0 inb_S1408x1024_S1408x1024_0_0 inb_S1408x1024_S704x1024_0_0)) _).trans ?_
    refine (first_piece (rows_at _ 0 inb_S1408x1024_S704x1024_0_0 hf (by decide)) r d).trans (congrArg (fun k => f k d) (Fin.ext ?_))
    show 0 + r.val = 704 * s.val + r.val
    omega
  · rename_i hk
    refine (congrFun (congrArg (k0_pay4 (F := Ideal)) (rows_loaded _ _ 704 inb_S1408x1024_S1408x1024_0_0 inb_S1408x1024_S704x1024_704_0)) _).trans ?_
    refine (second_piece (rows_at _ 704 inb_S1408x1024_S704x1024_704_0 hf (by decide)) r d).trans (congrArg (fun k => f k d) (Fin.ext ?_))
    show 704 + r.val = 704 * s.val + r.val
    omega

end Point

/-! ## The blocks -/

theorem points : cfg0.N = 16 := N_0

theorem index_0 : ∀ t : Fin cfg0.N, win0_0.index t = ![t.val % 8, t.val / 8] := (by decide +kernel : ∀ t : Fin grid0.N, _)
theorem index_1 : ∀ t : Fin cfg0.N, win0_1.index t = ![t.val % 8, 0] := (by decide +kernel : ∀ t : Fin grid0.N, _)
theorem index_2 : ∀ t : Fin cfg0.N, win0_2.index t = ![t.val / 8, 1, 0] := (by decide +kernel : ∀ t : Fin grid0.N, _)

section
variable (t : Fin cfg0.N)

theorem lt : t.val < 16 := points ▸ t.isLt
theorem lt_k : t.val % 8 < 8 := Nat.mod_lt _ (by decide)
theorem lt_i : t.val / 8 < 2 := by have := lt t; omega

theorem emb_0 (r : Fin 1024) (j : Fin 1408) : ((cfg0.win 0).blk t).view.emb (ix2 r j) = ix2 (tall (t.val % 8) (lt_k t) r) (wide (by decide) (t.val / 8) (lt_i t) j) := by
  funext a; apply Fin.ext
  match a with
  | ⟨0, _⟩ => blk_simp [index_0]; show t.val % 8 * 1024 + r.val = 1024 * (t.val % 8) + r.val; omega
  | ⟨1, _⟩ => blk_simp [index_0]; show t.val / 8 * 1408 + j.val = 1408 * (t.val / 8) + j.val; omega
theorem emb_1 (r : Fin 1024) (d : Fin 1024) : ((cfg0.win 1).blk t).view.emb (ix2 r d) = ix2 (tall (t.val % 8) (lt_k t) r) d := by
  funext a; apply Fin.ext
  match a with
  | ⟨0, _⟩ => blk_simp [index_1]; show t.val % 8 * 1024 + r.val = 1024 * (t.val % 8) + r.val; omega
  | ⟨1, _⟩ => blk_simp [index_1]
theorem emb_2 (s : Fin 2) (r : Fin 704) (d : Fin 1024) : ((cfg0.win 2).blk t).view.emb (ix3 s r d)
    = ix3 (⟨2 * (t.val / 8) + s.val, by have := lt_i t; have := s.isLt; omega⟩ : Fin 4) (⟨704 + r.val, by have := r.isLt; omega⟩ : Fin 2112) d := by
  funext a; apply Fin.ext
  match a with
  | ⟨0, _⟩ => blk_simp [index_2]; show t.val / 8 * 2 + s.val = 2 * (t.val / 8) + s.val; omega
  | ⟨1, _⟩ => blk_simp [index_2]
  | ⟨2, _⟩ => blk_simp [index_2]

end

section
variable (m : (ℓ : Loc nD τ sig) → Buf (Elt Ideal) ℓ) (c : Dev nD)

/-- The arguments' entries. -/
def inX : M 8192 2816 := rows (m ((c : Thread nD τ).loc main_arg0))
def inY : M 8192 1024 := rows (m ((c : Thread nD τ).loc main_arg1))
/-- The columns of the first argument that a row of the grid works on. -/
def part (i : ℕ) (hi : i < 2) : M 8192 1408 := wideBlock (by decide) (inX m c) i hi
/-- The gradient, cut by chip. -/
def slope : Fin 4 → M 704 1024 := byChip (by decide) (product (inX m c) (inY m c))

theorem block_x (t : Fin cfg0.N) : Is (iblk m c 0 t) (tallBlock (part m c (t.val / 8) (lt_i t)) (t.val % 8) (lt_k t)) := fun r j =>
  (congrArg (V m c main_arg0) (emb_0 t r j)).trans (congrFun (V_main_arg0 m c) _)

theorem block_y (t : Fin cfg0.N) : Is (iblk m c 1 t) (tallBlock (inY m c) (t.val % 8) (lt_k t)) := fun r d =>
  (congrArg (V m c main_arg1) (emb_1 t r d)).trans (congrFun (V_main_arg1 m c) _)

theorem left_first (t : Fin cfg0.N) (h0 : t.val % 8 = 0) :
    (outsAt0 m c t.val t.isLt).2 = k0_pay2 (F := Ideal) (k0_pay1 (F := Ideal)) (iblk m c 0 t) (iblk m c 1 t) := by
  have h1 : ¬t.val % 8 = 7 := by omega
  rw [outsAt0_A m c t h0 h1]
  dsimp only
  exact first_sum c (grid0.coords t) (ms0_0 t) (hs0_0 t) (ms0_1 t) (hs0_1 t) (ms0_2 t) (hs0_2 t) scM0_0 (Memref.isWhole_whole _)
    (iblk m c 0 t) (iblk m c 1 t) ((hcond0_0 t).mpr h0) (fun h => h1 ((hcond0_1 t).mp h))

theorem left_next (t : Fin cfg0.N) (h0 : ¬t.val % 8 = 0) (h1 : ¬t.val % 8 = 7) (z : Vec Ideal S1408x1024 .f32)
    (hz : (outsAt0 m c (t.val - 1) (Nat.lt_of_le_of_lt (Nat.sub_le _ _) t.isLt)).2 = z) :
    (outsAt0 m c t.val t.isLt).2 = k0_pay2 (F := Ideal) z (iblk m c 0 t) (iblk m c 1 t) := by
  rw [outsAt0_B m c t h0 h1]
  dsimp only
  rw [hz]
  exact next_sum c (grid0.coords t) (ms0_0 t) (hs0_0 t) (ms0_1 t) (hs0_1 t) (ms0_2 t) (hs0_2 t) scM0_0 (Memref.isWhole_whole _)
    (iblk m c 0 t) (iblk m c 1 t) z (fun h => h0 ((hcond0_0 t).mp h)) (fun h => h1 ((hcond0_1 t).mp h))

theorem left_last (t : Fin cfg0.N) (h0 : ¬t.val % 8 = 0) (h1 : t.val % 8 = 7) (z : Vec Ideal S1408x1024 .f32)
    (hz : (outsAt0 m c (t.val - 1) (Nat.lt_of_le_of_lt (Nat.sub_le _ _) t.isLt)).2 = z) {f : M 1408 1024}
    (hf : Is (k0_pay2 (F := Ideal) z (iblk m c 0 t) (iblk m c 1 t)) f) (s : Fin 2) (r : Fin 704) (d : Fin 1024) :
    (outsAt0 m c t.val t.isLt).1 (ix3 s r d) = f ⟨704 * s.val + r.val, by omega⟩ d := by
  rw [outsAt0_C m c t h0 h1]
  dsimp only
  rw [hz]
  exact last_pieces c (grid0.coords t) (ms0_0 t) (hs0_0 t) (ms0_1 t) (hs0_1 t) (ms0_2 t) (hs0_2 t) scM0_0 (Memref.isWhole_whole _)
    (iblk m c 0 t) (iblk m c 1 t) z (fun h => h0 ((hcond0_0 t).mp h)) ((hcond0_1 t).mpr h1) s r d hf

/-- The sums after a grid point that is not the last of its eight: the product over the blocks so far. -/
theorem sums_at (i : ℕ) (hi : i < 2) (n : ℕ) (hn : n < 7) (p : ℕ) (hp : p < cfg0.N) (e : p = 8 * i + n) :
    Is (outsAt0 m c p hp).2 (upTo (part m c i hi) (inY m c) n (by omega)) := by
  induction n generalizing p with
  | zero =>
    have h8 : p % 8 = 0 := by omega
    have hd : p / 8 = i := by omega
    rw [left_first m c ⟨p, hp⟩ h8]
    refine (sum_more sum_zero (block_x m c ⟨p, hp⟩) (block_y m c ⟨p, hp⟩)).congr fun j d => ?_
    have q := upTo_zero (part m c i hi) (inY m c) (by decide) j d
    subst hd
    simp only [h8]
    exact q
  | succ n ih =>
    have h8 : p % 8 = n + 1 := by omega
    have hd : p / 8 = i := by omega
    rw [left_next m c ⟨p, hp⟩ (by show ¬p % 8 = 0; omega) (by show ¬p % 8 = 7; omega) _ rfl]
    refine (sum_more (ih (by omega) (p - 1) (by omega) (by omega)) (block_x m c ⟨p, hp⟩) (block_y m c ⟨p, hp⟩)).congr fun j d => ?_
    have q := upTo_succ (part m c i hi) (inY m c) n (by omega) j d
    subst hd
    simp only [h8]
    exact q

/-- A block's result: its columns' share of the product. -/
theorem block_at (i : ℕ) (hi : i < 2) (p : ℕ) (hp : p < cfg0.N) (e : p = 8 * i + 7) (s : Fin 2) (r : Fin 704) (d : Fin 1024) :
    (outsAt0 m c p hp).1 (ix3 s r d) = product (inX m c) (inY m c) (wide (by decide) i hi (⟨704 * s.val + r.val, by omega⟩ : Fin 1408)) d := by
  have h8 : p % 8 = 7 := by omega
  have hd : p / 8 = i := by omega
  refine (left_last m c ⟨p, hp⟩ (by show ¬p % 8 = 0; omega) h8 _ rfl (f := upTo (part m c i hi) (inY m c) 7 (by decide)) ?_ s r d).trans
    (upTo_last (part m c i hi) (inY m c) _ d)
  refine (sum_more (sums_at m c i hi 6 (by decide) (p - 1) (by omega) (by omega)) (block_x m c ⟨p, hp⟩) (block_y m c ⟨p, hp⟩)).congr
    fun j d => ?_
  have q := upTo_succ (part m c i hi) (inY m c) 6 (by decide) j d
  subst hd
  simp only [h8]
  exact q

/-! ## The result array -/

/-- The packed array the call starts from. -/
def before : S4x2112x1024.Idx → EReal := m ((c : Thread nD τ).loc main_arg2)

theorem V_before : V m c main_v0 = before m c := by
  have e : V m c main_v0 = StableHlo.after hostOps0 _ (Proc.devRef .tc main_v0) := rfl
  rw [e]
  after_results
  rfl

/-- The packed array it leaves. -/
def after : S4x2112x1024.Idx → EReal := put 704 (slope m c) (before m c)

theorem flushed_at : ∀ t : Fin cfg0.N, (cfg0.win 2).flush t = true → t.val % 8 = 7 := (by decide +kernel : ∀ t : Fin grid0.N, _)
theorem flush_of : ∀ t : Fin cfg0.N, t.val % 8 = 7 → (cfg0.win 2).flush t = true := (by decide +kernel : ∀ t : Fin grid0.N, _)

theorem flushed_block (t : Fin cfg0.N) (hf : (cfg0.win 2).flush t = true) :
    (dats m 0 c).flushed 2 t = ((cfg0.win 2).blk t).view.read (Elt Ideal) (after m c) := by
  have h7 := flushed_at t hf
  funext y
  blk_simp
  rw [after0_2]
  obtain ⟨s, r, d, rfl⟩ : ∃ (s : Fin 2) (r : Fin 704) (d : Fin 1024), y = ix3 s r d := ⟨y 0, y 1, y 2, ValueIdx.eq_ix3 y⟩
  rw [emb_2]
  refine (block_at m c (t.val / 8) (lt_i t) t.val t.isLt (by omega) s r d).trans
    (Eq.trans (congrArg (fun k => product (inX m c) (inY m c) k d) (Fin.ext ?_))
      (put_inside 704 (slope m c) (before m c) _ _ d r rfl).symm)
  show 1408 * (t.val / 8) + (704 * s.val + r.val) = 704 * (2 * (t.val / 8) + s.val) + r.val
  omega

theorem result_array : (dats m 0 c).arrAt 2 cfg0.N = after m c := by
  funext k
  refine ((dats m 0 c).arrAt_eq_piecewise 2 (after m c) (flushed_block m c) k).trans ?_
  split
  · rfl
  · rename_i hk
    rw [A_eq]
    refine (congrFun (V_before m c) k).trans ?_
    obtain ⟨s, l, d, rfl⟩ : ∃ (s : Fin 4) (l : Fin 2112) (d : Fin 1024), k = ix3 s l d := ⟨k 0, k 1, k 2, ValueIdx.eq_ix3 k⟩
    refine (put_outside 704 (slope m c) (before m c) s l d fun hl => hk ?_).symm
    have hs := s.isLt
    have ht : 8 * (s.val / 2) + 7 < cfg0.N := by rw [points]; omega
    refine ⟨⟨8 * (s.val / 2) + 7, ht⟩, flush_of _ (by show (8 * (s.val / 2) + 7) % 8 = 7; omega), ?_⟩
    have e := emb_2 ⟨8 * (s.val / 2) + 7, ht⟩ ⟨s.val % 2, Nat.mod_lt _ (by decide)⟩ ⟨l.val - 704, by omega⟩ d
    have e' : ix3 s l d = ix3 (⟨2 * ((8 * (s.val / 2) + 7) / 8) + s.val % 2, by omega⟩ : Fin 4) (⟨704 + (l.val - 704), by omega⟩ : Fin 2112) d := by
      funext a; apply Fin.ext
      match a with
      | ⟨0, _⟩ => show s.val = 2 * ((8 * (s.val / 2) + 7) / 8) + s.val % 2; omega
      | ⟨1, _⟩ => show l.val = 704 + (l.val - 704); omega
      | ⟨2, _⟩ => rfl
    rw [e', ← e]
    exact View.emb_mem_set _ _

end

end Call

/-- The call's packed result is the plain program's. -/
theorem algebraic : Cert.algebraic_Kernel6Ideal_Reference6Ideal (hKernel6Ideal := Cert.Kernel6Ideal.Gen.facts)
    (hReference6Ideal := Cert.Reference6Ideal.Gen.facts) := by
  intro m g m' g' hpre hargs
  refine ⟨fun c => after m c, (θ_run _ _ _).mono (fun r h c => ?_) (Cert.Kernel6Ideal.Value.run_blocks m g),
    (θ_run _ _ _).mono (fun r h c => ?_) (Cert.Reference6Ideal.Value.run m' g')⟩
  · obtain ⟨h1, h2⟩ := h c
    exact ⟨h1.trans (result_array m c), h2⟩
  · obtain ⟨e0, e1, e2⟩ := hargs c
    have hx : Is _ (inX m c) := fun i j => congrFun e0 (ix2 i j)
    have hy : Is _ (inY m c) := fun i j => congrFun e1 (ix2 i j)
    have ho := Is.transp Cert.Reference6Ideal.Gen.facts.transposes_S1024x2816_S2816x1024_1_0
      (Is.transp Cert.Reference6Ideal.Gen.facts.transposes_S2816x1024_S1024x2816_1_0
        (Is.hostTN (φ₁ := .f32) (φ₂ := .f32) (D := Cert.Reference6Ideal.dot_S8192x2816_S8192x1024_S2816x1024_0_0_1_1_n_n) rfl
          (hx.extend (by decide)) (hy.extend (by decide))))
    obtain ⟨h1, h2⟩ := h c
    refine ⟨h1.trans ((updated 704 (by decide) _ _ _ _ rfl rfl rfl (f := slope m c) fun s r d => ?_).trans
      (congrArg (put 704 (slope m c)) e2)), h2⟩
    exact cut (by decide) ho _ s r d

end Feed.Weight.Up

end
-- ==== Proof.WeightOut.lean ====
/-
  The gradient of the output projection: the call's packed result is the plain program's.
-/
module

public import proofs.«01_k».proof.Proof.Weight
public import proofs.«01_k».proof.Proof.Gen.Kernel7Ideal.Value
public import proofs.«01_k».proof.Proof.Gen.Reference7Ideal.Run
public import proofs.«01_k».proof.Defs
public import Idealize.ShloMosaic.Lib.Pipeline.ValueKit

@[expose] public section

set_option maxRecDepth 16384

noncomputable section

namespace Feed.Weight.Out

open Idealize.ShloMosaic hiding ix0 ix1 ix2 ix3 ix4 ix5
open Idealize.ShloMosaic.TcCoe Idealize.ShloMosaic.ValueIdx Idealize.ShloMosaic.Tactic
open Idealize.SL.Sem
open scoped BigOperators
open Feed.Forward (zero2 zero3)

section Call
open Cert.Kernel7Ideal Cert.Kernel7Ideal.Gen
attribute [local instance] Cert.Kernel7Ideal.Gen.facts

/-! ## What a grid point leaves -/

theorem sum_zero : Is (k0_pay1 (F := Ideal)) (fun _ _ => 0) := fun j d =>
  (shapeCast_apply (broadcast S512x1024 (Scalar.ofBits (F := Ideal) .f32 0x00000000#32)) shapeCasts_S512x1024_S512x1024
    (ix2 j d) (ix2 j d) rfl).trans Ideal.ofBits_zero_f32

theorem sum_more {z : Vec Ideal S512x1024 .f32} {x : Vec Ideal S1024x512 .bf16} {y : Vec Ideal S1024x1024 .bf16}
    {Z : M 512 1024} {X : M 1024 512} {Y : M 1024 1024} (hz : Is z Z) (hx : Is x X) (hy : Is y Y) :
    Is (k0_pay2 (F := Ideal) z x y) (fun j d => Z j d + ∑ r, X r j * Y r d) :=
  Is.castSame shapeCasts_S512x1024_S512x1024
    (hz.add (Is.dotTN (D := dot_S1024x512_S1024x1024_S512x1024_0_0_1_1_n_n) (φ₁ := .bf16) (φ₂ := .bf16) rfl hx hy))

theorem first_piece {w : Vec Ideal S256x1024 .f32} {f : M 256 1024} (hw : Is w f) (r : Fin 256) (d : Fin 1024) :
    k0_pay3 (F := Ideal) w (ix3 0 r d) = f r d := piece_at (hw.trunc bitsLt_bf16_f32) shapeCasts_S256x1024_S1x256x1024 r d
theorem second_piece {w : Vec Ideal S256x1024 .f32} {f : M 256 1024} (hw : Is w f) (r : Fin 256) (d : Fin 1024) :
    k0_pay4 (F := Ideal) w (ix3 0 r d) = f r d := piece_at (hw.trunc bitsLt_bf16_f32) shapeCasts_S256x1024_S1x256x1024 r d

section Point
variable (c : Dev nD) (i : grid0.Coords) (a2 : Memref sig .tc .vmem S1024x512 .bf16) (h2 : a2.IsWhole)
  (a3 : Memref sig .tc .vmem S1024x1024 .bf16) (h3 : a3.IsWhole) (a5 : Memref sig .tc .vmem S2x256x1024 .bf16) (h5 : a5.IsWhole)
  (a6 : Memref sig .tc .vmem S512x1024 .f32) (h6 : a6.IsWhole)
  (x : Vec Ideal S1024x512 .bf16) (y : Vec Ideal S1024x1024 .bf16) (z : Vec Ideal S512x1024 .f32)

theorem first_sum (h0 : cond0_0 i) (h1 : ¬cond0_1 i) : sout0_A_0 c i a2 h2 a3 h3 a5 h5 a6 h6 h0 h1 x y = k0_pay2 (F := Ideal) (k0_pay1 (F := Ideal)) x y := by
  unfold sout0_A_0
  unfold kernelRun0_A
  dsimp only
  sl_unfold_words
  rw [View.read_writes_full (s := S512x1024), View.readCov_full (s := S512x1024)]
  simp only [View.readAt_eq_ld, h2.read_unread, h3.read_unread,
    View.ld_unit_zero (S := S1024x512) zero2, View.ld_unit_zero (S := S1024x1024) zero2]

theorem next_sum (h0 : ¬cond0_0 i) (h1 : ¬cond0_1 i) : sout0_B_0 c i a2 h2 a3 h3 a5 h5 a6 h6 h0 h1 x y z = k0_pay2 (F := Ideal) z x y := by
  unfold sout0_B_0
  unfold kernelRun0_B
  dsimp only
  sl_unfold_words
  rw [View.read_writes_full (s := S512x1024)]
  simp only [View.readAt_eq_ld, h2.read_unread, h3.read_unread, h6.read_unread, View.ld_unit_zero (S := S512x1024) zero2,
    View.ld_unit_zero (S := S1024x512) zero2, View.ld_unit_zero (S := S1024x1024) zero2]

theorem last_pieces (h0 : ¬cond0_0 i) (h1 : cond0_1 i) (s : Fin 2) (r : Fin 256) (d : Fin 1024) {f : M 512 1024}
    (hf : Is (k0_pay2 (F := Ideal) z x y) f) :
    out0_C_2 c i a2 h2 a3 h3 a5 h5 a6 h6 h0 h1 x y z (ix3 s r d) = f ⟨256 * s.val + r.val, by omega⟩ d := by
  unfold out0_C_2
  unfold kernelRun0_C
  dsimp only
  sl_unfold_words
  simp only [View.readAt_eq_ld, h2.read_unread, h3.read_unread, h6.read_unread, View.ld_unit_zero (S := S512x1024) zero2,
    View.ld_unit_zero (S := S1024x512) zero2, View.ld_unit_zero (S := S1024x1024) zero2]
  refine (two_pieces VO0_2 _ _ _ inb_S2x256x1024_S1x256x1024_0_0_0 inb_S2x256x1024_S1x256x1024_1_0_0 s r d).trans ?_
  have hs := s.isLt
  split
  · rename_i hk
    refine (congrFun (congrArg (k0_pay3 (F := Ideal)) (rows_loaded _ _ 0 inb_S512x1024_S512x1024_0_0 inb_S512x1024_S256x1024_0_0)) _).trans ?_
    refine (first_piece (rows_at _ 0 inb_S512x1024_S256x1024_0_0 hf (by decide)) r d).trans (congrArg (fun k => f k d) (Fin.ext ?_))
    show 0 + r.val = 256 * s.val + r.val
    omega
  · rename_i hk
    refine (congrFun (congrArg (k0_pay4 (F := Ideal)) (rows_loaded _ _ 256 inb_S512x1024_S512x1024_0_0 inb_S512x1024_S256x1024_256_0)) _).trans ?_
    refine (second_piece (rows_at _ 256 inb_S512x1024_S256x1024_256_0 hf (by decide)) r d).trans (congrArg (fun k => f k d) (Fin.ext ?_))
    show 256 + r.val = 256 * s.val + r.val
    omega

end Point

/-! ## The blocks -/

theorem points : cfg0.N = 16 := N_0

theorem index_0 : ∀ t : Fin cfg0.N, win0_0.index t = ![t.val % 8, t.val / 8] := (by decide +kernel : ∀ t : Fin grid0.N, _)
theorem index_1 : ∀ t : Fin cfg0.N, win0_1.index t = ![t.val % 8, 0] := (by decide +kernel : ∀ t : Fin grid0.N, _)
theorem index_2 : ∀ t : Fin cfg0.N, win0_2.index t = ![t.val / 8, 4, 0] := (by decide +kernel : ∀ t : Fin grid0.N, _)

section
variable (t : Fin cfg0.N)

theorem lt : t.val < 16 := points ▸ t.isLt
theorem lt_k : t.val % 8 < 8 := Nat.mod_lt _ (by decide)
theorem lt_i : t.val / 8 < 2 := by have := lt t; omega

theorem emb_0 (r : Fin 1024) (j : Fin 512) : ((cfg0.win 0).blk t).view.emb (ix2 r j) = ix2 (tall (t.val % 8) (lt_k t) r) (wide (by decide) (t.val / 8) (lt_i t) j) := by
  funext a; apply Fin.ext
  match a with
  | ⟨0, _⟩ => blk_simp [index_0]; show t.val % 8 * 1024 + r.val = 1024 * (t.val % 8) + r.val; omega
  | ⟨1, _⟩ => blk_simp [index_0]; show t.val / 8 * 512 + j.val = 512 * (t.val / 8) + j.val; omega
theorem emb_1 (r : Fin 1024) (d : Fin 1024) : ((cfg0.win 1).blk t).view.emb (ix2 r d) = ix2 (tall (t.val % 8) (lt_k t) r) d := by
  funext a; apply Fin.ext
  match a with
  | ⟨0, _⟩ => blk_simp [index_1]; show t.val % 8 * 1024 + r.val = 1024 * (t.val % 8) + r.val; omega
  | ⟨1, _⟩ => blk_simp [index_1]
theorem emb_2 (s : Fin 2) (r : Fin 256) (d : Fin 1024) : ((cfg0.win 2).blk t).view.emb (ix3 s r d)
    = ix3 (⟨2 * (t.val / 8) + s.val, by have := lt_i t; have := s.isLt; omega⟩ : Fin 4) (⟨1024 + r.val, by have := r.isLt; omega⟩ : Fin 1280) d := by
  funext a; apply Fin.ext
  match a with
  | ⟨0, _⟩ => blk_simp [index_2]; show t.val / 8 * 2 + s.val = 2 * (t.val / 8) + s.val; omega
  | ⟨1, _⟩ => blk_simp [index_2]
  | ⟨2, _⟩ => blk_simp [index_2]

end

section
variable (m : (ℓ : Loc nD τ sig) → Buf (Elt Ideal) ℓ) (c : Dev nD)

/-- The arguments' entries. -/
def inX : M 8192 1024 := rows (m ((c : Thread nD τ).loc main_arg0))
def inY : M 8192 1024 := rows (m ((c : Thread nD τ).loc main_arg1))
/-- The columns of the first argument that a row of the grid works on. -/
def part (i : ℕ) (hi : i < 2) : M 8192 512 := wideBlock (by decide) (inX m c) i hi
/-- The gradient, cut by chip. -/
def slope : Fin 4 → M 256 1024 := byChip (by decide) (product (inX m c) (inY m c))

theorem block_x (t : Fin cfg0.N) : Is (iblk m c 0 t) (tallBlock (part m c (t.val / 8) (lt_i t)) (t.val % 8) (lt_k t)) := fun r j =>
  (congrArg (V m c main_arg0) (emb_0 t r j)).trans (congrFun (V_main_arg0 m c) _)

theorem block_y (t : Fin cfg0.N) : Is (iblk m c 1 t) (tallBlock (inY m c) (t.val % 8) (lt_k t)) := fun r d =>
  (congrArg (V m c main_arg1) (emb_1 t r d)).trans (congrFun (V_main_arg1 m c) _)

theorem left_first (t : Fin cfg0.N) (h0 : t.val % 8 = 0) :
    (outsAt0 m c t.val t.isLt).2 = k0_pay2 (F := Ideal) (k0_pay1 (F := Ideal)) (iblk m c 0 t) (iblk m c 1 t) := by
  have h1 : ¬t.val % 8 = 7 := by omega
  rw [outsAt0_A m c t h0 h1]
  dsimp only
  exact first_sum c (grid0.coords t) (ms0_0 t) (hs0_0 t) (ms0_1 t) (hs0_1 t) (ms0_2 t) (hs0_2 t) scM0_0 (Memref.isWhole_whole _)
    (iblk m c 0 t) (iblk m c 1 t) ((hcond0_0 t).mpr h0) (fun h => h1 ((hcond0_1 t).mp h))

theorem left_next (t : Fin cfg0.N) (h0 : ¬t.val % 8 = 0) (h1 : ¬t.val % 8 = 7) (z : Vec Ideal S512x1024 .f32)
    (hz : (outsAt0 m c (t.val - 1) (Nat.lt_of_le_of_lt (Nat.sub_le _ _) t.isLt)).2 = z) :
    (outsAt0 m c t.val t.isLt).2 = k0_pay2 (F := Ideal) z (iblk m c 0 t) (iblk m c 1 t) := by
  rw [outsAt0_B m c t h0 h1]
  dsimp only
  rw [hz]
  exact next_sum c (grid0.coords t) (ms0_0 t) (hs0_0 t) (ms0_1 t) (hs0_1 t) (ms0_2 t) (hs0_2 t) scM0_0 (Memref.isWhole_whole _)
    (iblk m c 0 t) (iblk m c 1 t) z (fun h => h0 ((hcond0_0 t).mp h)) (fun h => h1 ((hcond0_1 t).mp h))

theorem left_last (t : Fin cfg0.N) (h0 : ¬t.val % 8 = 0) (h1 : t.val % 8 = 7) (z : Vec Ideal S512x1024 .f32)
    (hz : (outsAt0 m c (t.val - 1) (Nat.lt_of_le_of_lt (Nat.sub_le _ _) t.isLt)).2 = z) {f : M 512 1024}
    (hf : Is (k0_pay2 (F := Ideal) z (iblk m c 0 t) (iblk m c 1 t)) f) (s : Fin 2) (r : Fin 256) (d : Fin 1024) :
    (outsAt0 m c t.val t.isLt).1 (ix3 s r d) = f ⟨256 * s.val + r.val, by omega⟩ d := by
  rw [outsAt0_C m c t h0 h1]
  dsimp only
  rw [hz]
  exact last_pieces c (grid0.coords t) (ms0_0 t) (hs0_0 t) (ms0_1 t) (hs0_1 t) (ms0_2 t) (hs0_2 t) scM0_0 (Memref.isWhole_whole _)
    (iblk m c 0 t) (iblk m c 1 t) z (fun h => h0 ((hcond0_0 t).mp h)) ((hcond0_1 t).mpr h1) s r d hf

/-- The sums after a grid point that is not the last of its eight: the product over the blocks so far. -/
theorem sums_at (i : ℕ) (hi : i < 2) (n : ℕ) (hn : n < 7) (p : ℕ) (hp : p < cfg0.N) (e : p = 8 * i + n) :
    Is (outsAt0 m c p hp).2 (upTo (part m c i hi) (inY m c) n (by omega)) := by
  induction n generalizing p with
  | zero =>
    have h8 : p % 8 = 0 := by omega
    have hd : p / 8 = i := by omega
    rw [left_first m c ⟨p, hp⟩ h8]
    refine (sum_more sum_zero (block_x m c ⟨p, hp⟩) (block_y m c ⟨p, hp⟩)).congr fun j d => ?_
    have q := upTo_zero (part m c i hi) (inY m c) (by decide) j d
    subst hd
    simp only [h8]
    exact q
  | succ n ih =>
    have h8 : p % 8 = n + 1 := by omega
    have hd : p / 8 = i := by omega
    rw [left_next m c ⟨p, hp⟩ (by show ¬p % 8 = 0; omega) (by show ¬p % 8 = 7; omega) _ rfl]
    refine (sum_more (ih (by omega) (p - 1) (by omega) (by omega)) (block_x m c ⟨p, hp⟩) (block_y m c ⟨p, hp⟩)).congr fun j d => ?_
    have q := upTo_succ (part m c i hi) (inY m c) n (by omega) j d
    subst hd
    simp only [h8]
    exact q

/-- A block's result: its columns' share of the product. -/
theorem block_at (i : ℕ) (hi : i < 2) (p : ℕ) (hp : p < cfg0.N) (e : p = 8 * i + 7) (s : Fin 2) (r : Fin 256) (d : Fin 1024) :
    (outsAt0 m c p hp).1 (ix3 s r d) = product (inX m c) (inY m c) (wide (by decide) i hi (⟨256 * s.val + r.val, by omega⟩ : Fin 512)) d := by
  have h8 : p % 8 = 7 := by omega
  have hd : p / 8 = i := by omega
  refine (left_last m c ⟨p, hp⟩ (by show ¬p % 8 = 0; omega) h8 _ rfl (f := upTo (part m c i hi) (inY m c) 7 (by decide)) ?_ s r d).trans
    (upTo_last (part m c i hi) (inY m c) _ d)
  refine (sum_more (sums_at m c i hi 6 (by decide) (p - 1) (by omega) (by omega)) (block_x m c ⟨p, hp⟩) (block_y m c ⟨p, hp⟩)).congr
    fun j d => ?_
  have q := upTo_succ (part m c i hi) (inY m c) 6 (by decide) j d
  subst hd
  simp only [h8]
  exact q

/-! ## The result array -/

/-- The packed array the call starts from. -/
def before : S4x1280x1024.Idx → EReal := m ((c : Thread nD τ).loc main_arg2)

theorem V_before : V m c main_v0 = before m c := by
  have e : V m c main_v0 = StableHlo.after hostOps0 _ (Proc.devRef .tc main_v0) := rfl
  rw [e]
  after_results
  rfl

/-- The packed array it leaves. -/
def after : S4x1280x1024.Idx → EReal := put 1024 (slope m c) (before m c)

theorem flushed_at : ∀ t : Fin cfg0.N, (cfg0.win 2).flush t = true → t.val % 8 = 7 := (by decide +kernel : ∀ t : Fin grid0.N, _)
theorem flush_of : ∀ t : Fin cfg0.N, t.val % 8 = 7 → (cfg0.win 2).flush t = true := (by decide +kernel : ∀ t : Fin grid0.N, _)

theorem flushed_block (t : Fin cfg0.N) (hf : (cfg0.win 2).flush t = true) :
    (dats m 0 c).flushed 2 t = ((cfg0.win 2).blk t).view.read (Elt Ideal) (after m c) := by
  have h7 := flushed_at t hf
  funext y
  blk_simp
  rw [after0_2]
  obtain ⟨s, r, d, rfl⟩ : ∃ (s : Fin 2) (r : Fin 256) (d : Fin 1024), y = ix3 s r d := ⟨y 0, y 1, y 2, ValueIdx.eq_ix3 y⟩
  rw [emb_2]
  refine (block_at m c (t.val / 8) (lt_i t) t.val t.isLt (by omega) s r d).trans
    (Eq.trans (congrArg (fun k => product (inX m c) (inY m c) k d) (Fin.ext ?_))
      (put_inside 1024 (slope m c) (before m c) _ _ d r rfl).symm)
  show 512 * (t.val / 8) + (256 * s.val + r.val) = 256 * (2 * (t.val / 8) + s.val) + r.val
  omega

theorem result_array : (dats m 0 c).arrAt 2 cfg0.N = after m c := by
  funext k
  refine ((dats m 0 c).arrAt_eq_piecewise 2 (after m c) (flushed_block m c) k).trans ?_
  split
  · rfl
  · rename_i hk
    rw [A_eq]
    refine (congrFun (V_before m c) k).trans ?_
    obtain ⟨s, l, d, rfl⟩ : ∃ (s : Fin 4) (l : Fin 1280) (d : Fin 1024), k = ix3 s l d := ⟨k 0, k 1, k 2, ValueIdx.eq_ix3 k⟩
    refine (put_outside 1024 (slope m c) (before m c) s l d fun hl => hk ?_).symm
    have hs := s.isLt
    have ht : 8 * (s.val / 2) + 7 < cfg0.N := by rw [points]; omega
    refine ⟨⟨8 * (s.val / 2) + 7, ht⟩, flush_of _ (by show (8 * (s.val / 2) + 7) % 8 = 7; omega), ?_⟩
    have e := emb_2 ⟨8 * (s.val / 2) + 7, ht⟩ ⟨s.val % 2, Nat.mod_lt _ (by decide)⟩ ⟨l.val - 1024, by omega⟩ d
    have e' : ix3 s l d = ix3 (⟨2 * ((8 * (s.val / 2) + 7) / 8) + s.val % 2, by omega⟩ : Fin 4) (⟨1024 + (l.val - 1024), by omega⟩ : Fin 1280) d := by
      funext a; apply Fin.ext
      match a with
      | ⟨0, _⟩ => show s.val = 2 * ((8 * (s.val / 2) + 7) / 8) + s.val % 2; omega
      | ⟨1, _⟩ => show l.val = 1024 + (l.val - 1024); omega
      | ⟨2, _⟩ => rfl
    rw [e', ← e]
    exact View.emb_mem_set _ _

end

end Call

/-- The call's packed result is the plain program's. -/
theorem algebraic : Cert.algebraic_Kernel7Ideal_Reference7Ideal (hKernel7Ideal := Cert.Kernel7Ideal.Gen.facts)
    (hReference7Ideal := Cert.Reference7Ideal.Gen.facts) := by
  intro m g m' g' hpre hargs
  refine ⟨fun c => after m c, (θ_run _ _ _).mono (fun r h c => ?_) (Cert.Kernel7Ideal.Value.run_blocks m g),
    (θ_run _ _ _).mono (fun r h c => ?_) (Cert.Reference7Ideal.Value.run m' g')⟩
  · obtain ⟨h1, h2⟩ := h c
    exact ⟨h1.trans (result_array m c), h2⟩
  · obtain ⟨e0, e1, e2⟩ := hargs c
    have hx : Is _ (inX m c) := fun i j => congrFun e0 (ix2 i j)
    have hy : Is _ (inY m c) := fun i j => congrFun e1 (ix2 i j)
    have ho := (Is.transp Cert.Reference7Ideal.Gen.facts.transposes_S1024x1024_S1024x1024_1_0
      (Is.hostTN (φ₁ := .f32) (φ₂ := .f32) (D := Cert.Reference7Ideal.dot_S8192x1024_S8192x1024_S1024x1024_0_0_1_1_n_n) rfl
        (hy.extend (by decide)) (hx.extend (by decide)))).congr
      fun j d => Finset.sum_congr rfl fun k _ => mul_comm (inY m c k d) (inX m c k j)
    obtain ⟨h1, h2⟩ := h c
    refine ⟨h1.trans ((updated 1024 (by decide) _ _ _ _ rfl rfl rfl (f := slope m c) fun s r d => ?_).trans
      (congrArg (put 1024 (slope m c)) e2)), h2⟩
    exact cut (by decide) ho _ s r d

end Feed.Weight.Out

end
-- ==== Proof.WeightIn.lean ====
/-
  The gradient of the input projection: the call's packed result is the plain program's.
-/
module

public import proofs.«01_k».proof.Proof.Weight
public import proofs.«01_k».proof.Proof.Gen.Kernel8Ideal.Value
public import proofs.«01_k».proof.Proof.Gen.Reference8Ideal.Run
public import proofs.«01_k».proof.Defs
public import Idealize.ShloMosaic.Lib.KernelVsHost
public import Idealize.ShloMosaic.Lib.Pipeline.ValueKit

@[expose] public section

set_option maxRecDepth 16384

noncomputable section

namespace Feed.Weight.In

open Idealize.ShloMosaic hiding ix0 ix1 ix2 ix3 ix4 ix5
open Idealize.ShloMosaic.TcCoe Idealize.ShloMosaic.ValueIdx Idealize.ShloMosaic.Tactic
open Idealize.SL.Sem
open scoped BigOperators
open Feed.Forward (zero2 zero3)

/-! ## The zeros behind each chip's columns -/

/-- Padding the last axis of a stack at its end: the entry itself, or zero. -/
theorem padded_at {A B : ℕ} (x : (⟨3, ![A, B, 898]⟩ : Shape).Idx → EReal) {u : Shape} (v : u.Idx → EReal) (hv : ∀ k, v k = 0)
    (h : Shape.Pads (⟨3, ![A, B, 898]⟩ : Shape) ![0, 0, 0] ![0, 0, 126] ![0, 0, 0] ⟨3, ![A, B, 1024]⟩) (hu : 0 < u.numel)
    (i : Fin A) (j : Fin B) (d : Fin 1024) :
    pad ⟨3, ![A, B, 1024]⟩ ![0, 0, 0] ![0, 0, 126] ![0, 0, 0] x v h hu (ix3 i j d)
      = if hd : d.val < 898 then x (ix3 i j ⟨d.val, hd⟩) else 0 := by
  split
  · rename_i hd
    refine pad_apply_of_inside _ _ _ x v h hu (ix3 i j d) (ix3 i j ⟨d.val, hd⟩) fun a => ?_
    match a with
    | ⟨0, _⟩ => show i.val = 0 + i.val * (0 + 1); omega
    | ⟨1, _⟩ => show j.val = 0 + j.val * (0 + 1); omega
    | ⟨2, _⟩ => show d.val = 0 + d.val * (0 + 1); omega
  · rename_i hd
    refine (pad_apply_of_not_inside _ _ _ x v h hu (ix3 i j d) (2 : Fin 3) fun ha => hd ?_).trans (hv _)
    have e : (d.val - 0) / (0 + 1) < 898 := ha.2.2
    omega

/-- The number zero, made from the integer. -/
theorem zero_at {φ : FTy} (u : Shape) (k : u.Idx) : sitofp (F := Ideal) φ (constantI u 32 0#32) k = 0 := by
  show ((((0#32 : BitVec 32).toInt : ℤ) : ℝ) : EReal) = 0
  norm_num

/-- An index of a block of one chip's 1024 rows and columns is its row and its column. -/
theorem numbers_of {n : Fin 3 → ℕ} (hn : ∀ a, n a = (![1, 1024, 1024] : Fin 3 → ℕ) a) (y : ∀ a, Fin (n a)) :
    ∃ r d : Fin 1024, ∀ a, (y a).val = (![0, r.val, d.val] : Fin 3 → ℕ) a :=
  ⟨⟨(y 1).val, lt_of_lt_of_eq (y 1).isLt (hn 1)⟩, ⟨(y 2).val, lt_of_lt_of_eq (y 2).isLt (hn 2)⟩, fun a =>
    match a with
    | ⟨0, _⟩ => Nat.lt_one_iff.mp (lt_of_lt_of_eq (y 0).isLt (hn 0))
    | ⟨1, _⟩ => rfl
    | ⟨2, _⟩ => rfl⟩

section Call
open Cert.Kernel8Ideal Cert.Kernel8Ideal.Gen
attribute [local instance] Cert.Kernel8Ideal.Gen.facts

/-! ## What a grid point leaves -/

theorem sum_zero : Is (k0_pay1 (F := Ideal)) (fun _ _ => 0) := fun j d =>
  (shapeCast_apply (broadcast S1024x1024 (Scalar.ofBits (F := Ideal) .f32 0x00000000#32)) shapeCasts_S1024x1024_S1024x1024
    (ix2 j d) (ix2 j d) rfl).trans Ideal.ofBits_zero_f32

theorem sum_more {z : Vec Ideal S1024x1024 .f32} {x : Vec Ideal S1024x1024 .bf16} {y : Vec Ideal S1024x1024 .bf16}
    {Z X Y : M 1024 1024} (hz : Is z Z) (hx : Is x X) (hy : Is y Y) :
    Is (k0_pay2 (F := Ideal) z x y) (fun j d => Z j d + ∑ r, X r j * Y r d) :=
  Is.castSame shapeCasts_S1024x1024_S1024x1024
    (hz.add (Is.dotTN (D := dot_S1024x1024_S1024x1024_S1024x1024_0_0_1_1_n_n) (φ₁ := .bf16) (φ₂ := .bf16) rfl hx
      (Is.castSame shapeCasts_S1024x1024_S1024x1024 hy)))

theorem piece {w : Vec Ideal S1024x1024 .f32} {f : M 1024 1024} (hw : Is w f) (r : Fin 1024) (d : Fin 1024) :
    k0_pay3 (F := Ideal) w (ix3 0 r d) = f r d := piece_at (hw.trunc bitsLt_bf16_f32) shapeCasts_S1024x1024_S1x1024x1024 r d

section Point
variable (c : Dev nD) (i : grid0.Coords) (a2 : Memref sig .tc .vmem S1024x1024 .bf16) (h2 : a2.IsWhole)
  (a3 : Memref sig .tc .vmem S1024x1024 .bf16) (h3 : a3.IsWhole) (a5 : Memref sig .tc .vmem S1x1024x1024 .bf16) (h5 : a5.IsWhole)
  (a6 : Memref sig .tc .vmem S1024x1024 .f32) (h6 : a6.IsWhole)
  (x : Vec Ideal S1024x1024 .bf16) (y : Vec Ideal S1024x1024 .bf16) (z : Vec Ideal S1024x1024 .f32)

theorem first_sum (h0 : cond0_0 i) (h1 : ¬cond0_1 i) : sout0_A_0 c i a2 h2 a3 h3 a5 h5 a6 h6 h0 h1 x y = k0_pay2 (F := Ideal) (k0_pay1 (F := Ideal)) x y := by
  unfold sout0_A_0
  unfold kernelRun0_A
  dsimp only
  sl_unfold_words
  rw [View.read_writes_full (s := S1024x1024), View.readCov_full (s := S1024x1024)]
  simp only [View.readAt_eq_ld, h2.read_unread, h3.read_unread, View.ld_unit_zero (S := S1024x1024) zero2]

theorem next_sum (h0 : ¬cond0_0 i) (h1 : ¬cond0_1 i) : sout0_B_0 c i a2 h2 a3 h3 a5 h5 a6 h6 h0 h1 x y z = k0_pay2 (F := Ideal) z x y := by
  unfold sout0_B_0
  unfold kernelRun0_B
  dsimp only
  sl_unfold_words
  rw [View.read_writes_full (s := S1024x1024)]
  simp only [View.readAt_eq_ld, h2.read_unread, h3.read_unread, h6.read_unread, View.ld_unit_zero (S := S1024x1024) zero2]

theorem last_piece (h0 : ¬cond0_0 i) (h1 : cond0_1 i) :
    out0_C_2 c i a2 h2 a3 h3 a5 h5 a6 h6 h0 h1 x y z = k0_pay3 (F := Ideal) (k0_pay2 (F := Ideal) z x y) := by
  unfold out0_C_2
  unfold kernelRun0_C
  dsimp only
  sl_unfold_words
  rw [View.read_writes_full (s := S1x1024x1024), View.readCov_full (s := S1024x1024)]
  simp only [View.readAt_eq_ld, h2.read_unread, h3.read_unread, h6.read_unread, View.ld_unit_zero (S := S1024x1024) zero2]

end Point

/-! ## The blocks -/

theorem points : cfg0.N = 32 := N_0

theorem index_0 : ∀ t : Fin cfg0.N, win0_0.index t = ![t.val % 8, 0] := (by decide +kernel : ∀ t : Fin grid0.N, _)
theorem index_1 : ∀ t : Fin cfg0.N, win0_1.index t = ![t.val % 8, t.val / 8] := (by decide +kernel : ∀ t : Fin grid0.N, _)
theorem index_2 : ∀ t : Fin cfg0.N, win0_2.index t = ![t.val / 8, 0, 0] := (by decide +kernel : ∀ t : Fin grid0.N, _)
/-- No block of the result overhangs the array. -/
theorem size_2 : ∀ t : Fin cfg0.N, ∀ a, win0_2.xsize (grid0.coords t) a = (![1, 1024, 1024] : Fin 3 → ℕ) a :=
  (by decide +kernel : ∀ t : Fin grid0.N, _)

section
variable (t : Fin cfg0.N)

theorem lt : t.val < 32 := points ▸ t.isLt
theorem lt_k : t.val % 8 < 8 := Nat.mod_lt _ (by decide)
theorem lt_i : t.val / 8 < 4 := by have := lt t; omega

theorem emb_0 (r : Fin 1024) (j : Fin 1024) : ((cfg0.win 0).blk t).view.emb (ix2 r j) = ix2 (tall (t.val % 8) (lt_k t) r) j := by
  funext a; apply Fin.ext
  match a with
  | ⟨0, _⟩ => blk_simp [index_0]; show t.val % 8 * 1024 + r.val = 1024 * (t.val % 8) + r.val; omega
  | ⟨1, _⟩ => blk_simp [index_0]
theorem emb_1 (r : Fin 1024) (d : Fin 1024) : ((cfg0.win 1).blk t).view.emb (ix2 r d)
    = ix2 (tall (t.val % 8) (lt_k t) r) (wide (n := 4) (W := 1024) (A := 4096) (by decide) (t.val / 8) (lt_i t) d) := by
  funext a; apply Fin.ext
  match a with
  | ⟨0, _⟩ => blk_simp [index_1]; show t.val % 8 * 1024 + r.val = 1024 * (t.val % 8) + r.val; omega
  | ⟨1, _⟩ => blk_simp [index_1]; show t.val / 8 * 1024 + d.val = 1024 * (t.val / 8) + d.val; omega

/-- An entry of the result's block, by its row and column. -/
def entry (r d : Fin 1024) : (win0_2.xblock (grid0.coords t)).Idx := fun a =>
  ⟨(![0, r.val, d.val] : Fin 3 → ℕ) a, by
    refine lt_of_lt_of_eq ?_ (size_2 t a).symm
    match a with
    | ⟨0, _⟩ => exact Nat.one_pos
    | ⟨1, _⟩ => exact r.isLt
    | ⟨2, _⟩ => exact d.isLt⟩

theorem eq_entry (y : (win0_2.xblock (grid0.coords t)).Idx) : ∃ r d : Fin 1024, y = entry t r d :=
  let ⟨r, d, h⟩ := numbers_of (size_2 t) y
  ⟨r, d, funext fun a => Fin.ext (h a)⟩

theorem entry_in (r d : Fin 1024) : win0_2.xinj (grid0.coords t) (entry t r d) = ix3 0 r d := by
  funext a; apply Fin.ext
  match a with
  | ⟨0, _⟩ => rfl
  | ⟨1, _⟩ => rfl
  | ⟨2, _⟩ => rfl

theorem emb_2 (r d : Fin 1024) : ((cfg0.win 2).blk t).view.emb (entry t r d)
    = ix3 (⟨t.val / 8, lt_i t⟩ : Fin 4) (⟨r.val, by have := r.isLt; omega⟩ : Fin 1280) d := by
  funext a; apply Fin.ext
  match a with
  | ⟨0, _⟩ => blk_simp [index_2]; rfl
  | ⟨1, _⟩ => blk_simp [index_2]; rfl
  | ⟨2, _⟩ => blk_simp [index_2]; rfl

end

section
variable (m : (ℓ : Loc nD τ sig) → Buf (Elt Ideal) ℓ) (c : Dev nD)

/-- The arguments' entries. -/
def inX : M 8192 1024 := rows (m ((c : Thread nD τ).loc main_arg0))
def inY : M 8192 3592 := rows (m ((c : Thread nD τ).loc main_arg1))
/-- Each chip's 898 columns of the second argument, with zeros behind them. -/
def padded (s : Fin 4) : M 8192 1024 := fun k d =>
  if h : d.val < 898 then inY m c k ⟨898 * s.val + d.val, by have := s.isLt; omega⟩ else 0
/-- The gradient, cut by chip. -/
def slope : Fin 4 → M 1024 1024 := fun s => product (inX m c) (padded m c s)

theorem V_main_v2 : V m c main_v2 = shapeCast S8192x4096 (pad S8192x4x1024 ![0, 0, 0] ![0, 0, 126] ![0, 0, 0]
    (shapeCast S8192x4x898 (m ((c : Thread nD τ).loc main_arg1)) shapeCasts_S8192x3592_S8192x4x898)
    (sitofp (F := Ideal) .bf16 (constantI S_ 32 0#32)) pads_S8192x4x898_S8192x4x1024_000_000_01260 h_S_) shapeCasts_S8192x4x1024_S8192x4096 := by
  have e : V m c main_v2 = StableHlo.after (List.flatten [hostOps0, hostOps0_1, hostOps0_2]) _ (Proc.devRef .tc main_v2) := rfl
  rw [e]
  simp only [List.flatten_cons, List.flatten_nil, List.append_nil, List.cons_append, List.nil_append,
    StableHlo.TRef.binary, StableHlo.TRef.unary, StableHlo.TRef.toBuf, StableHlo.TRef.ofBuf, cast_eq]
  after_results
  rfl

/-- The padded argument's entries. -/
theorem wide_at (k : Fin 8192) (s : Fin 4) (d : Fin 1024) :
    V m c main_v2 (ix2 k (wide (n := 4) (W := 1024) (A := 4096) (by decide) s.val s.isLt d)) = padded m c s k d := by
  rw [V_main_v2]
  refine (shapeCast_apply _ _ _ (ix3 k s d) ?_).trans ((padded_at _ _ (zero_at S_) _ _ k s d).trans ?_)
  · rw [Shape.rowMajor_val_two, Shape.rowMajor_val_three]
    show (k.val * 4 + s.val) * 1024 + d.val = k.val * 4096 + (1024 * s.val + d.val)
    omega
  · unfold padded
    split
    · refine shapeCast_apply _ _ _ (ix2 k _) ?_
      rw [Shape.rowMajor_val_two, Shape.rowMajor_val_three]
      show k.val * 3592 + (898 * s.val + d.val) = (k.val * 4 + s.val) * 898 + d.val
      omega
    · rfl

theorem block_x (t : Fin cfg0.N) : Is (iblk m c 0 t) (tallBlock (inX m c) (t.val % 8) (lt_k t)) := fun r j =>
  (congrArg (V m c main_arg0) (emb_0 t r j)).trans (congrFun (V_main_arg0 m c) _)

theorem block_y (t : Fin cfg0.N) : Is (iblk m c 1 t) (tallBlock (padded m c ⟨t.val / 8, lt_i t⟩) (t.val % 8) (lt_k t)) := fun r d =>
  (congrArg (V m c main_v2) (emb_1 t r d)).trans (wide_at m c _ ⟨t.val / 8, lt_i t⟩ d)

theorem left_first (t : Fin cfg0.N) (h0 : t.val % 8 = 0) :
    (outsAt0 m c t.val t.isLt).2 = k0_pay2 (F := Ideal) (k0_pay1 (F := Ideal)) (iblk m c 0 t) (iblk m c 1 t) := by
  have h1 : ¬t.val % 8 = 7 := by omega
  rw [outsAt0_A m c t h0 h1]
  dsimp only
  exact first_sum c (grid0.coords t) (ms0_0 t) (hs0_0 t) (ms0_1 t) (hs0_1 t) (ms0_2 t) (hs0_2 t) scM0_0 (Memref.isWhole_whole _)
    (iblk m c 0 t) (iblk m c 1 t) ((hcond0_0 t).mpr h0) (fun h => h1 ((hcond0_1 t).mp h))

theorem left_next (t : Fin cfg0.N) (h0 : ¬t.val % 8 = 0) (h1 : ¬t.val % 8 = 7) (z : Vec Ideal S1024x1024 .f32)
    (hz : (outsAt0 m c (t.val - 1) (Nat.lt_of_le_of_lt (Nat.sub_le _ _) t.isLt)).2 = z) :
    (outsAt0 m c t.val t.isLt).2 = k0_pay2 (F := Ideal) z (iblk m c 0 t) (iblk m c 1 t) := by
  rw [outsAt0_B m c t h0 h1]
  dsimp only
  rw [hz]
  exact next_sum c (grid0.coords t) (ms0_0 t) (hs0_0 t) (ms0_1 t) (hs0_1 t) (ms0_2 t) (hs0_2 t) scM0_0 (Memref.isWhole_whole _)
    (iblk m c 0 t) (iblk m c 1 t) z (fun h => h0 ((hcond0_0 t).mp h)) (fun h => h1 ((hcond0_1 t).mp h))

theorem left_last (t : Fin cfg0.N) (h0 : ¬t.val % 8 = 0) (h1 : t.val % 8 = 7) (z : Vec Ideal S1024x1024 .f32)
    (hz : (outsAt0 m c (t.val - 1) (Nat.lt_of_le_of_lt (Nat.sub_le _ _) t.isLt)).2 = z) :
    (outsAt0 m c t.val t.isLt).1 = k0_pay3 (F := Ideal) (k0_pay2 (F := Ideal) z (iblk m c 0 t) (iblk m c 1 t)) := by
  rw [outsAt0_C m c t h0 h1]
  dsimp only
  rw [hz]
  exact last_piece c (grid0.coords t) (ms0_0 t) (hs0_0 t) (ms0_1 t) (hs0_1 t) (ms0_2 t) (hs0_2 t) scM0_0 (Memref.isWhole_whole _)
    (iblk m c 0 t) (iblk m c 1 t) z (fun h => h0 ((hcond0_0 t).mp h)) ((hcond0_1 t).mpr h1)

/-- The sums after a grid point that is not the last of its eight: the product over the blocks so far. -/
theorem sums_at (i : ℕ) (hi : i < 4) (n : ℕ) (hn : n < 7) (p : ℕ) (hp : p < cfg0.N) (e : p = 8 * i + n) :
    Is (outsAt0 m c p hp).2 (upTo (inX m c) (padded m c ⟨i, hi⟩) n (by omega)) := by
  induction n generalizing p with
  | zero =>
    have h8 : p % 8 = 0 := by omega
    have hd : p / 8 = i := by omega
    rw [left_first m c ⟨p, hp⟩ h8]
    refine (sum_more sum_zero (block_x m c ⟨p, hp⟩) (block_y m c ⟨p, hp⟩)).congr fun j d => ?_
    have q := upTo_zero (inX m c) (padded m c ⟨i, hi⟩) (by decide) j d
    subst hd
    simp only [h8]
    exact q
  | succ n ih =>
    have h8 : p % 8 = n + 1 := by omega
    have hd : p / 8 = i := by omega
    rw [left_next m c ⟨p, hp⟩ (by show ¬p % 8 = 0; omega) (by show ¬p % 8 = 7; omega) _ rfl]
    refine (sum_more (ih (by omega) (p - 1) (by omega) (by omega)) (block_x m c ⟨p, hp⟩) (block_y m c ⟨p, hp⟩)).congr fun j d => ?_
    have q := upTo_succ (inX m c) (padded m c ⟨i, hi⟩) n (by omega) j d
    subst hd
    simp only [h8]
    exact q

/-- A block's result: its chip's gradient. -/
theorem block_at (i : ℕ) (hi : i < 4) (p : ℕ) (hp : p < cfg0.N) (e : p = 8 * i + 7) (r d : Fin 1024) :
    (outsAt0 m c p hp).1 (ix3 0 r d) = slope m c ⟨i, hi⟩ r d := by
  have h8 : p % 8 = 7 := by omega
  have hd : p / 8 = i := by omega
  refine (congrFun (left_last m c ⟨p, hp⟩ (by show ¬p % 8 = 0; omega) h8 _ rfl) _).trans
    ((piece (f := upTo (inX m c) (padded m c ⟨i, hi⟩) 7 (by decide)) ?_ r d).trans (upTo_last (inX m c) (padded m c ⟨i, hi⟩) r d))
  refine (sum_more (sums_at m c i hi 6 (by decide) (p - 1) (by omega) (by omega)) (block_x m c ⟨p, hp⟩) (block_y m c ⟨p, hp⟩)).congr
    fun j d => ?_
  have q := upTo_succ (inX m c) (padded m c ⟨i, hi⟩) 6 (by decide) j d
  subst hd
  simp only [h8]
  exact q

/-! ## The result array -/

/-- The packed array the call starts from. -/
def before : S4x1280x1024.Idx → EReal := m ((c : Thread nD τ).loc main_arg2)

theorem V_before : V m c main_v3 = before m c := by
  have e : V m c main_v3 = StableHlo.after (List.flatten [hostOps0, hostOps0_1, hostOps0_2]) _ (Proc.devRef .tc main_v3) := rfl
  rw [e]
  simp only [List.flatten_cons, List.flatten_nil, List.append_nil, List.cons_append, List.nil_append,
    StableHlo.TRef.binary, StableHlo.TRef.unary, StableHlo.TRef.toBuf, StableHlo.TRef.ofBuf, cast_eq]
  after_results
  rfl

/-- The packed array it leaves. -/
def after : S4x1280x1024.Idx → EReal := put 0 (slope m c) (before m c)

theorem flushed_at : ∀ t : Fin cfg0.N, (cfg0.win 2).flush t = true → t.val % 8 = 7 := (by decide +kernel : ∀ t : Fin grid0.N, _)
theorem flush_of : ∀ t : Fin cfg0.N, t.val % 8 = 7 → (cfg0.win 2).flush t = true := (by decide +kernel : ∀ t : Fin grid0.N, _)

theorem flushed_block (t : Fin cfg0.N) (hf : (cfg0.win 2).flush t = true) :
    (dats m 0 c).flushed 2 t = ((cfg0.win 2).blk t).view.read (Elt Ideal) (after m c) := by
  have h7 := flushed_at t hf
  funext y
  obtain ⟨r, d, rfl⟩ := eq_entry t y
  refine (congrFun (Cert.Kernel8Ideal.Value.flushed2 m c t) (entry t r d)).trans ?_
  refine (congrArg (outsAt0 m c t.val t.isLt).1 (entry_in t r d)).trans ?_
  refine (block_at m c (t.val / 8) (lt_i t) t.val t.isLt (by omega) r d).trans ?_
  refine Eq.trans ?_ (congrArg (after m c) (emb_2 t r d)).symm
  exact (put_inside 0 (slope m c) (before m c) _ _ d r (Nat.zero_add _).symm).symm

theorem result_array : (dats m 0 c).arrAt 2 cfg0.N = after m c := by
  funext k
  refine ((dats m 0 c).arrAt_eq_piecewise 2 (after m c) (flushed_block m c) k).trans ?_
  split
  · rfl
  · rename_i hk
    rw [A_eq]
    refine (congrFun (V_before m c) k).trans ?_
    obtain ⟨s, l, d, rfl⟩ : ∃ (s : Fin 4) (l : Fin 1280) (d : Fin 1024), k = ix3 s l d := ⟨k 0, k 1, k 2, ValueIdx.eq_ix3 k⟩
    refine (put_outside 0 (slope m c) (before m c) s l d fun hl => hk ?_).symm
    have hs := s.isLt
    have ht : 8 * s.val + 7 < cfg0.N := by rw [points]; omega
    refine ⟨⟨8 * s.val + 7, ht⟩, flush_of _ (by show (8 * s.val + 7) % 8 = 7; omega), ?_⟩
    have e := emb_2 ⟨8 * s.val + 7, ht⟩ ⟨l.val, by omega⟩ d
    have e' : ix3 s l d = ix3 (⟨(8 * s.val + 7) / 8, by omega⟩ : Fin 4) (⟨l.val, l.isLt⟩ : Fin 1280) d := by
      funext a; apply Fin.ext
      match a with
      | ⟨0, _⟩ => show s.val = (8 * s.val + 7) / 8; omega
      | ⟨1, _⟩ => rfl
      | ⟨2, _⟩ => rfl
    rw [e', ← e]
    exact View.emb_mem_set _ _

end

end Call

/-- The call's packed result is the plain program's. -/
theorem algebraic : Cert.algebraic_Kernel8Ideal_Reference8Ideal (hKernel8Ideal := Cert.Kernel8Ideal.Gen.facts)
    (hReference8Ideal := Cert.Reference8Ideal.Gen.facts) := by
  intro m g m' g' hpre hargs
  refine ⟨fun c => after m c, (θ_run _ _ _).mono (fun r h c => ?_) (Cert.Kernel8Ideal.Value.run_blocks m g),
    (θ_run _ _ _).mono (fun r h c => ?_) (Cert.Reference8Ideal.Value.run m' g')⟩
  · obtain ⟨h1, h2⟩ := h c
    exact ⟨h1.trans (result_array m c), h2⟩
  · obtain ⟨e0, e1, e2⟩ := hargs c
    have hx : Is _ (inX m c) := fun i j => congrFun e0 (ix2 i j)
    have hy : Is _ (inY m c) := fun i j => congrFun e1 (ix2 i j)
    have ho := (Is.transp Cert.Reference8Ideal.Gen.facts.transposes_S3592x1024_S1024x3592_1_0
      (Is.hostTN (φ₁ := .f32) (φ₂ := .f32) (D := Cert.Reference8Ideal.dot_S8192x3592_S8192x1024_S3592x1024_0_0_1_1_n_n) rfl
        (hy.extend (by decide)) (hx.extend (by decide)))).congr (g := product (inX m c) (inY m c))
      fun j d => Finset.sum_congr rfl fun k _ => mul_comm (inY m c k d) (inX m c k j)
    obtain ⟨h1, h2⟩ := h c
    refine ⟨h1.trans ((updated 0 (by decide) _ _ _ _ rfl rfl rfl (f := slope m c) fun s r d => ?_).trans
      (congrArg (put 0 (slope m c)) e2)), h2⟩
    refine (padded_at _ _ (zero_at Cert.Reference8Ideal.S_)
      Cert.Reference8Ideal.Gen.facts.pads_S4x1024x898_S4x1024x1024_000_000_01260 Cert.Reference8Ideal.Gen.facts.h_S_ s r d).trans ?_
    unfold slope product padded
    split
    · rename_i hd
      refine (shapeCast_apply _ _ _ (ix2 r (⟨898 * s.val + d.val, by have := s.isLt; omega⟩ : Fin 3592)) ?_).trans (ho r _)
      rw [Shape.rowMajor_val_two, Shape.rowMajor_val_three]
      show r.val * 3592 + (898 * s.val + d.val) = (r.val * 4 + s.val) * 898 + d.val
      omega
    · exact (Finset.sum_eq_zero fun k _ => mul_zero _).symm

end Feed.Weight.In

end
-- ==== Proof.lean ====
/-
  The proof of the claims. Both programs' results are the gradient of the whole sequence over the real numbers (`Delta.wholeRows`): the
  kernel's by `Delta.Grid.result_dq` and its like, the reference's by `Delta.ref_dq` and its like.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.GridRead
public import proofs.«01_k».proof.Proof.RefRead
public import proofs.«01_k».proof.Proof.Finite
public import proofs.«01_k».proof.Proof.FeedPlain
public import proofs.«01_k».proof.Proof.FeedBackPlain
public import proofs.«01_k».proof.Proof.WeightDown
public import proofs.«01_k».proof.Proof.WeightGate
public import proofs.«01_k».proof.Proof.WeightUp
public import proofs.«01_k».proof.Proof.WeightOut
public import proofs.«01_k».proof.Proof.WeightIn
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import Idealize.ShloMosaic.Adequacy
public import Idealize.ShloMosaic.Init

@[expose] public section

set_option maxRecDepth 16384

noncomputable section

namespace Cert.Proof

open Idealize.ShloMosaic Idealize.SL.Sem

/-- The data that core `c`'s arguments hold. -/
def data (m : (ℓ : Loc Cert.KernelIdeal.nD Cert.KernelIdeal.τ Cert.KernelIdeal.sig) → Buf (Elt Ideal) ℓ) (c : Dev Cert.KernelIdeal.nD) : Delta.Data :=
  Delta.Finite.data
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

/-- A result over the whole sequence, as an array. -/
def result {w : ℕ} (G : Fin 128 → Matrix (Fin 64) (Fin w) ℝ) : (⟨2, ![8192, w]⟩ : Shape).Idx → EReal :=
  fun x => ((Delta.wholeRows G (x 0) (x 1) : ℝ) : EReal)

theorem algebraic : Cert.algebraic_KernelIdeal_ReferenceIdeal_pre_finite (hKernelIdeal := Cert.KernelIdeal.Gen.facts)
    (hReferenceIdeal := Cert.ReferenceIdeal.Gen.facts) (hPre_finite := Delta.Finite.facts) := by
  intro m g m' g' hpre hargs
  have hd : ∀ c, Delta.Grid.Given m c (data m c) := fun c => by
    obtain ⟨h0, h1, h2, h3, h4, h5⟩ := hpre c
    exact @Delta.Finite.data_on _ _ _ _ _ _ Delta.Finite.facts h0 h1 h2 h3 h4 h5
  have hd' : ∀ c, Delta.RefRun.Given m' c (data m c) := fun c => by
    obtain ⟨h0, h1, h2, h3, h4, h5⟩ := hargs c
    unfold Delta.RefRun.Given
    rw [h0, h1, h2, h3, h4, h5]
    exact hd c
  refine ⟨fun c => result (Delta.dqRows (data m c).chunk), fun c => result (Delta.dkRows (data m c).chunk),
    fun c => result (Delta.dvRows (data m c).chunk), fun c => result (Delta.dbgRows (data m c).chunk),
    (θ_run _ _ _).mono (fun r h c => ?_) (θ_run_and (Delta.Grid.run m g) (Delta.Grid.quiet m g)),
    (θ_run _ _ _).mono (fun r h c => ?_) (Delta.RefRun.run m' g')⟩
  · exact ⟨((h.1.1 c).1 6).trans (Delta.Grid.result_dq (hd c)), ((h.1.1 c).1 7).trans (Delta.Grid.result_dk (hd c)),
      ((h.1.1 c).1 8).trans (Delta.Grid.result_dv (hd c)), ((h.1.1 c).1 9).trans (Delta.Grid.result_dbg (hd c)), h.2.1 c⟩
  · obtain ⟨h1, h2, h3, h4, h5⟩ := h c
    exact ⟨h1.trans (Delta.ref_dq (hd' c)), h2.trans (Delta.ref_dk (hd' c)), h3.trans (Delta.ref_dv (hd' c)),
      h4.trans (Delta.ref_dbg (hd' c)), h5⟩

/-! A plain program has no counters, so every run ends with its arguments as they were and every counter zero. -/

section
open Cert.Reference2Ideal Cert.Reference2Ideal.Gen
attribute [local instance] Cert.Reference2Ideal.Gen.facts

theorem quiet2 (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2.2.2.2, sem_eq_zero_of_no_sems (by rfl) r.2⟩) (Cert.Reference2Ideal.Value.run m ρ)

end

section
open Cert.Reference3Ideal Cert.Reference3Ideal.Gen
attribute [local instance] Cert.Reference3Ideal.Gen.facts

theorem quiet3 (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2.2, sem_eq_zero_of_no_sems (by rfl) r.2⟩) (Cert.Reference3Ideal.Value.run m ρ)

end

section
open Cert.Reference4Ideal Cert.Reference4Ideal.Gen
attribute [local instance] Cert.Reference4Ideal.Gen.facts

theorem quiet4 (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by rfl) r.2⟩) (Cert.Reference4Ideal.Value.run m ρ)

end

section
open Cert.Reference5Ideal Cert.Reference5Ideal.Gen
attribute [local instance] Cert.Reference5Ideal.Gen.facts

theorem quiet5 (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by rfl) r.2⟩) (Cert.Reference5Ideal.Value.run m ρ)

end

section
open Cert.Reference6Ideal Cert.Reference6Ideal.Gen
attribute [local instance] Cert.Reference6Ideal.Gen.facts

theorem quiet6 (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by rfl) r.2⟩) (Cert.Reference6Ideal.Value.run m ρ)

end

section
open Cert.Reference7Ideal Cert.Reference7Ideal.Gen
attribute [local instance] Cert.Reference7Ideal.Gen.facts

theorem quiet7 (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by rfl) r.2⟩) (Cert.Reference7Ideal.Value.run m ρ)

end

section
open Cert.Reference8Ideal Cert.Reference8Ideal.Gen
attribute [local instance] Cert.Reference8Ideal.Gen.facts

theorem quiet8 (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by rfl) r.2⟩) (Cert.Reference8Ideal.Value.run m ρ)

end

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Delta.Finite.facts, Feed.Backward.finite_facts,
    fun m ρ _ => Delta.Same.quiet m ρ, fun m ρ _ => Delta.Grid.quiet m ρ, fun m ρ _ => Delta.Grid.quiet m ρ,
    fun m ρ _ => Delta.RefRun.quiet m ρ, fun m ρ _ => Delta.RefRun.quiet m ρ,
    fun m ρ _ => Cert.Kernel2.Gen.frame m ρ, fun m ρ _ => Cert.Kernel2Ideal.Gen.frame m ρ, fun m ρ _ => Cert.Kernel2Ideal.Gen.frame m ρ,
    fun m ρ _ => quiet2 m ρ, fun m ρ _ => quiet2 m ρ,
    fun m ρ _ => Cert.Kernel3.Gen.frame m ρ, fun m ρ _ => Cert.Kernel3Ideal.Gen.frame m ρ, fun m ρ _ => quiet3 m ρ,
    fun m ρ _ => Cert.Kernel4.Gen.frame m ρ, fun m ρ _ => Cert.Kernel4Ideal.Gen.frame m ρ, fun m ρ _ => quiet4 m ρ,
    fun m ρ _ => Cert.Kernel5.Gen.frame m ρ, fun m ρ _ => Cert.Kernel5Ideal.Gen.frame m ρ, fun m ρ _ => quiet5 m ρ,
    fun m ρ _ => Cert.Kernel6.Gen.frame m ρ, fun m ρ _ => Cert.Kernel6Ideal.Gen.frame m ρ, fun m ρ _ => quiet6 m ρ,
    fun m ρ _ => Cert.Kernel7.Gen.frame m ρ, fun m ρ _ => Cert.Kernel7Ideal.Gen.frame m ρ, fun m ρ _ => quiet7 m ρ,
    fun m ρ _ => Cert.Kernel8.Gen.frame m ρ, fun m ρ _ => Cert.Kernel8Ideal.Gen.frame m ρ, fun m ρ _ => quiet8 m ρ,
    trivial, algebraic, trivial, Feed.Backward.algebraic, trivial, Feed.Forward.algebraic,
    trivial, Feed.Weight.Down.algebraic, trivial, Feed.Weight.Gate.algebraic, trivial, Feed.Weight.Up.algebraic,
    trivial, Feed.Weight.Out.algebraic, trivial, Feed.Weight.In.algebraic⟩

end Cert.Proof

end
